-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_MlpDa (m : (ℓ : Loc Cert.MlpDa.nD Cert.MlpDa.τ Cert.MlpDa.sig) → Buf (Elt Bits) ℓ) : Prop :=
  True

def Pre_MlpDaIdeal (m : (ℓ : Loc Cert.MlpDaIdeal.nD Cert.MlpDaIdeal.τ Cert.MlpDaIdeal.sig) → Buf (Elt Ideal) ℓ) : Prop :=
  True

def Pre_MlpDaRefIdeal (m : (ℓ : Loc Cert.MlpDaRefIdeal.nD Cert.MlpDaRefIdeal.τ Cert.MlpDaRefIdeal.sig) → Buf (Elt Ideal) ℓ) : Prop :=
  True

def Pre_MlpGwOut (m : (ℓ : Loc Cert.MlpGwOut.nD Cert.MlpGwOut.τ Cert.MlpGwOut.sig) → Buf (Elt Bits) ℓ) : Prop :=
  True

def Pre_MlpGwOutIdeal (m : (ℓ : Loc Cert.MlpGwOutIdeal.nD Cert.MlpGwOutIdeal.τ Cert.MlpGwOutIdeal.sig) → Buf (Elt Ideal) ℓ) : Prop :=
  True

def Pre_MlpGwOutRefIdeal (m : (ℓ : Loc Cert.MlpGwOutRefIdeal.nD Cert.MlpGwOutRefIdeal.τ Cert.MlpGwOutRefIdeal.sig) → Buf (Elt Ideal) ℓ) : Prop :=
  True

def Pre_MlpDh (m : (ℓ : Loc Cert.MlpDh.nD Cert.MlpDh.τ Cert.MlpDh.sig) → Buf (Elt Bits) ℓ) : Prop :=
  True

def Pre_MlpDhIdeal (m : (ℓ : Loc Cert.MlpDhIdeal.nD Cert.MlpDhIdeal.τ Cert.MlpDhIdeal.sig) → Buf (Elt Ideal) ℓ) : Prop :=
  True

def Pre_MlpDhRefIdeal (m : (ℓ : Loc Cert.MlpDhRefIdeal.nD Cert.MlpDhRefIdeal.τ Cert.MlpDhRefIdeal.sig) → Buf (Elt Ideal) ℓ) : Prop :=
  True

def Pre_MlpGwIn (m : (ℓ : Loc Cert.MlpGwIn.nD Cert.MlpGwIn.τ Cert.MlpGwIn.sig) → Buf (Elt Bits) ℓ) : Prop :=
  True

def Pre_MlpGwInIdeal (m : (ℓ : Loc Cert.MlpGwInIdeal.nD Cert.MlpGwInIdeal.τ Cert.MlpGwInIdeal.sig) → Buf (Elt Ideal) ℓ) : Prop :=
  True

def Pre_MlpGwInRefIdeal (m : (ℓ : Loc Cert.MlpGwInRefIdeal.nD Cert.MlpGwInRefIdeal.τ Cert.MlpGwInRefIdeal.sig) → Buf (Elt Ideal) ℓ) : Prop :=
  True

def Pre_MixDm (m : (ℓ : Loc Cert.MixDm.nD Cert.MixDm.τ Cert.MixDm.sig) → Buf (Elt Bits) ℓ) : Prop :=
  True

def Pre_MixDmIdeal (m : (ℓ : Loc Cert.MixDmIdeal.nD Cert.MixDmIdeal.τ Cert.MixDmIdeal.sig) → Buf (Elt Ideal) ℓ) : Prop :=
  True

def Pre_MixDmRefIdeal (m : (ℓ : Loc Cert.MixDmRefIdeal.nD Cert.MixDmRefIdeal.τ Cert.MixDmRefIdeal.sig) → Buf (Elt Ideal) ℓ) : Prop :=
  True

def Pre_MixGw (m : (ℓ : Loc Cert.MixGw.nD Cert.MixGw.τ Cert.MixGw.sig) → Buf (Elt Bits) ℓ) : Prop :=
  True

def Pre_MixGwIdeal (m : (ℓ : Loc Cert.MixGwIdeal.nD Cert.MixGwIdeal.τ Cert.MixGwIdeal.sig) → Buf (Elt Ideal) ℓ) : Prop :=
  True

def Pre_MixGwRefIdeal (m : (ℓ : Loc Cert.MixGwRefIdeal.nD Cert.MixGwRefIdeal.τ Cert.MixGwRefIdeal.sig) → Buf (Elt Ideal) ℓ) : Prop :=
  True

def Pre_AttnDo (m : (ℓ : Loc Cert.AttnDo.nD Cert.AttnDo.τ Cert.AttnDo.sig) → Buf (Elt Bits) ℓ) : Prop :=
  True

def Pre_AttnDoIdeal (m : (ℓ : Loc Cert.AttnDoIdeal.nD Cert.AttnDoIdeal.τ Cert.AttnDoIdeal.sig) → Buf (Elt Ideal) ℓ) : Prop :=
  True

def Pre_AttnDoRefIdeal (m : (ℓ : Loc Cert.AttnDoRefIdeal.nD Cert.AttnDoRefIdeal.τ Cert.AttnDoRefIdeal.sig) → Buf (Elt Ideal) ℓ) : Prop :=
  True

def Pre_AttnGw (m : (ℓ : Loc Cert.AttnGw.nD Cert.AttnGw.τ Cert.AttnGw.sig) → Buf (Elt Bits) ℓ) : Prop :=
  True

def Pre_AttnGwIdeal (m : (ℓ : Loc Cert.AttnGwIdeal.nD Cert.AttnGwIdeal.τ Cert.AttnGwIdeal.sig) → Buf (Elt Ideal) ℓ) : Prop :=
  True

def Pre_AttnGwRefIdeal (m : (ℓ : Loc Cert.AttnGwRefIdeal.nD Cert.AttnGwRefIdeal.τ Cert.AttnGwRefIdeal.sig) → Buf (Elt Ideal) ℓ) : Prop :=
  True

def Pre_ConvDy (m : (ℓ : Loc Cert.ConvDy.nD Cert.ConvDy.τ Cert.ConvDy.sig) → Buf (Elt Bits) ℓ) : Prop :=
  True

def Pre_ConvDyIdeal (m : (ℓ : Loc Cert.ConvDyIdeal.nD Cert.ConvDyIdeal.τ Cert.ConvDyIdeal.sig) → Buf (Elt Ideal) ℓ) : Prop :=
  True

def Pre_ConvDyRefIdeal (m : (ℓ : Loc Cert.ConvDyRefIdeal.nD Cert.ConvDyRefIdeal.τ Cert.ConvDyRefIdeal.sig) → Buf (Elt Ideal) ℓ) : Prop :=
  True

def Pre_ConvGw (m : (ℓ : Loc Cert.ConvGw.nD Cert.ConvGw.τ Cert.ConvGw.sig) → Buf (Elt Bits) ℓ) : Prop :=
  True

def Pre_ConvGwIdeal (m : (ℓ : Loc Cert.ConvGwIdeal.nD Cert.ConvGwIdeal.τ Cert.ConvGwIdeal.sig) → Buf (Elt Ideal) ℓ) : Prop :=
  True

def Pre_ConvGwRefIdeal (m : (ℓ : Loc Cert.ConvGwRefIdeal.nD Cert.ConvGwRefIdeal.τ Cert.ConvGwRefIdeal.sig) → Buf (Elt Ideal) ℓ) : Prop :=
  True

def Pre_InGw (m : (ℓ : Loc Cert.InGw.nD Cert.InGw.τ Cert.InGw.sig) → Buf (Elt Bits) ℓ) : Prop :=
  True

def Pre_InGwIdeal (m : (ℓ : Loc Cert.InGwIdeal.nD Cert.InGwIdeal.τ Cert.InGwIdeal.sig) → Buf (Elt Ideal) ℓ) : Prop :=
  True

def Pre_InGwRefIdeal (m : (ℓ : Loc Cert.InGwRefIdeal.nD Cert.InGwRefIdeal.τ Cert.InGwRefIdeal.sig) → Buf (Elt Ideal) ℓ) : Prop :=
  True

def Pre_InDh (m : (ℓ : Loc Cert.InDh.nD Cert.InDh.τ Cert.InDh.sig) → Buf (Elt Bits) ℓ) : Prop :=
  True

def Pre_InDhIdeal (m : (ℓ : Loc Cert.InDhIdeal.nD Cert.InDhIdeal.τ Cert.InDhIdeal.sig) → Buf (Elt Ideal) ℓ) : Prop :=
  True

def Pre_InDhRefIdeal (m : (ℓ : Loc Cert.InDhRefIdeal.nD Cert.InDhRefIdeal.τ Cert.InDhRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamBAda (m : (ℓ : Loc Cert.AdamBAda.nD Cert.AdamBAda.τ Cert.AdamBAda.sig) → Buf (Elt Bits) ℓ) : Prop :=
  True

def Pre_AdamBAdaIdeal (m : (ℓ : Loc Cert.AdamBAdaIdeal.nD Cert.AdamBAdaIdeal.τ Cert.AdamBAdaIdeal.sig) → Buf (Elt Ideal) ℓ) : Prop :=
  True

def Pre_AdamBAdaRefIdeal (m : (ℓ : Loc Cert.AdamBAdaRefIdeal.nD Cert.AdamBAdaRefIdeal.τ Cert.AdamBAdaRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMlpIn (m : (ℓ : Loc Cert.AdamMlpIn.nD Cert.AdamMlpIn.τ Cert.AdamMlpIn.sig) → Buf (Elt Bits) ℓ) : Prop :=
  True

def Pre_AdamMlpInIdeal (m : (ℓ : Loc Cert.AdamMlpInIdeal.nD Cert.AdamMlpInIdeal.τ Cert.AdamMlpInIdeal.sig) → Buf (Elt Ideal) ℓ) : Prop :=
  True

def Pre_AdamMlpInRefIdeal (m : (ℓ : Loc Cert.AdamMlpInRefIdeal.nD Cert.AdamMlpInRefIdeal.τ Cert.AdamMlpInRefIdeal.sig) → Buf (Elt Ideal) ℓ) : Prop :=
  True

def Pre_AdamMlpOut (m : (ℓ : Loc Cert.AdamMlpOut.nD Cert.AdamMlpOut.τ Cert.AdamMlpOut.sig) → Buf (Elt Bits) ℓ) : Prop :=
  True

def Pre_AdamMlpOutIdeal (m : (ℓ : Loc Cert.AdamMlpOutIdeal.nD Cert.AdamMlpOutIdeal.τ Cert.AdamMlpOutIdeal.sig) → Buf (Elt Ideal) ℓ) : Prop :=
  True

def Pre_AdamMlpOutRefIdeal (m : (ℓ : Loc Cert.AdamMlpOutRefIdeal.nD Cert.AdamMlpOutRefIdeal.τ Cert.AdamMlpOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Postnorm (m : (ℓ : Loc Cert.Postnorm.nD Cert.Postnorm.τ Cert.Postnorm.sig) → Buf (Elt Bits) ℓ) : Prop :=
  True

def Pre_PostnormIdeal (m : (ℓ : Loc Cert.PostnormIdeal.nD Cert.PostnormIdeal.τ Cert.PostnormIdeal.sig) → Buf (Elt Ideal) ℓ) : Prop :=
  True

def Pre_PostnormRefIdeal (m : (ℓ : Loc Cert.PostnormRefIdeal.nD Cert.PostnormRefIdeal.τ Cert.PostnormRefIdeal.sig) → Buf (Elt Ideal) ℓ) : Prop :=
  True

def Pre_PrenormBwd (m : (ℓ : Loc Cert.PrenormBwd.nD Cert.PrenormBwd.τ Cert.PrenormBwd.sig) → Buf (Elt Bits) ℓ) : Prop :=
  True

def Pre_PrenormBwdIdeal (m : (ℓ : Loc Cert.PrenormBwdIdeal.nD Cert.PrenormBwdIdeal.τ Cert.PrenormBwdIdeal.sig) → Buf (Elt Ideal) ℓ) : Prop :=
  True

def Pre_PrenormBwdIdeal_finite [hPre_finite : Cert.Pre_finite.Facts] (m : (ℓ : Loc Cert.PrenormBwdIdeal.nD Cert.PrenormBwdIdeal.τ Cert.PrenormBwdIdeal.sig) → Buf (Elt Ideal) ℓ) : Prop :=
  ∀ c : Dev Cert.PrenormBwdIdeal.nD,
    (Cert.Pre_finite.fn (F := Ideal) (m ((c.tc : Thread Cert.PrenormBwdIdeal.nD Cert.PrenormBwdIdeal.τ).loc Cert.PrenormBwdIdeal.main_arg0)) (m ((c.tc : Thread Cert.PrenormBwdIdeal.nD Cert.PrenormBwdIdeal.τ).loc Cert.PrenormBwdIdeal.main_arg1)) (m ((c.tc : Thread Cert.PrenormBwdIdeal.nD Cert.PrenormBwdIdeal.τ).loc Cert.PrenormBwdIdeal.main_arg2)) (m ((c.tc : Thread Cert.PrenormBwdIdeal.nD Cert.PrenormBwdIdeal.τ).loc Cert.PrenormBwdIdeal.main_arg3)) (m ((c.tc : Thread Cert.PrenormBwdIdeal.nD Cert.PrenormBwdIdeal.τ).loc Cert.PrenormBwdIdeal.main_arg4))).1 = (fun _ => 1#1)
    ∧ (Cert.Pre_finite.fn (F := Ideal) (m ((c.tc : Thread Cert.PrenormBwdIdeal.nD Cert.PrenormBwdIdeal.τ).loc Cert.PrenormBwdIdeal.main_arg0)) (m ((c.tc : Thread Cert.PrenormBwdIdeal.nD Cert.PrenormBwdIdeal.τ).loc Cert.PrenormBwdIdeal.main_arg1)) (m ((c.tc : Thread Cert.PrenormBwdIdeal.nD Cert.PrenormBwdIdeal.τ).loc Cert.PrenormBwdIdeal.main_arg2)) (m ((c.tc : Thread Cert.PrenormBwdIdeal.nD Cert.PrenormBwdIdeal.τ).loc Cert.PrenormBwdIdeal.main_arg3)) (m ((c.tc : Thread Cert.PrenormBwdIdeal.nD Cert.PrenormBwdIdeal.τ).loc Cert.PrenormBwdIdeal.main_arg4))).2.1 = (fun _ => 1#1)
    ∧ (Cert.Pre_finite.fn (F := Ideal) (m ((c.tc : Thread Cert.PrenormBwdIdeal.nD Cert.PrenormBwdIdeal.τ).loc Cert.PrenormBwdIdeal.main_arg0)) (m ((c.tc : Thread Cert.PrenormBwdIdeal.nD Cert.PrenormBwdIdeal.τ).loc Cert.PrenormBwdIdeal.main_arg1)) (m ((c.tc : Thread Cert.PrenormBwdIdeal.nD Cert.PrenormBwdIdeal.τ).loc Cert.PrenormBwdIdeal.main_arg2)) (m ((c.tc : Thread Cert.PrenormBwdIdeal.nD Cert.PrenormBwdIdeal.τ).loc Cert.PrenormBwdIdeal.main_arg3)) (m ((c.tc : Thread Cert.PrenormBwdIdeal.nD Cert.PrenormBwdIdeal.τ).loc Cert.PrenormBwdIdeal.main_arg4))).2.2 = (fun _ => 1#1)

def Pre_PrenormBwdRefIdeal (m : (ℓ : Loc Cert.PrenormBwdRefIdeal.nD Cert.PrenormBwdRefIdeal.τ Cert.PrenormBwdRefIdeal.sig) → Buf (Elt Ideal) ℓ) : Prop :=
  True

def Pre_PrenormBwdRefIdeal_finite [hPre_finite : Cert.Pre_finite.Facts] (m : (ℓ : Loc Cert.PrenormBwdRefIdeal.nD Cert.PrenormBwdRefIdeal.τ Cert.PrenormBwdRefIdeal.sig) → Buf (Elt Ideal) ℓ) : Prop :=
  ∀ c : Dev Cert.PrenormBwdRefIdeal.nD,
    (Cert.Pre_finite.fn (F := Ideal) (m ((c.tc : Thread Cert.PrenormBwdRefIdeal.nD Cert.PrenormBwdRefIdeal.τ).loc Cert.PrenormBwdRefIdeal.main_arg0)) (m ((c.tc : Thread Cert.PrenormBwdRefIdeal.nD Cert.PrenormBwdRefIdeal.τ).loc Cert.PrenormBwdRefIdeal.main_arg1)) (m ((c.tc : Thread Cert.PrenormBwdRefIdeal.nD Cert.PrenormBwdRefIdeal.τ).loc Cert.PrenormBwdRefIdeal.main_arg2)) (m ((c.tc : Thread Cert.PrenormBwdRefIdeal.nD Cert.PrenormBwdRefIdeal.τ).loc Cert.PrenormBwdRefIdeal.main_arg3)) (m ((c.tc : Thread Cert.PrenormBwdRefIdeal.nD Cert.PrenormBwdRefIdeal.τ).loc Cert.PrenormBwdRefIdeal.main_arg4))).1 = (fun _ => 1#1)
    ∧ (Cert.Pre_finite.fn (F := Ideal) (m ((c.tc : Thread Cert.PrenormBwdRefIdeal.nD Cert.PrenormBwdRefIdeal.τ).loc Cert.PrenormBwdRefIdeal.main_arg0)) (m ((c.tc : Thread Cert.PrenormBwdRefIdeal.nD Cert.PrenormBwdRefIdeal.τ).loc Cert.PrenormBwdRefIdeal.main_arg1)) (m ((c.tc : Thread Cert.PrenormBwdRefIdeal.nD Cert.PrenormBwdRefIdeal.τ).loc Cert.PrenormBwdRefIdeal.main_arg2)) (m ((c.tc : Thread Cert.PrenormBwdRefIdeal.nD Cert.PrenormBwdRefIdeal.τ).loc Cert.PrenormBwdRefIdeal.main_arg3)) (m ((c.tc : Thread Cert.PrenormBwdRefIdeal.nD Cert.PrenormBwdRefIdeal.τ).loc Cert.PrenormBwdRefIdeal.main_arg4))).2.1 = (fun _ => 1#1)
    ∧ (Cert.Pre_finite.fn (F := Ideal) (m ((c.tc : Thread Cert.PrenormBwdRefIdeal.nD Cert.PrenormBwdRefIdeal.τ).loc Cert.PrenormBwdRefIdeal.main_arg0)) (m ((c.tc : Thread Cert.PrenormBwdRefIdeal.nD Cert.PrenormBwdRefIdeal.τ).loc Cert.PrenormBwdRefIdeal.main_arg1)) (m ((c.tc : Thread Cert.PrenormBwdRefIdeal.nD Cert.PrenormBwdRefIdeal.τ).loc Cert.PrenormBwdRefIdeal.main_arg2)) (m ((c.tc : Thread Cert.PrenormBwdRefIdeal.nD Cert.PrenormBwdRefIdeal.τ).loc Cert.PrenormBwdRefIdeal.main_arg3)) (m ((c.tc : Thread Cert.PrenormBwdRefIdeal.nD Cert.PrenormBwdRefIdeal.τ).loc Cert.PrenormBwdRefIdeal.main_arg4))).2.2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_MlpDa [hMlpDa : Cert.MlpDa.Facts] : Prop :=
  ∀ (m : (ℓ : Loc Cert.MlpDa.nD Cert.MlpDa.τ Cert.MlpDa.sig) → Buf (Elt Bits) ℓ) (g : Dev Cert.MlpDa.nD → PrngReg), Pre_MlpDa m →
    θ_run (Cert.MlpDa.defs (F := Bits)) (onTc (τ := Cert.MlpDa.τ) (Cert.MlpDa.main (F := Bits))) ⟨m, fun _ => 0, g⟩ (fun r => (∀ c : Dev Cert.MlpDa.nD,
      r.2.mem ((c.tc : Thread Cert.MlpDa.nD Cert.MlpDa.τ).loc Cert.MlpDa.main_arg0) = m ((c.tc : Thread Cert.MlpDa.nD Cert.MlpDa.τ).loc Cert.MlpDa.main_arg0)
      ∧ r.2.mem ((c.tc : Thread Cert.MlpDa.nD Cert.MlpDa.τ).loc Cert.MlpDa.main_arg1) = m ((c.tc : Thread Cert.MlpDa.nD Cert.MlpDa.τ).loc Cert.MlpDa.main_arg1)
      ∧ r.2.mem ((c.tc : Thread Cert.MlpDa.nD Cert.MlpDa.τ).loc Cert.MlpDa.main_arg2) = m ((c.tc : Thread Cert.MlpDa.nD Cert.MlpDa.τ).loc Cert.MlpDa.main_arg2))
      ∧ r.2.sem = fun _ => 0)

def quiescent_MlpDaIdeal [hMlpDaIdeal : Cert.MlpDaIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg), Pre_MlpDaIdeal m →
    θ_run (Cert.MlpDaIdeal.defs (F := Ideal)) (onTc (τ := Cert.MlpDaIdeal.τ) (Cert.MlpDaIdeal.main (F := Ideal))) ⟨m, fun _ => 0, g⟩ (fun r => (∀ c : Dev Cert.MlpDaIdeal.nD,
      r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
      ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
      ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2))
      ∧ r.2.sem = fun _ => 0)

def quiescent_MlpDaRefIdeal [hMlpDaRefIdeal : Cert.MlpDaRefIdeal.Facts] : Prop :=
  ∀ (m : (ℓ : Loc Cert.MlpDaRefIdeal.nD Cert.MlpDaRefIdeal.τ Cert.MlpDaRefIdeal.sig) → Buf (Elt Ideal) ℓ) (g : Dev Cert.MlpDaRefIdeal.nD → PrngReg), Pre_MlpDaRefIdeal m →
    θ_run (Cert.MlpDaRefIdeal.defs (F := Ideal)) (onTc (τ := Cert.MlpDaRefIdeal.τ) (Cert.MlpDaRefIdeal.main (F := Ideal))) ⟨m, fun _ => 0, g⟩ (fun r => (∀ c : Dev Cert.MlpDaRefIdeal.nD,
      r.2.mem ((c.tc : Thread Cert.MlpDaRefIdeal.nD Cert.MlpDaRefIdeal.τ).loc Cert.MlpDaRefIdeal.main_arg0) = m ((c.tc : Thread Cert.MlpDaRefIdeal.nD Cert.MlpDaRefIdeal.τ).loc Cert.MlpDaRefIdeal.main_arg0)
      ∧ r.2.mem ((c.tc : Thread Cert.MlpDaRefIdeal.nD Cert.MlpDaRefIdeal.τ).loc Cert.MlpDaRefIdeal.main_arg1) = m ((c.tc : Thread Cert.MlpDaRefIdeal.nD Cert.MlpDaRefIdeal.τ).loc Cert.MlpDaRefIdeal.main_arg1)
      ∧ r.2.mem ((c.tc : Thread Cert.MlpDaRefIdeal.nD Cert.MlpDaRefIdeal.τ).loc Cert.MlpDaRefIdeal.main_arg2) = m ((c.tc : Thread Cert.MlpDaRefIdeal.nD Cert.MlpDaRefIdeal.τ).loc Cert.MlpDaRefIdeal.main_arg2))
      ∧ r.2.sem = fun _ => 0)

def quiescent_MlpGwOut [hMlpGwOut : Cert.MlpGwOut.Facts] : Prop :=
  ∀ (m : (ℓ : Loc Cert.MlpGwOut.nD Cert.MlpGwOut.τ Cert.MlpGwOut.sig) → Buf (Elt Bits) ℓ) (g : Dev Cert.MlpGwOut.nD → PrngReg), Pre_MlpGwOut m →
    θ_run (Cert.MlpGwOut.defs (F := Bits)) (onTc (τ := Cert.MlpGwOut.τ) (Cert.MlpGwOut.main (F := Bits))) ⟨m, fun _ => 0, g⟩ (fun r => (∀ c : Dev Cert.MlpGwOut.nD,
      r.2.mem ((c.tc : Thread Cert.MlpGwOut.nD Cert.MlpGwOut.τ).loc Cert.MlpGwOut.main_arg0) = m ((c.tc : Thread Cert.MlpGwOut.nD Cert.MlpGwOut.τ).loc Cert.MlpGwOut.main_arg0)
      ∧ r.2.mem ((c.tc : Thread Cert.MlpGwOut.nD Cert.MlpGwOut.τ).loc Cert.MlpGwOut.main_arg1) = m ((c.tc : Thread Cert.MlpGwOut.nD Cert.MlpGwOut.τ).loc Cert.MlpGwOut.main_arg1))
      ∧ r.2.sem = fun _ => 0)

def quiescent_MlpGwOutIdeal [hMlpGwOutIdeal : Cert.MlpGwOutIdeal.Facts] : Prop :=
  ∀ (m : (ℓ : Loc Cert.MlpGwOutIdeal.nD Cert.MlpGwOutIdeal.τ Cert.MlpGwOutIdeal.sig) → Buf (Elt Ideal) ℓ) (g : Dev Cert.MlpGwOutIdeal.nD → PrngReg), Pre_MlpGwOutIdeal m →
    θ_run (Cert.MlpGwOutIdeal.defs (F := Ideal)) (onTc (τ := Cert.MlpGwOutIdeal.τ) (Cert.MlpGwOutIdeal.main (F := Ideal))) ⟨m, fun _ => 0, g⟩ (fun r => (∀ c : Dev Cert.MlpGwOutIdeal.nD,
      r.2.mem ((c.tc : Thread Cert.MlpGwOutIdeal.nD Cert.MlpGwOutIdeal.τ).loc Cert.MlpGwOutIdeal.main_arg0) = m ((c.tc : Thread Cert.MlpGwOutIdeal.nD Cert.MlpGwOutIdeal.τ).loc Cert.MlpGwOutIdeal.main_arg0)
      ∧ r.2.mem ((c.tc : Thread Cert.MlpGwOutIdeal.nD Cert.MlpGwOutIdeal.τ).loc Cert.MlpGwOutIdeal.main_arg1) = m ((c.tc : Thread Cert.MlpGwOutIdeal.nD Cert.MlpGwOutIdeal.τ).loc Cert.MlpGwOutIdeal.main_arg1))
      ∧ r.2.sem = fun _ => 0)

def quiescent_MlpGwOutRefIdeal [hMlpGwOutRefIdeal : Cert.MlpGwOutRefIdeal.Facts] : Prop :=
  ∀ (m : (ℓ : Loc Cert.MlpGwOutRefIdeal.nD Cert.MlpGwOutRefIdeal.τ Cert.MlpGwOutRefIdeal.sig) → Buf (Elt Ideal) ℓ) (g : Dev Cert.MlpGwOutRefIdeal.nD → PrngReg), Pre_MlpGwOutRefIdeal m →
    θ_run (Cert.MlpGwOutRefIdeal.defs (F := Ideal)) (onTc (τ := Cert.MlpGwOutRefIdeal.τ) (Cert.MlpGwOutRefIdeal.main (F := Ideal))) ⟨m, fun _ => 0, g⟩ (fun r => (∀ c : Dev Cert.MlpGwOutRefIdeal.nD,
      r.2.mem ((c.tc : Thread Cert.MlpGwOutRefIdeal.nD Cert.MlpGwOutRefIdeal.τ).loc Cert.MlpGwOutRefIdeal.main_arg0) = m ((c.tc : Thread Cert.MlpGwOutRefIdeal.nD Cert.MlpGwOutRefIdeal.τ).loc Cert.MlpGwOutRefIdeal.main_arg0)
      ∧ r.2.mem ((c.tc : Thread Cert.MlpGwOutRefIdeal.nD Cert.MlpGwOutRefIdeal.τ).loc Cert.MlpGwOutRefIdeal.main_arg1) = m ((c.tc : Thread Cert.MlpGwOutRefIdeal.nD Cert.MlpGwOutRefIdeal.τ).loc Cert.MlpGwOutRefIdeal.main_arg1))
      ∧ r.2.sem = fun _ => 0)

def quiescent_MlpDh [hMlpDh : Cert.MlpDh.Facts] : Prop :=
  ∀ (m : (ℓ : Loc Cert.MlpDh.nD Cert.MlpDh.τ Cert.MlpDh.sig) → Buf (Elt Bits) ℓ) (g : Dev Cert.MlpDh.nD → PrngReg), Pre_MlpDh m →
    θ_run (Cert.MlpDh.defs (F := Bits)) (onTc (τ := Cert.MlpDh.τ) (Cert.MlpDh.main (F := Bits))) ⟨m, fun _ => 0, g⟩ (fun r => (∀ c : Dev Cert.MlpDh.nD,
      r.2.mem ((c.tc : Thread Cert.MlpDh.nD Cert.MlpDh.τ).loc Cert.MlpDh.main_arg0) = m ((c.tc : Thread Cert.MlpDh.nD Cert.MlpDh.τ).loc Cert.MlpDh.main_arg0)
      ∧ r.2.mem ((c.tc : Thread Cert.MlpDh.nD Cert.MlpDh.τ).loc Cert.MlpDh.main_arg1) = m ((c.tc : Thread Cert.MlpDh.nD Cert.MlpDh.τ).loc Cert.MlpDh.main_arg1))
      ∧ r.2.sem = fun _ => 0)

def quiescent_MlpDhIdeal [hMlpDhIdeal : Cert.MlpDhIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg), Pre_MlpDhIdeal m →
    θ_run (Cert.MlpDhIdeal.defs (F := Ideal)) (onTc (τ := Cert.MlpDhIdeal.τ) (Cert.MlpDhIdeal.main (F := Ideal))) ⟨m, fun _ => 0, g⟩ (fun r => (∀ c : Dev Cert.MlpDhIdeal.nD,
      r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
      ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1))
      ∧ r.2.sem = fun _ => 0)

def quiescent_MlpDhRefIdeal [hMlpDhRefIdeal : Cert.MlpDhRefIdeal.Facts] : Prop :=
  ∀ (m : (ℓ : Loc Cert.MlpDhRefIdeal.nD Cert.MlpDhRefIdeal.τ Cert.MlpDhRefIdeal.sig) → Buf (Elt Ideal) ℓ) (g : Dev Cert.MlpDhRefIdeal.nD → PrngReg), Pre_MlpDhRefIdeal m →
    θ_run (Cert.MlpDhRefIdeal.defs (F := Ideal)) (onTc (τ := Cert.MlpDhRefIdeal.τ) (Cert.MlpDhRefIdeal.main (F := Ideal))) ⟨m, fun _ => 0, g⟩ (fun r => (∀ c : Dev Cert.MlpDhRefIdeal.nD,
      r.2.mem ((c.tc : Thread Cert.MlpDhRefIdeal.nD Cert.MlpDhRefIdeal.τ).loc Cert.MlpDhRefIdeal.main_arg0) = m ((c.tc : Thread Cert.MlpDhRefIdeal.nD Cert.MlpDhRefIdeal.τ).loc Cert.MlpDhRefIdeal.main_arg0)
      ∧ r.2.mem ((c.tc : Thread Cert.MlpDhRefIdeal.nD Cert.MlpDhRefIdeal.τ).loc Cert.MlpDhRefIdeal.main_arg1) = m ((c.tc : Thread Cert.MlpDhRefIdeal.nD Cert.MlpDhRefIdeal.τ).loc Cert.MlpDhRefIdeal.main_arg1))
      ∧ r.2.sem = fun _ => 0)

def quiescent_MlpGwIn [hMlpGwIn : Cert.MlpGwIn.Facts] : Prop :=
  ∀ (m : (ℓ : Loc Cert.MlpGwIn.nD Cert.MlpGwIn.τ Cert.MlpGwIn.sig) → Buf (Elt Bits) ℓ) (g : Dev Cert.MlpGwIn.nD → PrngReg), Pre_MlpGwIn m →
    θ_run (Cert.MlpGwIn.defs (F := Bits)) (onTc (τ := Cert.MlpGwIn.τ) (Cert.MlpGwIn.main (F := Bits))) ⟨m, fun _ => 0, g⟩ (fun r => (∀ c : Dev Cert.MlpGwIn.nD,
      r.2.mem ((c.tc : Thread Cert.MlpGwIn.nD Cert.MlpGwIn.τ).loc Cert.MlpGwIn.main_arg0) = m ((c.tc : Thread Cert.MlpGwIn.nD Cert.MlpGwIn.τ).loc Cert.MlpGwIn.main_arg0)
      ∧ r.2.mem ((c.tc : Thread Cert.MlpGwIn.nD Cert.MlpGwIn.τ).loc Cert.MlpGwIn.main_arg1) = m ((c.tc : Thread Cert.MlpGwIn.nD Cert.MlpGwIn.τ).loc Cert.MlpGwIn.main_arg1))
      ∧ r.2.sem = fun _ => 0)

def quiescent_MlpGwInIdeal [hMlpGwInIdeal : Cert.MlpGwInIdeal.Facts] : Prop :=
  ∀ (m : (ℓ : Loc Cert.MlpGwInIdeal.nD Cert.MlpGwInIdeal.τ Cert.MlpGwInIdeal.sig) → Buf (Elt Ideal) ℓ) (g : Dev Cert.MlpGwInIdeal.nD → PrngReg), Pre_MlpGwInIdeal m →
    θ_run (Cert.MlpGwInIdeal.defs (F := Ideal)) (onTc (τ := Cert.MlpGwInIdeal.τ) (Cert.MlpGwInIdeal.main (F := Ideal))) ⟨m, fun _ => 0, g⟩ (fun r => (∀ c : Dev Cert.MlpGwInIdeal.nD,
      r.2.mem ((c.tc : Thread Cert.MlpGwInIdeal.nD Cert.MlpGwInIdeal.τ).loc Cert.MlpGwInIdeal.main_arg0) = m ((c.tc : Thread Cert.MlpGwInIdeal.nD Cert.MlpGwInIdeal.τ).loc Cert.MlpGwInIdeal.main_arg0)
      ∧ r.2.mem ((c.tc : Thread Cert.MlpGwInIdeal.nD Cert.MlpGwInIdeal.τ).loc Cert.MlpGwInIdeal.main_arg1) = m ((c.tc : Thread Cert.MlpGwInIdeal.nD Cert.MlpGwInIdeal.τ).loc Cert.MlpGwInIdeal.main_arg1))
      ∧ r.2.sem = fun _ => 0)

def quiescent_MlpGwInRefIdeal [hMlpGwInRefIdeal : Cert.MlpGwInRefIdeal.Facts] : Prop :=
  ∀ (m : (ℓ : Loc Cert.MlpGwInRefIdeal.nD Cert.MlpGwInRefIdeal.τ Cert.MlpGwInRefIdeal.sig) → Buf (Elt Ideal) ℓ) (g : Dev Cert.MlpGwInRefIdeal.nD → PrngReg), Pre_MlpGwInRefIdeal m →
    θ_run (Cert.MlpGwInRefIdeal.defs (F := Ideal)) (onTc (τ := Cert.MlpGwInRefIdeal.τ) (Cert.MlpGwInRefIdeal.main (F := Ideal))) ⟨m, fun _ => 0, g⟩ (fun r => (∀ c : Dev Cert.MlpGwInRefIdeal.nD,
      r.2.mem ((c.tc : Thread Cert.MlpGwInRefIdeal.nD Cert.MlpGwInRefIdeal.τ).loc Cert.MlpGwInRefIdeal.main_arg0) = m ((c.tc : Thread Cert.MlpGwInRefIdeal.nD Cert.MlpGwInRefIdeal.τ).loc Cert.MlpGwInRefIdeal.main_arg0)
      ∧ r.2.mem ((c.tc : Thread Cert.MlpGwInRefIdeal.nD Cert.MlpGwInRefIdeal.τ).loc Cert.MlpGwInRefIdeal.main_arg1) = m ((c.tc : Thread Cert.MlpGwInRefIdeal.nD Cert.MlpGwInRefIdeal.τ).loc Cert.MlpGwInRefIdeal.main_arg1))
      ∧ r.2.sem = fun _ => 0)

def quiescent_MixDm [hMixDm : Cert.MixDm.Facts] : Prop :=
  ∀ (m : (ℓ : Loc Cert.MixDm.nD Cert.MixDm.τ Cert.MixDm.sig) → Buf (Elt Bits) ℓ) (g : Dev Cert.MixDm.nD → PrngReg), Pre_MixDm m →
    θ_run (Cert.MixDm.defs (F := Bits)) (onTc (τ := Cert.MixDm.τ) (Cert.MixDm.main (F := Bits))) ⟨m, fun _ => 0, g⟩ (fun r => (∀ c : Dev Cert.MixDm.nD,
      r.2.mem ((c.tc : Thread Cert.MixDm.nD Cert.MixDm.τ).loc Cert.MixDm.main_arg0) = m ((c.tc : Thread Cert.MixDm.nD Cert.MixDm.τ).loc Cert.MixDm.main_arg0)
      ∧ r.2.mem ((c.tc : Thread Cert.MixDm.nD Cert.MixDm.τ).loc Cert.MixDm.main_arg1) = m ((c.tc : Thread Cert.MixDm.nD Cert.MixDm.τ).loc Cert.MixDm.main_arg1))
      ∧ r.2.sem = fun _ => 0)

def quiescent_MixDmIdeal [hMixDmIdeal : Cert.MixDmIdeal.Facts] : Prop :=
  ∀ (m : (ℓ : Loc Cert.MixDmIdeal.nD Cert.MixDmIdeal.τ Cert.MixDmIdeal.sig) → Buf (Elt Ideal) ℓ) (g : Dev Cert.MixDmIdeal.nD → PrngReg), Pre_MixDmIdeal m →
    θ_run (Cert.MixDmIdeal.defs (F := Ideal)) (onTc (τ := Cert.MixDmIdeal.τ) (Cert.MixDmIdeal.main (F := Ideal))) ⟨m, fun _ => 0, g⟩ (fun r => (∀ c : Dev Cert.MixDmIdeal.nD,
      r.2.mem ((c.tc : Thread Cert.MixDmIdeal.nD Cert.MixDmIdeal.τ).loc Cert.MixDmIdeal.main_arg0) = m ((c.tc : Thread Cert.MixDmIdeal.nD Cert.MixDmIdeal.τ).loc Cert.MixDmIdeal.main_arg0)
      ∧ r.2.mem ((c.tc : Thread Cert.MixDmIdeal.nD Cert.MixDmIdeal.τ).loc Cert.MixDmIdeal.main_arg1) = m ((c.tc : Thread Cert.MixDmIdeal.nD Cert.MixDmIdeal.τ).loc Cert.MixDmIdeal.main_arg1))
      ∧ r.2.sem = fun _ => 0)

def quiescent_MixDmRefIdeal [hMixDmRefIdeal : Cert.MixDmRefIdeal.Facts] : Prop :=
  ∀ (m : (ℓ : Loc Cert.MixDmRefIdeal.nD Cert.MixDmRefIdeal.τ Cert.MixDmRefIdeal.sig) → Buf (Elt Ideal) ℓ) (g : Dev Cert.MixDmRefIdeal.nD → PrngReg), Pre_MixDmRefIdeal m →
    θ_run (Cert.MixDmRefIdeal.defs (F := Ideal)) (onTc (τ := Cert.MixDmRefIdeal.τ) (Cert.MixDmRefIdeal.main (F := Ideal))) ⟨m, fun _ => 0, g⟩ (fun r => (∀ c : Dev Cert.MixDmRefIdeal.nD,
      r.2.mem ((c.tc : Thread Cert.MixDmRefIdeal.nD Cert.MixDmRefIdeal.τ).loc Cert.MixDmRefIdeal.main_arg0) = m ((c.tc : Thread Cert.MixDmRefIdeal.nD Cert.MixDmRefIdeal.τ).loc Cert.MixDmRefIdeal.main_arg0)
      ∧ r.2.mem ((c.tc : Thread Cert.MixDmRefIdeal.nD Cert.MixDmRefIdeal.τ).loc Cert.MixDmRefIdeal.main_arg1) = m ((c.tc : Thread Cert.MixDmRefIdeal.nD Cert.MixDmRefIdeal.τ).loc Cert.MixDmRefIdeal.main_arg1))
      ∧ r.2.sem = fun _ => 0)

def quiescent_MixGw [hMixGw : Cert.MixGw.Facts] : Prop :=
  ∀ (m : (ℓ : Loc Cert.MixGw.nD Cert.MixGw.τ Cert.MixGw.sig) → Buf (Elt Bits) ℓ) (g : Dev Cert.MixGw.nD → PrngReg), Pre_MixGw m →
    θ_run (Cert.MixGw.defs (F := Bits)) (onTc (τ := Cert.MixGw.τ) (Cert.MixGw.main (F := Bits))) ⟨m, fun _ => 0, g⟩ (fun r => (∀ c : Dev Cert.MixGw.nD,
      r.2.mem ((c.tc : Thread Cert.MixGw.nD Cert.MixGw.τ).loc Cert.MixGw.main_arg0) = m ((c.tc : Thread Cert.MixGw.nD Cert.MixGw.τ).loc Cert.MixGw.main_arg0)
      ∧ r.2.mem ((c.tc : Thread Cert.MixGw.nD Cert.MixGw.τ).loc Cert.MixGw.main_arg1) = m ((c.tc : Thread Cert.MixGw.nD Cert.MixGw.τ).loc Cert.MixGw.main_arg1))
      ∧ r.2.sem = fun _ => 0)

def quiescent_MixGwIdeal [hMixGwIdeal : Cert.MixGwIdeal.Facts] : Prop :=
  ∀ (m : (ℓ : Loc Cert.MixGwIdeal.nD Cert.MixGwIdeal.τ Cert.MixGwIdeal.sig) → Buf (Elt Ideal) ℓ) (g : Dev Cert.MixGwIdeal.nD → PrngReg), Pre_MixGwIdeal m →
    θ_run (Cert.MixGwIdeal.defs (F := Ideal)) (onTc (τ := Cert.MixGwIdeal.τ) (Cert.MixGwIdeal.main (F := Ideal))) ⟨m, fun _ => 0, g⟩ (fun r => (∀ c : Dev Cert.MixGwIdeal.nD,
      r.2.mem ((c.tc : Thread Cert.MixGwIdeal.nD Cert.MixGwIdeal.τ).loc Cert.MixGwIdeal.main_arg0) = m ((c.tc : Thread Cert.MixGwIdeal.nD Cert.MixGwIdeal.τ).loc Cert.MixGwIdeal.main_arg0)
      ∧ r.2.mem ((c.tc : Thread Cert.MixGwIdeal.nD Cert.MixGwIdeal.τ).loc Cert.MixGwIdeal.main_arg1) = m ((c.tc : Thread Cert.MixGwIdeal.nD Cert.MixGwIdeal.τ).loc Cert.MixGwIdeal.main_arg1))
      ∧ r.2.sem = fun _ => 0)

def quiescent_MixGwRefIdeal [hMixGwRefIdeal : Cert.MixGwRefIdeal.Facts] : Prop :=
  ∀ (m : (ℓ : Loc Cert.MixGwRefIdeal.nD Cert.MixGwRefIdeal.τ Cert.MixGwRefIdeal.sig) → Buf (Elt Ideal) ℓ) (g : Dev Cert.MixGwRefIdeal.nD → PrngReg), Pre_MixGwRefIdeal m →
    θ_run (Cert.MixGwRefIdeal.defs (F := Ideal)) (onTc (τ := Cert.MixGwRefIdeal.τ) (Cert.MixGwRefIdeal.main (F := Ideal))) ⟨m, fun _ => 0, g⟩ (fun r => (∀ c : Dev Cert.MixGwRefIdeal.nD,
      r.2.mem ((c.tc : Thread Cert.MixGwRefIdeal.nD Cert.MixGwRefIdeal.τ).loc Cert.MixGwRefIdeal.main_arg0) = m ((c.tc : Thread Cert.MixGwRefIdeal.nD Cert.MixGwRefIdeal.τ).loc Cert.MixGwRefIdeal.main_arg0)
      ∧ r.2.mem ((c.tc : Thread Cert.MixGwRefIdeal.nD Cert.MixGwRefIdeal.τ).loc Cert.MixGwRefIdeal.main_arg1) = m ((c.tc : Thread Cert.MixGwRefIdeal.nD Cert.MixGwRefIdeal.τ).loc Cert.MixGwRefIdeal.main_arg1))
      ∧ r.2.sem = fun _ => 0)

def quiescent_AttnDo [hAttnDo : Cert.AttnDo.Facts] : Prop :=
  ∀ (m : (ℓ : Loc Cert.AttnDo.nD Cert.AttnDo.τ Cert.AttnDo.sig) → Buf (Elt Bits) ℓ) (g : Dev Cert.AttnDo.nD → PrngReg), Pre_AttnDo m →
    θ_run (Cert.AttnDo.defs (F := Bits)) (onTc (τ := Cert.AttnDo.τ) (Cert.AttnDo.main (F := Bits))) ⟨m, fun _ => 0, g⟩ (fun r => (∀ c : Dev Cert.AttnDo.nD,
      r.2.mem ((c.tc : Thread Cert.AttnDo.nD Cert.AttnDo.τ).loc Cert.AttnDo.main_arg0) = m ((c.tc : Thread Cert.AttnDo.nD Cert.AttnDo.τ).loc Cert.AttnDo.main_arg0)
      ∧ r.2.mem ((c.tc : Thread Cert.AttnDo.nD Cert.AttnDo.τ).loc Cert.AttnDo.main_arg1) = m ((c.tc : Thread Cert.AttnDo.nD Cert.AttnDo.τ).loc Cert.AttnDo.main_arg1))
      ∧ r.2.sem = fun _ => 0)

def quiescent_AttnDoIdeal [hAttnDoIdeal : Cert.AttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg), Pre_AttnDoIdeal m →
    θ_run (Cert.AttnDoIdeal.defs (F := Ideal)) (onTc (τ := Cert.AttnDoIdeal.τ) (Cert.AttnDoIdeal.main (F := Ideal))) ⟨m, fun _ => 0, g⟩ (fun r => (∀ c : Dev Cert.AttnDoIdeal.nD,
      r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
      ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ r.2.sem = fun _ => 0)

def quiescent_AttnDoRefIdeal [hAttnDoRefIdeal : Cert.AttnDoRefIdeal.Facts] : Prop :=
  ∀ (m : (ℓ : Loc Cert.AttnDoRefIdeal.nD Cert.AttnDoRefIdeal.τ Cert.AttnDoRefIdeal.sig) → Buf (Elt Ideal) ℓ) (g : Dev Cert.AttnDoRefIdeal.nD → PrngReg), Pre_AttnDoRefIdeal m →
    θ_run (Cert.AttnDoRefIdeal.defs (F := Ideal)) (onTc (τ := Cert.AttnDoRefIdeal.τ) (Cert.AttnDoRefIdeal.main (F := Ideal))) ⟨m, fun _ => 0, g⟩ (fun r => (∀ c : Dev Cert.AttnDoRefIdeal.nD,
      r.2.mem ((c.tc : Thread Cert.AttnDoRefIdeal.nD Cert.AttnDoRefIdeal.τ).loc Cert.AttnDoRefIdeal.main_arg0) = m ((c.tc : Thread Cert.AttnDoRefIdeal.nD Cert.AttnDoRefIdeal.τ).loc Cert.AttnDoRefIdeal.main_arg0)
      ∧ r.2.mem ((c.tc : Thread Cert.AttnDoRefIdeal.nD Cert.AttnDoRefIdeal.τ).loc Cert.AttnDoRefIdeal.main_arg1) = m ((c.tc : Thread Cert.AttnDoRefIdeal.nD Cert.AttnDoRefIdeal.τ).loc Cert.AttnDoRefIdeal.main_arg1))
      ∧ r.2.sem = fun _ => 0)

def quiescent_AttnGw [hAttnGw : Cert.AttnGw.Facts] : Prop :=
  ∀ (m : (ℓ : Loc Cert.AttnGw.nD Cert.AttnGw.τ Cert.AttnGw.sig) → Buf (Elt Bits) ℓ) (g : Dev Cert.AttnGw.nD → PrngReg), Pre_AttnGw m →
    θ_run (Cert.AttnGw.defs (F := Bits)) (onTc (τ := Cert.AttnGw.τ) (Cert.AttnGw.main (F := Bits))) ⟨m, fun _ => 0, g⟩ (fun r => (∀ c : Dev Cert.AttnGw.nD,
      r.2.mem ((c.tc : Thread Cert.AttnGw.nD Cert.AttnGw.τ).loc Cert.AttnGw.main_arg0) = m ((c.tc : Thread Cert.AttnGw.nD Cert.AttnGw.τ).loc Cert.AttnGw.main_arg0)
      ∧ r.2.mem ((c.tc : Thread Cert.AttnGw.nD Cert.AttnGw.τ).loc Cert.AttnGw.main_arg1) = m ((c.tc : Thread Cert.AttnGw.nD Cert.AttnGw.τ).loc Cert.AttnGw.main_arg1))
      ∧ r.2.sem = fun _ => 0)

def quiescent_AttnGwIdeal [hAttnGwIdeal : Cert.AttnGwIdeal.Facts] : Prop :=
  ∀ (m : (ℓ : Loc Cert.AttnGwIdeal.nD Cert.AttnGwIdeal.τ Cert.AttnGwIdeal.sig) → Buf (Elt Ideal) ℓ) (g : Dev Cert.AttnGwIdeal.nD → PrngReg), Pre_AttnGwIdeal m →
    θ_run (Cert.AttnGwIdeal.defs (F := Ideal)) (onTc (τ := Cert.AttnGwIdeal.τ) (Cert.AttnGwIdeal.main (F := Ideal))) ⟨m, fun _ => 0, g⟩ (fun r => (∀ c : Dev Cert.AttnGwIdeal.nD,
      r.2.mem ((c.tc : Thread Cert.AttnGwIdeal.nD Cert.AttnGwIdeal.τ).loc Cert.AttnGwIdeal.main_arg0) = m ((c.tc : Thread Cert.AttnGwIdeal.nD Cert.AttnGwIdeal.τ).loc Cert.AttnGwIdeal.main_arg0)
      ∧ r.2.mem ((c.tc : Thread Cert.AttnGwIdeal.nD Cert.AttnGwIdeal.τ).loc Cert.AttnGwIdeal.main_arg1) = m ((c.tc : Thread Cert.AttnGwIdeal.nD Cert.AttnGwIdeal.τ).loc Cert.AttnGwIdeal.main_arg1))
      ∧ r.2.sem = fun _ => 0)

def quiescent_AttnGwRefIdeal [hAttnGwRefIdeal : Cert.AttnGwRefIdeal.Facts] : Prop :=
  ∀ (m : (ℓ : Loc Cert.AttnGwRefIdeal.nD Cert.AttnGwRefIdeal.τ Cert.AttnGwRefIdeal.sig) → Buf (Elt Ideal) ℓ) (g : Dev Cert.AttnGwRefIdeal.nD → PrngReg), Pre_AttnGwRefIdeal m →
    θ_run (Cert.AttnGwRefIdeal.defs (F := Ideal)) (onTc (τ := Cert.AttnGwRefIdeal.τ) (Cert.AttnGwRefIdeal.main (F := Ideal))) ⟨m, fun _ => 0, g⟩ (fun r => (∀ c : Dev Cert.AttnGwRefIdeal.nD,
      r.2.mem ((c.tc : Thread Cert.AttnGwRefIdeal.nD Cert.AttnGwRefIdeal.τ).loc Cert.AttnGwRefIdeal.main_arg0) = m ((c.tc : Thread Cert.AttnGwRefIdeal.nD Cert.AttnGwRefIdeal.τ).loc Cert.AttnGwRefIdeal.main_arg0)
      ∧ r.2.mem ((c.tc : Thread Cert.AttnGwRefIdeal.nD Cert.AttnGwRefIdeal.τ).loc Cert.AttnGwRefIdeal.main_arg1) = m ((c.tc : Thread Cert.AttnGwRefIdeal.nD Cert.AttnGwRefIdeal.τ).loc Cert.AttnGwRefIdeal.main_arg1))
      ∧ r.2.sem = fun _ => 0)

def quiescent_ConvDy [hConvDy : Cert.ConvDy.Facts] : Prop :=
  ∀ (m : (ℓ : Loc Cert.ConvDy.nD Cert.ConvDy.τ Cert.ConvDy.sig) → Buf (Elt Bits) ℓ) (g : Dev Cert.ConvDy.nD → PrngReg), Pre_ConvDy m →
    θ_run (Cert.ConvDy.defs (F := Bits)) (onTc (τ := Cert.ConvDy.τ) (Cert.ConvDy.main (F := Bits))) ⟨m, fun _ => 0, g⟩ (fun r => (∀ c : Dev Cert.ConvDy.nD,
      r.2.mem ((c.tc : Thread Cert.ConvDy.nD Cert.ConvDy.τ).loc Cert.ConvDy.main_arg0) = m ((c.tc : Thread Cert.ConvDy.nD Cert.ConvDy.τ).loc Cert.ConvDy.main_arg0)
      ∧ r.2.mem ((c.tc : Thread Cert.ConvDy.nD Cert.ConvDy.τ).loc Cert.ConvDy.main_arg1) = m ((c.tc : Thread Cert.ConvDy.nD Cert.ConvDy.τ).loc Cert.ConvDy.main_arg1))
      ∧ r.2.sem = fun _ => 0)

def quiescent_ConvDyIdeal [hConvDyIdeal : Cert.ConvDyIdeal.Facts] : Prop :=
  ∀ (m : (ℓ : Loc Cert.ConvDyIdeal.nD Cert.ConvDyIdeal.τ Cert.ConvDyIdeal.sig) → Buf (Elt Ideal) ℓ) (g : Dev Cert.ConvDyIdeal.nD → PrngReg), Pre_ConvDyIdeal m →
    θ_run (Cert.ConvDyIdeal.defs (F := Ideal)) (onTc (τ := Cert.ConvDyIdeal.τ) (Cert.ConvDyIdeal.main (F := Ideal))) ⟨m, fun _ => 0, g⟩ (fun r => (∀ c : Dev Cert.ConvDyIdeal.nD,
      r.2.mem ((c.tc : Thread Cert.ConvDyIdeal.nD Cert.ConvDyIdeal.τ).loc Cert.ConvDyIdeal.main_arg0) = m ((c.tc : Thread Cert.ConvDyIdeal.nD Cert.ConvDyIdeal.τ).loc Cert.ConvDyIdeal.main_arg0)
      ∧ r.2.mem ((c.tc : Thread Cert.ConvDyIdeal.nD Cert.ConvDyIdeal.τ).loc Cert.ConvDyIdeal.main_arg1) = m ((c.tc : Thread Cert.ConvDyIdeal.nD Cert.ConvDyIdeal.τ).loc Cert.ConvDyIdeal.main_arg1))
      ∧ r.2.sem = fun _ => 0)

def quiescent_ConvDyRefIdeal [hConvDyRefIdeal : Cert.ConvDyRefIdeal.Facts] : Prop :=
  ∀ (m : (ℓ : Loc Cert.ConvDyRefIdeal.nD Cert.ConvDyRefIdeal.τ Cert.ConvDyRefIdeal.sig) → Buf (Elt Ideal) ℓ) (g : Dev Cert.ConvDyRefIdeal.nD → PrngReg), Pre_ConvDyRefIdeal m →
    θ_run (Cert.ConvDyRefIdeal.defs (F := Ideal)) (onTc (τ := Cert.ConvDyRefIdeal.τ) (Cert.ConvDyRefIdeal.main (F := Ideal))) ⟨m, fun _ => 0, g⟩ (fun r => (∀ c : Dev Cert.ConvDyRefIdeal.nD,
      r.2.mem ((c.tc : Thread Cert.ConvDyRefIdeal.nD Cert.ConvDyRefIdeal.τ).loc Cert.ConvDyRefIdeal.main_arg0) = m ((c.tc : Thread Cert.ConvDyRefIdeal.nD Cert.ConvDyRefIdeal.τ).loc Cert.ConvDyRefIdeal.main_arg0)
      ∧ r.2.mem ((c.tc : Thread Cert.ConvDyRefIdeal.nD Cert.ConvDyRefIdeal.τ).loc Cert.ConvDyRefIdeal.main_arg1) = m ((c.tc : Thread Cert.ConvDyRefIdeal.nD Cert.ConvDyRefIdeal.τ).loc Cert.ConvDyRefIdeal.main_arg1))
      ∧ r.2.sem = fun _ => 0)

def quiescent_ConvGw [hConvGw : Cert.ConvGw.Facts] : Prop :=
  ∀ (m : (ℓ : Loc Cert.ConvGw.nD Cert.ConvGw.τ Cert.ConvGw.sig) → Buf (Elt Bits) ℓ) (g : Dev Cert.ConvGw.nD → PrngReg), Pre_ConvGw m →
    θ_run (Cert.ConvGw.defs (F := Bits)) (onTc (τ := Cert.ConvGw.τ) (Cert.ConvGw.main (F := Bits))) ⟨m, fun _ => 0, g⟩ (fun r => (∀ c : Dev Cert.ConvGw.nD,
      r.2.mem ((c.tc : Thread Cert.ConvGw.nD Cert.ConvGw.τ).loc Cert.ConvGw.main_arg0) = m ((c.tc : Thread Cert.ConvGw.nD Cert.ConvGw.τ).loc Cert.ConvGw.main_arg0)
      ∧ r.2.mem ((c.tc : Thread Cert.ConvGw.nD Cert.ConvGw.τ).loc Cert.ConvGw.main_arg1) = m ((c.tc : Thread Cert.ConvGw.nD Cert.ConvGw.τ).loc Cert.ConvGw.main_arg1))
      ∧ r.2.sem = fun _ => 0)

def quiescent_ConvGwIdeal [hConvGwIdeal : Cert.ConvGwIdeal.Facts] : Prop :=
  ∀ (m : (ℓ : Loc Cert.ConvGwIdeal.nD Cert.ConvGwIdeal.τ Cert.ConvGwIdeal.sig) → Buf (Elt Ideal) ℓ) (g : Dev Cert.ConvGwIdeal.nD → PrngReg), Pre_ConvGwIdeal m →
    θ_run (Cert.ConvGwIdeal.defs (F := Ideal)) (onTc (τ := Cert.ConvGwIdeal.τ) (Cert.ConvGwIdeal.main (F := Ideal))) ⟨m, fun _ => 0, g⟩ (fun r => (∀ c : Dev Cert.ConvGwIdeal.nD,
      r.2.mem ((c.tc : Thread Cert.ConvGwIdeal.nD Cert.ConvGwIdeal.τ).loc Cert.ConvGwIdeal.main_arg0) = m ((c.tc : Thread Cert.ConvGwIdeal.nD Cert.ConvGwIdeal.τ).loc Cert.ConvGwIdeal.main_arg0)
      ∧ r.2.mem ((c.tc : Thread Cert.ConvGwIdeal.nD Cert.ConvGwIdeal.τ).loc Cert.ConvGwIdeal.main_arg1) = m ((c.tc : Thread Cert.ConvGwIdeal.nD Cert.ConvGwIdeal.τ).loc Cert.ConvGwIdeal.main_arg1))
      ∧ r.2.sem = fun _ => 0)

def quiescent_ConvGwRefIdeal [hConvGwRefIdeal : Cert.ConvGwRefIdeal.Facts] : Prop :=
  ∀ (m : (ℓ : Loc Cert.ConvGwRefIdeal.nD Cert.ConvGwRefIdeal.τ Cert.ConvGwRefIdeal.sig) → Buf (Elt Ideal) ℓ) (g : Dev Cert.ConvGwRefIdeal.nD → PrngReg), Pre_ConvGwRefIdeal m →
    θ_run (Cert.ConvGwRefIdeal.defs (F := Ideal)) (onTc (τ := Cert.ConvGwRefIdeal.τ) (Cert.ConvGwRefIdeal.main (F := Ideal))) ⟨m, fun _ => 0, g⟩ (fun r => (∀ c : Dev Cert.ConvGwRefIdeal.nD,
      r.2.mem ((c.tc : Thread Cert.ConvGwRefIdeal.nD Cert.ConvGwRefIdeal.τ).loc Cert.ConvGwRefIdeal.main_arg0) = m ((c.tc : Thread Cert.ConvGwRefIdeal.nD Cert.ConvGwRefIdeal.τ).loc Cert.ConvGwRefIdeal.main_arg0)
      ∧ r.2.mem ((c.tc : Thread Cert.ConvGwRefIdeal.nD Cert.ConvGwRefIdeal.τ).loc Cert.ConvGwRefIdeal.main_arg1) = m ((c.tc : Thread Cert.ConvGwRefIdeal.nD Cert.ConvGwRefIdeal.τ).loc Cert.ConvGwRefIdeal.main_arg1))
      ∧ r.2.sem = fun _ => 0)

def quiescent_InGw [hInGw : Cert.InGw.Facts] : Prop :=
  ∀ (m : (ℓ : Loc Cert.InGw.nD Cert.InGw.τ Cert.InGw.sig) → Buf (Elt Bits) ℓ) (g : Dev Cert.InGw.nD → PrngReg), Pre_InGw m →
    θ_run (Cert.InGw.defs (F := Bits)) (onTc (τ := Cert.InGw.τ) (Cert.InGw.main (F := Bits))) ⟨m, fun _ => 0, g⟩ (fun r => (∀ c : Dev Cert.InGw.nD,
      r.2.mem ((c.tc : Thread Cert.InGw.nD Cert.InGw.τ).loc Cert.InGw.main_arg0) = m ((c.tc : Thread Cert.InGw.nD Cert.InGw.τ).loc Cert.InGw.main_arg0)
      ∧ r.2.mem ((c.tc : Thread Cert.InGw.nD Cert.InGw.τ).loc Cert.InGw.main_arg1) = m ((c.tc : Thread Cert.InGw.nD Cert.InGw.τ).loc Cert.InGw.main_arg1))
      ∧ r.2.sem = fun _ => 0)

def quiescent_InGwIdeal [hInGwIdeal : Cert.InGwIdeal.Facts] : Prop :=
  ∀ (m : (ℓ : Loc Cert.InGwIdeal.nD Cert.InGwIdeal.τ Cert.InGwIdeal.sig) → Buf (Elt Ideal) ℓ) (g : Dev Cert.InGwIdeal.nD → PrngReg), Pre_InGwIdeal m →
    θ_run (Cert.InGwIdeal.defs (F := Ideal)) (onTc (τ := Cert.InGwIdeal.τ) (Cert.InGwIdeal.main (F := Ideal))) ⟨m, fun _ => 0, g⟩ (fun r => (∀ c : Dev Cert.InGwIdeal.nD,
      r.2.mem ((c.tc : Thread Cert.InGwIdeal.nD Cert.InGwIdeal.τ).loc Cert.InGwIdeal.main_arg0) = m ((c.tc : Thread Cert.InGwIdeal.nD Cert.InGwIdeal.τ).loc Cert.InGwIdeal.main_arg0)
      ∧ r.2.mem ((c.tc : Thread Cert.InGwIdeal.nD Cert.InGwIdeal.τ).loc Cert.InGwIdeal.main_arg1) = m ((c.tc : Thread Cert.InGwIdeal.nD Cert.InGwIdeal.τ).loc Cert.InGwIdeal.main_arg1))
      ∧ r.2.sem = fun _ => 0)

def quiescent_InGwRefIdeal [hInGwRefIdeal : Cert.InGwRefIdeal.Facts] : Prop :=
  ∀ (m : (ℓ : Loc Cert.InGwRefIdeal.nD Cert.InGwRefIdeal.τ Cert.InGwRefIdeal.sig) → Buf (Elt Ideal) ℓ) (g : Dev Cert.InGwRefIdeal.nD → PrngReg), Pre_InGwRefIdeal m →
    θ_run (Cert.InGwRefIdeal.defs (F := Ideal)) (onTc (τ := Cert.InGwRefIdeal.τ) (Cert.InGwRefIdeal.main (F := Ideal))) ⟨m, fun _ => 0, g⟩ (fun r => (∀ c : Dev Cert.InGwRefIdeal.nD,
      r.2.mem ((c.tc : Thread Cert.InGwRefIdeal.nD Cert.InGwRefIdeal.τ).loc Cert.InGwRefIdeal.main_arg0) = m ((c.tc : Thread Cert.InGwRefIdeal.nD Cert.InGwRefIdeal.τ).loc Cert.InGwRefIdeal.main_arg0)
      ∧ r.2.mem ((c.tc : Thread Cert.InGwRefIdeal.nD Cert.InGwRefIdeal.τ).loc Cert.InGwRefIdeal.main_arg1) = m ((c.tc : Thread Cert.InGwRefIdeal.nD Cert.InGwRefIdeal.τ).loc Cert.InGwRefIdeal.main_arg1))
      ∧ r.2.sem = fun _ => 0)

def quiescent_InDh [hInDh : Cert.InDh.Facts] : Prop :=
  ∀ (m : (ℓ : Loc Cert.InDh.nD Cert.InDh.τ Cert.InDh.sig) → Buf (Elt Bits) ℓ) (g : Dev Cert.InDh.nD → PrngReg), Pre_InDh m →
    θ_run (Cert.InDh.defs (F := Bits)) (onTc (τ := Cert.InDh.τ) (Cert.InDh.main (F := Bits))) ⟨m, fun _ => 0, g⟩ (fun r => (∀ c : Dev Cert.InDh.nD,
      r.2.mem ((c.tc : Thread Cert.InDh.nD Cert.InDh.τ).loc Cert.InDh.main_arg0) = m ((c.tc : Thread Cert.InDh.nD Cert.InDh.τ).loc Cert.InDh.main_arg0)
      ∧ r.2.mem ((c.tc : Thread Cert.InDh.nD Cert.InDh.τ).loc Cert.InDh.main_arg1) = m ((c.tc : Thread Cert.InDh.nD Cert.InDh.τ).loc Cert.InDh.main_arg1))
      ∧ r.2.sem = fun _ => 0)

def quiescent_InDhIdeal [hInDhIdeal : Cert.InDhIdeal.Facts] : Prop :=
  ∀ (m : (ℓ : Loc Cert.InDhIdeal.nD Cert.InDhIdeal.τ Cert.InDhIdeal.sig) → Buf (Elt Ideal) ℓ) (g : Dev Cert.InDhIdeal.nD → PrngReg), Pre_InDhIdeal m →
    θ_run (Cert.InDhIdeal.defs (F := Ideal)) (onTc (τ := Cert.InDhIdeal.τ) (Cert.InDhIdeal.main (F := Ideal))) ⟨m, fun _ => 0, g⟩ (fun r => (∀ c : Dev Cert.InDhIdeal.nD,
      r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
      ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ r.2.sem = fun _ => 0)

def quiescent_InDhRefIdeal [hInDhRefIdeal : Cert.InDhRefIdeal.Facts] : Prop :=
  ∀ (m : (ℓ : Loc Cert.InDhRefIdeal.nD Cert.InDhRefIdeal.τ Cert.InDhRefIdeal.sig) → Buf (Elt Ideal) ℓ) (g : Dev Cert.InDhRefIdeal.nD → PrngReg), Pre_InDhRefIdeal m →
    θ_run (Cert.InDhRefIdeal.defs (F := Ideal)) (onTc (τ := Cert.InDhRefIdeal.τ) (Cert.InDhRefIdeal.main (F := Ideal))) ⟨m, fun _ => 0, g⟩ (fun r => (∀ c : Dev Cert.InDhRefIdeal.nD,
      r.2.mem ((c.tc : Thread Cert.InDhRefIdeal.nD Cert.InDhRefIdeal.τ).loc Cert.InDhRefIdeal.main_arg0) = m ((c.tc : Thread Cert.InDhRefIdeal.nD Cert.InDhRefIdeal.τ).loc Cert.InDhRefIdeal.main_arg0)
      ∧ r.2.mem ((c.tc : Thread Cert.InDhRefIdeal.nD Cert.InDhRefIdeal.τ).loc Cert.InDhRefIdeal.main_arg1) = m ((c.tc : Thread Cert.InDhRefIdeal.nD Cert.InDhRefIdeal.τ).loc Cert.InDhRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamBAda [hAdamBAda : Cert.AdamBAda.Facts] : Prop :=
  ∀ (m : (ℓ : Loc Cert.AdamBAda.nD Cert.AdamBAda.τ Cert.AdamBAda.sig) → Buf (Elt Bits) ℓ) (g : Dev Cert.AdamBAda.nD → PrngReg), Pre_AdamBAda m →
    θ_run (Cert.AdamBAda.defs (F := Bits)) (onTc (τ := Cert.AdamBAda.τ) (Cert.AdamBAda.main (F := Bits))) ⟨m, fun _ => 0, g⟩ (fun r => (∀ c : Dev Cert.AdamBAda.nD,
      r.2.mem ((c.tc : Thread Cert.AdamBAda.nD Cert.AdamBAda.τ).loc Cert.AdamBAda.main_arg0) = m ((c.tc : Thread Cert.AdamBAda.nD Cert.AdamBAda.τ).loc Cert.AdamBAda.main_arg0)
      ∧ r.2.mem ((c.tc : Thread Cert.AdamBAda.nD Cert.AdamBAda.τ).loc Cert.AdamBAda.main_arg1) = m ((c.tc : Thread Cert.AdamBAda.nD Cert.AdamBAda.τ).loc Cert.AdamBAda.main_arg1)
      ∧ r.2.mem ((c.tc : Thread Cert.AdamBAda.nD Cert.AdamBAda.τ).loc Cert.AdamBAda.main_arg2) = m ((c.tc : Thread Cert.AdamBAda.nD Cert.AdamBAda.τ).loc Cert.AdamBAda.main_arg2)
      ∧ r.2.mem ((c.tc : Thread Cert.AdamBAda.nD Cert.AdamBAda.τ).loc Cert.AdamBAda.main_arg3) = m ((c.tc : Thread Cert.AdamBAda.nD Cert.AdamBAda.τ).loc Cert.AdamBAda.main_arg3))
      ∧ r.2.sem = fun _ => 0)

def quiescent_AdamBAdaIdeal [hAdamBAdaIdeal : Cert.AdamBAdaIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg), Pre_AdamBAdaIdeal m →
    θ_run (Cert.AdamBAdaIdeal.defs (F := Ideal)) (onTc (τ := Cert.AdamBAdaIdeal.τ) (Cert.AdamBAdaIdeal.main (F := Ideal))) ⟨m, fun _ => 0, g⟩ (fun r => (∀ c : Dev Cert.AdamBAdaIdeal.nD,
      r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
      ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
      ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
      ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ r.2.sem = fun _ => 0)

def quiescent_AdamBAdaRefIdeal [hAdamBAdaRefIdeal : Cert.AdamBAdaRefIdeal.Facts] : Prop :=
  ∀ (m : (ℓ : Loc Cert.AdamBAdaRefIdeal.nD Cert.AdamBAdaRefIdeal.τ Cert.AdamBAdaRefIdeal.sig) → Buf (Elt Ideal) ℓ) (g : Dev Cert.AdamBAdaRefIdeal.nD → PrngReg), Pre_AdamBAdaRefIdeal m →
    θ_run (Cert.AdamBAdaRefIdeal.defs (F := Ideal)) (onTc (τ := Cert.AdamBAdaRefIdeal.τ) (Cert.AdamBAdaRefIdeal.main (F := Ideal))) ⟨m, fun _ => 0, g⟩ (fun r => (∀ c : Dev Cert.AdamBAdaRefIdeal.nD,
      r.2.mem ((c.tc : Thread Cert.AdamBAdaRefIdeal.nD Cert.AdamBAdaRefIdeal.τ).loc Cert.AdamBAdaRefIdeal.main_arg0) = m ((c.tc : Thread Cert.AdamBAdaRefIdeal.nD Cert.AdamBAdaRefIdeal.τ).loc Cert.AdamBAdaRefIdeal.main_arg0)
      ∧ r.2.mem ((c.tc : Thread Cert.AdamBAdaRefIdeal.nD Cert.AdamBAdaRefIdeal.τ).loc Cert.AdamBAdaRefIdeal.main_arg1) = m ((c.tc : Thread Cert.AdamBAdaRefIdeal.nD Cert.AdamBAdaRefIdeal.τ).loc Cert.AdamBAdaRefIdeal.main_arg1)
      ∧ r.2.mem ((c.tc : Thread Cert.AdamBAdaRefIdeal.nD Cert.AdamBAdaRefIdeal.τ).loc Cert.AdamBAdaRefIdeal.main_arg2) = m ((c.tc : Thread Cert.AdamBAdaRefIdeal.nD Cert.AdamBAdaRefIdeal.τ).loc Cert.AdamBAdaRefIdeal.main_arg2)
      ∧ r.2.mem ((c.tc : Thread Cert.AdamBAdaRefIdeal.nD Cert.AdamBAdaRefIdeal.τ).loc Cert.AdamBAdaRefIdeal.main_arg3) = m ((c.tc : Thread Cert.AdamBAdaRefIdeal.nD Cert.AdamBAdaRefIdeal.τ).loc Cert.AdamBAdaRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamMlpIn [hAdamMlpIn : Cert.AdamMlpIn.Facts] : Prop :=
  ∀ (m : (ℓ : Loc Cert.AdamMlpIn.nD Cert.AdamMlpIn.τ Cert.AdamMlpIn.sig) → Buf (Elt Bits) ℓ) (g : Dev Cert.AdamMlpIn.nD → PrngReg), Pre_AdamMlpIn m →
    θ_run (Cert.AdamMlpIn.defs (F := Bits)) (onTc (τ := Cert.AdamMlpIn.τ) (Cert.AdamMlpIn.main (F := Bits))) ⟨m, fun _ => 0, g⟩ (fun r => (∀ c : Dev Cert.AdamMlpIn.nD,
      r.2.mem ((c.tc : Thread Cert.AdamMlpIn.nD Cert.AdamMlpIn.τ).loc Cert.AdamMlpIn.main_arg0) = m ((c.tc : Thread Cert.AdamMlpIn.nD Cert.AdamMlpIn.τ).loc Cert.AdamMlpIn.main_arg0)
      ∧ r.2.mem ((c.tc : Thread Cert.AdamMlpIn.nD Cert.AdamMlpIn.τ).loc Cert.AdamMlpIn.main_arg1) = m ((c.tc : Thread Cert.AdamMlpIn.nD Cert.AdamMlpIn.τ).loc Cert.AdamMlpIn.main_arg1)
      ∧ r.2.mem ((c.tc : Thread Cert.AdamMlpIn.nD Cert.AdamMlpIn.τ).loc Cert.AdamMlpIn.main_arg2) = m ((c.tc : Thread Cert.AdamMlpIn.nD Cert.AdamMlpIn.τ).loc Cert.AdamMlpIn.main_arg2)
      ∧ r.2.mem ((c.tc : Thread Cert.AdamMlpIn.nD Cert.AdamMlpIn.τ).loc Cert.AdamMlpIn.main_arg3) = m ((c.tc : Thread Cert.AdamMlpIn.nD Cert.AdamMlpIn.τ).loc Cert.AdamMlpIn.main_arg3)
      ∧ r.2.mem ((c.tc : Thread Cert.AdamMlpIn.nD Cert.AdamMlpIn.τ).loc Cert.AdamMlpIn.main_arg4) = m ((c.tc : Thread Cert.AdamMlpIn.nD Cert.AdamMlpIn.τ).loc Cert.AdamMlpIn.main_arg4))
      ∧ r.2.sem = fun _ => 0)

def quiescent_AdamMlpInIdeal [hAdamMlpInIdeal : Cert.AdamMlpInIdeal.Facts] : Prop :=
  ∀ (m : (ℓ : Loc Cert.AdamMlpInIdeal.nD Cert.AdamMlpInIdeal.τ Cert.AdamMlpInIdeal.sig) → Buf (Elt Ideal) ℓ) (g : Dev Cert.AdamMlpInIdeal.nD → PrngReg), Pre_AdamMlpInIdeal m →
    θ_run (Cert.AdamMlpInIdeal.defs (F := Ideal)) (onTc (τ := Cert.AdamMlpInIdeal.τ) (Cert.AdamMlpInIdeal.main (F := Ideal))) ⟨m, fun _ => 0, g⟩ (fun r => (∀ c : Dev Cert.AdamMlpInIdeal.nD,
      r.2.mem ((c.tc : Thread Cert.AdamMlpInIdeal.nD Cert.AdamMlpInIdeal.τ).loc Cert.AdamMlpInIdeal.main_arg0) = m ((c.tc : Thread Cert.AdamMlpInIdeal.nD Cert.AdamMlpInIdeal.τ).loc Cert.AdamMlpInIdeal.main_arg0)
      ∧ r.2.mem ((c.tc : Thread Cert.AdamMlpInIdeal.nD Cert.AdamMlpInIdeal.τ).loc Cert.AdamMlpInIdeal.main_arg1) = m ((c.tc : Thread Cert.AdamMlpInIdeal.nD Cert.AdamMlpInIdeal.τ).loc Cert.AdamMlpInIdeal.main_arg1)
      ∧ r.2.mem ((c.tc : Thread Cert.AdamMlpInIdeal.nD Cert.AdamMlpInIdeal.τ).loc Cert.AdamMlpInIdeal.main_arg2) = m ((c.tc : Thread Cert.AdamMlpInIdeal.nD Cert.AdamMlpInIdeal.τ).loc Cert.AdamMlpInIdeal.main_arg2)
      ∧ r.2.mem ((c.tc : Thread Cert.AdamMlpInIdeal.nD Cert.AdamMlpInIdeal.τ).loc Cert.AdamMlpInIdeal.main_arg3) = m ((c.tc : Thread Cert.AdamMlpInIdeal.nD Cert.AdamMlpInIdeal.τ).loc Cert.AdamMlpInIdeal.main_arg3)
      ∧ r.2.mem ((c.tc : Thread Cert.AdamMlpInIdeal.nD Cert.AdamMlpInIdeal.τ).loc Cert.AdamMlpInIdeal.main_arg4) = m ((c.tc : Thread Cert.AdamMlpInIdeal.nD Cert.AdamMlpInIdeal.τ).loc Cert.AdamMlpInIdeal.main_arg4))
      ∧ r.2.sem = fun _ => 0)

def quiescent_AdamMlpInRefIdeal [hAdamMlpInRefIdeal : Cert.AdamMlpInRefIdeal.Facts] : Prop :=
  ∀ (m : (ℓ : Loc Cert.AdamMlpInRefIdeal.nD Cert.AdamMlpInRefIdeal.τ Cert.AdamMlpInRefIdeal.sig) → Buf (Elt Ideal) ℓ) (g : Dev Cert.AdamMlpInRefIdeal.nD → PrngReg), Pre_AdamMlpInRefIdeal m →
    θ_run (Cert.AdamMlpInRefIdeal.defs (F := Ideal)) (onTc (τ := Cert.AdamMlpInRefIdeal.τ) (Cert.AdamMlpInRefIdeal.main (F := Ideal))) ⟨m, fun _ => 0, g⟩ (fun r => (∀ c : Dev Cert.AdamMlpInRefIdeal.nD,
      r.2.mem ((c.tc : Thread Cert.AdamMlpInRefIdeal.nD Cert.AdamMlpInRefIdeal.τ).loc Cert.AdamMlpInRefIdeal.main_arg0) = m ((c.tc : Thread Cert.AdamMlpInRefIdeal.nD Cert.AdamMlpInRefIdeal.τ).loc Cert.AdamMlpInRefIdeal.main_arg0)
      ∧ r.2.mem ((c.tc : Thread Cert.AdamMlpInRefIdeal.nD Cert.AdamMlpInRefIdeal.τ).loc Cert.AdamMlpInRefIdeal.main_arg1) = m ((c.tc : Thread Cert.AdamMlpInRefIdeal.nD Cert.AdamMlpInRefIdeal.τ).loc Cert.AdamMlpInRefIdeal.main_arg1)
      ∧ r.2.mem ((c.tc : Thread Cert.AdamMlpInRefIdeal.nD Cert.AdamMlpInRefIdeal.τ).loc Cert.AdamMlpInRefIdeal.main_arg2) = m ((c.tc : Thread Cert.AdamMlpInRefIdeal.nD Cert.AdamMlpInRefIdeal.τ).loc Cert.AdamMlpInRefIdeal.main_arg2)
      ∧ r.2.mem ((c.tc : Thread Cert.AdamMlpInRefIdeal.nD Cert.AdamMlpInRefIdeal.τ).loc Cert.AdamMlpInRefIdeal.main_arg3) = m ((c.tc : Thread Cert.AdamMlpInRefIdeal.nD Cert.AdamMlpInRefIdeal.τ).loc Cert.AdamMlpInRefIdeal.main_arg3)
      ∧ r.2.mem ((c.tc : Thread Cert.AdamMlpInRefIdeal.nD Cert.AdamMlpInRefIdeal.τ).loc Cert.AdamMlpInRefIdeal.main_arg4) = m ((c.tc : Thread Cert.AdamMlpInRefIdeal.nD Cert.AdamMlpInRefIdeal.τ).loc Cert.AdamMlpInRefIdeal.main_arg4))
      ∧ r.2.sem = fun _ => 0)

def quiescent_AdamMlpOut [hAdamMlpOut : Cert.AdamMlpOut.Facts] : Prop :=
  ∀ (m : (ℓ : Loc Cert.AdamMlpOut.nD Cert.AdamMlpOut.τ Cert.AdamMlpOut.sig) → Buf (Elt Bits) ℓ) (g : Dev Cert.AdamMlpOut.nD → PrngReg), Pre_AdamMlpOut m →
    θ_run (Cert.AdamMlpOut.defs (F := Bits)) (onTc (τ := Cert.AdamMlpOut.τ) (Cert.AdamMlpOut.main (F := Bits))) ⟨m, fun _ => 0, g⟩ (fun r => (∀ c : Dev Cert.AdamMlpOut.nD,
      r.2.mem ((c.tc : Thread Cert.AdamMlpOut.nD Cert.AdamMlpOut.τ).loc Cert.AdamMlpOut.main_arg0) = m ((c.tc : Thread Cert.AdamMlpOut.nD Cert.AdamMlpOut.τ).loc Cert.AdamMlpOut.main_arg0)
      ∧ r.2.mem ((c.tc : Thread Cert.AdamMlpOut.nD Cert.AdamMlpOut.τ).loc Cert.AdamMlpOut.main_arg1) = m ((c.tc : Thread Cert.AdamMlpOut.nD Cert.AdamMlpOut.τ).loc Cert.AdamMlpOut.main_arg1)
      ∧ r.2.mem ((c.tc : Thread Cert.AdamMlpOut.nD Cert.AdamMlpOut.τ).loc Cert.AdamMlpOut.main_arg2) = m ((c.tc : Thread Cert.AdamMlpOut.nD Cert.AdamMlpOut.τ).loc Cert.AdamMlpOut.main_arg2)
      ∧ r.2.mem ((c.tc : Thread Cert.AdamMlpOut.nD Cert.AdamMlpOut.τ).loc Cert.AdamMlpOut.main_arg3) = m ((c.tc : Thread Cert.AdamMlpOut.nD Cert.AdamMlpOut.τ).loc Cert.AdamMlpOut.main_arg3)
      ∧ r.2.mem ((c.tc : Thread Cert.AdamMlpOut.nD Cert.AdamMlpOut.τ).loc Cert.AdamMlpOut.main_arg4) = m ((c.tc : Thread Cert.AdamMlpOut.nD Cert.AdamMlpOut.τ).loc Cert.AdamMlpOut.main_arg4))
      ∧ r.2.sem = fun _ => 0)

def quiescent_AdamMlpOutIdeal [hAdamMlpOutIdeal : Cert.AdamMlpOutIdeal.Facts] : Prop :=
  ∀ (m : (ℓ : Loc Cert.AdamMlpOutIdeal.nD Cert.AdamMlpOutIdeal.τ Cert.AdamMlpOutIdeal.sig) → Buf (Elt Ideal) ℓ) (g : Dev Cert.AdamMlpOutIdeal.nD → PrngReg), Pre_AdamMlpOutIdeal m →
    θ_run (Cert.AdamMlpOutIdeal.defs (F := Ideal)) (onTc (τ := Cert.AdamMlpOutIdeal.τ) (Cert.AdamMlpOutIdeal.main (F := Ideal))) ⟨m, fun _ => 0, g⟩ (fun r => (∀ c : Dev Cert.AdamMlpOutIdeal.nD,
      r.2.mem ((c.tc : Thread Cert.AdamMlpOutIdeal.nD Cert.AdamMlpOutIdeal.τ).loc Cert.AdamMlpOutIdeal.main_arg0) = m ((c.tc : Thread Cert.AdamMlpOutIdeal.nD Cert.AdamMlpOutIdeal.τ).loc Cert.AdamMlpOutIdeal.main_arg0)
      ∧ r.2.mem ((c.tc : Thread Cert.AdamMlpOutIdeal.nD Cert.AdamMlpOutIdeal.τ).loc Cert.AdamMlpOutIdeal.main_arg1) = m ((c.tc : Thread Cert.AdamMlpOutIdeal.nD Cert.AdamMlpOutIdeal.τ).loc Cert.AdamMlpOutIdeal.main_arg1)
      ∧ r.2.mem ((c.tc : Thread Cert.AdamMlpOutIdeal.nD Cert.AdamMlpOutIdeal.τ).loc Cert.AdamMlpOutIdeal.main_arg2) = m ((c.tc : Thread Cert.AdamMlpOutIdeal.nD Cert.AdamMlpOutIdeal.τ).loc Cert.AdamMlpOutIdeal.main_arg2)
      ∧ r.2.mem ((c.tc : Thread Cert.AdamMlpOutIdeal.nD Cert.AdamMlpOutIdeal.τ).loc Cert.AdamMlpOutIdeal.main_arg3) = m ((c.tc : Thread Cert.AdamMlpOutIdeal.nD Cert.AdamMlpOutIdeal.τ).loc Cert.AdamMlpOutIdeal.main_arg3)
      ∧ r.2.mem ((c.tc : Thread Cert.AdamMlpOutIdeal.nD Cert.AdamMlpOutIdeal.τ).loc Cert.AdamMlpOutIdeal.main_arg4) = m ((c.tc : Thread Cert.AdamMlpOutIdeal.nD Cert.AdamMlpOutIdeal.τ).loc Cert.AdamMlpOutIdeal.main_arg4))
      ∧ r.2.sem = fun _ => 0)

def quiescent_AdamMlpOutRefIdeal [hAdamMlpOutRefIdeal : Cert.AdamMlpOutRefIdeal.Facts] : Prop :=
  ∀ (m : (ℓ : Loc Cert.AdamMlpOutRefIdeal.nD Cert.AdamMlpOutRefIdeal.τ Cert.AdamMlpOutRefIdeal.sig) → Buf (Elt Ideal) ℓ) (g : Dev Cert.AdamMlpOutRefIdeal.nD → PrngReg), Pre_AdamMlpOutRefIdeal m →
    θ_run (Cert.AdamMlpOutRefIdeal.defs (F := Ideal)) (onTc (τ := Cert.AdamMlpOutRefIdeal.τ) (Cert.AdamMlpOutRefIdeal.main (F := Ideal))) ⟨m, fun _ => 0, g⟩ (fun r => (∀ c : Dev Cert.AdamMlpOutRefIdeal.nD,
      r.2.mem ((c.tc : Thread Cert.AdamMlpOutRefIdeal.nD Cert.AdamMlpOutRefIdeal.τ).loc Cert.AdamMlpOutRefIdeal.main_arg0) = m ((c.tc : Thread Cert.AdamMlpOutRefIdeal.nD Cert.AdamMlpOutRefIdeal.τ).loc Cert.AdamMlpOutRefIdeal.main_arg0)
      ∧ r.2.mem ((c.tc : Thread Cert.AdamMlpOutRefIdeal.nD Cert.AdamMlpOutRefIdeal.τ).loc Cert.AdamMlpOutRefIdeal.main_arg1) = m ((c.tc : Thread Cert.AdamMlpOutRefIdeal.nD Cert.AdamMlpOutRefIdeal.τ).loc Cert.AdamMlpOutRefIdeal.main_arg1)
      ∧ r.2.mem ((c.tc : Thread Cert.AdamMlpOutRefIdeal.nD Cert.AdamMlpOutRefIdeal.τ).loc Cert.AdamMlpOutRefIdeal.main_arg2) = m ((c.tc : Thread Cert.AdamMlpOutRefIdeal.nD Cert.AdamMlpOutRefIdeal.τ).loc Cert.AdamMlpOutRefIdeal.main_arg2)
      ∧ r.2.mem ((c.tc : Thread Cert.AdamMlpOutRefIdeal.nD Cert.AdamMlpOutRefIdeal.τ).loc Cert.AdamMlpOutRefIdeal.main_arg3) = m ((c.tc : Thread Cert.AdamMlpOutRefIdeal.nD Cert.AdamMlpOutRefIdeal.τ).loc Cert.AdamMlpOutRefIdeal.main_arg3)
      ∧ r.2.mem ((c.tc : Thread Cert.AdamMlpOutRefIdeal.nD Cert.AdamMlpOutRefIdeal.τ).loc Cert.AdamMlpOutRefIdeal.main_arg4) = m ((c.tc : Thread Cert.AdamMlpOutRefIdeal.nD Cert.AdamMlpOutRefIdeal.τ).loc Cert.AdamMlpOutRefIdeal.main_arg4))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_Postnorm [hPostnorm : Cert.Postnorm.Facts] : Prop :=
  ∀ (m : (ℓ : Loc Cert.Postnorm.nD Cert.Postnorm.τ Cert.Postnorm.sig) → Buf (Elt Bits) ℓ) (g : Dev Cert.Postnorm.nD → PrngReg), Pre_Postnorm m →
    θ_run (Cert.Postnorm.defs (F := Bits)) (onTc (τ := Cert.Postnorm.τ) (Cert.Postnorm.main (F := Bits))) ⟨m, fun _ => 0, g⟩ (fun r => (∀ c : Dev Cert.Postnorm.nD,
      r.2.mem ((c.tc : Thread Cert.Postnorm.nD Cert.Postnorm.τ).loc Cert.Postnorm.main_arg0) = m ((c.tc : Thread Cert.Postnorm.nD Cert.Postnorm.τ).loc Cert.Postnorm.main_arg0)
      ∧ r.2.mem ((c.tc : Thread Cert.Postnorm.nD Cert.Postnorm.τ).loc Cert.Postnorm.main_arg1) = m ((c.tc : Thread Cert.Postnorm.nD Cert.Postnorm.τ).loc Cert.Postnorm.main_arg1)
      ∧ r.2.mem ((c.tc : Thread Cert.Postnorm.nD Cert.Postnorm.τ).loc Cert.Postnorm.main_arg2) = m ((c.tc : Thread Cert.Postnorm.nD Cert.Postnorm.τ).loc Cert.Postnorm.main_arg2)
      ∧ r.2.mem ((c.tc : Thread Cert.Postnorm.nD Cert.Postnorm.τ).loc Cert.Postnorm.main_arg3) = m ((c.tc : Thread Cert.Postnorm.nD Cert.Postnorm.τ).loc Cert.Postnorm.main_arg3))
      ∧ r.2.sem = fun _ => 0)

def quiescent_PostnormIdeal [hPostnormIdeal : Cert.PostnormIdeal.Facts] : Prop :=
  ∀ (m : (ℓ : Loc Cert.PostnormIdeal.nD Cert.PostnormIdeal.τ Cert.PostnormIdeal.sig) → Buf (Elt Ideal) ℓ) (g : Dev Cert.PostnormIdeal.nD → PrngReg), Pre_PostnormIdeal m →
    θ_run (Cert.PostnormIdeal.defs (F := Ideal)) (onTc (τ := Cert.PostnormIdeal.τ) (Cert.PostnormIdeal.main (F := Ideal))) ⟨m, fun _ => 0, g⟩ (fun r => (∀ c : Dev Cert.PostnormIdeal.nD,
      r.2.mem ((c.tc : Thread Cert.PostnormIdeal.nD Cert.PostnormIdeal.τ).loc Cert.PostnormIdeal.main_arg0) = m ((c.tc : Thread Cert.PostnormIdeal.nD Cert.PostnormIdeal.τ).loc Cert.PostnormIdeal.main_arg0)
      ∧ r.2.mem ((c.tc : Thread Cert.PostnormIdeal.nD Cert.PostnormIdeal.τ).loc Cert.PostnormIdeal.main_arg1) = m ((c.tc : Thread Cert.PostnormIdeal.nD Cert.PostnormIdeal.τ).loc Cert.PostnormIdeal.main_arg1)
      ∧ r.2.mem ((c.tc : Thread Cert.PostnormIdeal.nD Cert.PostnormIdeal.τ).loc Cert.PostnormIdeal.main_arg2) = m ((c.tc : Thread Cert.PostnormIdeal.nD Cert.PostnormIdeal.τ).loc Cert.PostnormIdeal.main_arg2)
      ∧ r.2.mem ((c.tc : Thread Cert.PostnormIdeal.nD Cert.PostnormIdeal.τ).loc Cert.PostnormIdeal.main_arg3) = m ((c.tc : Thread Cert.PostnormIdeal.nD Cert.PostnormIdeal.τ).loc Cert.PostnormIdeal.main_arg3))
      ∧ r.2.sem = fun _ => 0)

def quiescent_PostnormRefIdeal [hPostnormRefIdeal : Cert.PostnormRefIdeal.Facts] : Prop :=
  ∀ (m : (ℓ : Loc Cert.PostnormRefIdeal.nD Cert.PostnormRefIdeal.τ Cert.PostnormRefIdeal.sig) → Buf (Elt Ideal) ℓ) (g : Dev Cert.PostnormRefIdeal.nD → PrngReg), Pre_PostnormRefIdeal m →
    θ_run (Cert.PostnormRefIdeal.defs (F := Ideal)) (onTc (τ := Cert.PostnormRefIdeal.τ) (Cert.PostnormRefIdeal.main (F := Ideal))) ⟨m, fun _ => 0, g⟩ (fun r => (∀ c : Dev Cert.PostnormRefIdeal.nD,
      r.2.mem ((c.tc : Thread Cert.PostnormRefIdeal.nD Cert.PostnormRefIdeal.τ).loc Cert.PostnormRefIdeal.main_arg0) = m ((c.tc : Thread Cert.PostnormRefIdeal.nD Cert.PostnormRefIdeal.τ).loc Cert.PostnormRefIdeal.main_arg0)
      ∧ r.2.mem ((c.tc : Thread Cert.PostnormRefIdeal.nD Cert.PostnormRefIdeal.τ).loc Cert.PostnormRefIdeal.main_arg1) = m ((c.tc : Thread Cert.PostnormRefIdeal.nD Cert.PostnormRefIdeal.τ).loc Cert.PostnormRefIdeal.main_arg1)
      ∧ r.2.mem ((c.tc : Thread Cert.PostnormRefIdeal.nD Cert.PostnormRefIdeal.τ).loc Cert.PostnormRefIdeal.main_arg2) = m ((c.tc : Thread Cert.PostnormRefIdeal.nD Cert.PostnormRefIdeal.τ).loc Cert.PostnormRefIdeal.main_arg2)
      ∧ r.2.mem ((c.tc : Thread Cert.PostnormRefIdeal.nD Cert.PostnormRefIdeal.τ).loc Cert.PostnormRefIdeal.main_arg3) = m ((c.tc : Thread Cert.PostnormRefIdeal.nD Cert.PostnormRefIdeal.τ).loc Cert.PostnormRefIdeal.main_arg3))
      ∧ r.2.sem = fun _ => 0)

def quiescent_PrenormBwd [hPrenormBwd : Cert.PrenormBwd.Facts] : Prop :=
  ∀ (m : (ℓ : Loc Cert.PrenormBwd.nD Cert.PrenormBwd.τ Cert.PrenormBwd.sig) → Buf (Elt Bits) ℓ) (g : Dev Cert.PrenormBwd.nD → PrngReg), Pre_PrenormBwd m →
    θ_run (Cert.PrenormBwd.defs (F := Bits)) (onTc (τ := Cert.PrenormBwd.τ) (Cert.PrenormBwd.main (F := Bits))) ⟨m, fun _ => 0, g⟩ (fun r => (∀ c : Dev Cert.PrenormBwd.nD,
      r.2.mem ((c.tc : Thread Cert.PrenormBwd.nD Cert.PrenormBwd.τ).loc Cert.PrenormBwd.main_arg0) = m ((c.tc : Thread Cert.PrenormBwd.nD Cert.PrenormBwd.τ).loc Cert.PrenormBwd.main_arg0)
      ∧ r.2.mem ((c.tc : Thread Cert.PrenormBwd.nD Cert.PrenormBwd.τ).loc Cert.PrenormBwd.main_arg1) = m ((c.tc : Thread Cert.PrenormBwd.nD Cert.PrenormBwd.τ).loc Cert.PrenormBwd.main_arg1)
      ∧ r.2.mem ((c.tc : Thread Cert.PrenormBwd.nD Cert.PrenormBwd.τ).loc Cert.PrenormBwd.main_arg2) = m ((c.tc : Thread Cert.PrenormBwd.nD Cert.PrenormBwd.τ).loc Cert.PrenormBwd.main_arg2)
      ∧ r.2.mem ((c.tc : Thread Cert.PrenormBwd.nD Cert.PrenormBwd.τ).loc Cert.PrenormBwd.main_arg3) = m ((c.tc : Thread Cert.PrenormBwd.nD Cert.PrenormBwd.τ).loc Cert.PrenormBwd.main_arg3)
      ∧ r.2.mem ((c.tc : Thread Cert.PrenormBwd.nD Cert.PrenormBwd.τ).loc Cert.PrenormBwd.main_arg4) = m ((c.tc : Thread Cert.PrenormBwd.nD Cert.PrenormBwd.τ).loc Cert.PrenormBwd.main_arg4))
      ∧ r.2.sem = fun _ => 0)

def quiescent_PrenormBwdIdeal [hPrenormBwdIdeal : Cert.PrenormBwdIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ r.2.sem = fun _ => 0)

def quiescent_PrenormBwdIdeal_pre_finite [hPrenormBwdIdeal : Cert.PrenormBwdIdeal.Facts] [hPre_finite : Cert.Pre_finite.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal_finite m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ r.2.sem = fun _ => 0)

def quiescent_PrenormBwdRefIdeal [hPrenormBwdRefIdeal : Cert.PrenormBwdRefIdeal.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4))
      ∧ r.2.sem = fun _ => 0)

def quiescent_PrenormBwdRefIdeal_pre_finite [hPrenormBwdRefIdeal : Cert.PrenormBwdRefIdeal.Facts] [hPre_finite : Cert.Pre_finite.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal_finite m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)) (v4 : (c : Dev Cert.ConvIdeal.nD) → Buf (Elt Ideal) ((c.tc : Thread Cert.ConvIdeal.nD Cert.ConvIdeal.τ).loc Cert.ConvIdeal.main_v0_4)) (v5 : (c : Dev Cert.ConvIdeal.nD) → Buf (Elt Ideal) ((c.tc : Thread Cert.ConvIdeal.nD Cert.ConvIdeal.τ).loc Cert.ConvIdeal.main_v0_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_v0_4) = v4 c
          ∧ r.2.mem ((c.tc : Thread Cert.ConvIdeal.nD Cert.ConvIdeal.τ).loc Cert.ConvIdeal.main_v0_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v67) = v0 c
          ∧ r.2.mem ((c.tc : Thread Cert.ConvRefIdeal.nD Cert.ConvRefIdeal.τ).loc Cert.ConvRefIdeal.main_v68) = v1 c
          ∧ r.2.mem ((c.tc : Thread Cert.ConvRefIdeal.nD Cert.ConvRefIdeal.τ).loc Cert.ConvRefIdeal.main_v69) = v2 c
          ∧ r.2.mem ((c.tc : Thread Cert.ConvRefIdeal.nD Cert.ConvRefIdeal.τ).loc Cert.ConvRefIdeal.main_v70) = v3 c
          ∧ r.2.mem ((c.tc : Thread Cert.ConvRefIdeal.nD Cert.ConvRefIdeal.τ).loc Cert.ConvRefIdeal.main_v71) = v4 c
          ∧ r.2.mem ((c.tc : Thread Cert.ConvRefIdeal.nD Cert.ConvRefIdeal.τ).loc Cert.ConvRefIdeal.main_v72) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v32) = v0 c
          ∧ r.2.mem ((c.tc : Thread Cert.GateRefIdeal.nD Cert.GateRefIdeal.τ).loc Cert.GateRefIdeal.main_v33) = v1 c
          ∧ r.2.mem ((c.tc : Thread Cert.GateRefIdeal.nD Cert.GateRefIdeal.τ).loc Cert.GateRefIdeal.main_v34) = v2 c
          ∧ r.2.mem ((c.tc : Thread Cert.GateRefIdeal.nD Cert.GateRefIdeal.τ).loc Cert.GateRefIdeal.main_v35) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Attn_AttnIdeal : Prop :=
  True

def preserves_MlpDa_MlpDaIdeal : Prop :=
  True

def algebraic_MlpDaIdeal_MlpDaRefIdeal [hMlpDaIdeal : Cert.MlpDaIdeal.Facts] [hMlpDaRefIdeal : Cert.MlpDaRefIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg)
    (m' : (ℓ : Loc Cert.MlpDaRefIdeal.nD Cert.MlpDaRefIdeal.τ Cert.MlpDaRefIdeal.sig) → Buf (Elt Ideal) ℓ) (g' : Dev Cert.MlpDaRefIdeal.nD → PrngReg), Pre_MlpDaIdeal m →
    (∀ c : Dev Cert.MlpDaIdeal.nD,
      m' ((c.tc : Thread Cert.MlpDaRefIdeal.nD Cert.MlpDaRefIdeal.τ).loc Cert.MlpDaRefIdeal.main_arg0) = m ((c.tc : Thread Cert.MlpDaIdeal.nD Cert.MlpDaIdeal.τ).loc Cert.MlpDaIdeal.main_arg0)
      ∧ m' ((c.tc : Thread Cert.MlpDaRefIdeal.nD Cert.MlpDaRefIdeal.τ).loc Cert.MlpDaRefIdeal.main_arg1) = m ((c.tc : Thread Cert.MlpDaIdeal.nD Cert.MlpDaIdeal.τ).loc Cert.MlpDaIdeal.main_arg1)
      ∧ m' ((c.tc : Thread Cert.MlpDaRefIdeal.nD Cert.MlpDaRefIdeal.τ).loc Cert.MlpDaRefIdeal.main_arg2) = m ((c.tc : Thread Cert.MlpDaIdeal.nD Cert.MlpDaIdeal.τ).loc Cert.MlpDaIdeal.main_arg2)) →
    ∃ (v0 : (c : Dev Cert.MlpDaIdeal.nD) → Buf (Elt Ideal) ((c.tc : Thread Cert.MlpDaIdeal.nD Cert.MlpDaIdeal.τ).loc Cert.MlpDaIdeal.main_v0)),
      θ_run (Cert.MlpDaIdeal.defs (F := Ideal)) (onTc (τ := Cert.MlpDaIdeal.τ) (Cert.MlpDaIdeal.main (F := Ideal))) ⟨m, fun _ => 0, g⟩ (fun r => ∀ c : Dev Cert.MlpDaIdeal.nD,
          r.2.mem ((c.tc : Thread Cert.MlpDaIdeal.nD Cert.MlpDaIdeal.τ).loc Cert.MlpDaIdeal.main_v0) = v0 c
          ∧ r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
          ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
          ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2))
      ∧ θ_run (Cert.MlpDaRefIdeal.defs (F := Ideal)) (onTc (τ := Cert.MlpDaRefIdeal.τ) (Cert.MlpDaRefIdeal.main (F := Ideal))) ⟨m', fun _ => 0, g'⟩ (fun r => ∀ c : Dev Cert.MlpDaRefIdeal.nD,
          r.2.mem ((c.tc : Thread Cert.MlpDaRefIdeal.nD Cert.MlpDaRefIdeal.τ).loc Cert.MlpDaRefIdeal.main_v15) = v0 c
          ∧ r.2.mem ((c.tc : Thread Cert.MlpDaRefIdeal.nD Cert.MlpDaRefIdeal.τ).loc Cert.MlpDaRefIdeal.main_arg0) = m' ((c.tc : Thread Cert.MlpDaRefIdeal.nD Cert.MlpDaRefIdeal.τ).loc Cert.MlpDaRefIdeal.main_arg0)
          ∧ r.2.mem ((c.tc : Thread Cert.MlpDaRefIdeal.nD Cert.MlpDaRefIdeal.τ).loc Cert.MlpDaRefIdeal.main_arg1) = m' ((c.tc : Thread Cert.MlpDaRefIdeal.nD Cert.MlpDaRefIdeal.τ).loc Cert.MlpDaRefIdeal.main_arg1)
          ∧ r.2.mem ((c.tc : Thread Cert.MlpDaRefIdeal.nD Cert.MlpDaRefIdeal.τ).loc Cert.MlpDaRefIdeal.main_arg2) = m' ((c.tc : Thread Cert.MlpDaRefIdeal.nD Cert.MlpDaRefIdeal.τ).loc Cert.MlpDaRefIdeal.main_arg2))

def preserves_MlpGwOut_MlpGwOutIdeal : Prop :=
  True

def algebraic_MlpGwOutIdeal_MlpGwOutRefIdeal [hMlpGwOutIdeal : Cert.MlpGwOutIdeal.Facts] [hMlpGwOutRefIdeal : Cert.MlpGwOutRefIdeal.Facts] : Prop :=
  ∀ (m : (ℓ : Loc Cert.MlpGwOutIdeal.nD Cert.MlpGwOutIdeal.τ Cert.MlpGwOutIdeal.sig) → Buf (Elt Ideal) ℓ) (g : Dev Cert.MlpGwOutIdeal.nD → PrngReg)
    (m' : (ℓ : Loc Cert.MlpGwOutRefIdeal.nD Cert.MlpGwOutRefIdeal.τ Cert.MlpGwOutRefIdeal.sig) → Buf (Elt Ideal) ℓ) (g' : Dev Cert.MlpGwOutRefIdeal.nD → PrngReg), Pre_MlpGwOutIdeal m →
    (∀ c : Dev Cert.MlpGwOutIdeal.nD,
      m' ((c.tc : Thread Cert.MlpGwOutRefIdeal.nD Cert.MlpGwOutRefIdeal.τ).loc Cert.MlpGwOutRefIdeal.main_arg0) = m ((c.tc : Thread Cert.MlpGwOutIdeal.nD Cert.MlpGwOutIdeal.τ).loc Cert.MlpGwOutIdeal.main_arg0)
      ∧ m' ((c.tc : Thread Cert.MlpGwOutRefIdeal.nD Cert.MlpGwOutRefIdeal.τ).loc Cert.MlpGwOutRefIdeal.main_arg1) = m ((c.tc : Thread Cert.MlpGwOutIdeal.nD Cert.MlpGwOutIdeal.τ).loc Cert.MlpGwOutIdeal.main_arg1)) →
    ∃ (v0 : (c : Dev Cert.MlpGwOutIdeal.nD) → Buf (Elt Ideal) ((c.tc : Thread Cert.MlpGwOutIdeal.nD Cert.MlpGwOutIdeal.τ).loc Cert.MlpGwOutIdeal.main_v0)),
      θ_run (Cert.MlpGwOutIdeal.defs (F := Ideal)) (onTc (τ := Cert.MlpGwOutIdeal.τ) (Cert.MlpGwOutIdeal.main (F := Ideal))) ⟨m, fun _ => 0, g⟩ (fun r => ∀ c : Dev Cert.MlpGwOutIdeal.nD,
          r.2.mem ((c.tc : Thread Cert.MlpGwOutIdeal.nD Cert.MlpGwOutIdeal.τ).loc Cert.MlpGwOutIdeal.main_v0) = v0 c
          ∧ r.2.mem ((c.tc : Thread Cert.MlpGwOutIdeal.nD Cert.MlpGwOutIdeal.τ).loc Cert.MlpGwOutIdeal.main_arg0) = m ((c.tc : Thread Cert.MlpGwOutIdeal.nD Cert.MlpGwOutIdeal.τ).loc Cert.MlpGwOutIdeal.main_arg0)
          ∧ r.2.mem ((c.tc : Thread Cert.MlpGwOutIdeal.nD Cert.MlpGwOutIdeal.τ).loc Cert.MlpGwOutIdeal.main_arg1) = m ((c.tc : Thread Cert.MlpGwOutIdeal.nD Cert.MlpGwOutIdeal.τ).loc Cert.MlpGwOutIdeal.main_arg1))
      ∧ θ_run (Cert.MlpGwOutRefIdeal.defs (F := Ideal)) (onTc (τ := Cert.MlpGwOutRefIdeal.τ) (Cert.MlpGwOutRefIdeal.main (F := Ideal))) ⟨m', fun _ => 0, g'⟩ (fun r => ∀ c : Dev Cert.MlpGwOutRefIdeal.nD,
          r.2.mem ((c.tc : Thread Cert.MlpGwOutRefIdeal.nD Cert.MlpGwOutRefIdeal.τ).loc Cert.MlpGwOutRefIdeal.main_v6) = v0 c
          ∧ r.2.mem ((c.tc : Thread Cert.MlpGwOutRefIdeal.nD Cert.MlpGwOutRefIdeal.τ).loc Cert.MlpGwOutRefIdeal.main_arg0) = m' ((c.tc : Thread Cert.MlpGwOutRefIdeal.nD Cert.MlpGwOutRefIdeal.τ).loc Cert.MlpGwOutRefIdeal.main_arg0)
          ∧ r.2.mem ((c.tc : Thread Cert.MlpGwOutRefIdeal.nD Cert.MlpGwOutRefIdeal.τ).loc Cert.MlpGwOutRefIdeal.main_arg1) = m' ((c.tc : Thread Cert.MlpGwOutRefIdeal.nD Cert.MlpGwOutRefIdeal.τ).loc Cert.MlpGwOutRefIdeal.main_arg1))

def preserves_MlpDh_MlpDhIdeal : Prop :=
  True

def algebraic_MlpDhIdeal_MlpDhRefIdeal [hMlpDhIdeal : Cert.MlpDhIdeal.Facts] [hMlpDhRefIdeal : Cert.MlpDhRefIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg)
    (m' : (ℓ : Loc Cert.MlpDhRefIdeal.nD Cert.MlpDhRefIdeal.τ Cert.MlpDhRefIdeal.sig) → Buf (Elt Ideal) ℓ) (g' : Dev Cert.MlpDhRefIdeal.nD → PrngReg), Pre_MlpDhIdeal m →
    (∀ c : Dev Cert.MlpDhIdeal.nD,
      m' ((c.tc : Thread Cert.MlpDhRefIdeal.nD Cert.MlpDhRefIdeal.τ).loc Cert.MlpDhRefIdeal.main_arg0) = m ((c.tc : Thread Cert.MlpDhIdeal.nD Cert.MlpDhIdeal.τ).loc Cert.MlpDhIdeal.main_arg0)
      ∧ m' ((c.tc : Thread Cert.MlpDhRefIdeal.nD Cert.MlpDhRefIdeal.τ).loc Cert.MlpDhRefIdeal.main_arg1) = m ((c.tc : Thread Cert.MlpDhIdeal.nD Cert.MlpDhIdeal.τ).loc Cert.MlpDhIdeal.main_arg1)) →
    ∃ (v0 : (c : Dev Cert.MlpDhIdeal.nD) → Buf (Elt Ideal) ((c.tc : Thread Cert.MlpDhIdeal.nD Cert.MlpDhIdeal.τ).loc Cert.MlpDhIdeal.main_v0)),
      θ_run (Cert.MlpDhIdeal.defs (F := Ideal)) (onTc (τ := Cert.MlpDhIdeal.τ) (Cert.MlpDhIdeal.main (F := Ideal))) ⟨m, fun _ => 0, g⟩ (fun r => ∀ c : Dev Cert.MlpDhIdeal.nD,
          r.2.mem ((c.tc : Thread Cert.MlpDhIdeal.nD Cert.MlpDhIdeal.τ).loc Cert.MlpDhIdeal.main_v0) = v0 c
          ∧ r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
          ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1))
      ∧ θ_run (Cert.MlpDhRefIdeal.defs (F := Ideal)) (onTc (τ := Cert.MlpDhRefIdeal.τ) (Cert.MlpDhRefIdeal.main (F := Ideal))) ⟨m', fun _ => 0, g'⟩ (fun r => ∀ c : Dev Cert.MlpDhRefIdeal.nD,
          r.2.mem ((c.tc : Thread Cert.MlpDhRefIdeal.nD Cert.MlpDhRefIdeal.τ).loc Cert.MlpDhRefIdeal.main_v4) = v0 c
          ∧ r.2.mem ((c.tc : Thread Cert.MlpDhRefIdeal.nD Cert.MlpDhRefIdeal.τ).loc Cert.MlpDhRefIdeal.main_arg0) = m' ((c.tc : Thread Cert.MlpDhRefIdeal.nD Cert.MlpDhRefIdeal.τ).loc Cert.MlpDhRefIdeal.main_arg0)
          ∧ r.2.mem ((c.tc : Thread Cert.MlpDhRefIdeal.nD Cert.MlpDhRefIdeal.τ).loc Cert.MlpDhRefIdeal.main_arg1) = m' ((c.tc : Thread Cert.MlpDhRefIdeal.nD Cert.MlpDhRefIdeal.τ).loc Cert.MlpDhRefIdeal.main_arg1))

def preserves_MlpGwIn_MlpGwInIdeal : Prop :=
  True

def algebraic_MlpGwInIdeal_MlpGwInRefIdeal [hMlpGwInIdeal : Cert.MlpGwInIdeal.Facts] [hMlpGwInRefIdeal : Cert.MlpGwInRefIdeal.Facts] : Prop :=
  ∀ (m : (ℓ : Loc Cert.MlpGwInIdeal.nD Cert.MlpGwInIdeal.τ Cert.MlpGwInIdeal.sig) → Buf (Elt Ideal) ℓ) (g : Dev Cert.MlpGwInIdeal.nD → PrngReg)
    (m' : (ℓ : Loc Cert.MlpGwInRefIdeal.nD Cert.MlpGwInRefIdeal.τ Cert.MlpGwInRefIdeal.sig) → Buf (Elt Ideal) ℓ) (g' : Dev Cert.MlpGwInRefIdeal.nD → PrngReg), Pre_MlpGwInIdeal m →
    (∀ c : Dev Cert.MlpGwInIdeal.nD,
      m' ((c.tc : Thread Cert.MlpGwInRefIdeal.nD Cert.MlpGwInRefIdeal.τ).loc Cert.MlpGwInRefIdeal.main_arg0) = m ((c.tc : Thread Cert.MlpGwInIdeal.nD Cert.MlpGwInIdeal.τ).loc Cert.MlpGwInIdeal.main_arg0)
      ∧ m' ((c.tc : Thread Cert.MlpGwInRefIdeal.nD Cert.MlpGwInRefIdeal.τ).loc Cert.MlpGwInRefIdeal.main_arg1) = m ((c.tc : Thread Cert.MlpGwInIdeal.nD Cert.MlpGwInIdeal.τ).loc Cert.MlpGwInIdeal.main_arg1)) →
    ∃ (v0 : (c : Dev Cert.MlpGwInIdeal.nD) → Buf (Elt Ideal) ((c.tc : Thread Cert.MlpGwInIdeal.nD Cert.MlpGwInIdeal.τ).loc Cert.MlpGwInIdeal.main_v0)),
      θ_run (Cert.MlpGwInIdeal.defs (F := Ideal)) (onTc (τ := Cert.MlpGwInIdeal.τ) (Cert.MlpGwInIdeal.main (F := Ideal))) ⟨m, fun _ => 0, g⟩ (fun r => ∀ c : Dev Cert.MlpGwInIdeal.nD,
          r.2.mem ((c.tc : Thread Cert.MlpGwInIdeal.nD Cert.MlpGwInIdeal.τ).loc Cert.MlpGwInIdeal.main_v0) = v0 c
          ∧ r.2.mem ((c.tc : Thread Cert.MlpGwInIdeal.nD Cert.MlpGwInIdeal.τ).loc Cert.MlpGwInIdeal.main_arg0) = m ((c.tc : Thread Cert.MlpGwInIdeal.nD Cert.MlpGwInIdeal.τ).loc Cert.MlpGwInIdeal.main_arg0)
          ∧ r.2.mem ((c.tc : Thread Cert.MlpGwInIdeal.nD Cert.MlpGwInIdeal.τ).loc Cert.MlpGwInIdeal.main_arg1) = m ((c.tc : Thread Cert.MlpGwInIdeal.nD Cert.MlpGwInIdeal.τ).loc Cert.MlpGwInIdeal.main_arg1))
      ∧ θ_run (Cert.MlpGwInRefIdeal.defs (F := Ideal)) (onTc (τ := Cert.MlpGwInRefIdeal.τ) (Cert.MlpGwInRefIdeal.main (F := Ideal))) ⟨m', fun _ => 0, g'⟩ (fun r => ∀ c : Dev Cert.MlpGwInRefIdeal.nD,
          r.2.mem ((c.tc : Thread Cert.MlpGwInRefIdeal.nD Cert.MlpGwInRefIdeal.τ).loc Cert.MlpGwInRefIdeal.main_v6) = v0 c
          ∧ r.2.mem ((c.tc : Thread Cert.MlpGwInRefIdeal.nD Cert.MlpGwInRefIdeal.τ).loc Cert.MlpGwInRefIdeal.main_arg0) = m' ((c.tc : Thread Cert.MlpGwInRefIdeal.nD Cert.MlpGwInRefIdeal.τ).loc Cert.MlpGwInRefIdeal.main_arg0)
          ∧ r.2.mem ((c.tc : Thread Cert.MlpGwInRefIdeal.nD Cert.MlpGwInRefIdeal.τ).loc Cert.MlpGwInRefIdeal.main_arg1) = m' ((c.tc : Thread Cert.MlpGwInRefIdeal.nD Cert.MlpGwInRefIdeal.τ).loc Cert.MlpGwInRefIdeal.main_arg1))

def preserves_MixDm_MixDmIdeal : Prop :=
  True

def algebraic_MixDmIdeal_MixDmRefIdeal [hMixDmIdeal : Cert.MixDmIdeal.Facts] [hMixDmRefIdeal : Cert.MixDmRefIdeal.Facts] : Prop :=
  ∀ (m : (ℓ : Loc Cert.MixDmIdeal.nD Cert.MixDmIdeal.τ Cert.MixDmIdeal.sig) → Buf (Elt Ideal) ℓ) (g : Dev Cert.MixDmIdeal.nD → PrngReg)
    (m' : (ℓ : Loc Cert.MixDmRefIdeal.nD Cert.MixDmRefIdeal.τ Cert.MixDmRefIdeal.sig) → Buf (Elt Ideal) ℓ) (g' : Dev Cert.MixDmRefIdeal.nD → PrngReg), Pre_MixDmIdeal m →
    (∀ c : Dev Cert.MixDmIdeal.nD,
      m' ((c.tc : Thread Cert.MixDmRefIdeal.nD Cert.MixDmRefIdeal.τ).loc Cert.MixDmRefIdeal.main_arg0) = m ((c.tc : Thread Cert.MixDmIdeal.nD Cert.MixDmIdeal.τ).loc Cert.MixDmIdeal.main_arg0)
      ∧ m' ((c.tc : Thread Cert.MixDmRefIdeal.nD Cert.MixDmRefIdeal.τ).loc Cert.MixDmRefIdeal.main_arg1) = m ((c.tc : Thread Cert.MixDmIdeal.nD Cert.MixDmIdeal.τ).loc Cert.MixDmIdeal.main_arg1)) →
    ∃ (v0 : (c : Dev Cert.MixDmIdeal.nD) → Buf (Elt Ideal) ((c.tc : Thread Cert.MixDmIdeal.nD Cert.MixDmIdeal.τ).loc Cert.MixDmIdeal.main_v0)),
      θ_run (Cert.MixDmIdeal.defs (F := Ideal)) (onTc (τ := Cert.MixDmIdeal.τ) (Cert.MixDmIdeal.main (F := Ideal))) ⟨m, fun _ => 0, g⟩ (fun r => ∀ c : Dev Cert.MixDmIdeal.nD,
          r.2.mem ((c.tc : Thread Cert.MixDmIdeal.nD Cert.MixDmIdeal.τ).loc Cert.MixDmIdeal.main_v0) = v0 c
          ∧ r.2.mem ((c.tc : Thread Cert.MixDmIdeal.nD Cert.MixDmIdeal.τ).loc Cert.MixDmIdeal.main_arg0) = m ((c.tc : Thread Cert.MixDmIdeal.nD Cert.MixDmIdeal.τ).loc Cert.MixDmIdeal.main_arg0)
          ∧ r.2.mem ((c.tc : Thread Cert.MixDmIdeal.nD Cert.MixDmIdeal.τ).loc Cert.MixDmIdeal.main_arg1) = m ((c.tc : Thread Cert.MixDmIdeal.nD Cert.MixDmIdeal.τ).loc Cert.MixDmIdeal.main_arg1))
      ∧ θ_run (Cert.MixDmRefIdeal.defs (F := Ideal)) (onTc (τ := Cert.MixDmRefIdeal.τ) (Cert.MixDmRefIdeal.main (F := Ideal))) ⟨m', fun _ => 0, g'⟩ (fun r => ∀ c : Dev Cert.MixDmRefIdeal.nD,
          r.2.mem ((c.tc : Thread Cert.MixDmRefIdeal.nD Cert.MixDmRefIdeal.τ).loc Cert.MixDmRefIdeal.main_v5) = v0 c
          ∧ r.2.mem ((c.tc : Thread Cert.MixDmRefIdeal.nD Cert.MixDmRefIdeal.τ).loc Cert.MixDmRefIdeal.main_arg0) = m' ((c.tc : Thread Cert.MixDmRefIdeal.nD Cert.MixDmRefIdeal.τ).loc Cert.MixDmRefIdeal.main_arg0)
          ∧ r.2.mem ((c.tc : Thread Cert.MixDmRefIdeal.nD Cert.MixDmRefIdeal.τ).loc Cert.MixDmRefIdeal.main_arg1) = m' ((c.tc : Thread Cert.MixDmRefIdeal.nD Cert.MixDmRefIdeal.τ).loc Cert.MixDmRefIdeal.main_arg1))

def preserves_MixGw_MixGwIdeal : Prop :=
  True

def algebraic_MixGwIdeal_MixGwRefIdeal [hMixGwIdeal : Cert.MixGwIdeal.Facts] [hMixGwRefIdeal : Cert.MixGwRefIdeal.Facts] : Prop :=
  ∀ (m : (ℓ : Loc Cert.MixGwIdeal.nD Cert.MixGwIdeal.τ Cert.MixGwIdeal.sig) → Buf (Elt Ideal) ℓ) (g : Dev Cert.MixGwIdeal.nD → PrngReg)
    (m' : (ℓ : Loc Cert.MixGwRefIdeal.nD Cert.MixGwRefIdeal.τ Cert.MixGwRefIdeal.sig) → Buf (Elt Ideal) ℓ) (g' : Dev Cert.MixGwRefIdeal.nD → PrngReg), Pre_MixGwIdeal m →
    (∀ c : Dev Cert.MixGwIdeal.nD,
      m' ((c.tc : Thread Cert.MixGwRefIdeal.nD Cert.MixGwRefIdeal.τ).loc Cert.MixGwRefIdeal.main_arg0) = m ((c.tc : Thread Cert.MixGwIdeal.nD Cert.MixGwIdeal.τ).loc Cert.MixGwIdeal.main_arg0)
      ∧ m' ((c.tc : Thread Cert.MixGwRefIdeal.nD Cert.MixGwRefIdeal.τ).loc Cert.MixGwRefIdeal.main_arg1) = m ((c.tc : Thread Cert.MixGwIdeal.nD Cert.MixGwIdeal.τ).loc Cert.MixGwIdeal.main_arg1)) →
    ∃ (v0 : (c : Dev Cert.MixGwIdeal.nD) → Buf (Elt Ideal) ((c.tc : Thread Cert.MixGwIdeal.nD Cert.MixGwIdeal.τ).loc Cert.MixGwIdeal.main_v0)),
      θ_run (Cert.MixGwIdeal.defs (F := Ideal)) (onTc (τ := Cert.MixGwIdeal.τ) (Cert.MixGwIdeal.main (F := Ideal))) ⟨m, fun _ => 0, g⟩ (fun r => ∀ c : Dev Cert.MixGwIdeal.nD,
          r.2.mem ((c.tc : Thread Cert.MixGwIdeal.nD Cert.MixGwIdeal.τ).loc Cert.MixGwIdeal.main_v0) = v0 c
          ∧ r.2.mem ((c.tc : Thread Cert.MixGwIdeal.nD Cert.MixGwIdeal.τ).loc Cert.MixGwIdeal.main_arg0) = m ((c.tc : Thread Cert.MixGwIdeal.nD Cert.MixGwIdeal.τ).loc Cert.MixGwIdeal.main_arg0)
          ∧ r.2.mem ((c.tc : Thread Cert.MixGwIdeal.nD Cert.MixGwIdeal.τ).loc Cert.MixGwIdeal.main_arg1) = m ((c.tc : Thread Cert.MixGwIdeal.nD Cert.MixGwIdeal.τ).loc Cert.MixGwIdeal.main_arg1))
      ∧ θ_run (Cert.MixGwRefIdeal.defs (F := Ideal)) (onTc (τ := Cert.MixGwRefIdeal.τ) (Cert.MixGwRefIdeal.main (F := Ideal))) ⟨m', fun _ => 0, g'⟩ (fun r => ∀ c : Dev Cert.MixGwRefIdeal.nD,
          r.2.mem ((c.tc : Thread Cert.MixGwRefIdeal.nD Cert.MixGwRefIdeal.τ).loc Cert.MixGwRefIdeal.main_v6) = v0 c
          ∧ r.2.mem ((c.tc : Thread Cert.MixGwRefIdeal.nD Cert.MixGwRefIdeal.τ).loc Cert.MixGwRefIdeal.main_arg0) = m' ((c.tc : Thread Cert.MixGwRefIdeal.nD Cert.MixGwRefIdeal.τ).loc Cert.MixGwRefIdeal.main_arg0)
          ∧ r.2.mem ((c.tc : Thread Cert.MixGwRefIdeal.nD Cert.MixGwRefIdeal.τ).loc Cert.MixGwRefIdeal.main_arg1) = m' ((c.tc : Thread Cert.MixGwRefIdeal.nD Cert.MixGwRefIdeal.τ).loc Cert.MixGwRefIdeal.main_arg1))

def preserves_AttnDo_AttnDoIdeal : Prop :=
  True

def algebraic_AttnDoIdeal_AttnDoRefIdeal [hAttnDoIdeal : Cert.AttnDoIdeal.Facts] [hAttnDoRefIdeal : Cert.AttnDoRefIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg)
    (m' : (ℓ : Loc Cert.AttnDoRefIdeal.nD Cert.AttnDoRefIdeal.τ Cert.AttnDoRefIdeal.sig) → Buf (Elt Ideal) ℓ) (g' : Dev Cert.AttnDoRefIdeal.nD → PrngReg), Pre_AttnDoIdeal m →
    (∀ c : Dev Cert.AttnDoIdeal.nD,
      m' ((c.tc : Thread Cert.AttnDoRefIdeal.nD Cert.AttnDoRefIdeal.τ).loc Cert.AttnDoRefIdeal.main_arg0) = m ((c.tc : Thread Cert.AttnDoIdeal.nD Cert.AttnDoIdeal.τ).loc Cert.AttnDoIdeal.main_arg0)
      ∧ m' ((c.tc : Thread Cert.AttnDoRefIdeal.nD Cert.AttnDoRefIdeal.τ).loc Cert.AttnDoRefIdeal.main_arg1) = m ((c.tc : Thread Cert.AttnDoIdeal.nD Cert.AttnDoIdeal.τ).loc Cert.AttnDoIdeal.main_arg1)) →
    ∃ (v0 : (c : Dev Cert.AttnDoIdeal.nD) → Buf (Elt Ideal) ((c.tc : Thread Cert.AttnDoIdeal.nD Cert.AttnDoIdeal.τ).loc Cert.AttnDoIdeal.main_v0)),
      θ_run (Cert.AttnDoIdeal.defs (F := Ideal)) (onTc (τ := Cert.AttnDoIdeal.τ) (Cert.AttnDoIdeal.main (F := Ideal))) ⟨m, fun _ => 0, g⟩ (fun r => ∀ c : Dev Cert.AttnDoIdeal.nD,
          r.2.mem ((c.tc : Thread Cert.AttnDoIdeal.nD Cert.AttnDoIdeal.τ).loc Cert.AttnDoIdeal.main_v0) = v0 c
          ∧ r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
          ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ θ_run (Cert.AttnDoRefIdeal.defs (F := Ideal)) (onTc (τ := Cert.AttnDoRefIdeal.τ) (Cert.AttnDoRefIdeal.main (F := Ideal))) ⟨m', fun _ => 0, g'⟩ (fun r => ∀ c : Dev Cert.AttnDoRefIdeal.nD,
          r.2.mem ((c.tc : Thread Cert.AttnDoRefIdeal.nD Cert.AttnDoRefIdeal.τ).loc Cert.AttnDoRefIdeal.main_v5) = v0 c
          ∧ r.2.mem ((c.tc : Thread Cert.AttnDoRefIdeal.nD Cert.AttnDoRefIdeal.τ).loc Cert.AttnDoRefIdeal.main_arg0) = m' ((c.tc : Thread Cert.AttnDoRefIdeal.nD Cert.AttnDoRefIdeal.τ).loc Cert.AttnDoRefIdeal.main_arg0)
          ∧ r.2.mem ((c.tc : Thread Cert.AttnDoRefIdeal.nD Cert.AttnDoRefIdeal.τ).loc Cert.AttnDoRefIdeal.main_arg1) = m' ((c.tc : Thread Cert.AttnDoRefIdeal.nD Cert.AttnDoRefIdeal.τ).loc Cert.AttnDoRefIdeal.main_arg1))

def preserves_AttnGw_AttnGwIdeal : Prop :=
  True

def algebraic_AttnGwIdeal_AttnGwRefIdeal [hAttnGwIdeal : Cert.AttnGwIdeal.Facts] [hAttnGwRefIdeal : Cert.AttnGwRefIdeal.Facts] : Prop :=
  ∀ (m : (ℓ : Loc Cert.AttnGwIdeal.nD Cert.AttnGwIdeal.τ Cert.AttnGwIdeal.sig) → Buf (Elt Ideal) ℓ) (g : Dev Cert.AttnGwIdeal.nD → PrngReg)
    (m' : (ℓ : Loc Cert.AttnGwRefIdeal.nD Cert.AttnGwRefIdeal.τ Cert.AttnGwRefIdeal.sig) → Buf (Elt Ideal) ℓ) (g' : Dev Cert.AttnGwRefIdeal.nD → PrngReg), Pre_AttnGwIdeal m →
    (∀ c : Dev Cert.AttnGwIdeal.nD,
      m' ((c.tc : Thread Cert.AttnGwRefIdeal.nD Cert.AttnGwRefIdeal.τ).loc Cert.AttnGwRefIdeal.main_arg0) = m ((c.tc : Thread Cert.AttnGwIdeal.nD Cert.AttnGwIdeal.τ).loc Cert.AttnGwIdeal.main_arg0)
      ∧ m' ((c.tc : Thread Cert.AttnGwRefIdeal.nD Cert.AttnGwRefIdeal.τ).loc Cert.AttnGwRefIdeal.main_arg1) = m ((c.tc : Thread Cert.AttnGwIdeal.nD Cert.AttnGwIdeal.τ).loc Cert.AttnGwIdeal.main_arg1)) →
    ∃ (v0 : (c : Dev Cert.AttnGwIdeal.nD) → Buf (Elt Ideal) ((c.tc : Thread Cert.AttnGwIdeal.nD Cert.AttnGwIdeal.τ).loc Cert.AttnGwIdeal.main_v0)),
      θ_run (Cert.AttnGwIdeal.defs (F := Ideal)) (onTc (τ := Cert.AttnGwIdeal.τ) (Cert.AttnGwIdeal.main (F := Ideal))) ⟨m, fun _ => 0, g⟩ (fun r => ∀ c : Dev Cert.AttnGwIdeal.nD,
          r.2.mem ((c.tc : Thread Cert.AttnGwIdeal.nD Cert.AttnGwIdeal.τ).loc Cert.AttnGwIdeal.main_v0) = v0 c
          ∧ r.2.mem ((c.tc : Thread Cert.AttnGwIdeal.nD Cert.AttnGwIdeal.τ).loc Cert.AttnGwIdeal.main_arg0) = m ((c.tc : Thread Cert.AttnGwIdeal.nD Cert.AttnGwIdeal.τ).loc Cert.AttnGwIdeal.main_arg0)
          ∧ r.2.mem ((c.tc : Thread Cert.AttnGwIdeal.nD Cert.AttnGwIdeal.τ).loc Cert.AttnGwIdeal.main_arg1) = m ((c.tc : Thread Cert.AttnGwIdeal.nD Cert.AttnGwIdeal.τ).loc Cert.AttnGwIdeal.main_arg1))
      ∧ θ_run (Cert.AttnGwRefIdeal.defs (F := Ideal)) (onTc (τ := Cert.AttnGwRefIdeal.τ) (Cert.AttnGwRefIdeal.main (F := Ideal))) ⟨m', fun _ => 0, g'⟩ (fun r => ∀ c : Dev Cert.AttnGwRefIdeal.nD,
          r.2.mem ((c.tc : Thread Cert.AttnGwRefIdeal.nD Cert.AttnGwRefIdeal.τ).loc Cert.AttnGwRefIdeal.main_v6) = v0 c
          ∧ r.2.mem ((c.tc : Thread Cert.AttnGwRefIdeal.nD Cert.AttnGwRefIdeal.τ).loc Cert.AttnGwRefIdeal.main_arg0) = m' ((c.tc : Thread Cert.AttnGwRefIdeal.nD Cert.AttnGwRefIdeal.τ).loc Cert.AttnGwRefIdeal.main_arg0)
          ∧ r.2.mem ((c.tc : Thread Cert.AttnGwRefIdeal.nD Cert.AttnGwRefIdeal.τ).loc Cert.AttnGwRefIdeal.main_arg1) = m' ((c.tc : Thread Cert.AttnGwRefIdeal.nD Cert.AttnGwRefIdeal.τ).loc Cert.AttnGwRefIdeal.main_arg1))

def preserves_ConvDy_ConvDyIdeal : Prop :=
  True

def algebraic_ConvDyIdeal_ConvDyRefIdeal [hConvDyIdeal : Cert.ConvDyIdeal.Facts] [hConvDyRefIdeal : Cert.ConvDyRefIdeal.Facts] : Prop :=
  ∀ (m : (ℓ : Loc Cert.ConvDyIdeal.nD Cert.ConvDyIdeal.τ Cert.ConvDyIdeal.sig) → Buf (Elt Ideal) ℓ) (g : Dev Cert.ConvDyIdeal.nD → PrngReg)
    (m' : (ℓ : Loc Cert.ConvDyRefIdeal.nD Cert.ConvDyRefIdeal.τ Cert.ConvDyRefIdeal.sig) → Buf (Elt Ideal) ℓ) (g' : Dev Cert.ConvDyRefIdeal.nD → PrngReg), Pre_ConvDyIdeal m →
    (∀ c : Dev Cert.ConvDyIdeal.nD,
      m' ((c.tc : Thread Cert.ConvDyRefIdeal.nD Cert.ConvDyRefIdeal.τ).loc Cert.ConvDyRefIdeal.main_arg0) = m ((c.tc : Thread Cert.ConvDyIdeal.nD Cert.ConvDyIdeal.τ).loc Cert.ConvDyIdeal.main_arg0)
      ∧ m' ((c.tc : Thread Cert.ConvDyRefIdeal.nD Cert.ConvDyRefIdeal.τ).loc Cert.ConvDyRefIdeal.main_arg1) = m ((c.tc : Thread Cert.ConvDyIdeal.nD Cert.ConvDyIdeal.τ).loc Cert.ConvDyIdeal.main_arg1)) →
    ∃ (v0 : (c : Dev Cert.ConvDyIdeal.nD) → Buf (Elt Ideal) ((c.tc : Thread Cert.ConvDyIdeal.nD Cert.ConvDyIdeal.τ).loc Cert.ConvDyIdeal.main_v0)),
      θ_run (Cert.ConvDyIdeal.defs (F := Ideal)) (onTc (τ := Cert.ConvDyIdeal.τ) (Cert.ConvDyIdeal.main (F := Ideal))) ⟨m, fun _ => 0, g⟩ (fun r => ∀ c : Dev Cert.ConvDyIdeal.nD,
          r.2.mem ((c.tc : Thread Cert.ConvDyIdeal.nD Cert.ConvDyIdeal.τ).loc Cert.ConvDyIdeal.main_v0) = v0 c
          ∧ r.2.mem ((c.tc : Thread Cert.ConvDyIdeal.nD Cert.ConvDyIdeal.τ).loc Cert.ConvDyIdeal.main_arg0) = m ((c.tc : Thread Cert.ConvDyIdeal.nD Cert.ConvDyIdeal.τ).loc Cert.ConvDyIdeal.main_arg0)
          ∧ r.2.mem ((c.tc : Thread Cert.ConvDyIdeal.nD Cert.ConvDyIdeal.τ).loc Cert.ConvDyIdeal.main_arg1) = m ((c.tc : Thread Cert.ConvDyIdeal.nD Cert.ConvDyIdeal.τ).loc Cert.ConvDyIdeal.main_arg1))
      ∧ θ_run (Cert.ConvDyRefIdeal.defs (F := Ideal)) (onTc (τ := Cert.ConvDyRefIdeal.τ) (Cert.ConvDyRefIdeal.main (F := Ideal))) ⟨m', fun _ => 0, g'⟩ (fun r => ∀ c : Dev Cert.ConvDyRefIdeal.nD,
          r.2.mem ((c.tc : Thread Cert.ConvDyRefIdeal.nD Cert.ConvDyRefIdeal.τ).loc Cert.ConvDyRefIdeal.main_v4) = v0 c
          ∧ r.2.mem ((c.tc : Thread Cert.ConvDyRefIdeal.nD Cert.ConvDyRefIdeal.τ).loc Cert.ConvDyRefIdeal.main_arg0) = m' ((c.tc : Thread Cert.ConvDyRefIdeal.nD Cert.ConvDyRefIdeal.τ).loc Cert.ConvDyRefIdeal.main_arg0)
          ∧ r.2.mem ((c.tc : Thread Cert.ConvDyRefIdeal.nD Cert.ConvDyRefIdeal.τ).loc Cert.ConvDyRefIdeal.main_arg1) = m' ((c.tc : Thread Cert.ConvDyRefIdeal.nD Cert.ConvDyRefIdeal.τ).loc Cert.ConvDyRefIdeal.main_arg1))

def preserves_ConvGw_ConvGwIdeal : Prop :=
  True

def algebraic_ConvGwIdeal_ConvGwRefIdeal [hConvGwIdeal : Cert.ConvGwIdeal.Facts] [hConvGwRefIdeal : Cert.ConvGwRefIdeal.Facts] : Prop :=
  ∀ (m : (ℓ : Loc Cert.ConvGwIdeal.nD Cert.ConvGwIdeal.τ Cert.ConvGwIdeal.sig) → Buf (Elt Ideal) ℓ) (g : Dev Cert.ConvGwIdeal.nD → PrngReg)
    (m' : (ℓ : Loc Cert.ConvGwRefIdeal.nD Cert.ConvGwRefIdeal.τ Cert.ConvGwRefIdeal.sig) → Buf (Elt Ideal) ℓ) (g' : Dev Cert.ConvGwRefIdeal.nD → PrngReg), Pre_ConvGwIdeal m →
    (∀ c : Dev Cert.ConvGwIdeal.nD,
      m' ((c.tc : Thread Cert.ConvGwRefIdeal.nD Cert.ConvGwRefIdeal.τ).loc Cert.ConvGwRefIdeal.main_arg0) = m ((c.tc : Thread Cert.ConvGwIdeal.nD Cert.ConvGwIdeal.τ).loc Cert.ConvGwIdeal.main_arg0)
      ∧ m' ((c.tc : Thread Cert.ConvGwRefIdeal.nD Cert.ConvGwRefIdeal.τ).loc Cert.ConvGwRefIdeal.main_arg1) = m ((c.tc : Thread Cert.ConvGwIdeal.nD Cert.ConvGwIdeal.τ).loc Cert.ConvGwIdeal.main_arg1)) →
    ∃ (v0 : (c : Dev Cert.ConvGwIdeal.nD) → Buf (Elt Ideal) ((c.tc : Thread Cert.ConvGwIdeal.nD Cert.ConvGwIdeal.τ).loc Cert.ConvGwIdeal.main_v0)),
      θ_run (Cert.ConvGwIdeal.defs (F := Ideal)) (onTc (τ := Cert.ConvGwIdeal.τ) (Cert.ConvGwIdeal.main (F := Ideal))) ⟨m, fun _ => 0, g⟩ (fun r => ∀ c : Dev Cert.ConvGwIdeal.nD,
          r.2.mem ((c.tc : Thread Cert.ConvGwIdeal.nD Cert.ConvGwIdeal.τ).loc Cert.ConvGwIdeal.main_v0) = v0 c
          ∧ r.2.mem ((c.tc : Thread Cert.ConvGwIdeal.nD Cert.ConvGwIdeal.τ).loc Cert.ConvGwIdeal.main_arg0) = m ((c.tc : Thread Cert.ConvGwIdeal.nD Cert.ConvGwIdeal.τ).loc Cert.ConvGwIdeal.main_arg0)
          ∧ r.2.mem ((c.tc : Thread Cert.ConvGwIdeal.nD Cert.ConvGwIdeal.τ).loc Cert.ConvGwIdeal.main_arg1) = m ((c.tc : Thread Cert.ConvGwIdeal.nD Cert.ConvGwIdeal.τ).loc Cert.ConvGwIdeal.main_arg1))
      ∧ θ_run (Cert.ConvGwRefIdeal.defs (F := Ideal)) (onTc (τ := Cert.ConvGwRefIdeal.τ) (Cert.ConvGwRefIdeal.main (F := Ideal))) ⟨m', fun _ => 0, g'⟩ (fun r => ∀ c : Dev Cert.ConvGwRefIdeal.nD,
          r.2.mem ((c.tc : Thread Cert.ConvGwRefIdeal.nD Cert.ConvGwRefIdeal.τ).loc Cert.ConvGwRefIdeal.main_v6) = v0 c
          ∧ r.2.mem ((c.tc : Thread Cert.ConvGwRefIdeal.nD Cert.ConvGwRefIdeal.τ).loc Cert.ConvGwRefIdeal.main_arg0) = m' ((c.tc : Thread Cert.ConvGwRefIdeal.nD Cert.ConvGwRefIdeal.τ).loc Cert.ConvGwRefIdeal.main_arg0)
          ∧ r.2.mem ((c.tc : Thread Cert.ConvGwRefIdeal.nD Cert.ConvGwRefIdeal.τ).loc Cert.ConvGwRefIdeal.main_arg1) = m' ((c.tc : Thread Cert.ConvGwRefIdeal.nD Cert.ConvGwRefIdeal.τ).loc Cert.ConvGwRefIdeal.main_arg1))

def preserves_InGw_InGwIdeal : Prop :=
  True

def algebraic_InGwIdeal_InGwRefIdeal [hInGwIdeal : Cert.InGwIdeal.Facts] [hInGwRefIdeal : Cert.InGwRefIdeal.Facts] : Prop :=
  ∀ (m : (ℓ : Loc Cert.InGwIdeal.nD Cert.InGwIdeal.τ Cert.InGwIdeal.sig) → Buf (Elt Ideal) ℓ) (g : Dev Cert.InGwIdeal.nD → PrngReg)
    (m' : (ℓ : Loc Cert.InGwRefIdeal.nD Cert.InGwRefIdeal.τ Cert.InGwRefIdeal.sig) → Buf (Elt Ideal) ℓ) (g' : Dev Cert.InGwRefIdeal.nD → PrngReg), Pre_InGwIdeal m →
    (∀ c : Dev Cert.InGwIdeal.nD,
      m' ((c.tc : Thread Cert.InGwRefIdeal.nD Cert.InGwRefIdeal.τ).loc Cert.InGwRefIdeal.main_arg0) = m ((c.tc : Thread Cert.InGwIdeal.nD Cert.InGwIdeal.τ).loc Cert.InGwIdeal.main_arg0)
      ∧ m' ((c.tc : Thread Cert.InGwRefIdeal.nD Cert.InGwRefIdeal.τ).loc Cert.InGwRefIdeal.main_arg1) = m ((c.tc : Thread Cert.InGwIdeal.nD Cert.InGwIdeal.τ).loc Cert.InGwIdeal.main_arg1)) →
    ∃ (v0 : (c : Dev Cert.InGwIdeal.nD) → Buf (Elt Ideal) ((c.tc : Thread Cert.InGwIdeal.nD Cert.InGwIdeal.τ).loc Cert.InGwIdeal.main_v0)),
      θ_run (Cert.InGwIdeal.defs (F := Ideal)) (onTc (τ := Cert.InGwIdeal.τ) (Cert.InGwIdeal.main (F := Ideal))) ⟨m, fun _ => 0, g⟩ (fun r => ∀ c : Dev Cert.InGwIdeal.nD,
          r.2.mem ((c.tc : Thread Cert.InGwIdeal.nD Cert.InGwIdeal.τ).loc Cert.InGwIdeal.main_v0) = v0 c
          ∧ r.2.mem ((c.tc : Thread Cert.InGwIdeal.nD Cert.InGwIdeal.τ).loc Cert.InGwIdeal.main_arg0) = m ((c.tc : Thread Cert.InGwIdeal.nD Cert.InGwIdeal.τ).loc Cert.InGwIdeal.main_arg0)
          ∧ r.2.mem ((c.tc : Thread Cert.InGwIdeal.nD Cert.InGwIdeal.τ).loc Cert.InGwIdeal.main_arg1) = m ((c.tc : Thread Cert.InGwIdeal.nD Cert.InGwIdeal.τ).loc Cert.InGwIdeal.main_arg1))
      ∧ θ_run (Cert.InGwRefIdeal.defs (F := Ideal)) (onTc (τ := Cert.InGwRefIdeal.τ) (Cert.InGwRefIdeal.main (F := Ideal))) ⟨m', fun _ => 0, g'⟩ (fun r => ∀ c : Dev Cert.InGwRefIdeal.nD,
          r.2.mem ((c.tc : Thread Cert.InGwRefIdeal.nD Cert.InGwRefIdeal.τ).loc Cert.InGwRefIdeal.main_v6) = v0 c
          ∧ r.2.mem ((c.tc : Thread Cert.InGwRefIdeal.nD Cert.InGwRefIdeal.τ).loc Cert.InGwRefIdeal.main_arg0) = m' ((c.tc : Thread Cert.InGwRefIdeal.nD Cert.InGwRefIdeal.τ).loc Cert.InGwRefIdeal.main_arg0)
          ∧ r.2.mem ((c.tc : Thread Cert.InGwRefIdeal.nD Cert.InGwRefIdeal.τ).loc Cert.InGwRefIdeal.main_arg1) = m' ((c.tc : Thread Cert.InGwRefIdeal.nD Cert.InGwRefIdeal.τ).loc Cert.InGwRefIdeal.main_arg1))

def preserves_InDh_InDhIdeal : Prop :=
  True

def algebraic_InDhIdeal_InDhRefIdeal [hInDhIdeal : Cert.InDhIdeal.Facts] [hInDhRefIdeal : Cert.InDhRefIdeal.Facts] : Prop :=
  ∀ (m : (ℓ : Loc Cert.InDhIdeal.nD Cert.InDhIdeal.τ Cert.InDhIdeal.sig) → Buf (Elt Ideal) ℓ) (g : Dev Cert.InDhIdeal.nD → PrngReg)
    (m' : (ℓ : Loc Cert.InDhRefIdeal.nD Cert.InDhRefIdeal.τ Cert.InDhRefIdeal.sig) → Buf (Elt Ideal) ℓ) (g' : Dev Cert.InDhRefIdeal.nD → PrngReg), Pre_InDhIdeal m →
    (∀ c : Dev Cert.InDhIdeal.nD,
      m' ((c.tc : Thread Cert.InDhRefIdeal.nD Cert.InDhRefIdeal.τ).loc Cert.InDhRefIdeal.main_arg0) = m ((c.tc : Thread Cert.InDhIdeal.nD Cert.InDhIdeal.τ).loc Cert.InDhIdeal.main_arg0)
      ∧ m' ((c.tc : Thread Cert.InDhRefIdeal.nD Cert.InDhRefIdeal.τ).loc Cert.InDhRefIdeal.main_arg1) = m ((c.tc : Thread Cert.InDhIdeal.nD Cert.InDhIdeal.τ).loc Cert.InDhIdeal.main_arg1)) →
    ∃ (v0 : (c : Dev Cert.InDhIdeal.nD) → Buf (Elt Ideal) ((c.tc : Thread Cert.InDhIdeal.nD Cert.InDhIdeal.τ).loc Cert.InDhIdeal.main_v0)),
      θ_run (Cert.InDhIdeal.defs (F := Ideal)) (onTc (τ := Cert.InDhIdeal.τ) (Cert.InDhIdeal.main (F := Ideal))) ⟨m, fun _ => 0, g⟩ (fun r => ∀ c : Dev Cert.InDhIdeal.nD,
          r.2.mem ((c.tc : Thread Cert.InDhIdeal.nD Cert.InDhIdeal.τ).loc Cert.InDhIdeal.main_v0) = v0 c
          ∧ r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
          ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ θ_run (Cert.InDhRefIdeal.defs (F := Ideal)) (onTc (τ := Cert.InDhRefIdeal.τ) (Cert.InDhRefIdeal.main (F := Ideal))) ⟨m', fun _ => 0, g'⟩ (fun r => ∀ c : Dev Cert.InDhRefIdeal.nD,
          r.2.mem ((c.tc : Thread Cert.InDhRefIdeal.nD Cert.InDhRefIdeal.τ).loc Cert.InDhRefIdeal.main_v4) = v0 c
          ∧ r.2.mem ((c.tc : Thread Cert.InDhRefIdeal.nD Cert.InDhRefIdeal.τ).loc Cert.InDhRefIdeal.main_arg0) = m' ((c.tc : Thread Cert.InDhRefIdeal.nD Cert.InDhRefIdeal.τ).loc Cert.InDhRefIdeal.main_arg0)
          ∧ r.2.mem ((c.tc : Thread Cert.InDhRefIdeal.nD Cert.InDhRefIdeal.τ).loc Cert.InDhRefIdeal.main_arg1) = m' ((c.tc : Thread Cert.InDhRefIdeal.nD Cert.InDhRefIdeal.τ).loc Cert.InDhRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v3) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v3) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v3) = v0 c
          ∧ r.2.mem ((c.tc : Thread Cert.MlpInRefIdeal.nD Cert.MlpInRefIdeal.τ).loc Cert.MlpInRefIdeal.main_v6) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v2) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v0) = v0 c
          ∧ r.2.mem ((c.tc : Thread Cert.AdamGainRefIdeal.nD Cert.AdamGainRefIdeal.τ).loc Cert.AdamGainRefIdeal.main_v24) = v1 c
          ∧ r.2.mem ((c.tc : Thread Cert.AdamGainRefIdeal.nD Cert.AdamGainRefIdeal.τ).loc Cert.AdamGainRefIdeal.main_v5) = v2 c
          ∧ r.2.mem ((c.tc : Thread Cert.AdamGainRefIdeal.nD Cert.AdamGainRefIdeal.τ).loc Cert.AdamGainRefIdeal.main_v11) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamBAda_AdamBAdaIdeal : Prop :=
  True

def algebraic_AdamBAdaIdeal_AdamBAdaRefIdeal [hAdamBAdaIdeal : Cert.AdamBAdaIdeal.Facts] [hAdamBAdaRefIdeal : Cert.AdamBAdaRefIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg)
    (m' : (ℓ : Loc Cert.AdamBAdaRefIdeal.nD Cert.AdamBAdaRefIdeal.τ Cert.AdamBAdaRefIdeal.sig) → Buf (Elt Ideal) ℓ) (g' : Dev Cert.AdamBAdaRefIdeal.nD → PrngReg), Pre_AdamBAdaIdeal m →
    (∀ c : Dev Cert.AdamBAdaIdeal.nD,
      m' ((c.tc : Thread Cert.AdamBAdaRefIdeal.nD Cert.AdamBAdaRefIdeal.τ).loc Cert.AdamBAdaRefIdeal.main_arg0) = m ((c.tc : Thread Cert.AdamBAdaIdeal.nD Cert.AdamBAdaIdeal.τ).loc Cert.AdamBAdaIdeal.main_arg0)
      ∧ m' ((c.tc : Thread Cert.AdamBAdaRefIdeal.nD Cert.AdamBAdaRefIdeal.τ).loc Cert.AdamBAdaRefIdeal.main_arg1) = m ((c.tc : Thread Cert.AdamBAdaIdeal.nD Cert.AdamBAdaIdeal.τ).loc Cert.AdamBAdaIdeal.main_arg1)
      ∧ m' ((c.tc : Thread Cert.AdamBAdaRefIdeal.nD Cert.AdamBAdaRefIdeal.τ).loc Cert.AdamBAdaRefIdeal.main_arg2) = m ((c.tc : Thread Cert.AdamBAdaIdeal.nD Cert.AdamBAdaIdeal.τ).loc Cert.AdamBAdaIdeal.main_arg2)
      ∧ m' ((c.tc : Thread Cert.AdamBAdaRefIdeal.nD Cert.AdamBAdaRefIdeal.τ).loc Cert.AdamBAdaRefIdeal.main_arg3) = m ((c.tc : Thread Cert.AdamBAdaIdeal.nD Cert.AdamBAdaIdeal.τ).loc Cert.AdamBAdaIdeal.main_arg3)) →
    ∃ (v0 : (c : Dev Cert.AdamBAdaIdeal.nD) → Buf (Elt Ideal) ((c.tc : Thread Cert.AdamBAdaIdeal.nD Cert.AdamBAdaIdeal.τ).loc Cert.AdamBAdaIdeal.main_v0_0)) (v1 : (c : Dev Cert.AdamBAdaIdeal.nD) → Buf (Elt Ideal) ((c.tc : Thread Cert.AdamBAdaIdeal.nD Cert.AdamBAdaIdeal.τ).loc Cert.AdamBAdaIdeal.main_v0_1)) (v2 : (c : Dev Cert.AdamBAdaIdeal.nD) → Buf (Elt Ideal) ((c.tc : Thread Cert.AdamBAdaIdeal.nD Cert.AdamBAdaIdeal.τ).loc Cert.AdamBAdaIdeal.main_v0_2)) (v3 : (c : Dev Cert.AdamBAdaIdeal.nD) → Buf (Elt Ideal) ((c.tc : Thread Cert.AdamBAdaIdeal.nD Cert.AdamBAdaIdeal.τ).loc Cert.AdamBAdaIdeal.main_v0_3)),
      θ_run (Cert.AdamBAdaIdeal.defs (F := Ideal)) (onTc (τ := Cert.AdamBAdaIdeal.τ) (Cert.AdamBAdaIdeal.main (F := Ideal))) ⟨m, fun _ => 0, g⟩ (fun r => ∀ c : Dev Cert.AdamBAdaIdeal.nD,
          r.2.mem ((c.tc : Thread Cert.AdamBAdaIdeal.nD Cert.AdamBAdaIdeal.τ).loc Cert.AdamBAdaIdeal.main_v0_0) = v0 c
          ∧ r.2.mem ((c.tc : Thread Cert.AdamBAdaIdeal.nD Cert.AdamBAdaIdeal.τ).loc Cert.AdamBAdaIdeal.main_v0_1) = v1 c
          ∧ r.2.mem ((c.tc : Thread Cert.AdamBAdaIdeal.nD Cert.AdamBAdaIdeal.τ).loc Cert.AdamBAdaIdeal.main_v0_2) = v2 c
          ∧ r.2.mem ((c.tc : Thread Cert.AdamBAdaIdeal.nD Cert.AdamBAdaIdeal.τ).loc Cert.AdamBAdaIdeal.main_v0_3) = v3 c
          ∧ r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
          ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
          ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
          ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ θ_run (Cert.AdamBAdaRefIdeal.defs (F := Ideal)) (onTc (τ := Cert.AdamBAdaRefIdeal.τ) (Cert.AdamBAdaRefIdeal.main (F := Ideal))) ⟨m', fun _ => 0, g'⟩ (fun r => ∀ c : Dev Cert.AdamBAdaRefIdeal.nD,
          r.2.mem ((c.tc : Thread Cert.AdamBAdaRefIdeal.nD Cert.AdamBAdaRefIdeal.τ).loc Cert.AdamBAdaRefIdeal.main_v0) = v0 c
          ∧ r.2.mem ((c.tc : Thread Cert.AdamBAdaRefIdeal.nD Cert.AdamBAdaRefIdeal.τ).loc Cert.AdamBAdaRefIdeal.main_v24) = v1 c
          ∧ r.2.mem ((c.tc : Thread Cert.AdamBAdaRefIdeal.nD Cert.AdamBAdaRefIdeal.τ).loc Cert.AdamBAdaRefIdeal.main_v5) = v2 c
          ∧ r.2.mem ((c.tc : Thread Cert.AdamBAdaRefIdeal.nD Cert.AdamBAdaRefIdeal.τ).loc Cert.AdamBAdaRefIdeal.main_v11) = v3 c
          ∧ r.2.mem ((c.tc : Thread Cert.AdamBAdaRefIdeal.nD Cert.AdamBAdaRefIdeal.τ).loc Cert.AdamBAdaRefIdeal.main_arg0) = m' ((c.tc : Thread Cert.AdamBAdaRefIdeal.nD Cert.AdamBAdaRefIdeal.τ).loc Cert.AdamBAdaRefIdeal.main_arg0)
          ∧ r.2.mem ((c.tc : Thread Cert.AdamBAdaRefIdeal.nD Cert.AdamBAdaRefIdeal.τ).loc Cert.AdamBAdaRefIdeal.main_arg1) = m' ((c.tc : Thread Cert.AdamBAdaRefIdeal.nD Cert.AdamBAdaRefIdeal.τ).loc Cert.AdamBAdaRefIdeal.main_arg1)
          ∧ r.2.mem ((c.tc : Thread Cert.AdamBAdaRefIdeal.nD Cert.AdamBAdaRefIdeal.τ).loc Cert.AdamBAdaRefIdeal.main_arg2) = m' ((c.tc : Thread Cert.AdamBAdaRefIdeal.nD Cert.AdamBAdaRefIdeal.τ).loc Cert.AdamBAdaRefIdeal.main_arg2)
          ∧ r.2.mem ((c.tc : Thread Cert.AdamBAdaRefIdeal.nD Cert.AdamBAdaRefIdeal.τ).loc Cert.AdamBAdaRefIdeal.main_arg3) = m' ((c.tc : Thread Cert.AdamBAdaRefIdeal.nD Cert.AdamBAdaRefIdeal.τ).loc Cert.AdamBAdaRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)) (v3 : (c : Dev Cert.AdamConvWIdeal.nD) → Buf (Elt Ideal) ((c.tc : Thread Cert.AdamConvWIdeal.nD Cert.AdamConvWIdeal.τ).loc Cert.AdamConvWIdeal.main_v0_3)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_v0_3) = v3 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v0) = v0 c
          ∧ r.2.mem ((c.tc : Thread Cert.AdamConvWRefIdeal.nD Cert.AdamConvWRefIdeal.τ).loc Cert.AdamConvWRefIdeal.main_v24) = v1 c
          ∧ r.2.mem ((c.tc : Thread Cert.AdamConvWRefIdeal.nD Cert.AdamConvWRefIdeal.τ).loc Cert.AdamConvWRefIdeal.main_v5) = v2 c
          ∧ r.2.mem ((c.tc : Thread Cert.AdamConvWRefIdeal.nD Cert.AdamConvWRefIdeal.τ).loc Cert.AdamConvWRefIdeal.main_v11) = v3 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v1_0)) (v1 : (c : Dev Cert.AdamProjIdeal.nD) → Buf (Elt Ideal) ((c.tc : Thread Cert.AdamProjIdeal.nD Cert.AdamProjIdeal.τ).loc Cert.AdamProjIdeal.main_v1_1)) (v2 : (c : Dev Cert.AdamProjIdeal.nD) → Buf (Elt Ideal) ((c.tc : Thread Cert.AdamProjIdeal.nD Cert.AdamProjIdeal.τ).loc Cert.AdamProjIdeal.main_v1_2)) (v3 : (c : Dev Cert.AdamProjIdeal.nD) → Buf (Elt Ideal) ((c.tc : Thread Cert.AdamProjIdeal.nD Cert.AdamProjIdeal.τ).loc Cert.AdamProjIdeal.main_v1_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v1_0) = v0 c
          ∧ r.2.mem ((c.tc : Thread Cert.AdamProjIdeal.nD Cert.AdamProjIdeal.τ).loc Cert.AdamProjIdeal.main_v1_1) = v1 c
          ∧ r.2.mem ((c.tc : Thread Cert.AdamProjIdeal.nD Cert.AdamProjIdeal.τ).loc Cert.AdamProjIdeal.main_v1_2) = v2 c
          ∧ r.2.mem ((c.tc : Thread Cert.AdamProjIdeal.nD Cert.AdamProjIdeal.τ).loc Cert.AdamProjIdeal.main_v1_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v6) = v0 c
          ∧ r.2.mem ((c.tc : Thread Cert.AdamProjRefIdeal.nD Cert.AdamProjRefIdeal.τ).loc Cert.AdamProjRefIdeal.main_v30) = v1 c
          ∧ r.2.mem ((c.tc : Thread Cert.AdamProjRefIdeal.nD Cert.AdamProjRefIdeal.τ).loc Cert.AdamProjRefIdeal.main_v11) = v2 c
          ∧ r.2.mem ((c.tc : Thread Cert.AdamProjRefIdeal.nD Cert.AdamProjRefIdeal.τ).loc Cert.AdamProjRefIdeal.main_v17) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamMlpIn_AdamMlpInIdeal : Prop :=
  True

def algebraic_AdamMlpInIdeal_AdamMlpInRefIdeal [hAdamMlpInIdeal : Cert.AdamMlpInIdeal.Facts] [hAdamMlpInRefIdeal : Cert.AdamMlpInRefIdeal.Facts] : Prop :=
  ∀ (m : (ℓ : Loc Cert.AdamMlpInIdeal.nD Cert.AdamMlpInIdeal.τ Cert.AdamMlpInIdeal.sig) → Buf (Elt Ideal) ℓ) (g : Dev Cert.AdamMlpInIdeal.nD → PrngReg)
    (m' : (ℓ : Loc Cert.AdamMlpInRefIdeal.nD Cert.AdamMlpInRefIdeal.τ Cert.AdamMlpInRefIdeal.sig) → Buf (Elt Ideal) ℓ) (g' : Dev Cert.AdamMlpInRefIdeal.nD → PrngReg), Pre_AdamMlpInIdeal m →
    (∀ c : Dev Cert.AdamMlpInIdeal.nD,
      m' ((c.tc : Thread Cert.AdamMlpInRefIdeal.nD Cert.AdamMlpInRefIdeal.τ).loc Cert.AdamMlpInRefIdeal.main_arg0) = m ((c.tc : Thread Cert.AdamMlpInIdeal.nD Cert.AdamMlpInIdeal.τ).loc Cert.AdamMlpInIdeal.main_arg0)
      ∧ m' ((c.tc : Thread Cert.AdamMlpInRefIdeal.nD Cert.AdamMlpInRefIdeal.τ).loc Cert.AdamMlpInRefIdeal.main_arg1) = m ((c.tc : Thread Cert.AdamMlpInIdeal.nD Cert.AdamMlpInIdeal.τ).loc Cert.AdamMlpInIdeal.main_arg1)
      ∧ m' ((c.tc : Thread Cert.AdamMlpInRefIdeal.nD Cert.AdamMlpInRefIdeal.τ).loc Cert.AdamMlpInRefIdeal.main_arg2) = m ((c.tc : Thread Cert.AdamMlpInIdeal.nD Cert.AdamMlpInIdeal.τ).loc Cert.AdamMlpInIdeal.main_arg2)
      ∧ m' ((c.tc : Thread Cert.AdamMlpInRefIdeal.nD Cert.AdamMlpInRefIdeal.τ).loc Cert.AdamMlpInRefIdeal.main_arg3) = m ((c.tc : Thread Cert.AdamMlpInIdeal.nD Cert.AdamMlpInIdeal.τ).loc Cert.AdamMlpInIdeal.main_arg3)
      ∧ m' ((c.tc : Thread Cert.AdamMlpInRefIdeal.nD Cert.AdamMlpInRefIdeal.τ).loc Cert.AdamMlpInRefIdeal.main_arg4) = m ((c.tc : Thread Cert.AdamMlpInIdeal.nD Cert.AdamMlpInIdeal.τ).loc Cert.AdamMlpInIdeal.main_arg4)) →
    ∃ (v0 : (c : Dev Cert.AdamMlpInIdeal.nD) → Buf (Elt Ideal) ((c.tc : Thread Cert.AdamMlpInIdeal.nD Cert.AdamMlpInIdeal.τ).loc Cert.AdamMlpInIdeal.main_v1_0)) (v1 : (c : Dev Cert.AdamMlpInIdeal.nD) → Buf (Elt Ideal) ((c.tc : Thread Cert.AdamMlpInIdeal.nD Cert.AdamMlpInIdeal.τ).loc Cert.AdamMlpInIdeal.main_v1_1)) (v2 : (c : Dev Cert.AdamMlpInIdeal.nD) → Buf (Elt Ideal) ((c.tc : Thread Cert.AdamMlpInIdeal.nD Cert.AdamMlpInIdeal.τ).loc Cert.AdamMlpInIdeal.main_v1_2)) (v3 : (c : Dev Cert.AdamMlpInIdeal.nD) → Buf (Elt Ideal) ((c.tc : Thread Cert.AdamMlpInIdeal.nD Cert.AdamMlpInIdeal.τ).loc Cert.AdamMlpInIdeal.main_v1_3)),
      θ_run (Cert.AdamMlpInIdeal.defs (F := Ideal)) (onTc (τ := Cert.AdamMlpInIdeal.τ) (Cert.AdamMlpInIdeal.main (F := Ideal))) ⟨m, fun _ => 0, g⟩ (fun r => ∀ c : Dev Cert.AdamMlpInIdeal.nD,
          r.2.mem ((c.tc : Thread Cert.AdamMlpInIdeal.nD Cert.AdamMlpInIdeal.τ).loc Cert.AdamMlpInIdeal.main_v1_0) = v0 c
          ∧ r.2.mem ((c.tc : Thread Cert.AdamMlpInIdeal.nD Cert.AdamMlpInIdeal.τ).loc Cert.AdamMlpInIdeal.main_v1_1) = v1 c
          ∧ r.2.mem ((c.tc : Thread Cert.AdamMlpInIdeal.nD Cert.AdamMlpInIdeal.τ).loc Cert.AdamMlpInIdeal.main_v1_2) = v2 c
          ∧ r.2.mem ((c.tc : Thread Cert.AdamMlpInIdeal.nD Cert.AdamMlpInIdeal.τ).loc Cert.AdamMlpInIdeal.main_v1_3) = v3 c
          ∧ r.2.mem ((c.tc : Thread Cert.AdamMlpInIdeal.nD Cert.AdamMlpInIdeal.τ).loc Cert.AdamMlpInIdeal.main_arg0) = m ((c.tc : Thread Cert.AdamMlpInIdeal.nD Cert.AdamMlpInIdeal.τ).loc Cert.AdamMlpInIdeal.main_arg0)
          ∧ r.2.mem ((c.tc : Thread Cert.AdamMlpInIdeal.nD Cert.AdamMlpInIdeal.τ).loc Cert.AdamMlpInIdeal.main_arg1) = m ((c.tc : Thread Cert.AdamMlpInIdeal.nD Cert.AdamMlpInIdeal.τ).loc Cert.AdamMlpInIdeal.main_arg1)
          ∧ r.2.mem ((c.tc : Thread Cert.AdamMlpInIdeal.nD Cert.AdamMlpInIdeal.τ).loc Cert.AdamMlpInIdeal.main_arg2) = m ((c.tc : Thread Cert.AdamMlpInIdeal.nD Cert.AdamMlpInIdeal.τ).loc Cert.AdamMlpInIdeal.main_arg2)
          ∧ r.2.mem ((c.tc : Thread Cert.AdamMlpInIdeal.nD Cert.AdamMlpInIdeal.τ).loc Cert.AdamMlpInIdeal.main_arg3) = m ((c.tc : Thread Cert.AdamMlpInIdeal.nD Cert.AdamMlpInIdeal.τ).loc Cert.AdamMlpInIdeal.main_arg3)
          ∧ r.2.mem ((c.tc : Thread Cert.AdamMlpInIdeal.nD Cert.AdamMlpInIdeal.τ).loc Cert.AdamMlpInIdeal.main_arg4) = m ((c.tc : Thread Cert.AdamMlpInIdeal.nD Cert.AdamMlpInIdeal.τ).loc Cert.AdamMlpInIdeal.main_arg4))
      ∧ θ_run (Cert.AdamMlpInRefIdeal.defs (F := Ideal)) (onTc (τ := Cert.AdamMlpInRefIdeal.τ) (Cert.AdamMlpInRefIdeal.main (F := Ideal))) ⟨m', fun _ => 0, g'⟩ (fun r => ∀ c : Dev Cert.AdamMlpInRefIdeal.nD,
          r.2.mem ((c.tc : Thread Cert.AdamMlpInRefIdeal.nD Cert.AdamMlpInRefIdeal.τ).loc Cert.AdamMlpInRefIdeal.main_v6) = v0 c
          ∧ r.2.mem ((c.tc : Thread Cert.AdamMlpInRefIdeal.nD Cert.AdamMlpInRefIdeal.τ).loc Cert.AdamMlpInRefIdeal.main_v30) = v1 c
          ∧ r.2.mem ((c.tc : Thread Cert.AdamMlpInRefIdeal.nD Cert.AdamMlpInRefIdeal.τ).loc Cert.AdamMlpInRefIdeal.main_v11) = v2 c
          ∧ r.2.mem ((c.tc : Thread Cert.AdamMlpInRefIdeal.nD Cert.AdamMlpInRefIdeal.τ).loc Cert.AdamMlpInRefIdeal.main_v17) = v3 c
          ∧ r.2.mem ((c.tc : Thread Cert.AdamMlpInRefIdeal.nD Cert.AdamMlpInRefIdeal.τ).loc Cert.AdamMlpInRefIdeal.main_arg0) = m' ((c.tc : Thread Cert.AdamMlpInRefIdeal.nD Cert.AdamMlpInRefIdeal.τ).loc Cert.AdamMlpInRefIdeal.main_arg0)
          ∧ r.2.mem ((c.tc : Thread Cert.AdamMlpInRefIdeal.nD Cert.AdamMlpInRefIdeal.τ).loc Cert.AdamMlpInRefIdeal.main_arg1) = m' ((c.tc : Thread Cert.AdamMlpInRefIdeal.nD Cert.AdamMlpInRefIdeal.τ).loc Cert.AdamMlpInRefIdeal.main_arg1)
          ∧ r.2.mem ((c.tc : Thread Cert.AdamMlpInRefIdeal.nD Cert.AdamMlpInRefIdeal.τ).loc Cert.AdamMlpInRefIdeal.main_arg2) = m' ((c.tc : Thread Cert.AdamMlpInRefIdeal.nD Cert.AdamMlpInRefIdeal.τ).loc Cert.AdamMlpInRefIdeal.main_arg2)
          ∧ r.2.mem ((c.tc : Thread Cert.AdamMlpInRefIdeal.nD Cert.AdamMlpInRefIdeal.τ).loc Cert.AdamMlpInRefIdeal.main_arg3) = m' ((c.tc : Thread Cert.AdamMlpInRefIdeal.nD Cert.AdamMlpInRefIdeal.τ).loc Cert.AdamMlpInRefIdeal.main_arg3)
          ∧ r.2.mem ((c.tc : Thread Cert.AdamMlpInRefIdeal.nD Cert.AdamMlpInRefIdeal.τ).loc Cert.AdamMlpInRefIdeal.main_arg4) = m' ((c.tc : Thread Cert.AdamMlpInRefIdeal.nD Cert.AdamMlpInRefIdeal.τ).loc Cert.AdamMlpInRefIdeal.main_arg4))

def preserves_AdamMlpOut_AdamMlpOutIdeal : Prop :=
  True

def algebraic_AdamMlpOutIdeal_AdamMlpOutRefIdeal [hAdamMlpOutIdeal : Cert.AdamMlpOutIdeal.Facts] [hAdamMlpOutRefIdeal : Cert.AdamMlpOutRefIdeal.Facts] : Prop :=
  ∀ (m : (ℓ : Loc Cert.AdamMlpOutIdeal.nD Cert.AdamMlpOutIdeal.τ Cert.AdamMlpOutIdeal.sig) → Buf (Elt Ideal) ℓ) (g : Dev Cert.AdamMlpOutIdeal.nD → PrngReg)
    (m' : (ℓ : Loc Cert.AdamMlpOutRefIdeal.nD Cert.AdamMlpOutRefIdeal.τ Cert.AdamMlpOutRefIdeal.sig) → Buf (Elt Ideal) ℓ) (g' : Dev Cert.AdamMlpOutRefIdeal.nD → PrngReg), Pre_AdamMlpOutIdeal m →
    (∀ c : Dev Cert.AdamMlpOutIdeal.nD,
      m' ((c.tc : Thread Cert.AdamMlpOutRefIdeal.nD Cert.AdamMlpOutRefIdeal.τ).loc Cert.AdamMlpOutRefIdeal.main_arg0) = m ((c.tc : Thread Cert.AdamMlpOutIdeal.nD Cert.AdamMlpOutIdeal.τ).loc Cert.AdamMlpOutIdeal.main_arg0)
      ∧ m' ((c.tc : Thread Cert.AdamMlpOutRefIdeal.nD Cert.AdamMlpOutRefIdeal.τ).loc Cert.AdamMlpOutRefIdeal.main_arg1) = m ((c.tc : Thread Cert.AdamMlpOutIdeal.nD Cert.AdamMlpOutIdeal.τ).loc Cert.AdamMlpOutIdeal.main_arg1)
      ∧ m' ((c.tc : Thread Cert.AdamMlpOutRefIdeal.nD Cert.AdamMlpOutRefIdeal.τ).loc Cert.AdamMlpOutRefIdeal.main_arg2) = m ((c.tc : Thread Cert.AdamMlpOutIdeal.nD Cert.AdamMlpOutIdeal.τ).loc Cert.AdamMlpOutIdeal.main_arg2)
      ∧ m' ((c.tc : Thread Cert.AdamMlpOutRefIdeal.nD Cert.AdamMlpOutRefIdeal.τ).loc Cert.AdamMlpOutRefIdeal.main_arg3) = m ((c.tc : Thread Cert.AdamMlpOutIdeal.nD Cert.AdamMlpOutIdeal.τ).loc Cert.AdamMlpOutIdeal.main_arg3)
      ∧ m' ((c.tc : Thread Cert.AdamMlpOutRefIdeal.nD Cert.AdamMlpOutRefIdeal.τ).loc Cert.AdamMlpOutRefIdeal.main_arg4) = m ((c.tc : Thread Cert.AdamMlpOutIdeal.nD Cert.AdamMlpOutIdeal.τ).loc Cert.AdamMlpOutIdeal.main_arg4)) →
    ∃ (v0 : (c : Dev Cert.AdamMlpOutIdeal.nD) → Buf (Elt Ideal) ((c.tc : Thread Cert.AdamMlpOutIdeal.nD Cert.AdamMlpOutIdeal.τ).loc Cert.AdamMlpOutIdeal.main_v1_0)) (v1 : (c : Dev Cert.AdamMlpOutIdeal.nD) → Buf (Elt Ideal) ((c.tc : Thread Cert.AdamMlpOutIdeal.nD Cert.AdamMlpOutIdeal.τ).loc Cert.AdamMlpOutIdeal.main_v1_1)) (v2 : (c : Dev Cert.AdamMlpOutIdeal.nD) → Buf (Elt Ideal) ((c.tc : Thread Cert.AdamMlpOutIdeal.nD Cert.AdamMlpOutIdeal.τ).loc Cert.AdamMlpOutIdeal.main_v1_2)) (v3 : (c : Dev Cert.AdamMlpOutIdeal.nD) → Buf (Elt Ideal) ((c.tc : Thread Cert.AdamMlpOutIdeal.nD Cert.AdamMlpOutIdeal.τ).loc Cert.AdamMlpOutIdeal.main_v1_3)),
      θ_run (Cert.AdamMlpOutIdeal.defs (F := Ideal)) (onTc (τ := Cert.AdamMlpOutIdeal.τ) (Cert.AdamMlpOutIdeal.main (F := Ideal))) ⟨m, fun _ => 0, g⟩ (fun r => ∀ c : Dev Cert.AdamMlpOutIdeal.nD,
          r.2.mem ((c.tc : Thread Cert.AdamMlpOutIdeal.nD Cert.AdamMlpOutIdeal.τ).loc Cert.AdamMlpOutIdeal.main_v1_0) = v0 c
          ∧ r.2.mem ((c.tc : Thread Cert.AdamMlpOutIdeal.nD Cert.AdamMlpOutIdeal.τ).loc Cert.AdamMlpOutIdeal.main_v1_1) = v1 c
          ∧ r.2.mem ((c.tc : Thread Cert.AdamMlpOutIdeal.nD Cert.AdamMlpOutIdeal.τ).loc Cert.AdamMlpOutIdeal.main_v1_2) = v2 c
          ∧ r.2.mem ((c.tc : Thread Cert.AdamMlpOutIdeal.nD Cert.AdamMlpOutIdeal.τ).loc Cert.AdamMlpOutIdeal.main_v1_3) = v3 c
          ∧ r.2.mem ((c.tc : Thread Cert.AdamMlpOutIdeal.nD Cert.AdamMlpOutIdeal.τ).loc Cert.AdamMlpOutIdeal.main_arg0) = m ((c.tc : Thread Cert.AdamMlpOutIdeal.nD Cert.AdamMlpOutIdeal.τ).loc Cert.AdamMlpOutIdeal.main_arg0)
          ∧ r.2.mem ((c.tc : Thread Cert.AdamMlpOutIdeal.nD Cert.AdamMlpOutIdeal.τ).loc Cert.AdamMlpOutIdeal.main_arg1) = m ((c.tc : Thread Cert.AdamMlpOutIdeal.nD Cert.AdamMlpOutIdeal.τ).loc Cert.AdamMlpOutIdeal.main_arg1)
          ∧ r.2.mem ((c.tc : Thread Cert.AdamMlpOutIdeal.nD Cert.AdamMlpOutIdeal.τ).loc Cert.AdamMlpOutIdeal.main_arg2) = m ((c.tc : Thread Cert.AdamMlpOutIdeal.nD Cert.AdamMlpOutIdeal.τ).loc Cert.AdamMlpOutIdeal.main_arg2)
          ∧ r.2.mem ((c.tc : Thread Cert.AdamMlpOutIdeal.nD Cert.AdamMlpOutIdeal.τ).loc Cert.AdamMlpOutIdeal.main_arg3) = m ((c.tc : Thread Cert.AdamMlpOutIdeal.nD Cert.AdamMlpOutIdeal.τ).loc Cert.AdamMlpOutIdeal.main_arg3)
          ∧ r.2.mem ((c.tc : Thread Cert.AdamMlpOutIdeal.nD Cert.AdamMlpOutIdeal.τ).loc Cert.AdamMlpOutIdeal.main_arg4) = m ((c.tc : Thread Cert.AdamMlpOutIdeal.nD Cert.AdamMlpOutIdeal.τ).loc Cert.AdamMlpOutIdeal.main_arg4))
      ∧ θ_run (Cert.AdamMlpOutRefIdeal.defs (F := Ideal)) (onTc (τ := Cert.AdamMlpOutRefIdeal.τ) (Cert.AdamMlpOutRefIdeal.main (F := Ideal))) ⟨m', fun _ => 0, g'⟩ (fun r => ∀ c : Dev Cert.AdamMlpOutRefIdeal.nD,
          r.2.mem ((c.tc : Thread Cert.AdamMlpOutRefIdeal.nD Cert.AdamMlpOutRefIdeal.τ).loc Cert.AdamMlpOutRefIdeal.main_v6) = v0 c
          ∧ r.2.mem ((c.tc : Thread Cert.AdamMlpOutRefIdeal.nD Cert.AdamMlpOutRefIdeal.τ).loc Cert.AdamMlpOutRefIdeal.main_v30) = v1 c
          ∧ r.2.mem ((c.tc : Thread Cert.AdamMlpOutRefIdeal.nD Cert.AdamMlpOutRefIdeal.τ).loc Cert.AdamMlpOutRefIdeal.main_v11) = v2 c
          ∧ r.2.mem ((c.tc : Thread Cert.AdamMlpOutRefIdeal.nD Cert.AdamMlpOutRefIdeal.τ).loc Cert.AdamMlpOutRefIdeal.main_v17) = v3 c
          ∧ r.2.mem ((c.tc : Thread Cert.AdamMlpOutRefIdeal.nD Cert.AdamMlpOutRefIdeal.τ).loc Cert.AdamMlpOutRefIdeal.main_arg0) = m' ((c.tc : Thread Cert.AdamMlpOutRefIdeal.nD Cert.AdamMlpOutRefIdeal.τ).loc Cert.AdamMlpOutRefIdeal.main_arg0)
          ∧ r.2.mem ((c.tc : Thread Cert.AdamMlpOutRefIdeal.nD Cert.AdamMlpOutRefIdeal.τ).loc Cert.AdamMlpOutRefIdeal.main_arg1) = m' ((c.tc : Thread Cert.AdamMlpOutRefIdeal.nD Cert.AdamMlpOutRefIdeal.τ).loc Cert.AdamMlpOutRefIdeal.main_arg1)
          ∧ r.2.mem ((c.tc : Thread Cert.AdamMlpOutRefIdeal.nD Cert.AdamMlpOutRefIdeal.τ).loc Cert.AdamMlpOutRefIdeal.main_arg2) = m' ((c.tc : Thread Cert.AdamMlpOutRefIdeal.nD Cert.AdamMlpOutRefIdeal.τ).loc Cert.AdamMlpOutRefIdeal.main_arg2)
          ∧ r.2.mem ((c.tc : Thread Cert.AdamMlpOutRefIdeal.nD Cert.AdamMlpOutRefIdeal.τ).loc Cert.AdamMlpOutRefIdeal.main_arg3) = m' ((c.tc : Thread Cert.AdamMlpOutRefIdeal.nD Cert.AdamMlpOutRefIdeal.τ).loc Cert.AdamMlpOutRefIdeal.main_arg3)
          ∧ r.2.mem ((c.tc : Thread Cert.AdamMlpOutRefIdeal.nD Cert.AdamMlpOutRefIdeal.τ).loc Cert.AdamMlpOutRefIdeal.main_arg4) = m' ((c.tc : Thread Cert.AdamMlpOutRefIdeal.nD Cert.AdamMlpOutRefIdeal.τ).loc Cert.AdamMlpOutRefIdeal.main_arg4))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v4) = v0 c
          ∧ r.2.mem ((c.tc : Thread Cert.AdamAdaRefIdeal.nD Cert.AdamAdaRefIdeal.τ).loc Cert.AdamAdaRefIdeal.main_v28) = v1 c
          ∧ r.2.mem ((c.tc : Thread Cert.AdamAdaRefIdeal.nD Cert.AdamAdaRefIdeal.τ).loc Cert.AdamAdaRefIdeal.main_v9) = v2 c
          ∧ r.2.mem ((c.tc : Thread Cert.AdamAdaRefIdeal.nD Cert.AdamAdaRefIdeal.τ).loc Cert.AdamAdaRefIdeal.main_v15) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v18) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_Postnorm_PostnormIdeal : Prop :=
  True

def algebraic_PostnormIdeal_PostnormRefIdeal [hPostnormIdeal : Cert.PostnormIdeal.Facts] [hPostnormRefIdeal : Cert.PostnormRefIdeal.Facts] : Prop :=
  ∀ (m : (ℓ : Loc Cert.PostnormIdeal.nD Cert.PostnormIdeal.τ Cert.PostnormIdeal.sig) → Buf (Elt Ideal) ℓ) (g : Dev Cert.PostnormIdeal.nD → PrngReg)
    (m' : (ℓ : Loc Cert.PostnormRefIdeal.nD Cert.PostnormRefIdeal.τ Cert.PostnormRefIdeal.sig) → Buf (Elt Ideal) ℓ) (g' : Dev Cert.PostnormRefIdeal.nD → PrngReg), Pre_PostnormIdeal m →
    (∀ c : Dev Cert.PostnormIdeal.nD,
      m' ((c.tc : Thread Cert.PostnormRefIdeal.nD Cert.PostnormRefIdeal.τ).loc Cert.PostnormRefIdeal.main_arg0) = m ((c.tc : Thread Cert.PostnormIdeal.nD Cert.PostnormIdeal.τ).loc Cert.PostnormIdeal.main_arg0)
      ∧ m' ((c.tc : Thread Cert.PostnormRefIdeal.nD Cert.PostnormRefIdeal.τ).loc Cert.PostnormRefIdeal.main_arg1) = m ((c.tc : Thread Cert.PostnormIdeal.nD Cert.PostnormIdeal.τ).loc Cert.PostnormIdeal.main_arg1)
      ∧ m' ((c.tc : Thread Cert.PostnormRefIdeal.nD Cert.PostnormRefIdeal.τ).loc Cert.PostnormRefIdeal.main_arg2) = m ((c.tc : Thread Cert.PostnormIdeal.nD Cert.PostnormIdeal.τ).loc Cert.PostnormIdeal.main_arg2)
      ∧ m' ((c.tc : Thread Cert.PostnormRefIdeal.nD Cert.PostnormRefIdeal.τ).loc Cert.PostnormRefIdeal.main_arg3) = m ((c.tc : Thread Cert.PostnormIdeal.nD Cert.PostnormIdeal.τ).loc Cert.PostnormIdeal.main_arg3)) →
    ∃ (v0 : (c : Dev Cert.PostnormIdeal.nD) → Buf (Elt Ideal) ((c.tc : Thread Cert.PostnormIdeal.nD Cert.PostnormIdeal.τ).loc Cert.PostnormIdeal.main_v0)),
      θ_run (Cert.PostnormIdeal.defs (F := Ideal)) (onTc (τ := Cert.PostnormIdeal.τ) (Cert.PostnormIdeal.main (F := Ideal))) ⟨m, fun _ => 0, g⟩ (fun r => ∀ c : Dev Cert.PostnormIdeal.nD,
          r.2.mem ((c.tc : Thread Cert.PostnormIdeal.nD Cert.PostnormIdeal.τ).loc Cert.PostnormIdeal.main_v0) = v0 c
          ∧ r.2.mem ((c.tc : Thread Cert.PostnormIdeal.nD Cert.PostnormIdeal.τ).loc Cert.PostnormIdeal.main_arg0) = m ((c.tc : Thread Cert.PostnormIdeal.nD Cert.PostnormIdeal.τ).loc Cert.PostnormIdeal.main_arg0)
          ∧ r.2.mem ((c.tc : Thread Cert.PostnormIdeal.nD Cert.PostnormIdeal.τ).loc Cert.PostnormIdeal.main_arg1) = m ((c.tc : Thread Cert.PostnormIdeal.nD Cert.PostnormIdeal.τ).loc Cert.PostnormIdeal.main_arg1)
          ∧ r.2.mem ((c.tc : Thread Cert.PostnormIdeal.nD Cert.PostnormIdeal.τ).loc Cert.PostnormIdeal.main_arg2) = m ((c.tc : Thread Cert.PostnormIdeal.nD Cert.PostnormIdeal.τ).loc Cert.PostnormIdeal.main_arg2)
          ∧ r.2.mem ((c.tc : Thread Cert.PostnormIdeal.nD Cert.PostnormIdeal.τ).loc Cert.PostnormIdeal.main_arg3) = m ((c.tc : Thread Cert.PostnormIdeal.nD Cert.PostnormIdeal.τ).loc Cert.PostnormIdeal.main_arg3))
      ∧ θ_run (Cert.PostnormRefIdeal.defs (F := Ideal)) (onTc (τ := Cert.PostnormRefIdeal.τ) (Cert.PostnormRefIdeal.main (F := Ideal))) ⟨m', fun _ => 0, g'⟩ (fun r => ∀ c : Dev Cert.PostnormRefIdeal.nD,
          r.2.mem ((c.tc : Thread Cert.PostnormRefIdeal.nD Cert.PostnormRefIdeal.τ).loc Cert.PostnormRefIdeal.main_v14) = v0 c
          ∧ r.2.mem ((c.tc : Thread Cert.PostnormRefIdeal.nD Cert.PostnormRefIdeal.τ).loc Cert.PostnormRefIdeal.main_arg0) = m' ((c.tc : Thread Cert.PostnormRefIdeal.nD Cert.PostnormRefIdeal.τ).loc Cert.PostnormRefIdeal.main_arg0)
          ∧ r.2.mem ((c.tc : Thread Cert.PostnormRefIdeal.nD Cert.PostnormRefIdeal.τ).loc Cert.PostnormRefIdeal.main_arg1) = m' ((c.tc : Thread Cert.PostnormRefIdeal.nD Cert.PostnormRefIdeal.τ).loc Cert.PostnormRefIdeal.main_arg1)
          ∧ r.2.mem ((c.tc : Thread Cert.PostnormRefIdeal.nD Cert.PostnormRefIdeal.τ).loc Cert.PostnormRefIdeal.main_arg2) = m' ((c.tc : Thread Cert.PostnormRefIdeal.nD Cert.PostnormRefIdeal.τ).loc Cert.PostnormRefIdeal.main_arg2)
          ∧ r.2.mem ((c.tc : Thread Cert.PostnormRefIdeal.nD Cert.PostnormRefIdeal.τ).loc Cert.PostnormRefIdeal.main_arg3) = m' ((c.tc : Thread Cert.PostnormRefIdeal.nD Cert.PostnormRefIdeal.τ).loc Cert.PostnormRefIdeal.main_arg3))

def preserves_PrenormBwd_PrenormBwdIdeal : Prop :=
  True

def algebraic_PrenormBwdIdeal_PrenormBwdRefIdeal_pre_finite [hPrenormBwdIdeal : Cert.PrenormBwdIdeal.Facts] [hPrenormBwdRefIdeal : Cert.PrenormBwdRefIdeal.Facts] [hPre_finite : Cert.Pre_finite.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg)
    (m' : (ℓ : Loc Cert.PrenormBwdRefIdeal.nD Cert.PrenormBwdRefIdeal.τ Cert.PrenormBwdRefIdeal.sig) → Buf (Elt Ideal) ℓ) (g' : Dev Cert.PrenormBwdRefIdeal.nD → PrngReg), Pre_PrenormBwdIdeal_finite m →
    (∀ c : Dev Cert.PrenormBwdIdeal.nD,
      m' ((c.tc : Thread Cert.PrenormBwdRefIdeal.nD Cert.PrenormBwdRefIdeal.τ).loc Cert.PrenormBwdRefIdeal.main_arg0) = m ((c.tc : Thread Cert.PrenormBwdIdeal.nD Cert.PrenormBwdIdeal.τ).loc Cert.PrenormBwdIdeal.main_arg0)
      ∧ m' ((c.tc : Thread Cert.PrenormBwdRefIdeal.nD Cert.PrenormBwdRefIdeal.τ).loc Cert.PrenormBwdRefIdeal.main_arg1) = m ((c.tc : Thread Cert.PrenormBwdIdeal.nD Cert.PrenormBwdIdeal.τ).loc Cert.PrenormBwdIdeal.main_arg1)
      ∧ m' ((c.tc : Thread Cert.PrenormBwdRefIdeal.nD Cert.PrenormBwdRefIdeal.τ).loc Cert.PrenormBwdRefIdeal.main_arg2) = m ((c.tc : Thread Cert.PrenormBwdIdeal.nD Cert.PrenormBwdIdeal.τ).loc Cert.PrenormBwdIdeal.main_arg2)
      ∧ m' ((c.tc : Thread Cert.PrenormBwdRefIdeal.nD Cert.PrenormBwdRefIdeal.τ).loc Cert.PrenormBwdRefIdeal.main_arg3) = m ((c.tc : Thread Cert.PrenormBwdIdeal.nD Cert.PrenormBwdIdeal.τ).loc Cert.PrenormBwdIdeal.main_arg3)
      ∧ m' ((c.tc : Thread Cert.PrenormBwdRefIdeal.nD Cert.PrenormBwdRefIdeal.τ).loc Cert.PrenormBwdRefIdeal.main_arg4) = m ((c.tc : Thread Cert.PrenormBwdIdeal.nD Cert.PrenormBwdIdeal.τ).loc Cert.PrenormBwdIdeal.main_arg4)) →
    ∃ (v0 : (c : Dev Cert.PrenormBwdIdeal.nD) → Buf (Elt Ideal) ((c.tc : Thread Cert.PrenormBwdIdeal.nD Cert.PrenormBwdIdeal.τ).loc Cert.PrenormBwdIdeal.main_v0_0)) (v1 : (c : Dev Cert.PrenormBwdIdeal.nD) → Buf (Elt Ideal) ((c.tc : Thread Cert.PrenormBwdIdeal.nD Cert.PrenormBwdIdeal.τ).loc Cert.PrenormBwdIdeal.main_v0_1)) (v2 : (c : Dev Cert.PrenormBwdIdeal.nD) → Buf (Elt Ideal) ((c.tc : Thread Cert.PrenormBwdIdeal.nD Cert.PrenormBwdIdeal.τ).loc Cert.PrenormBwdIdeal.main_v0_2)) (v3 : (c : Dev Cert.PrenormBwdIdeal.nD) → Buf (Elt Ideal) ((c.tc : Thread Cert.PrenormBwdIdeal.nD Cert.PrenormBwdIdeal.τ).loc Cert.PrenormBwdIdeal.main_v0_3)),
      θ_run (Cert.PrenormBwdIdeal.defs (F := Ideal)) (onTc (τ := Cert.PrenormBwdIdeal.τ) (Cert.PrenormBwdIdeal.main (F := Ideal))) ⟨m, fun _ => 0, g⟩ (fun r => ∀ c : Dev Cert.PrenormBwdIdeal.nD,
          r.2.mem ((c.tc : Thread Cert.PrenormBwdIdeal.nD Cert.PrenormBwdIdeal.τ).loc Cert.PrenormBwdIdeal.main_v0_0) = v0 c
          ∧ r.2.mem ((c.tc : Thread Cert.PrenormBwdIdeal.nD Cert.PrenormBwdIdeal.τ).loc Cert.PrenormBwdIdeal.main_v0_1) = v1 c
          ∧ r.2.mem ((c.tc : Thread Cert.PrenormBwdIdeal.nD Cert.PrenormBwdIdeal.τ).loc Cert.PrenormBwdIdeal.main_v0_2) = v2 c
          ∧ r.2.mem ((c.tc : Thread Cert.PrenormBwdIdeal.nD Cert.PrenormBwdIdeal.τ).loc Cert.PrenormBwdIdeal.main_v0_3) = v3 c
          ∧ r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
          ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
          ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
          ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
          ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ θ_run (Cert.PrenormBwdRefIdeal.defs (F := Ideal)) (onTc (τ := Cert.PrenormBwdRefIdeal.τ) (Cert.PrenormBwdRefIdeal.main (F := Ideal))) ⟨m', fun _ => 0, g'⟩ (fun r => ∀ c : Dev Cert.PrenormBwdRefIdeal.nD,
          r.2.mem ((c.tc : Thread Cert.PrenormBwdRefIdeal.nD Cert.PrenormBwdRefIdeal.τ).loc Cert.PrenormBwdRefIdeal.main_v49) = v0 c
          ∧ r.2.mem ((c.tc : Thread Cert.PrenormBwdRefIdeal.nD Cert.PrenormBwdRefIdeal.τ).loc Cert.PrenormBwdRefIdeal.main_v24) = v1 c
          ∧ r.2.mem ((c.tc : Thread Cert.PrenormBwdRefIdeal.nD Cert.PrenormBwdRefIdeal.τ).loc Cert.PrenormBwdRefIdeal.main_v27) = v2 c
          ∧ r.2.mem ((c.tc : Thread Cert.PrenormBwdRefIdeal.nD Cert.PrenormBwdRefIdeal.τ).loc Cert.PrenormBwdRefIdeal.main_v32) = v3 c
          ∧ r.2.mem ((c.tc : Thread Cert.PrenormBwdRefIdeal.nD Cert.PrenormBwdRefIdeal.τ).loc Cert.PrenormBwdRefIdeal.main_arg0) = m' ((c.tc : Thread Cert.PrenormBwdRefIdeal.nD Cert.PrenormBwdRefIdeal.τ).loc Cert.PrenormBwdRefIdeal.main_arg0)
          ∧ r.2.mem ((c.tc : Thread Cert.PrenormBwdRefIdeal.nD Cert.PrenormBwdRefIdeal.τ).loc Cert.PrenormBwdRefIdeal.main_arg1) = m' ((c.tc : Thread Cert.PrenormBwdRefIdeal.nD Cert.PrenormBwdRefIdeal.τ).loc Cert.PrenormBwdRefIdeal.main_arg1)
          ∧ r.2.mem ((c.tc : Thread Cert.PrenormBwdRefIdeal.nD Cert.PrenormBwdRefIdeal.τ).loc Cert.PrenormBwdRefIdeal.main_arg2) = m' ((c.tc : Thread Cert.PrenormBwdRefIdeal.nD Cert.PrenormBwdRefIdeal.τ).loc Cert.PrenormBwdRefIdeal.main_arg2)
          ∧ r.2.mem ((c.tc : Thread Cert.PrenormBwdRefIdeal.nD Cert.PrenormBwdRefIdeal.τ).loc Cert.PrenormBwdRefIdeal.main_arg3) = m' ((c.tc : Thread Cert.PrenormBwdRefIdeal.nD Cert.PrenormBwdRefIdeal.τ).loc Cert.PrenormBwdRefIdeal.main_arg3)
          ∧ r.2.mem ((c.tc : Thread Cert.PrenormBwdRefIdeal.nD Cert.PrenormBwdRefIdeal.τ).loc Cert.PrenormBwdRefIdeal.main_arg4) = m' ((c.tc : Thread Cert.PrenormBwdRefIdeal.nD Cert.PrenormBwdRefIdeal.τ).loc Cert.PrenormBwdRefIdeal.main_arg4))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v20) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def Claim : Prop :=
  ∃ (hConv : Cert.Conv.Facts) (hConvIdeal : Cert.ConvIdeal.Facts) (hConvRefIdeal : Cert.ConvRefIdeal.Facts) (hGate : Cert.Gate.Facts) (hGateIdeal : Cert.GateIdeal.Facts) (hGateRefIdeal : Cert.GateRefIdeal.Facts) (hAttn : Cert.Attn.Facts) (hAttnIdeal : Cert.AttnIdeal.Facts) (hMlpDa : Cert.MlpDa.Facts) (hMlpDaIdeal : Cert.MlpDaIdeal.Facts) (hMlpDaRefIdeal : Cert.MlpDaRefIdeal.Facts) (hMlpGwOut : Cert.MlpGwOut.Facts) (hMlpGwOutIdeal : Cert.MlpGwOutIdeal.Facts) (hMlpGwOutRefIdeal : Cert.MlpGwOutRefIdeal.Facts) (hMlpDh : Cert.MlpDh.Facts) (hMlpDhIdeal : Cert.MlpDhIdeal.Facts) (hMlpDhRefIdeal : Cert.MlpDhRefIdeal.Facts) (hMlpGwIn : Cert.MlpGwIn.Facts) (hMlpGwInIdeal : Cert.MlpGwInIdeal.Facts) (hMlpGwInRefIdeal : Cert.MlpGwInRefIdeal.Facts) (hMixDm : Cert.MixDm.Facts) (hMixDmIdeal : Cert.MixDmIdeal.Facts) (hMixDmRefIdeal : Cert.MixDmRefIdeal.Facts) (hMixGw : Cert.MixGw.Facts) (hMixGwIdeal : Cert.MixGwIdeal.Facts) (hMixGwRefIdeal : Cert.MixGwRefIdeal.Facts) (hAttnDo : Cert.AttnDo.Facts) (hAttnDoIdeal : Cert.AttnDoIdeal.Facts) (hAttnDoRefIdeal : Cert.AttnDoRefIdeal.Facts) (hAttnGw : Cert.AttnGw.Facts) (hAttnGwIdeal : Cert.AttnGwIdeal.Facts) (hAttnGwRefIdeal : Cert.AttnGwRefIdeal.Facts) (hConvDy : Cert.ConvDy.Facts) (hConvDyIdeal : Cert.ConvDyIdeal.Facts) (hConvDyRefIdeal : Cert.ConvDyRefIdeal.Facts) (hConvGw : Cert.ConvGw.Facts) (hConvGwIdeal : Cert.ConvGwIdeal.Facts) (hConvGwRefIdeal : Cert.ConvGwRefIdeal.Facts) (hInGw : Cert.InGw.Facts) (hInGwIdeal : Cert.InGwIdeal.Facts) (hInGwRefIdeal : Cert.InGwRefIdeal.Facts) (hInDh : Cert.InDh.Facts) (hInDhIdeal : Cert.InDhIdeal.Facts) (hInDhRefIdeal : Cert.InDhRefIdeal.Facts) (hInProj : Cert.InProj.Facts) (hInProjIdeal : Cert.InProjIdeal.Facts) (hInProjRefIdeal : Cert.InProjRefIdeal.Facts) (hConvOut : Cert.ConvOut.Facts) (hConvOutIdeal : Cert.ConvOutIdeal.Facts) (hConvOutRefIdeal : Cert.ConvOutRefIdeal.Facts) (hAttnOut : Cert.AttnOut.Facts) (hAttnOutIdeal : Cert.AttnOutIdeal.Facts) (hAttnOutRefIdeal : Cert.AttnOutRefIdeal.Facts) (hMixOut : Cert.MixOut.Facts) (hMixOutIdeal : Cert.MixOutIdeal.Facts) (hMixOutRefIdeal : Cert.MixOutRefIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hAdamGain : Cert.AdamGain.Facts) (hAdamGainIdeal : Cert.AdamGainIdeal.Facts) (hAdamGainRefIdeal : Cert.AdamGainRefIdeal.Facts) (hAdamBAda : Cert.AdamBAda.Facts) (hAdamBAdaIdeal : Cert.AdamBAdaIdeal.Facts) (hAdamBAdaRefIdeal : Cert.AdamBAdaRefIdeal.Facts) (hAdamConvW : Cert.AdamConvW.Facts) (hAdamConvWIdeal : Cert.AdamConvWIdeal.Facts) (hAdamConvWRefIdeal : Cert.AdamConvWRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamOut : Cert.AdamOut.Facts) (hAdamOutIdeal : Cert.AdamOutIdeal.Facts) (hAdamOutRefIdeal : Cert.AdamOutRefIdeal.Facts) (hAdamMlpIn : Cert.AdamMlpIn.Facts) (hAdamMlpInIdeal : Cert.AdamMlpInIdeal.Facts) (hAdamMlpInRefIdeal : Cert.AdamMlpInRefIdeal.Facts) (hAdamMlpOut : Cert.AdamMlpOut.Facts) (hAdamMlpOutIdeal : Cert.AdamMlpOutIdeal.Facts) (hAdamMlpOutRefIdeal : Cert.AdamMlpOutRefIdeal.Facts) (hAdamAda : Cert.AdamAda.Facts) (hAdamAdaIdeal : Cert.AdamAdaIdeal.Facts) (hAdamAdaRefIdeal : Cert.AdamAdaRefIdeal.Facts) (hPrenorm : Cert.Prenorm.Facts) (hPrenormIdeal : Cert.PrenormIdeal.Facts) (hPrenormRefIdeal : Cert.PrenormRefIdeal.Facts) (hPostnorm : Cert.Postnorm.Facts) (hPostnormIdeal : Cert.PostnormIdeal.Facts) (hPostnormRefIdeal : Cert.PostnormRefIdeal.Facts) (hPrenormBwd : Cert.PrenormBwd.Facts) (hPrenormBwdIdeal : Cert.PrenormBwdIdeal.Facts) (hPrenormBwdRefIdeal : Cert.PrenormBwdRefIdeal.Facts) (hGates : Cert.Gates.Facts) (hGatesIdeal : Cert.GatesIdeal.Facts) (hGatesRefIdeal : Cert.GatesRefIdeal.Facts) (hPre_finite : Cert.Pre_finite.Facts),
    quiescent_Conv (hConv := hConv)
    ∧ quiescent_ConvIdeal (hConvIdeal := hConvIdeal)
    ∧ quiescent_ConvRefIdeal (hConvRefIdeal := hConvRefIdeal)
    ∧ quiescent_Gate (hGate := hGate)
    ∧ quiescent_GateIdeal (hGateIdeal := hGateIdeal)
    ∧ quiescent_GateRefIdeal (hGateRefIdeal := hGateRefIdeal)
    ∧ quiescent_Attn (hAttn := hAttn)
    ∧ quiescent_AttnIdeal (hAttnIdeal := hAttnIdeal)
    ∧ quiescent_MlpDa (hMlpDa := hMlpDa)
    ∧ quiescent_MlpDaIdeal (hMlpDaIdeal := hMlpDaIdeal)
    ∧ quiescent_MlpDaRefIdeal (hMlpDaRefIdeal := hMlpDaRefIdeal)
    ∧ quiescent_MlpGwOut (hMlpGwOut := hMlpGwOut)
    ∧ quiescent_MlpGwOutIdeal (hMlpGwOutIdeal := hMlpGwOutIdeal)
    ∧ quiescent_MlpGwOutRefIdeal (hMlpGwOutRefIdeal := hMlpGwOutRefIdeal)
    ∧ quiescent_MlpDh (hMlpDh := hMlpDh)
    ∧ quiescent_MlpDhIdeal (hMlpDhIdeal := hMlpDhIdeal)
    ∧ quiescent_MlpDhRefIdeal (hMlpDhRefIdeal := hMlpDhRefIdeal)
    ∧ quiescent_MlpGwIn (hMlpGwIn := hMlpGwIn)
    ∧ quiescent_MlpGwInIdeal (hMlpGwInIdeal := hMlpGwInIdeal)
    ∧ quiescent_MlpGwInRefIdeal (hMlpGwInRefIdeal := hMlpGwInRefIdeal)
    ∧ quiescent_MixDm (hMixDm := hMixDm)
    ∧ quiescent_MixDmIdeal (hMixDmIdeal := hMixDmIdeal)
    ∧ quiescent_MixDmRefIdeal (hMixDmRefIdeal := hMixDmRefIdeal)
    ∧ quiescent_MixGw (hMixGw := hMixGw)
    ∧ quiescent_MixGwIdeal (hMixGwIdeal := hMixGwIdeal)
    ∧ quiescent_MixGwRefIdeal (hMixGwRefIdeal := hMixGwRefIdeal)
    ∧ quiescent_AttnDo (hAttnDo := hAttnDo)
    ∧ quiescent_AttnDoIdeal (hAttnDoIdeal := hAttnDoIdeal)
    ∧ quiescent_AttnDoRefIdeal (hAttnDoRefIdeal := hAttnDoRefIdeal)
    ∧ quiescent_AttnGw (hAttnGw := hAttnGw)
    ∧ quiescent_AttnGwIdeal (hAttnGwIdeal := hAttnGwIdeal)
    ∧ quiescent_AttnGwRefIdeal (hAttnGwRefIdeal := hAttnGwRefIdeal)
    ∧ quiescent_ConvDy (hConvDy := hConvDy)
    ∧ quiescent_ConvDyIdeal (hConvDyIdeal := hConvDyIdeal)
    ∧ quiescent_ConvDyRefIdeal (hConvDyRefIdeal := hConvDyRefIdeal)
    ∧ quiescent_ConvGw (hConvGw := hConvGw)
    ∧ quiescent_ConvGwIdeal (hConvGwIdeal := hConvGwIdeal)
    ∧ quiescent_ConvGwRefIdeal (hConvGwRefIdeal := hConvGwRefIdeal)
    ∧ quiescent_InGw (hInGw := hInGw)
    ∧ quiescent_InGwIdeal (hInGwIdeal := hInGwIdeal)
    ∧ quiescent_InGwRefIdeal (hInGwRefIdeal := hInGwRefIdeal)
    ∧ quiescent_InDh (hInDh := hInDh)
    ∧ quiescent_InDhIdeal (hInDhIdeal := hInDhIdeal)
    ∧ quiescent_InDhRefIdeal (hInDhRefIdeal := hInDhRefIdeal)
    ∧ quiescent_InProj (hInProj := hInProj)
    ∧ quiescent_InProjIdeal (hInProjIdeal := hInProjIdeal)
    ∧ quiescent_InProjRefIdeal (hInProjRefIdeal := hInProjRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamBAda (hAdamBAda := hAdamBAda)
    ∧ quiescent_AdamBAdaIdeal (hAdamBAdaIdeal := hAdamBAdaIdeal)
    ∧ quiescent_AdamBAdaRefIdeal (hAdamBAdaRefIdeal := hAdamBAdaRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMlpIn (hAdamMlpIn := hAdamMlpIn)
    ∧ quiescent_AdamMlpInIdeal (hAdamMlpInIdeal := hAdamMlpInIdeal)
    ∧ quiescent_AdamMlpInRefIdeal (hAdamMlpInRefIdeal := hAdamMlpInRefIdeal)
    ∧ quiescent_AdamMlpOut (hAdamMlpOut := hAdamMlpOut)
    ∧ quiescent_AdamMlpOutIdeal (hAdamMlpOutIdeal := hAdamMlpOutIdeal)
    ∧ quiescent_AdamMlpOutRefIdeal (hAdamMlpOutRefIdeal := hAdamMlpOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Postnorm (hPostnorm := hPostnorm)
    ∧ quiescent_PostnormIdeal (hPostnormIdeal := hPostnormIdeal)
    ∧ quiescent_PostnormRefIdeal (hPostnormRefIdeal := hPostnormRefIdeal)
    ∧ quiescent_PrenormBwd (hPrenormBwd := hPrenormBwd)
    ∧ quiescent_PrenormBwdIdeal (hPrenormBwdIdeal := hPrenormBwdIdeal)
    ∧ quiescent_PrenormBwdIdeal_pre_finite (hPrenormBwdIdeal := hPrenormBwdIdeal) (hPre_finite := hPre_finite)
    ∧ quiescent_PrenormBwdRefIdeal (hPrenormBwdRefIdeal := hPrenormBwdRefIdeal)
    ∧ quiescent_PrenormBwdRefIdeal_pre_finite (hPrenormBwdRefIdeal := hPrenormBwdRefIdeal) (hPre_finite := hPre_finite)
    ∧ quiescent_Gates (hGates := hGates)
    ∧ quiescent_GatesIdeal (hGatesIdeal := hGatesIdeal)
    ∧ quiescent_GatesRefIdeal (hGatesRefIdeal := hGatesRefIdeal)
    ∧ preserves_Conv_ConvIdeal
    ∧ algebraic_ConvIdeal_ConvRefIdeal (hConvIdeal := hConvIdeal) (hConvRefIdeal := hConvRefIdeal)
    ∧ preserves_Gate_GateIdeal
    ∧ algebraic_GateIdeal_GateRefIdeal (hGateIdeal := hGateIdeal) (hGateRefIdeal := hGateRefIdeal)
    ∧ preserves_Attn_AttnIdeal
    ∧ preserves_MlpDa_MlpDaIdeal
    ∧ algebraic_MlpDaIdeal_MlpDaRefIdeal (hMlpDaIdeal := hMlpDaIdeal) (hMlpDaRefIdeal := hMlpDaRefIdeal)
    ∧ preserves_MlpGwOut_MlpGwOutIdeal
    ∧ algebraic_MlpGwOutIdeal_MlpGwOutRefIdeal (hMlpGwOutIdeal := hMlpGwOutIdeal) (hMlpGwOutRefIdeal := hMlpGwOutRefIdeal)
    ∧ preserves_MlpDh_MlpDhIdeal
    ∧ algebraic_MlpDhIdeal_MlpDhRefIdeal (hMlpDhIdeal := hMlpDhIdeal) (hMlpDhRefIdeal := hMlpDhRefIdeal)
    ∧ preserves_MlpGwIn_MlpGwInIdeal
    ∧ algebraic_MlpGwInIdeal_MlpGwInRefIdeal (hMlpGwInIdeal := hMlpGwInIdeal) (hMlpGwInRefIdeal := hMlpGwInRefIdeal)
    ∧ preserves_MixDm_MixDmIdeal
    ∧ algebraic_MixDmIdeal_MixDmRefIdeal (hMixDmIdeal := hMixDmIdeal) (hMixDmRefIdeal := hMixDmRefIdeal)
    ∧ preserves_MixGw_MixGwIdeal
    ∧ algebraic_MixGwIdeal_MixGwRefIdeal (hMixGwIdeal := hMixGwIdeal) (hMixGwRefIdeal := hMixGwRefIdeal)
    ∧ preserves_AttnDo_AttnDoIdeal
    ∧ algebraic_AttnDoIdeal_AttnDoRefIdeal (hAttnDoIdeal := hAttnDoIdeal) (hAttnDoRefIdeal := hAttnDoRefIdeal)
    ∧ preserves_AttnGw_AttnGwIdeal
    ∧ algebraic_AttnGwIdeal_AttnGwRefIdeal (hAttnGwIdeal := hAttnGwIdeal) (hAttnGwRefIdeal := hAttnGwRefIdeal)
    ∧ preserves_ConvDy_ConvDyIdeal
    ∧ algebraic_ConvDyIdeal_ConvDyRefIdeal (hConvDyIdeal := hConvDyIdeal) (hConvDyRefIdeal := hConvDyRefIdeal)
    ∧ preserves_ConvGw_ConvGwIdeal
    ∧ algebraic_ConvGwIdeal_ConvGwRefIdeal (hConvGwIdeal := hConvGwIdeal) (hConvGwRefIdeal := hConvGwRefIdeal)
    ∧ preserves_InGw_InGwIdeal
    ∧ algebraic_InGwIdeal_InGwRefIdeal (hInGwIdeal := hInGwIdeal) (hInGwRefIdeal := hInGwRefIdeal)
    ∧ preserves_InDh_InDhIdeal
    ∧ algebraic_InDhIdeal_InDhRefIdeal (hInDhIdeal := hInDhIdeal) (hInDhRefIdeal := hInDhRefIdeal)
    ∧ preserves_InProj_InProjIdeal
    ∧ algebraic_InProjIdeal_InProjRefIdeal (hInProjIdeal := hInProjIdeal) (hInProjRefIdeal := hInProjRefIdeal)
    ∧ preserves_ConvOut_ConvOutIdeal
    ∧ algebraic_ConvOutIdeal_ConvOutRefIdeal (hConvOutIdeal := hConvOutIdeal) (hConvOutRefIdeal := hConvOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_MixOut_MixOutIdeal
    ∧ algebraic_MixOutIdeal_MixOutRefIdeal (hMixOutIdeal := hMixOutIdeal) (hMixOutRefIdeal := hMixOutRefIdeal)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamBAda_AdamBAdaIdeal
    ∧ algebraic_AdamBAdaIdeal_AdamBAdaRefIdeal (hAdamBAdaIdeal := hAdamBAdaIdeal) (hAdamBAdaRefIdeal := hAdamBAdaRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMlpIn_AdamMlpInIdeal
    ∧ algebraic_AdamMlpInIdeal_AdamMlpInRefIdeal (hAdamMlpInIdeal := hAdamMlpInIdeal) (hAdamMlpInRefIdeal := hAdamMlpInRefIdeal)
    ∧ preserves_AdamMlpOut_AdamMlpOutIdeal
    ∧ algebraic_AdamMlpOutIdeal_AdamMlpOutRefIdeal (hAdamMlpOutIdeal := hAdamMlpOutIdeal) (hAdamMlpOutRefIdeal := hAdamMlpOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_Prenorm_PrenormIdeal
    ∧ algebraic_PrenormIdeal_PrenormRefIdeal (hPrenormIdeal := hPrenormIdeal) (hPrenormRefIdeal := hPrenormRefIdeal)
    ∧ preserves_Postnorm_PostnormIdeal
    ∧ algebraic_PostnormIdeal_PostnormRefIdeal (hPostnormIdeal := hPostnormIdeal) (hPostnormRefIdeal := hPostnormRefIdeal)
    ∧ preserves_PrenormBwd_PrenormBwdIdeal
    ∧ algebraic_PrenormBwdIdeal_PrenormBwdRefIdeal_pre_finite (hPrenormBwdIdeal := hPrenormBwdIdeal) (hPrenormBwdRefIdeal := hPrenormBwdRefIdeal) (hPre_finite := hPre_finite)
    ∧ preserves_Gates_GatesIdeal
    ∧ algebraic_GatesIdeal_GatesRefIdeal (hGatesIdeal := hGatesIdeal) (hGatesRefIdeal := hGatesRefIdeal)
-- ==== Pre_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) : IVec S8192x1024 1 × IVec S1x1024 1 × IVec S1x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1x1024 .f32 := subf main_arg2 main_arg2
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1x1024 .f32 := subf main_arg3 main_arg3
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  (main_v2, main_v5, main_v8)
-- ==== Conv.lean ====
abbrev S8192x512 : Shape := ⟨2, ![8192, 512]⟩
abbrev S8192x5120 : Shape := ⟨2, ![8192, 5120]⟩
abbrev S3x512 : Shape := ⟨2, ![3, 512]⟩
abbrev S1x512 : Shape := ⟨2, ![1, 512]⟩
abbrev S1024x512 : Shape := ⟨2, ![1024, 512]⟩
abbrev S8x512 : Shape := ⟨2, ![8, 512]⟩
abbrev S1032x512 : Shape := ⟨2, ![1032, 512]⟩
abbrev S512 : Shape := ⟨1, ![512]⟩

abbrev nBuf : Space → Nat
  | .hbm => 9
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S3x512, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S3x512, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_31 : BitVec 32 := 0#32
  let v69 : BitVec 1 := Scalar.cmpi .eq arg0 c0_i32_31
  let v70 : BitVec 32 := Scalar.extui v69
  let c0_i32_32 : BitVec 32 := 0#32
  let v71 : BitVec 1 := Scalar.cmpi .ne v70 c0_i32_32
  v71

def k0_cond2 (i : grid0.Coords) : BitVec 1 :=
  let arg0 : BitVec 32 := BitVec.ofNat 32 (i 0).val
  let c0_i32_31 : BitVec 32 := 0#32
  let v69 : BitVec 1 := Scalar.cmpi .eq arg0 c0_i32_31
  let v_true : BitVec 1 := 1#1
  let v72 : BitVec 1 := Scalar.xori v69 v_true
  let v73 : BitVec 32 := Scalar.extui v72
  let c0_i32_33 : BitVec 32 := 0#32
  let v74 : BitVec 1 := Scalar.cmpi .ne v73 c0_i32_33
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvRefIdeal.lean ====
abbrev S8192x512 : Shape := ⟨2, ![8192, 512]⟩
abbrev S8192x5120 : Shape := ⟨2, ![8192, 5120]⟩
abbrev S3x512 : Shape := ⟨2, ![3, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S3x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S2x512, .f32⟩
  | .hbm, ⟨8, _⟩ => ⟨S8192x512, .f32⟩
  | .hbm, ⟨9, _⟩ => ⟨S8194x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S8192x512, .f32⟩
  | .hbm, ⟨15, _⟩ => ⟨S1x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S8194x512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S8194x512, .f32⟩
  | .hbm, ⟨61, _⟩ => ⟨S8194x512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S3x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S512, .f32⟩
  | .hbm, ⟨74, _⟩ => ⟨S_, .f32⟩
  | .hbm, ⟨75, _⟩ => ⟨S8194x512, .f32⟩
  | .hbm, ⟨76, _⟩ => ⟨S8194x512, .f32⟩
  | .hbm, ⟨77, _⟩ => ⟨S1x512, .f32⟩
  | .hbm, ⟨78, _⟩ => ⟨S_, .f32⟩
  | .hbm, ⟨79, _⟩ => ⟨S3x512, .f32⟩
  | .hbm, ⟨80, _⟩ => ⟨S3x512, .f32⟩
  | .hbm, ⟨81, _⟩ => ⟨S2x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .bf16⟩
  | .hbm, ⟨86, _⟩ => ⟨S8192x512, .bf16⟩
  | .hbm, ⟨87, _⟩ => ⟨S8192x512, .bf16⟩
  | .hbm, ⟨88, _⟩ => ⟨S1x512, .f32⟩
  | .hbm, ⟨89, _⟩ => ⟨S1x512, .f32⟩
  | .hbm, ⟨90, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Gate.lean ====
abbrev S8192x1024 : Shape := ⟨2, ![8192, 1024]⟩
abbrev S8192x5120 : Shape := ⟨2, ![8192, 5120]⟩
abbrev S1024x1024 : Shape := ⟨2, ![1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateRefIdeal.lean ====
abbrev S8192x1024 : Shape := ⟨2, ![8192, 1024]⟩
abbrev S8192x5120 : Shape := ⟨2, ![8192, 5120]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Attn.lean ====
abbrev S8192x5120 : Shape := ⟨2, ![8192, 5120]⟩
abbrev S16384x512 : Shape := ⟨2, ![16384, 512]⟩
abbrev S8192x512 : Shape := ⟨2, ![8192, 512]⟩
abbrev S8192x1024 : Shape := ⟨2, ![8192, 1024]⟩
abbrev S512x128 : Shape := ⟨2, ![512, 128]⟩
abbrev S16384x128 : Shape := ⟨2, ![16384, 128]⟩
abbrev S512x256 : Shape := ⟨2, ![512, 256]⟩
abbrev S8192x128 : Shape := ⟨2, ![8192, 128]⟩
abbrev S256x256 : Shape := ⟨2, ![256, 256]⟩
abbrev S256x512 : Shape := ⟨2, ![256, 512]⟩
abbrev S4x512x256 : Shape := ⟨3, ![4, 512, 256]⟩
abbrev S2x512x256 : Shape := ⟨3, ![2, 512, 256]⟩
abbrev S512x512 : Shape := ⟨2, ![512, 512]⟩
abbrev S1x128 : Shape := ⟨2, ![1, 128]⟩
abbrev S64x128 : Shape := ⟨2, ![64, 128]⟩
abbrev S64x1 : Shape := ⟨2, ![64, 1]⟩
abbrev S1x256 : Shape := ⟨2, ![1, 256]⟩
abbrev S256x128 : Shape := ⟨2, ![256, 128]⟩
abbrev S1x512x256 : Shape := ⟨3, ![1, 512, 256]⟩
abbrev S1x64x256 : Shape := ⟨3, ![1, 64, 256]⟩
abbrev S64x256 : Shape := ⟨2, ![64, 256]⟩
abbrev S64 : Shape := ⟨1, ![64]⟩
abbrev S1x64x128 : Shape := ⟨3, ![1, 64, 128]⟩
abbrev S128x128 : Shape := ⟨2, ![128, 128]⟩
abbrev S384x128 : Shape := ⟨2, ![384, 128]⟩
abbrev S384x256 : Shape := ⟨2, ![384, 256]⟩
abbrev S1x384x256 : Shape := ⟨3, ![1, 384, 256]⟩
abbrev S384x512 : Shape := ⟨2, ![384, 512]⟩
abbrev S1x256x256 : Shape := ⟨3, ![1, 256, 256]⟩
abbrev S128x256 : Shape := ⟨2, ![128, 256]⟩
abbrev S1x128x256 : Shape := ⟨3, ![1, 128, 256]⟩
abbrev S128x512 : Shape := ⟨2, ![128, 512]⟩

abbrev nBuf : Space → Nat
  | .hbm => 8
  | .vmem => 33
  | .smem => 0
  | _ => 0

abbrev bufTy : (tb : Table) → Fin (tcTables nBuf tb) → BufTy
  | .hbm, ⟨0, _⟩ => ⟨S8192x5120, .f32⟩
  | .hbm, ⟨1, _⟩ => ⟨S16384x512, .bf16⟩
  | .hbm, ⟨2, _⟩ => ⟨S16384x512, .bf16⟩
  | .hbm, ⟨3, _⟩ => ⟨S8192x512, .bf16⟩
  | .hbm, ⟨4, _⟩ => ⟨S8192x1024, .f32⟩
  | .hbm, ⟨5, _⟩ => ⟨S8192x512, .bf16⟩
  | .hbm, ⟨6, _⟩ => ⟨S8192x512, .bf16⟩
  | .hbm, ⟨7, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S512x256, .f32⟩
  | .local _ .vmem, ⟨9, _⟩ => ⟨S512x256, .f32⟩
  | .local _ .vmem, ⟨10, _⟩ => ⟨S512x128, .bf16⟩
  | .local _ .vmem, ⟨11, _⟩ => ⟨S512x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S512x128, .bf16⟩
  | .local _ .vmem, ⟨17, _⟩ => ⟨S512x128, .bf16⟩
  | .local _ .vmem, ⟨18, _⟩ => ⟨S256x256, .bf16⟩
  | .local _ .vmem, ⟨19, _⟩ => ⟨S256x512, .bf16⟩
  | .local _ .vmem, ⟨20, _⟩ => ⟨S4x512x256, .f32⟩
  | .local _ .vmem, ⟨21, _⟩ => ⟨S2x512x256, .f32⟩
  | .local _ .vmem, ⟨22, _⟩ => ⟨S2x512x256, .bf16⟩
  | .local _ .vmem, ⟨23, _⟩ => ⟨S4x512x256, .f32⟩
  | .local _ .vmem, ⟨24, _⟩ => ⟨S512x256, .f32⟩
  | .local _ .vmem, ⟨25, _⟩ => ⟨S2x512x256, .bf16⟩
  | .local _ .vmem, ⟨26, _⟩ => ⟨S2x512x256, .bf16⟩
  | .local _ .vmem, ⟨27, _⟩ => ⟨S512x512, .f32⟩
  | .local _ .vmem, ⟨28, _⟩ => ⟨S2x512x256, .bf16⟩
  | .local _ .vmem, ⟨29, _⟩ => ⟨S512x256, .f32⟩
  | .local _ .vmem, ⟨30, _⟩ => ⟨S512x128, .f32⟩
  | .local _ .vmem, ⟨31, _⟩ => ⟨S8192x128, .f32⟩
  | .local _ .vmem, ⟨32, _⟩ => ⟨S8192x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_scratch14 : Ref sig .tc := ⟨.vmem, 30, rfl⟩
abbrev cc0_scratch15 : Ref sig .tc := ⟨.vmem, 31, rfl⟩
abbrev cc0_scratch16 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c4_i32 : BitVec 32 := 4#32
  let v102 : BitVec 32 := Scalar.muli arg1 c4_i32
  let c1_i32 : BitVec 32 := 1#32
  let v103 : BitVec 32 := Scalar.subi v102 c1_i32
  let c0_i32_44 : BitVec 32 := 0#32
  let v104 : BitVec 32 := Scalar.maxsi v103 c0_i32_44
  let c0_i32_46 : BitVec 32 := 0#32
  let c0_i32_45 : BitVec 32 := 0#32
  let v105 : BitVec 32 := Scalar.maxsi c0_i32_46 c0_i32_45
  let v106 : BitVec 32 := Scalar.minsi v104 v105
  let c256_i32_49 : BitVec 32 := 256#32
  let v108 : BitVec 32 := Scalar.muli v106 c256_i32_49
  v108
def k0_off1 (i : grid0.Coords) (c0_i32_45 : BitVec 32) : Fin 2 → Nat :=
  let arg1 : BitVec 32 := BitVec.ofNat 32 (i 1).val
  let c4_i32 : BitVec 32 := 4#32
  let v102 : BitVec 32 := Scalar.muli arg1 c4_i32
  let c1_i32 : BitVec 32 := 1#32
  let v103 : BitVec 32 := Scalar.subi v102 c1_i32
  let c0_i32_44 : BitVec 32 := 0#32
  let v104 : BitVec 32 := Scalar.maxsi v103 c0_i32_44
  let c0_i32_46 : BitVec 32 := 0#32
  let v105 : BitVec 32 := Scalar.maxsi c0_i32_46 c0_i32_45
  let v106 : BitVec 32 := Scalar.minsi v104 v105
  let c256_i32_49 : BitVec 32 := 256#32
  let v108 : BitVec 32 := Scalar.muli v106 c256_i32_49
  let v109 : BitVec 32 := v108
  let v110 : Index := Scalar.indexCast v109
  let c0_50 : Index := 0#32
  ![v110.toNat, 0]
def k0_mult2 (i : grid0.Coords) : BitVec 32 :=
  let arg1 : BitVec 32 := BitVec.ofNat 32 (i 1).val
  let c4_i32 : BitVec 32 := 4#32
  let v102 : BitVec 32 := Scalar.muli arg1 c4_i32
  let c1_i32_55 : BitVec 32 := 1#32
  let v116 : BitVec 32 := Scalar.subi v102 c1_i32_55
  let c0_i32_56 : BitVec 32 := 0#32
  let v117 : BitVec 32 := Scalar.maxsi v116 c0_i32_56
  let c0_i32_58 : BitVec 32 := 0#32
  let c1_i32_57 : BitVec 32 := 1#32
  let v118 : BitVec 32 := Scalar.maxsi c0_i32_58 c1_i32_57
  let v119 : BitVec 32 := Scalar.minsi v117 v118
  let c256_i32_61 : BitVec 32 := 256#32
  let v121 : BitVec 32 := Scalar.muli v119 c256_i32_61
  v121
def k0_mult3 (i : grid0.Coords) : BitVec 32 :=
  let arg1 : BitVec 32 := BitVec.ofNat 32 (i 1).val
  let c4_i32 : BitVec 32 := 4#32
  let v102 : BitVec 32 := Scalar.muli arg1 c4_i32
  let c1_i32_66 : BitVec 32 := 1#32
  let v129 : BitVec 32 := Scalar.subi v102 c1_i32_66
  let c0_i32_67 : BitVec 32 := 0#32
  let v130 : BitVec 32 := Scalar.maxsi v129 c0_i32_67
  let c0_i32_68 : BitVec 32 := 0#32
  let c2_i32 : BitVec 32 := 2#32
  let v131 : BitVec 32 := Scalar.maxsi c0_i32_68 c2_i32
  let v132 : BitVec 32 := Scalar.minsi v130 v131
  let c256_i32_71 : BitVec 32 := 256#32
  let v134 : BitVec 32 := Scalar.muli v132 c256_i32_71
  v134
def k0_mult4 (i : grid0.Coords) : BitVec 32 :=
  let arg1 : BitVec 32 := BitVec.ofNat 32 (i 1).val
  let c4_i32 : BitVec 32 := 4#32
  let v102 : BitVec 32 := Scalar.muli arg1 c4_i32
  let c1_i32_76 : BitVec 32 := 1#32
  let v142 : BitVec 32 := Scalar.subi v102 c1_i32_76
  let c0_i32_77 : BitVec 32 := 0#32
  let v143 : BitVec 32 := Scalar.maxsi v142 c0_i32_77
  let c0_i32_79 : BitVec 32 := 0#32
  let c0_i32_78 : BitVec 32 := 0#32
  let v144 : BitVec 32 := Scalar.maxsi c0_i32_79 c0_i32_78
  let v145 : BitVec 32 := Scalar.minsi v143 v144
  let c256_i32_82 : BitVec 32 := 256#32
  let v147 : BitVec 32 := Scalar.muli v145 c256_i32_82
  v147
def k0_mult5 (i : grid0.Coords) : BitVec 32 :=
  let arg1 : BitVec 32 := BitVec.ofNat 32 (i 1).val
  let c4_i32 : BitVec 32 := 4#32
  let v102 : BitVec 32 := Scalar.muli arg1 c4_i32
  let c1_i32_88 : BitVec 32 := 1#32
  let v155 : BitVec 32 := Scalar.subi v102 c1_i32_88
  let c0_i32_89 : BitVec 32 := 0#32
  let v156 : BitVec 32 := Scalar.maxsi v155 c0_i32_89
  let c0_i32_91 : BitVec 32 := 0#32
  let c1_i32_90 : BitVec 32 := 1#32
  let v157 : BitVec 32 := Scalar.maxsi c0_i32_91 c1_i32_90
  let v158 : BitVec 32 := Scalar.minsi v156 v157
  let c256_i32_94 : BitVec 32 := 256#32
  let v160 : BitVec 32 := Scalar.muli v158 c256_i32_94
  v160
@[reducible] def k0_t1_loop (i : grid0.Coords) : Scf.Loop 32 :=
  let c0_i32_641 : BitVec 32 := 0#32
  let arg1 : BitVec 32 := BitVec.ofNat 32 (i 1).val
  let c4_i32 : BitVec 32 := 4#32
  let v102 : BitVec 32 := Scalar.muli arg1 c4_i32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_643 : BitVec 32 := 1#32
  ⟨c0_i32_641, v1000, c1_i32_643⟩
def k0_mult6 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let c0_i32_2436 : BitVec 32 := 0#32
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c256_i32_2446 : BitVec 32 := 256#32
  let v3672 : BitVec 32 := Scalar.muli v3668 c256_i32_2446
  v3672
def k0_off2 (i : grid0.Coords) (k0_t1 : Fin (k0_t1_loop i).trips) (c0_i32_2436 : BitVec 32) : Fin 2 → Nat :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c256_i32_2446 : BitVec 32 := 256#32
  let v3672 : BitVec 32 := Scalar.muli v3668 c256_i32_2446
  let v3673 : BitVec 32 := v3672
  let v3674 : Index := Scalar.indexCast v3673
  let c0_2447 : Index := 0#32
  ![v3674.toNat, 0]
def k0_mult7 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let c0_i32_2436 : BitVec 32 := 0#32
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c128_i32_2451 : BitVec 32 := 128#32
  let v3681 : BitVec 32 := Scalar.muli v3668 c128_i32_2451
  v3681
def k0_off3 (i : grid0.Coords) (k0_t1 : Fin (k0_t1_loop i).trips) (c0_i32_2436 : BitVec 32) : Fin 2 → Nat :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c128_i32_2451 : BitVec 32 := 128#32
  let v3681 : BitVec 32 := Scalar.muli v3668 c128_i32_2451
  let v3682 : BitVec 32 := v3681
  let v3683 : Index := Scalar.indexCast v3682
  let c0_2452 : Index := 0#32
  ![v3683.toNat, 0]
def k0_mult8 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_2460 : BitVec 32 := 1#32
  let v3701 : BitVec 32 := Scalar.subi v102 c1_i32_2460
  let c0_i32_2461 : BitVec 32 := 0#32
  let v3702 : BitVec 32 := Scalar.maxsi v3701 c0_i32_2461
  let c0_i32_2462 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let c0_i32_2436 : BitVec 32 := 0#32
  let v3663 : BitVec 32 := Scalar.addi v3662 c0_i32_2436
  let v3703 : BitVec 32 := Scalar.maxsi c0_i32_2462 v3663
  let v3704 : BitVec 32 := Scalar.minsi v3702 v3703
  let c128_i32_2463 : BitVec 32 := 128#32
  let v3705 : BitVec 32 := Scalar.muli v3704 c128_i32_2463
  v3705
def k0_off4 (i : grid0.Coords) (k0_t1 : Fin (k0_t1_loop i).trips) (c0_i32_2436 : BitVec 32) : Fin 2 → Nat :=
  let arg1 : BitVec 32 := BitVec.ofNat 32 (i 1).val
  let c4_i32 : BitVec 32 := 4#32
  let v102 : BitVec 32 := Scalar.muli arg1 c4_i32
  let c1_i32_2460 : BitVec 32 := 1#32
  let v3701 : BitVec 32 := Scalar.subi v102 c1_i32_2460
  let c0_i32_2461 : BitVec 32 := 0#32
  let v3702 : BitVec 32 := Scalar.maxsi v3701 c0_i32_2461
  let c0_i32_2462 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let v3663 : BitVec 32 := Scalar.addi v3662 c0_i32_2436
  let v3703 : BitVec 32 := Scalar.maxsi c0_i32_2462 v3663
  let v3704 : BitVec 32 := Scalar.minsi v3702 v3703
  let c128_i32_2463 : BitVec 32 := 128#32
  let v3705 : BitVec 32 := Scalar.muli v3704 c128_i32_2463
  let v3706 : BitVec 32 := v3705
  let v3707 : Index := Scalar.indexCast v3706
  let c0_2464 : Index := 0#32
  ![v3707.toNat, 0]
def k0_mult9 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_2489 : BitVec 32 := 1#32
  let v3740 : BitVec 32 := Scalar.subi v102 c1_i32_2489
  let c0_i32_2490 : BitVec 32 := 0#32
  let v3741 : BitVec 32 := Scalar.maxsi v3740 c0_i32_2490
  let c0_i32_2491 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let c0_i32_2436 : BitVec 32 := 0#32
  let v3663 : BitVec 32 := Scalar.addi v3662 c0_i32_2436
  let c3_i32_2488 : BitVec 32 := 3#32
  let v3739 : BitVec 32 := Scalar.addi v3663 c3_i32_2488
  let v3742 : BitVec 32 := Scalar.maxsi c0_i32_2491 v3739
  let v3743 : BitVec 32 := Scalar.minsi v3741 v3742
  let c256_i32_2494 : BitVec 32 := 256#32
  let v3745 : BitVec 32 := Scalar.muli v3743 c256_i32_2494
  v3745
def k0_off5 (i : grid0.Coords) (k0_t1 : Fin (k0_t1_loop i).trips) (c0_i32_2436 : BitVec 32) (c3_i32_2488 : BitVec 32) : Fin 2 → Nat :=
  let arg1 : BitVec 32 := BitVec.ofNat 32 (i 1).val
  let c4_i32 : BitVec 32 := 4#32
  let v102 : BitVec 32 := Scalar.muli arg1 c4_i32
  let c1_i32_2489 : BitVec 32 := 1#32
  let v3740 : BitVec 32 := Scalar.subi v102 c1_i32_2489
  let c0_i32_2490 : BitVec 32 := 0#32
  let v3741 : BitVec 32 := Scalar.maxsi v3740 c0_i32_2490
  let c0_i32_2491 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let v3663 : BitVec 32 := Scalar.addi v3662 c0_i32_2436
  let v3739 : BitVec 32 := Scalar.addi v3663 c3_i32_2488
  let v3742 : BitVec 32 := Scalar.maxsi c0_i32_2491 v3739
  let v3743 : BitVec 32 := Scalar.minsi v3741 v3742
  let c256_i32_2494 : BitVec 32 := 256#32
  let v3745 : BitVec 32 := Scalar.muli v3743 c256_i32_2494
  let v3746 : BitVec 32 := v3745
  let v3747 : Index := Scalar.indexCast v3746
  let c0_2495 : Index := 0#32
  ![v3747.toNat, 0]
def k0_mult10 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_2501 : BitVec 32 := 1#32
  let v3754 : BitVec 32 := Scalar.subi v102 c1_i32_2501
  let c0_i32_2502 : BitVec 32 := 0#32
  let v3755 : BitVec 32 := Scalar.maxsi v3754 c0_i32_2502
  let c0_i32_2503 : BitVec 32 := 0#32
  let c4_i32_2435 : BitVec 32 := 4#32
  let c0_i32_641 : BitVec 32 := 0#32
  let c1_i32_643 : BitVec 32 := 1#32
  let arg27 : BitVec 32 := Scf.iv c0_i32_641 c1_i32_643 k0_t1
  let v3662 : BitVec 32 := Scalar.muli c4_i32_2435 arg27
  let c0_i32_2436 : BitVec 32 := 0#32
  let v3663 : BitVec 32 := Scalar.addi v3662 c0_i32_2436
  let c2_i32_2500 : BitVec 32 := 2#32
  let v3753 : BitVec 32 := Scalar.addi v3663 c2_i32_2500
  let v3756 : BitVec 32 := Scalar.maxsi c0_i32_2503 v3753
  let v3757 : BitVec 32 := Scalar.minsi v3755 v3756
  let c256_i32_2506 : BitVec 32 := 256#32
  let v3759 : BitVec 32 := Scalar.muli v3757 c256_i32_2506
  v3759
def k0_mult11 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3094 : BitVec 32 := 1#32
  let v4576 : BitVec 32 := Scalar.subi v102 c1_i32_3094
  let c0_i32_3095 : BitVec 32 := 0#32
  let v4577 : BitVec 32 := Scalar.maxsi v4576 c0_i32_3095
  let c0_i32_3096 : BitVec 32 := 0#32
  let c4_i32_3091 : BitVec 32 := 4#32
  let c0_i32_641 : BitVec 32 := 0#32
  let c1_i32_643 : BitVec 32 := 1#32
  let arg27 : BitVec 32 := Scf.iv c0_i32_641 c1_i32_643 k0_t1
  let v4573 : BitVec 32 := Scalar.muli c4_i32_3091 arg27
  let c1_i32_3092 : BitVec 32 := 1#32
  let v4574 : BitVec 32 := Scalar.addi v4573 c1_i32_3092
  let c1_i32_3093 : BitVec 32 := 1#32
  let v4575 : BitVec 32 := Scalar.subi v4574 c1_i32_3093
  let v4578 : BitVec 32 := Scalar.maxsi c0_i32_3096 v4575
  let v4579 : BitVec 32 := Scalar.minsi v4577 v4578
  let c256_i32_3102 : BitVec 32 := 256#32
  let v4583 : BitVec 32 := Scalar.muli v4579 c256_i32_3102
  v4583
def k0_mult12 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3094 : BitVec 32 := 1#32
  let v4576 : BitVec 32 := Scalar.subi v102 c1_i32_3094
  let c0_i32_3095 : BitVec 32 := 0#32
  let v4577 : BitVec 32 := Scalar.maxsi v4576 c0_i32_3095
  let c0_i32_3096 : BitVec 32 := 0#32
  let c4_i32_3091 : BitVec 32 := 4#32
  let c0_i32_641 : BitVec 32 := 0#32
  let c1_i32_643 : BitVec 32 := 1#32
  let arg27 : BitVec 32 := Scf.iv c0_i32_641 c1_i32_643 k0_t1
  let v4573 : BitVec 32 := Scalar.muli c4_i32_3091 arg27
  let c1_i32_3092 : BitVec 32 := 1#32
  let v4574 : BitVec 32 := Scalar.addi v4573 c1_i32_3092
  let c1_i32_3093 : BitVec 32 := 1#32
  let v4575 : BitVec 32 := Scalar.subi v4574 c1_i32_3093
  let v4578 : BitVec 32 := Scalar.maxsi c0_i32_3096 v4575
  let v4579 : BitVec 32 := Scalar.minsi v4577 v4578
  let c128_i32_3107 : BitVec 32 := 128#32
  let v4592 : BitVec 32 := Scalar.muli v4579 c128_i32_3107
  v4592
def k0_mult13 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3116 : BitVec 32 := 1#32
  let v4612 : BitVec 32 := Scalar.subi v102 c1_i32_3116
  let c0_i32_3117 : BitVec 32 := 0#32
  let v4613 : BitVec 32 := Scalar.maxsi v4612 c0_i32_3117
  let c0_i32_3118 : BitVec 32 := 0#32
  let c4_i32_3091 : BitVec 32 := 4#32
  let c0_i32_641 : BitVec 32 := 0#32
  let c1_i32_643 : BitVec 32 := 1#32
  let arg27 : BitVec 32 := Scf.iv c0_i32_641 c1_i32_643 k0_t1
  let v4573 : BitVec 32 := Scalar.muli c4_i32_3091 arg27
  let c1_i32_3092 : BitVec 32 := 1#32
  let v4574 : BitVec 32 := Scalar.addi v4573 c1_i32_3092
  let v4614 : BitVec 32 := Scalar.maxsi c0_i32_3118 v4574
  let v4615 : BitVec 32 := Scalar.minsi v4613 v4614
  let c128_i32_3119 : BitVec 32 := 128#32
  let v4616 : BitVec 32 := Scalar.muli v4615 c128_i32_3119
  v4616
def k0_mult14 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3145 : BitVec 32 := 1#32
  let v4651 : BitVec 32 := Scalar.subi v102 c1_i32_3145
  let c0_i32_3146 : BitVec 32 := 0#32
  let v4652 : BitVec 32 := Scalar.maxsi v4651 c0_i32_3146
  let c0_i32_3147 : BitVec 32 := 0#32
  let c4_i32_3091 : BitVec 32 := 4#32
  let c0_i32_641 : BitVec 32 := 0#32
  let c1_i32_643 : BitVec 32 := 1#32
  let arg27 : BitVec 32 := Scf.iv c0_i32_641 c1_i32_643 k0_t1
  let v4573 : BitVec 32 := Scalar.muli c4_i32_3091 arg27
  let c1_i32_3092 : BitVec 32 := 1#32
  let v4574 : BitVec 32 := Scalar.addi v4573 c1_i32_3092
  let c3_i32_3144 : BitVec 32 := 3#32
  let v4650 : BitVec 32 := Scalar.addi v4574 c3_i32_3144
  let v4653 : BitVec 32 := Scalar.maxsi c0_i32_3147 v4650
  let v4654 : BitVec 32 := Scalar.minsi v4652 v4653
  let c256_i32_3150 : BitVec 32 := 256#32
  let v4656 : BitVec 32 := Scalar.muli v4654 c256_i32_3150
  v4656
def k0_mult15 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3157 : BitVec 32 := 1#32
  let v4665 : BitVec 32 := Scalar.subi v102 c1_i32_3157
  let c0_i32_3158 : BitVec 32 := 0#32
  let v4666 : BitVec 32 := Scalar.maxsi v4665 c0_i32_3158
  let c0_i32_3159 : BitVec 32 := 0#32
  let c4_i32_3091 : BitVec 32 := 4#32
  let c0_i32_641 : BitVec 32 := 0#32
  let c1_i32_643 : BitVec 32 := 1#32
  let arg27 : BitVec 32 := Scf.iv c0_i32_641 c1_i32_643 k0_t1
  let v4573 : BitVec 32 := Scalar.muli c4_i32_3091 arg27
  let c1_i32_3092 : BitVec 32 := 1#32
  let v4574 : BitVec 32 := Scalar.addi v4573 c1_i32_3092
  let c2_i32_3156 : BitVec 32 := 2#32
  let v4664 : BitVec 32 := Scalar.addi v4574 c2_i32_3156
  let v4667 : BitVec 32 := Scalar.maxsi c0_i32_3159 v4664
  let v4668 : BitVec 32 := Scalar.minsi v4666 v4667
  let c256_i32_3162 : BitVec 32 := 256#32
  let v4670 : BitVec 32 := Scalar.muli v4668 c256_i32_3162
  v4670
def k0_mult16 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3750 : BitVec 32 := 1#32
  let v5487 : BitVec 32 := Scalar.subi v102 c1_i32_3750
  let c0_i32_3751 : BitVec 32 := 0#32
  let v5488 : BitVec 32 := Scalar.maxsi v5487 c0_i32_3751
  let c0_i32_3752 : BitVec 32 := 0#32
  let c4_i32_3747 : BitVec 32 := 4#32
  let c0_i32_641 : BitVec 32 := 0#32
  let c1_i32_643 : BitVec 32 := 1#32
  let arg27 : BitVec 32 := Scf.iv c0_i32_641 c1_i32_643 k0_t1
  let v5484 : BitVec 32 := Scalar.muli c4_i32_3747 arg27
  let c2_i32_3748 : BitVec 32 := 2#32
  let v5485 : BitVec 32 := Scalar.addi v5484 c2_i32_3748
  let c1_i32_3749 : BitVec 32 := 1#32
  let v5486 : BitVec 32 := Scalar.subi v5485 c1_i32_3749
  let v5489 : BitVec 32 := Scalar.maxsi c0_i32_3752 v5486
  let v5490 : BitVec 32 := Scalar.minsi v5488 v5489
  let c256_i32_3758 : BitVec 32 := 256#32
  let v5494 : BitVec 32 := Scalar.muli v5490 c256_i32_3758
  v5494
def k0_mult17 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3750 : BitVec 32 := 1#32
  let v5487 : BitVec 32 := Scalar.subi v102 c1_i32_3750
  let c0_i32_3751 : BitVec 32 := 0#32
  let v5488 : BitVec 32 := Scalar.maxsi v5487 c0_i32_3751
  let c0_i32_3752 : BitVec 32 := 0#32
  let c4_i32_3747 : BitVec 32 := 4#32
  let c0_i32_641 : BitVec 32 := 0#32
  let c1_i32_643 : BitVec 32 := 1#32
  let arg27 : BitVec 32 := Scf.iv c0_i32_641 c1_i32_643 k0_t1
  let v5484 : BitVec 32 := Scalar.muli c4_i32_3747 arg27
  let c2_i32_3748 : BitVec 32 := 2#32
  let v5485 : BitVec 32 := Scalar.addi v5484 c2_i32_3748
  let c1_i32_3749 : BitVec 32 := 1#32
  let v5486 : BitVec 32 := Scalar.subi v5485 c1_i32_3749
  let v5489 : BitVec 32 := Scalar.maxsi c0_i32_3752 v5486
  let v5490 : BitVec 32 := Scalar.minsi v5488 v5489
  let c128_i32_3763 : BitVec 32 := 128#32
  let v5503 : BitVec 32 := Scalar.muli v5490 c128_i32_3763
  v5503
def k0_mult18 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3772 : BitVec 32 := 1#32
  let v5523 : BitVec 32 := Scalar.subi v102 c1_i32_3772
  let c0_i32_3773 : BitVec 32 := 0#32
  let v5524 : BitVec 32 := Scalar.maxsi v5523 c0_i32_3773
  let c0_i32_3774 : BitVec 32 := 0#32
  let c4_i32_3747 : BitVec 32 := 4#32
  let c0_i32_641 : BitVec 32 := 0#32
  let c1_i32_643 : BitVec 32 := 1#32
  let arg27 : BitVec 32 := Scf.iv c0_i32_641 c1_i32_643 k0_t1
  let v5484 : BitVec 32 := Scalar.muli c4_i32_3747 arg27
  let c2_i32_3748 : BitVec 32 := 2#32
  let v5485 : BitVec 32 := Scalar.addi v5484 c2_i32_3748
  let v5525 : BitVec 32 := Scalar.maxsi c0_i32_3774 v5485
  let v5526 : BitVec 32 := Scalar.minsi v5524 v5525
  let c128_i32_3775 : BitVec 32 := 128#32
  let v5527 : BitVec 32 := Scalar.muli v5526 c128_i32_3775
  v5527
def k0_mult19 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3801 : BitVec 32 := 1#32
  let v5562 : BitVec 32 := Scalar.subi v102 c1_i32_3801
  let c0_i32_3802 : BitVec 32 := 0#32
  let v5563 : BitVec 32 := Scalar.maxsi v5562 c0_i32_3802
  let c0_i32_3803 : BitVec 32 := 0#32
  let c4_i32_3747 : BitVec 32 := 4#32
  let c0_i32_641 : BitVec 32 := 0#32
  let c1_i32_643 : BitVec 32 := 1#32
  let arg27 : BitVec 32 := Scf.iv c0_i32_641 c1_i32_643 k0_t1
  let v5484 : BitVec 32 := Scalar.muli c4_i32_3747 arg27
  let c2_i32_3748 : BitVec 32 := 2#32
  let v5485 : BitVec 32 := Scalar.addi v5484 c2_i32_3748
  let c3_i32_3800 : BitVec 32 := 3#32
  let v5561 : BitVec 32 := Scalar.addi v5485 c3_i32_3800
  let v5564 : BitVec 32 := Scalar.maxsi c0_i32_3803 v5561
  let v5565 : BitVec 32 := Scalar.minsi v5563 v5564
  let c256_i32_3806 : BitVec 32 := 256#32
  let v5567 : BitVec 32 := Scalar.muli v5565 c256_i32_3806
  v5567
def k0_mult20 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_3813 : BitVec 32 := 1#32
  let v5576 : BitVec 32 := Scalar.subi v102 c1_i32_3813
  let c0_i32_3814 : BitVec 32 := 0#32
  let v5577 : BitVec 32 := Scalar.maxsi v5576 c0_i32_3814
  let c0_i32_3815 : BitVec 32 := 0#32
  let c4_i32_3747 : BitVec 32 := 4#32
  let c0_i32_641 : BitVec 32 := 0#32
  let c1_i32_643 : BitVec 32 := 1#32
  let arg27 : BitVec 32 := Scf.iv c0_i32_641 c1_i32_643 k0_t1
  let v5484 : BitVec 32 := Scalar.muli c4_i32_3747 arg27
  let c2_i32_3748 : BitVec 32 := 2#32
  let v5485 : BitVec 32 := Scalar.addi v5484 c2_i32_3748
  let c2_i32_3812 : BitVec 32 := 2#32
  let v5575 : BitVec 32 := Scalar.addi v5485 c2_i32_3812
  let v5578 : BitVec 32 := Scalar.maxsi c0_i32_3815 v5575
  let v5579 : BitVec 32 := Scalar.minsi v5577 v5578
  let c256_i32_3818 : BitVec 32 := 256#32
  let v5581 : BitVec 32 := Scalar.muli v5579 c256_i32_3818
  v5581
def k0_mult21 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_4406 : BitVec 32 := 1#32
  let v6398 : BitVec 32 := Scalar.subi v102 c1_i32_4406
  let c0_i32_4407 : BitVec 32 := 0#32
  let v6399 : BitVec 32 := Scalar.maxsi v6398 c0_i32_4407
  let c0_i32_4408 : BitVec 32 := 0#32
  let c4_i32_4403 : BitVec 32 := 4#32
  let c0_i32_641 : BitVec 32 := 0#32
  let c1_i32_643 : BitVec 32 := 1#32
  let arg27 : BitVec 32 := Scf.iv c0_i32_641 c1_i32_643 k0_t1
  let v6395 : BitVec 32 := Scalar.muli c4_i32_4403 arg27
  let c3_i32_4404 : BitVec 32 := 3#32
  let v6396 : BitVec 32 := Scalar.addi v6395 c3_i32_4404
  let c1_i32_4405 : BitVec 32 := 1#32
  let v6397 : BitVec 32 := Scalar.subi v6396 c1_i32_4405
  let v6400 : BitVec 32 := Scalar.maxsi c0_i32_4408 v6397
  let v6401 : BitVec 32 := Scalar.minsi v6399 v6400
  let c256_i32_4414 : BitVec 32 := 256#32
  let v6405 : BitVec 32 := Scalar.muli v6401 c256_i32_4414
  v6405
def k0_mult22 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_4406 : BitVec 32 := 1#32
  let v6398 : BitVec 32 := Scalar.subi v102 c1_i32_4406
  let c0_i32_4407 : BitVec 32 := 0#32
  let v6399 : BitVec 32 := Scalar.maxsi v6398 c0_i32_4407
  let c0_i32_4408 : BitVec 32 := 0#32
  let c4_i32_4403 : BitVec 32 := 4#32
  let c0_i32_641 : BitVec 32 := 0#32
  let c1_i32_643 : BitVec 32 := 1#32
  let arg27 : BitVec 32 := Scf.iv c0_i32_641 c1_i32_643 k0_t1
  let v6395 : BitVec 32 := Scalar.muli c4_i32_4403 arg27
  let c3_i32_4404 : BitVec 32 := 3#32
  let v6396 : BitVec 32 := Scalar.addi v6395 c3_i32_4404
  let c1_i32_4405 : BitVec 32 := 1#32
  let v6397 : BitVec 32 := Scalar.subi v6396 c1_i32_4405
  let v6400 : BitVec 32 := Scalar.maxsi c0_i32_4408 v6397
  let v6401 : BitVec 32 := Scalar.minsi v6399 v6400
  let c128_i32_4419 : BitVec 32 := 128#32
  let v6414 : BitVec 32 := Scalar.muli v6401 c128_i32_4419
  v6414
def k0_mult23 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_4428 : BitVec 32 := 1#32
  let v6434 : BitVec 32 := Scalar.subi v102 c1_i32_4428
  let c0_i32_4429 : BitVec 32 := 0#32
  let v6435 : BitVec 32 := Scalar.maxsi v6434 c0_i32_4429
  let c0_i32_4430 : BitVec 32 := 0#32
  let c4_i32_4403 : BitVec 32 := 4#32
  let c0_i32_641 : BitVec 32 := 0#32
  let c1_i32_643 : BitVec 32 := 1#32
  let arg27 : BitVec 32 := Scf.iv c0_i32_641 c1_i32_643 k0_t1
  let v6395 : BitVec 32 := Scalar.muli c4_i32_4403 arg27
  let c3_i32_4404 : BitVec 32 := 3#32
  let v6396 : BitVec 32 := Scalar.addi v6395 c3_i32_4404
  let v6436 : BitVec 32 := Scalar.maxsi c0_i32_4430 v6396
  let v6437 : BitVec 32 := Scalar.minsi v6435 v6436
  let c128_i32_4431 : BitVec 32 := 128#32
  let v6438 : BitVec 32 := Scalar.muli v6437 c128_i32_4431
  v6438
def k0_mult24 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_4457 : BitVec 32 := 1#32
  let v6473 : BitVec 32 := Scalar.subi v102 c1_i32_4457
  let c0_i32_4458 : BitVec 32 := 0#32
  let v6474 : BitVec 32 := Scalar.maxsi v6473 c0_i32_4458
  let c0_i32_4459 : BitVec 32 := 0#32
  let c4_i32_4403 : BitVec 32 := 4#32
  let c0_i32_641 : BitVec 32 := 0#32
  let c1_i32_643 : BitVec 32 := 1#32
  let arg27 : BitVec 32 := Scf.iv c0_i32_641 c1_i32_643 k0_t1
  let v6395 : BitVec 32 := Scalar.muli c4_i32_4403 arg27
  let c3_i32_4404 : BitVec 32 := 3#32
  let v6396 : BitVec 32 := Scalar.addi v6395 c3_i32_4404
  let c3_i32_4456 : BitVec 32 := 3#32
  let v6472 : BitVec 32 := Scalar.addi v6396 c3_i32_4456
  let v6475 : BitVec 32 := Scalar.maxsi c0_i32_4459 v6472
  let v6476 : BitVec 32 := Scalar.minsi v6474 v6475
  let c256_i32_4462 : BitVec 32 := 256#32
  let v6478 : BitVec 32 := Scalar.muli v6476 c256_i32_4462
  v6478
def k0_mult25 (i : grid0.Coords) (k0_t1 : Fin (k0_t1_loop i).trips) : BitVec 32 :=
  let arg1 : BitVec 32 := BitVec.ofNat 32 (i 1).val
  let c4_i32 : BitVec 32 := 4#32
  let v102 : BitVec 32 := Scalar.muli arg1 c4_i32
  let c1_i32_4469 : BitVec 32 := 1#32
  let v6487 : BitVec 32 := Scalar.subi v102 c1_i32_4469
  let c0_i32_4470 : BitVec 32 := 0#32
  let v6488 : BitVec 32 := Scalar.maxsi v6487 c0_i32_4470
  let c0_i32_4471 : BitVec 32 := 0#32
  let c4_i32_4403 : BitVec 32 := 4#32
  let c0_i32_641 : BitVec 32 := 0#32
  let c1_i32_643 : BitVec 32 := 1#32
  let arg27 : BitVec 32 := Scf.iv c0_i32_641 c1_i32_643 k0_t1
  let v6395 : BitVec 32 := Scalar.muli c4_i32_4403 arg27
  let c3_i32_4404 : BitVec 32 := 3#32
  let v6396 : BitVec 32 := Scalar.addi v6395 c3_i32_4404
  let c2_i32_4468 : BitVec 32 := 2#32
  let v6486 : BitVec 32 := Scalar.addi v6396 c2_i32_4468
  let v6489 : BitVec 32 := Scalar.maxsi c0_i32_4471 v6486
  let v6490 : BitVec 32 := Scalar.minsi v6488 v6489
  let c256_i32_4474 : BitVec 32 := 256#32
  let v6492 : BitVec 32 := Scalar.muli v6490 c256_i32_4474
  v6492
@[reducible] def k0_t2_loop (i : grid0.Coords) : Scf.Loop 32 :=
  let c0_i32_641 : BitVec 32 := 0#32
  let arg1 : BitVec 32 := BitVec.ofNat 32 (i 1).val
  let c4_i32 : BitVec 32 := 4#32
  let v102 : BitVec 32 := Scalar.muli arg1 c4_i32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let v997 : BitVec 32 := Scalar.addi c0_i32_641 v996
  let c1_i32_644 : BitVec 32 := 1#32
  ⟨v1000, v997, c1_i32_644⟩
def k0_mult26 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let c0_i32_2436 : BitVec 32 := 0#32
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c256_i32_2446 : BitVec 32 := 256#32
  let v3672 : BitVec 32 := Scalar.muli v3668 c256_i32_2446
  v3672
def k0_off6 (i : grid0.Coords) (k0_t2 : Fin (k0_t2_loop i).trips) (c0_i32_2436 : BitVec 32) : Fin 2 → Nat :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c256_i32_2446 : BitVec 32 := 256#32
  let v3672 : BitVec 32 := Scalar.muli v3668 c256_i32_2446
  let v3673 : BitVec 32 := v3672
  let v3674 : Index := Scalar.indexCast v3673
  let c0_2447 : Index := 0#32
  ![v3674.toNat, 0]
def k0_mult27 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let c0_i32_2436 : BitVec 32 := 0#32
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c128_i32_2451 : BitVec 32 := 128#32
  let v3681 : BitVec 32 := Scalar.muli v3668 c128_i32_2451
  v3681
def k0_off7 (i : grid0.Coords) (k0_t2 : Fin (k0_t2_loop i).trips) (c0_i32_2436 : BitVec 32) : Fin 2 → Nat :=
  let arg1 : BitVec 32 := BitVec.ofNat 32 (i 1).val
  let c4_i32 : BitVec 32 := 4#32
  let v102 : BitVec 32 := Scalar.muli arg1 c4_i32
  let c1_i32_2438 : BitVec 32 := 1#32
  let v3665 : BitVec 32 := Scalar.subi v102 c1_i32_2438
  let c0_i32_2439 : BitVec 32 := 0#32
  let v3666 : BitVec 32 := Scalar.maxsi v3665 c0_i32_2439
  let c0_i32_2440 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let v3663 : BitVec 32 := Scalar.addi v3662 c0_i32_2436
  let c1_i32_2437 : BitVec 32 := 1#32
  let v3664 : BitVec 32 := Scalar.subi v3663 c1_i32_2437
  let v3667 : BitVec 32 := Scalar.maxsi c0_i32_2440 v3664
  let v3668 : BitVec 32 := Scalar.minsi v3666 v3667
  let c128_i32_2451 : BitVec 32 := 128#32
  let v3681 : BitVec 32 := Scalar.muli v3668 c128_i32_2451
  let v3682 : BitVec 32 := v3681
  let v3683 : Index := Scalar.indexCast v3682
  let c0_2452 : Index := 0#32
  ![v3683.toNat, 0]
def k0_mult28 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_2460 : BitVec 32 := 1#32
  let v3701 : BitVec 32 := Scalar.subi v102 c1_i32_2460
  let c0_i32_2461 : BitVec 32 := 0#32
  let v3702 : BitVec 32 := Scalar.maxsi v3701 c0_i32_2461
  let c0_i32_2462 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let c0_i32_2436 : BitVec 32 := 0#32
  let v3663 : BitVec 32 := Scalar.addi v3662 c0_i32_2436
  let v3703 : BitVec 32 := Scalar.maxsi c0_i32_2462 v3663
  let v3704 : BitVec 32 := Scalar.minsi v3702 v3703
  let c128_i32_2463 : BitVec 32 := 128#32
  let v3705 : BitVec 32 := Scalar.muli v3704 c128_i32_2463
  v3705
def k0_off8 (i : grid0.Coords) (k0_t2 : Fin (k0_t2_loop i).trips) (c0_i32_2436 : BitVec 32) : Fin 2 → Nat :=
  let arg1 : BitVec 32 := BitVec.ofNat 32 (i 1).val
  let c4_i32 : BitVec 32 := 4#32
  let v102 : BitVec 32 := Scalar.muli arg1 c4_i32
  let c1_i32_2460 : BitVec 32 := 1#32
  let v3701 : BitVec 32 := Scalar.subi v102 c1_i32_2460
  let c0_i32_2461 : BitVec 32 := 0#32
  let v3702 : BitVec 32 := Scalar.maxsi v3701 c0_i32_2461
  let c0_i32_2462 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let v3663 : BitVec 32 := Scalar.addi v3662 c0_i32_2436
  let v3703 : BitVec 32 := Scalar.maxsi c0_i32_2462 v3663
  let v3704 : BitVec 32 := Scalar.minsi v3702 v3703
  let c128_i32_2463 : BitVec 32 := 128#32
  let v3705 : BitVec 32 := Scalar.muli v3704 c128_i32_2463
  let v3706 : BitVec 32 := v3705
  let v3707 : Index := Scalar.indexCast v3706
  let c0_2464 : Index := 0#32
  ![v3707.toNat, 0]
def k0_mult29 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_2489 : BitVec 32 := 1#32
  let v3740 : BitVec 32 := Scalar.subi v102 c1_i32_2489
  let c0_i32_2490 : BitVec 32 := 0#32
  let v3741 : BitVec 32 := Scalar.maxsi v3740 c0_i32_2490
  let c0_i32_2491 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let c0_i32_2436 : BitVec 32 := 0#32
  let v3663 : BitVec 32 := Scalar.addi v3662 c0_i32_2436
  let c3_i32_2488 : BitVec 32 := 3#32
  let v3739 : BitVec 32 := Scalar.addi v3663 c3_i32_2488
  let v3742 : BitVec 32 := Scalar.maxsi c0_i32_2491 v3739
  let v3743 : BitVec 32 := Scalar.minsi v3741 v3742
  let c256_i32_2494 : BitVec 32 := 256#32
  let v3745 : BitVec 32 := Scalar.muli v3743 c256_i32_2494
  v3745
def k0_off9 (i : grid0.Coords) (k0_t2 : Fin (k0_t2_loop i).trips) (c0_i32_2436 : BitVec 32) (c3_i32_2488 : BitVec 32) : Fin 2 → Nat :=
  let arg1 : BitVec 32 := BitVec.ofNat 32 (i 1).val
  let c4_i32 : BitVec 32 := 4#32
  let v102 : BitVec 32 := Scalar.muli arg1 c4_i32
  let c1_i32_2489 : BitVec 32 := 1#32
  let v3740 : BitVec 32 := Scalar.subi v102 c1_i32_2489
  let c0_i32_2490 : BitVec 32 := 0#32
  let v3741 : BitVec 32 := Scalar.maxsi v3740 c0_i32_2490
  let c0_i32_2491 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let v3663 : BitVec 32 := Scalar.addi v3662 c0_i32_2436
  let v3739 : BitVec 32 := Scalar.addi v3663 c3_i32_2488
  let v3742 : BitVec 32 := Scalar.maxsi c0_i32_2491 v3739
  let v3743 : BitVec 32 := Scalar.minsi v3741 v3742
  let c256_i32_2494 : BitVec 32 := 256#32
  let v3745 : BitVec 32 := Scalar.muli v3743 c256_i32_2494
  let v3746 : BitVec 32 := v3745
  let v3747 : Index := Scalar.indexCast v3746
  let c0_2495 : Index := 0#32
  ![v3747.toNat, 0]
def k0_mult30 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_2501 : BitVec 32 := 1#32
  let v3754 : BitVec 32 := Scalar.subi v102 c1_i32_2501
  let c0_i32_2502 : BitVec 32 := 0#32
  let v3755 : BitVec 32 := Scalar.maxsi v3754 c0_i32_2502
  let c0_i32_2503 : BitVec 32 := 0#32
  let c4_i32_2435 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v3662 : BitVec 32 := Scalar.muli c4_i32_2435 arg27
  let c0_i32_2436 : BitVec 32 := 0#32
  let v3663 : BitVec 32 := Scalar.addi v3662 c0_i32_2436
  let c2_i32_2500 : BitVec 32 := 2#32
  let v3753 : BitVec 32 := Scalar.addi v3663 c2_i32_2500
  let v3756 : BitVec 32 := Scalar.maxsi c0_i32_2503 v3753
  let v3757 : BitVec 32 := Scalar.minsi v3755 v3756
  let c256_i32_2506 : BitVec 32 := 256#32
  let v3759 : BitVec 32 := Scalar.muli v3757 c256_i32_2506
  v3759
def k0_mult31 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3094 : BitVec 32 := 1#32
  let v4576 : BitVec 32 := Scalar.subi v102 c1_i32_3094
  let c0_i32_3095 : BitVec 32 := 0#32
  let v4577 : BitVec 32 := Scalar.maxsi v4576 c0_i32_3095
  let c0_i32_3096 : BitVec 32 := 0#32
  let c4_i32_3091 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v4573 : BitVec 32 := Scalar.muli c4_i32_3091 arg27
  let c1_i32_3092 : BitVec 32 := 1#32
  let v4574 : BitVec 32 := Scalar.addi v4573 c1_i32_3092
  let c1_i32_3093 : BitVec 32 := 1#32
  let v4575 : BitVec 32 := Scalar.subi v4574 c1_i32_3093
  let v4578 : BitVec 32 := Scalar.maxsi c0_i32_3096 v4575
  let v4579 : BitVec 32 := Scalar.minsi v4577 v4578
  let c256_i32_3102 : BitVec 32 := 256#32
  let v4583 : BitVec 32 := Scalar.muli v4579 c256_i32_3102
  v4583
def k0_mult32 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3094 : BitVec 32 := 1#32
  let v4576 : BitVec 32 := Scalar.subi v102 c1_i32_3094
  let c0_i32_3095 : BitVec 32 := 0#32
  let v4577 : BitVec 32 := Scalar.maxsi v4576 c0_i32_3095
  let c0_i32_3096 : BitVec 32 := 0#32
  let c4_i32_3091 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v4573 : BitVec 32 := Scalar.muli c4_i32_3091 arg27
  let c1_i32_3092 : BitVec 32 := 1#32
  let v4574 : BitVec 32 := Scalar.addi v4573 c1_i32_3092
  let c1_i32_3093 : BitVec 32 := 1#32
  let v4575 : BitVec 32 := Scalar.subi v4574 c1_i32_3093
  let v4578 : BitVec 32 := Scalar.maxsi c0_i32_3096 v4575
  let v4579 : BitVec 32 := Scalar.minsi v4577 v4578
  let c128_i32_3107 : BitVec 32 := 128#32
  let v4592 : BitVec 32 := Scalar.muli v4579 c128_i32_3107
  v4592
def k0_mult33 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3116 : BitVec 32 := 1#32
  let v4612 : BitVec 32 := Scalar.subi v102 c1_i32_3116
  let c0_i32_3117 : BitVec 32 := 0#32
  let v4613 : BitVec 32 := Scalar.maxsi v4612 c0_i32_3117
  let c0_i32_3118 : BitVec 32 := 0#32
  let c4_i32_3091 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v4573 : BitVec 32 := Scalar.muli c4_i32_3091 arg27
  let c1_i32_3092 : BitVec 32 := 1#32
  let v4574 : BitVec 32 := Scalar.addi v4573 c1_i32_3092
  let v4614 : BitVec 32 := Scalar.maxsi c0_i32_3118 v4574
  let v4615 : BitVec 32 := Scalar.minsi v4613 v4614
  let c128_i32_3119 : BitVec 32 := 128#32
  let v4616 : BitVec 32 := Scalar.muli v4615 c128_i32_3119
  v4616
def k0_mult34 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3145 : BitVec 32 := 1#32
  let v4651 : BitVec 32 := Scalar.subi v102 c1_i32_3145
  let c0_i32_3146 : BitVec 32 := 0#32
  let v4652 : BitVec 32 := Scalar.maxsi v4651 c0_i32_3146
  let c0_i32_3147 : BitVec 32 := 0#32
  let c4_i32_3091 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v4573 : BitVec 32 := Scalar.muli c4_i32_3091 arg27
  let c1_i32_3092 : BitVec 32 := 1#32
  let v4574 : BitVec 32 := Scalar.addi v4573 c1_i32_3092
  let c3_i32_3144 : BitVec 32 := 3#32
  let v4650 : BitVec 32 := Scalar.addi v4574 c3_i32_3144
  let v4653 : BitVec 32 := Scalar.maxsi c0_i32_3147 v4650
  let v4654 : BitVec 32 := Scalar.minsi v4652 v4653
  let c256_i32_3150 : BitVec 32 := 256#32
  let v4656 : BitVec 32 := Scalar.muli v4654 c256_i32_3150
  v4656
def k0_mult35 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3157 : BitVec 32 := 1#32
  let v4665 : BitVec 32 := Scalar.subi v102 c1_i32_3157
  let c0_i32_3158 : BitVec 32 := 0#32
  let v4666 : BitVec 32 := Scalar.maxsi v4665 c0_i32_3158
  let c0_i32_3159 : BitVec 32 := 0#32
  let c4_i32_3091 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v4573 : BitVec 32 := Scalar.muli c4_i32_3091 arg27
  let c1_i32_3092 : BitVec 32 := 1#32
  let v4574 : BitVec 32 := Scalar.addi v4573 c1_i32_3092
  let c2_i32_3156 : BitVec 32 := 2#32
  let v4664 : BitVec 32 := Scalar.addi v4574 c2_i32_3156
  let v4667 : BitVec 32 := Scalar.maxsi c0_i32_3159 v4664
  let v4668 : BitVec 32 := Scalar.minsi v4666 v4667
  let c256_i32_3162 : BitVec 32 := 256#32
  let v4670 : BitVec 32 := Scalar.muli v4668 c256_i32_3162
  v4670
def k0_mult36 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3750 : BitVec 32 := 1#32
  let v5487 : BitVec 32 := Scalar.subi v102 c1_i32_3750
  let c0_i32_3751 : BitVec 32 := 0#32
  let v5488 : BitVec 32 := Scalar.maxsi v5487 c0_i32_3751
  let c0_i32_3752 : BitVec 32 := 0#32
  let c4_i32_3747 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v5484 : BitVec 32 := Scalar.muli c4_i32_3747 arg27
  let c2_i32_3748 : BitVec 32 := 2#32
  let v5485 : BitVec 32 := Scalar.addi v5484 c2_i32_3748
  let c1_i32_3749 : BitVec 32 := 1#32
  let v5486 : BitVec 32 := Scalar.subi v5485 c1_i32_3749
  let v5489 : BitVec 32 := Scalar.maxsi c0_i32_3752 v5486
  let v5490 : BitVec 32 := Scalar.minsi v5488 v5489
  let c256_i32_3758 : BitVec 32 := 256#32
  let v5494 : BitVec 32 := Scalar.muli v5490 c256_i32_3758
  v5494
def k0_mult37 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3750 : BitVec 32 := 1#32
  let v5487 : BitVec 32 := Scalar.subi v102 c1_i32_3750
  let c0_i32_3751 : BitVec 32 := 0#32
  let v5488 : BitVec 32 := Scalar.maxsi v5487 c0_i32_3751
  let c0_i32_3752 : BitVec 32 := 0#32
  let c4_i32_3747 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v5484 : BitVec 32 := Scalar.muli c4_i32_3747 arg27
  let c2_i32_3748 : BitVec 32 := 2#32
  let v5485 : BitVec 32 := Scalar.addi v5484 c2_i32_3748
  let c1_i32_3749 : BitVec 32 := 1#32
  let v5486 : BitVec 32 := Scalar.subi v5485 c1_i32_3749
  let v5489 : BitVec 32 := Scalar.maxsi c0_i32_3752 v5486
  let v5490 : BitVec 32 := Scalar.minsi v5488 v5489
  let c128_i32_3763 : BitVec 32 := 128#32
  let v5503 : BitVec 32 := Scalar.muli v5490 c128_i32_3763
  v5503
def k0_mult38 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3772 : BitVec 32 := 1#32
  let v5523 : BitVec 32 := Scalar.subi v102 c1_i32_3772
  let c0_i32_3773 : BitVec 32 := 0#32
  let v5524 : BitVec 32 := Scalar.maxsi v5523 c0_i32_3773
  let c0_i32_3774 : BitVec 32 := 0#32
  let c4_i32_3747 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v5484 : BitVec 32 := Scalar.muli c4_i32_3747 arg27
  let c2_i32_3748 : BitVec 32 := 2#32
  let v5485 : BitVec 32 := Scalar.addi v5484 c2_i32_3748
  let v5525 : BitVec 32 := Scalar.maxsi c0_i32_3774 v5485
  let v5526 : BitVec 32 := Scalar.minsi v5524 v5525
  let c128_i32_3775 : BitVec 32 := 128#32
  let v5527 : BitVec 32 := Scalar.muli v5526 c128_i32_3775
  v5527
def k0_mult39 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3801 : BitVec 32 := 1#32
  let v5562 : BitVec 32 := Scalar.subi v102 c1_i32_3801
  let c0_i32_3802 : BitVec 32 := 0#32
  let v5563 : BitVec 32 := Scalar.maxsi v5562 c0_i32_3802
  let c0_i32_3803 : BitVec 32 := 0#32
  let c4_i32_3747 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v5484 : BitVec 32 := Scalar.muli c4_i32_3747 arg27
  let c2_i32_3748 : BitVec 32 := 2#32
  let v5485 : BitVec 32 := Scalar.addi v5484 c2_i32_3748
  let c3_i32_3800 : BitVec 32 := 3#32
  let v5561 : BitVec 32 := Scalar.addi v5485 c3_i32_3800
  let v5564 : BitVec 32 := Scalar.maxsi c0_i32_3803 v5561
  let v5565 : BitVec 32 := Scalar.minsi v5563 v5564
  let c256_i32_3806 : BitVec 32 := 256#32
  let v5567 : BitVec 32 := Scalar.muli v5565 c256_i32_3806
  v5567
def k0_mult40 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_3813 : BitVec 32 := 1#32
  let v5576 : BitVec 32 := Scalar.subi v102 c1_i32_3813
  let c0_i32_3814 : BitVec 32 := 0#32
  let v5577 : BitVec 32 := Scalar.maxsi v5576 c0_i32_3814
  let c0_i32_3815 : BitVec 32 := 0#32
  let c4_i32_3747 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v5484 : BitVec 32 := Scalar.muli c4_i32_3747 arg27
  let c2_i32_3748 : BitVec 32 := 2#32
  let v5485 : BitVec 32 := Scalar.addi v5484 c2_i32_3748
  let c2_i32_3812 : BitVec 32 := 2#32
  let v5575 : BitVec 32 := Scalar.addi v5485 c2_i32_3812
  let v5578 : BitVec 32 := Scalar.maxsi c0_i32_3815 v5575
  let v5579 : BitVec 32 := Scalar.minsi v5577 v5578
  let c256_i32_3818 : BitVec 32 := 256#32
  let v5581 : BitVec 32 := Scalar.muli v5579 c256_i32_3818
  v5581
def k0_mult41 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_4406 : BitVec 32 := 1#32
  let v6398 : BitVec 32 := Scalar.subi v102 c1_i32_4406
  let c0_i32_4407 : BitVec 32 := 0#32
  let v6399 : BitVec 32 := Scalar.maxsi v6398 c0_i32_4407
  let c0_i32_4408 : BitVec 32 := 0#32
  let c4_i32_4403 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v6395 : BitVec 32 := Scalar.muli c4_i32_4403 arg27
  let c3_i32_4404 : BitVec 32 := 3#32
  let v6396 : BitVec 32 := Scalar.addi v6395 c3_i32_4404
  let c1_i32_4405 : BitVec 32 := 1#32
  let v6397 : BitVec 32 := Scalar.subi v6396 c1_i32_4405
  let v6400 : BitVec 32 := Scalar.maxsi c0_i32_4408 v6397
  let v6401 : BitVec 32 := Scalar.minsi v6399 v6400
  let c256_i32_4414 : BitVec 32 := 256#32
  let v6405 : BitVec 32 := Scalar.muli v6401 c256_i32_4414
  v6405
def k0_mult42 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_4406 : BitVec 32 := 1#32
  let v6398 : BitVec 32 := Scalar.subi v102 c1_i32_4406
  let c0_i32_4407 : BitVec 32 := 0#32
  let v6399 : BitVec 32 := Scalar.maxsi v6398 c0_i32_4407
  let c0_i32_4408 : BitVec 32 := 0#32
  let c4_i32_4403 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v6395 : BitVec 32 := Scalar.muli c4_i32_4403 arg27
  let c3_i32_4404 : BitVec 32 := 3#32
  let v6396 : BitVec 32 := Scalar.addi v6395 c3_i32_4404
  let c1_i32_4405 : BitVec 32 := 1#32
  let v6397 : BitVec 32 := Scalar.subi v6396 c1_i32_4405
  let v6400 : BitVec 32 := Scalar.maxsi c0_i32_4408 v6397
  let v6401 : BitVec 32 := Scalar.minsi v6399 v6400
  let c128_i32_4419 : BitVec 32 := 128#32
  let v6414 : BitVec 32 := Scalar.muli v6401 c128_i32_4419
  v6414
def k0_mult43 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_4428 : BitVec 32 := 1#32
  let v6434 : BitVec 32 := Scalar.subi v102 c1_i32_4428
  let c0_i32_4429 : BitVec 32 := 0#32
  let v6435 : BitVec 32 := Scalar.maxsi v6434 c0_i32_4429
  let c0_i32_4430 : BitVec 32 := 0#32
  let c4_i32_4403 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v6395 : BitVec 32 := Scalar.muli c4_i32_4403 arg27
  let c3_i32_4404 : BitVec 32 := 3#32
  let v6396 : BitVec 32 := Scalar.addi v6395 c3_i32_4404
  let v6436 : BitVec 32 := Scalar.maxsi c0_i32_4430 v6396
  let v6437 : BitVec 32 := Scalar.minsi v6435 v6436
  let c128_i32_4431 : BitVec 32 := 128#32
  let v6438 : BitVec 32 := Scalar.muli v6437 c128_i32_4431
  v6438
def k0_mult44 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_4457 : BitVec 32 := 1#32
  let v6473 : BitVec 32 := Scalar.subi v102 c1_i32_4457
  let c0_i32_4458 : BitVec 32 := 0#32
  let v6474 : BitVec 32 := Scalar.maxsi v6473 c0_i32_4458
  let c0_i32_4459 : BitVec 32 := 0#32
  let c4_i32_4403 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v6395 : BitVec 32 := Scalar.muli c4_i32_4403 arg27
  let c3_i32_4404 : BitVec 32 := 3#32
  let v6396 : BitVec 32 := Scalar.addi v6395 c3_i32_4404
  let c3_i32_4456 : BitVec 32 := 3#32
  let v6472 : BitVec 32 := Scalar.addi v6396 c3_i32_4456
  let v6475 : BitVec 32 := Scalar.maxsi c0_i32_4459 v6472
  let v6476 : BitVec 32 := Scalar.minsi v6474 v6475
  let c256_i32_4462 : BitVec 32 := 256#32
  let v6478 : BitVec 32 := Scalar.muli v6476 c256_i32_4462
  v6478
def k0_mult45 (i : grid0.Coords) (k0_t2 : Fin (k0_t2_loop i).trips) : BitVec 32 :=
  let arg1 : BitVec 32 := BitVec.ofNat 32 (i 1).val
  let c4_i32 : BitVec 32 := 4#32
  let v102 : BitVec 32 := Scalar.muli arg1 c4_i32
  let c1_i32_4469 : BitVec 32 := 1#32
  let v6487 : BitVec 32 := Scalar.subi v102 c1_i32_4469
  let c0_i32_4470 : BitVec 32 := 0#32
  let v6488 : BitVec 32 := Scalar.maxsi v6487 c0_i32_4470
  let c0_i32_4471 : BitVec 32 := 0#32
  let c4_i32_4403 : BitVec 32 := 4#32
  let c0_i32_641 : BitVec 32 := 0#32
  let c0_i32_634 : BitVec 32 := 0#32
  let v980 : BitVec 1 := Scalar.cmpi .sgt v102 c0_i32_634
  let v981 : BitVec 32 := Scalar.extui v980
  let c0_i32_635 : BitVec 32 := 0#32
  let v982 : BitVec 1 := Scalar.cmpi .slt v102 c0_i32_635
  let v983 : BitVec 32 := Scalar.extui v982
  let v984 : BitVec 32 := Scalar.subi v981 v983
  let c4_i32_633 : BitVec 32 := 4#32
  let c0_i32_636 : BitVec 32 := 0#32
  let v985 : BitVec 1 := Scalar.cmpi .sgt c4_i32_633 c0_i32_636
  let v986 : BitVec 32 := Scalar.extui v985
  let c0_i32_637 : BitVec 32 := 0#32
  let v987 : BitVec 1 := Scalar.cmpi .slt c4_i32_633 c0_i32_637
  let v988 : BitVec 32 := Scalar.extui v987
  let v989 : BitVec 32 := Scalar.subi v986 v988
  let v990 : BitVec 1 := Scalar.cmpi .ne v984 v989
  let v991 : BitVec 32 := Scalar.remsi v102 c4_i32_633
  let c0_i32_638 : BitVec 32 := 0#32
  let v992 : BitVec 1 := Scalar.cmpi .ne v991 c0_i32_638
  let v993 : BitVec 1 := Scalar.andi v990 v992
  let v979 : BitVec 32 := Scalar.divsi v102 c4_i32_633
  let c1_i32_639 : BitVec 32 := 1#32
  let v994 : BitVec 32 := Scalar.subi v979 c1_i32_639
  let v995 : BitVec 32 := Scalar.select v993 v994 v979
  let v996 : BitVec 32 := Scalar.subi v995 c0_i32_641
  let c1_i32_642 : BitVec 32 := 1#32
  let v998 : BitVec 32 := Scalar.divsi v996 c1_i32_642
  let v999 : BitVec 32 := Scalar.muli v998 c1_i32_642
  let v1000 : BitVec 32 := Scalar.addi c0_i32_641 v999
  let c1_i32_644 : BitVec 32 := 1#32
  let arg27 : BitVec 32 := Scf.iv v1000 c1_i32_644 k0_t2
  let v6395 : BitVec 32 := Scalar.muli c4_i32_4403 arg27
  let c3_i32_4404 : BitVec 32 := 3#32
  let v6396 : BitVec 32 := Scalar.addi v6395 c3_i32_4404
  let c2_i32_4468 : BitVec 32 := 2#32
  let v6486 : BitVec 32 := Scalar.addi v6396 c2_i32_4468
  let v6489 : BitVec 32 := Scalar.maxsi c0_i32_4471 v6486
  let v6490 : BitVec 32 := Scalar.minsi v6488 v6489
  let c256_i32_4474 : BitVec 32 := 256#32
  let v6492 : BitVec 32 := Scalar.muli v6490 c256_i32_4474
  v6492
def k0_mult46 (i : grid0.Coords) : BitVec 32 :=
  let arg1 : BitVec 32 := BitVec.ofNat 32 (i 1).val
  let c4_i32 : BitVec 32 := 4#32
  let v102 : BitVec 32 := Scalar.muli arg1 c4_i32
  let c1_i32_646 : BitVec 32 := 1#32
  let v1002 : BitVec 32 := Scalar.subi v102 c1_i32_646
  let c0_i32_647 : BitVec 32 := 0#32
  let v1003 : BitVec 32 := Scalar.maxsi v1002 c0_i32_647
  let c0_i32_648 : BitVec 32 := 0#32
  let c1_i32_645 : BitVec 32 := 1#32
  let v1001 : BitVec 32 := Scalar.subi v102 c1_i32_645
  let v1004 : BitVec 32 := Scalar.maxsi c0_i32_648 v1001
  let v1005 : BitVec 32 := Scalar.minsi v1003 v1004
  let c256_i32_654 : BitVec 32 := 256#32
  let v1009 : BitVec 32 := Scalar.muli v1005 c256_i32_654
  v1009
def k0_off10 (i : grid0.Coords) : Fin 2 → Nat :=
  let arg1 : BitVec 32 := BitVec.ofNat 32 (i 1).val
  let c4_i32 : BitVec 32 := 4#32
  let v102 : BitVec 32 := Scalar.muli arg1 c4_i32
  let c1_i32_646 : BitVec 32 := 1#32
  let v1002 : BitVec 32 := Scalar.subi v102 c1_i32_646
  let c0_i32_647 : BitVec 32 := 0#32
  let v1003 : BitVec 32 := Scalar.maxsi v1002 c0_i32_647
  let c0_i32_648 : BitVec 32 := 0#32
  let c1_i32_645 : BitVec 32 := 1#32
  let v1001 : BitVec 32 := Scalar.subi v102 c1_i32_645
  let v1004 : BitVec 32 := Scalar.maxsi c0_i32_648 v1001
  let v1005 : BitVec 32 := Scalar.minsi v1003 v1004
  let c256_i32_654 : BitVec 32 := 256#32
  let v1009 : BitVec 32 := Scalar.muli v1005 c256_i32_654
  let v1010 : BitVec 32 := v1009
  let v1011 : Index := Scalar.indexCast v1010
  let c0_655 : Index := 0#32
  ![v1011.toNat, 0]
def k0_mult47 (i : grid0.Coords) : BitVec 32 :=
  let arg1 : BitVec 32 := BitVec.ofNat 32 (i 1).val
  let c4_i32 : BitVec 32 := 4#32
  let v102 : BitVec 32 := Scalar.muli arg1 c4_i32
  let c1_i32_646 : BitVec 32 := 1#32
  let v1002 : BitVec 32 := Scalar.subi v102 c1_i32_646
  let c0_i32_647 : BitVec 32 := 0#32
  let v1003 : BitVec 32 := Scalar.maxsi v1002 c0_i32_647
  let c0_i32_648 : BitVec 32 := 0#32
  let c1_i32_645 : BitVec 32 := 1#32
  let v1001 : BitVec 32 := Scalar.subi v102 c1_i32_645
  let v1004 : BitVec 32 := Scalar.maxsi c0_i32_648 v1001
  let v1005 : BitVec 32 := Scalar.minsi v1003 v1004
  let c128_i32_659 : BitVec 32 := 128#32
  let v1018 : BitVec 32 := Scalar.muli v1005 c128_i32_659
  v1018
def k0_off11 (i : grid0.Coords) : Fin 2 → Nat :=
  let arg1 : BitVec 32 := BitVec.ofNat 32 (i 1).val
  let c4_i32 : BitVec 32 := 4#32
  let v102 : BitVec 32 := Scalar.muli arg1 c4_i32
  let c1_i32_646 : BitVec 32 := 1#32
  let v1002 : BitVec 32 := Scalar.subi v102 c1_i32_646
  let c0_i32_647 : BitVec 32 := 0#32
  let v1003 : BitVec 32 := Scalar.maxsi v1002 c0_i32_647
  let c0_i32_648 : BitVec 32 := 0#32
  let c1_i32_645 : BitVec 32 := 1#32
  let v1001 : BitVec 32 := Scalar.subi v102 c1_i32_645
  let v1004 : BitVec 32 := Scalar.maxsi c0_i32_648 v1001
  let v1005 : BitVec 32 := Scalar.minsi v1003 v1004
  let c128_i32_659 : BitVec 32 := 128#32
  let v1018 : BitVec 32 := Scalar.muli v1005 c128_i32_659
  let v1019 : BitVec 32 := v1018
  let v1020 : Index := Scalar.indexCast v1019
  let c0_660 : Index := 0#32
  ![v1020.toNat, 0]
def k0_mult48 (i : grid0.Coords) : BitVec 32 :=
  let arg1 : BitVec 32 := BitVec.ofNat 32 (i 1).val
  let c4_i32 : BitVec 32 := 4#32
  let v102 : BitVec 32 := Scalar.muli arg1 c4_i32
  let c0_i32_668 : BitVec 32 := 0#32
  let v1038 : BitVec 32 := Scalar.addi v102 c0_i32_668
  let c256_i32_671 : BitVec 32 := 256#32
  let v1040 : BitVec 32 := Scalar.muli v1038 c256_i32_671
  v1040
def k0_off12 (i : grid0.Coords) (c0_i32_668 : BitVec 32) : Fin 2 → Nat :=
  let arg1 : BitVec 32 := BitVec.ofNat 32 (i 1).val
  let c4_i32 : BitVec 32 := 4#32
  let v102 : BitVec 32 := Scalar.muli arg1 c4_i32
  let v1038 : BitVec 32 := Scalar.addi v102 c0_i32_668
  let c256_i32_671 : BitVec 32 := 256#32
  let v1040 : BitVec 32 := Scalar.muli v1038 c256_i32_671
  let v1041 : BitVec 32 := v1040
  let v1042 : Index := Scalar.indexCast v1041
  let c0_672 : Index := 0#32
  ![v1042.toNat, 0]
def k0_mult49 (i : grid0.Coords) : BitVec 32 :=
  let arg1 : BitVec 32 := BitVec.ofNat 32 (i 1).val
  let c4_i32 : BitVec 32 := 4#32
  let v102 : BitVec 32 := Scalar.muli arg1 c4_i32
  let c0_i32_668 : BitVec 32 := 0#32
  let v1038 : BitVec 32 := Scalar.addi v102 c0_i32_668
  let c256_i32_679 : BitVec 32 := 256#32
  let v1049 : BitVec 32 := Scalar.muli v1038 c256_i32_679
  v1049
def k0_mult50 (i : grid0.Coords) : BitVec 32 :=
  let arg1 : BitVec 32 := BitVec.ofNat 32 (i 1).val
  let c4_i32 : BitVec 32 := 4#32
  let v102 : BitVec 32 := Scalar.muli arg1 c4_i32
  let c0_i32_668 : BitVec 32 := 0#32
  let v1038 : BitVec 32 := Scalar.addi v102 c0_i32_668
  let c128_i32_1142 : BitVec 32 := 128#32
  let v1746 : BitVec 32 := Scalar.muli v1038 c128_i32_1142
  v1746
def k0_off13 (i : grid0.Coords) (c0_i32_668 : BitVec 32) : Fin 2 → Nat :=
  let arg1 : BitVec 32 := BitVec.ofNat 32 (i 1).val
  let c4_i32 : BitVec 32 := 4#32
  let v102 : BitVec 32 := Scalar.muli arg1 c4_i32
  let v1038 : BitVec 32 := Scalar.addi v102 c0_i32_668
  let c128_i32_1142 : BitVec 32 := 128#32
  let v1746 : BitVec 32 := Scalar.muli v1038 c128_i32_1142
  let v1747 : BitVec 32 := v1746
  let v1748 : Index := Scalar.indexCast v1747
  let c0_1143 : Index := 0#32
  ![v1748.toNat, 0]
def k0_mult51 (i : grid0.Coords) : BitVec 32 :=
  let arg1 : BitVec 32 := BitVec.ofNat 32 (i 1).val
  let c4_i32 : BitVec 32 := 4#32
  let v102 : BitVec 32 := Scalar.muli arg1 c4_i32
  let c0_i32_668 : BitVec 32 := 0#32
  let v1038 : BitVec 32 := Scalar.addi v102 c0_i32_668
  let c256_i32_1308 : BitVec 32 := 256#32
  let v1960 : BitVec 32 := Scalar.muli v1038 c256_i32_1308
  v1960
def k0_mult52 (i : grid0.Coords) : BitVec 32 :=
  let arg1 : BitVec 32 := BitVec.ofNat 32 (i 1).val
  let c4_i32 : BitVec 32 := 4#32
  let v102 : BitVec 32 := Scalar.muli arg1 c4_i32
  let c0_i32_668 : BitVec 32 := 0#32
  let v1038 : BitVec 32 := Scalar.addi v102 c0_i32_668
  let c128_i32_1313 : BitVec 32 := 128#32
  let v1969 : BitVec 32 := Scalar.muli v1038 c128_i32_1313
  v1969
def k0_mult53 (i : grid0.Coords) : BitVec 32 :=
  let arg1 : BitVec 32 := BitVec.ofNat 32 (i 1).val
  let c4_i32 : BitVec 32 := 4#32
  let v102 : BitVec 32 := Scalar.muli arg1 c4_i32
  let c1_i32_1322 : BitVec 32 := 1#32
  let v1989 : BitVec 32 := Scalar.addi v102 c1_i32_1322
  let c256_i32_1325 : BitVec 32 := 256#32
  let v1991 : BitVec 32 := Scalar.muli v1989 c256_i32_1325
  v1991
def k0_mult54 (i : grid0.Coords) : BitVec 32 :=
  let arg1 : BitVec 32 := BitVec.ofNat 32 (i 1).val
  let c4_i32 : BitVec 32 := 4#32
  let v102 : BitVec 32 := Scalar.muli arg1 c4_i32
  let c1_i32_1322 : BitVec 32 := 1#32
  let v1989 : BitVec 32 := Scalar.addi v102 c1_i32_1322
  let c256_i32_1333 : BitVec 32 := 256#32
  let v2000 : BitVec 32 := Scalar.muli v1989 c256_i32_1333
  v2000
def k0_mult55 (i : grid0.Coords) : BitVec 32 :=
  let arg1 : BitVec 32 := BitVec.ofNat 32 (i 1).val
  let c4_i32 : BitVec 32 := 4#32
  let v102 : BitVec 32 := Scalar.muli arg1 c4_i32
  let c1_i32_1322 : BitVec 32 := 1#32
  let v1989 : BitVec 32 := Scalar.addi v102 c1_i32_1322
  let c128_i32_1688 : BitVec 32 := 128#32
  let v2539 : BitVec 32 := Scalar.muli v1989 c128_i32_1688
  v2539
def k0_mult56 (i : grid0.Coords) : BitVec 32 :=
  let arg1 : BitVec 32 := BitVec.ofNat 32 (i 1).val
  let c4_i32 : BitVec 32 := 4#32
  let v102 : BitVec 32 := Scalar.muli arg1 c4_i32
  let c1_i32_1322 : BitVec 32 := 1#32
  let v1989 : BitVec 32 := Scalar.addi v102 c1_i32_1322
  let c256_i32_1820 : BitVec 32 := 256#32
  let v2713 : BitVec 32 := Scalar.muli v1989 c256_i32_1820
  v2713
def k0_mult57 (i : grid0.Coords) : BitVec 32 :=
  let arg1 : BitVec 32 := BitVec.ofNat 32 (i 1).val
  let c4_i32 : BitVec 32 := 4#32
  let v102 : BitVec 32 := Scalar.muli arg1 c4_i32
  let c1_i32_1322 : BitVec 32 := 1#32
  let v1989 : BitVec 32 := Scalar.addi v102 c1_i32_1322
  let c128_i32_1825 : BitVec 32 := 128#32
  let v2722 : BitVec 32 := Scalar.muli v1989 c128_i32_1825
  v2722
def k0_mult58 (i : grid0.Coords) : BitVec 32 :=
  let arg1 : BitVec 32 := BitVec.ofNat 32 (i 1).val
  let c4_i32 : BitVec 32 := 4#32
  let v102 : BitVec 32 := Scalar.muli arg1 c4_i32
  let c2_i32_1834 : BitVec 32 := 2#32
  let v2742 : BitVec 32 := Scalar.addi v102 c2_i32_1834
  let c256_i32_1837 : BitVec 32 := 256#32
  let v2744 : BitVec 32 := Scalar.muli v2742 c256_i32_1837
  v2744
def k0_mult59 (i : grid0.Coords) : BitVec 32 :=
  let arg1 : BitVec 32 := BitVec.ofNat 32 (i 1).val
  let c4_i32 : BitVec 32 := 4#32
  let v102 : BitVec 32 := Scalar.muli arg1 c4_i32
  let c2_i32_1834 : BitVec 32 := 2#32
  let v2742 : BitVec 32 := Scalar.addi v102 c2_i32_1834
  let c256_i32_1845 : BitVec 32 := 256#32
  let v2753 : BitVec 32 := Scalar.muli v2742 c256_i32_1845
  v2753
def k0_mult60 (i : grid0.Coords) : BitVec 32 :=
  let arg1 : BitVec 32 := BitVec.ofNat 32 (i 1).val
  let c4_i32 : BitVec 32 := 4#32
  let v102 : BitVec 32 := Scalar.muli arg1 c4_i32
  let c2_i32_1834 : BitVec 32 := 2#32
  let v2742 : BitVec 32 := Scalar.addi v102 c2_i32_1834
  let c128_i32_2092 : BitVec 32 := 128#32
  let v3134 : BitVec 32 := Scalar.muli v2742 c128_i32_2092
  v3134
def k0_mult61 (i : grid0.Coords) : BitVec 32 :=
  let arg1 : BitVec 32 := BitVec.ofNat 32 (i 1).val
  let c4_i32 : BitVec 32 := 4#32
  let v102 : BitVec 32 := Scalar.muli arg1 c4_i32
  let c2_i32_1834 : BitVec 32 := 2#32
  let v2742 : BitVec 32 := Scalar.addi v102 c2_i32_1834
  let c256_i32_2190 : BitVec 32 := 256#32
  let v3268 : BitVec 32 := Scalar.muli v2742 c256_i32_2190
  v3268
def k0_mult62 (i : grid0.Coords) : BitVec 32 :=
  let arg1 : BitVec 32 := BitVec.ofNat 32 (i 1).val
  let c4_i32 : BitVec 32 := 4#32
  let v102 : BitVec 32 := Scalar.muli arg1 c4_i32
  let c2_i32_1834 : BitVec 32 := 2#32
  let v2742 : BitVec 32 := Scalar.addi v102 c2_i32_1834
  let c128_i32_2195 : BitVec 32 := 128#32
  let v3277 : BitVec 32 := Scalar.muli v2742 c128_i32_2195
  v3277
def k0_mult63 (i : grid0.Coords) : BitVec 32 :=
  let arg1 : BitVec 32 := BitVec.ofNat 32 (i 1).val
  let c4_i32 : BitVec 32 := 4#32
  let v102 : BitVec 32 := Scalar.muli arg1 c4_i32
  let c3_i32 : BitVec 32 := 3#32
  let v3297 : BitVec 32 := Scalar.addi v102 c3_i32
  let c256_i32_2206 : BitVec 32 := 256#32
  let v3299 : BitVec 32 := Scalar.muli v3297 c256_i32_2206
  v3299
def k0_mult64 (i : grid0.Coords) : BitVec 32 :=
  let arg1 : BitVec 32 := BitVec.ofNat 32 (i 1).val
  let c4_i32 : BitVec 32 := 4#32
  let v102 : BitVec 32 := Scalar.muli arg1 c4_i32
  let c3_i32 : BitVec 32 := 3#32
  let v3297 : BitVec 32 := Scalar.addi v102 c3_i32
  let c256_i32_2213 : BitVec 32 := 256#32
  let v3308 : BitVec 32 := Scalar.muli v3297 c256_i32_2213
  v3308
def k0_mult65 (i : grid0.Coords) : BitVec 32 :=
  let arg1 : BitVec 32 := BitVec.ofNat 32 (i 1).val
  let c4_i32 : BitVec 32 := 4#32
  let v102 : BitVec 32 := Scalar.muli arg1 c4_i32
  let c3_i32 : BitVec 32 := 3#32
  let v3297 : BitVec 32 := Scalar.addi v102 c3_i32
  let c128_i32_2351 : BitVec 32 := 128#32
  let v3531 : BitVec 32 := Scalar.muli v3297 c128_i32_2351
  v3531
def k0_mult66 (i : grid0.Coords) : BitVec 32 :=
  let arg1 : BitVec 32 := BitVec.ofNat 32 (i 1).val
  let c4_i32 : BitVec 32 := 4#32
  let v102 : BitVec 32 := Scalar.muli arg1 c4_i32
  let c3_i32 : BitVec 32 := 3#32
  let v3297 : BitVec 32 := Scalar.addi v102 c3_i32
  let c256_i32_2415 : BitVec 32 := 256#32
  let v3625 : BitVec 32 := Scalar.muli v3297 c256_i32_2415
  v3625
def k0_mult67 (i : grid0.Coords) : BitVec 32 :=
  let arg1 : BitVec 32 := BitVec.ofNat 32 (i 1).val
  let c4_i32 : BitVec 32 := 4#32
  let v102 : BitVec 32 := Scalar.muli arg1 c4_i32
  let c3_i32 : BitVec 32 := 3#32
  let v3297 : BitVec 32 := Scalar.addi v102 c3_i32
  let c128_i32_2420 : BitVec 32 := 128#32
  let v3634 : BitVec 32 := Scalar.muli v3297 c128_i32_2420
  v3634
def k0_cond2 (i : grid0.Coords) : BitVec 1 :=
  let arg1 : BitVec 32 := BitVec.ofNat 32 (i 1).val
  let c15_i32 : BitVec 32 := 15#32
  let v3659 : BitVec 1 := Scalar.cmpi .eq arg1 c15_i32
  let v3660 : BitVec 32 := Scalar.extui v3659
  let c0_i32_2434 : BitVec 32 := 0#32
  let v3661 : BitVec 1 := Scalar.cmpi .ne v3660 c0_i32_2434
  v3661

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpDa.lean ====
abbrev S8192x1024 : Shape := ⟨2, ![8192, 1024]⟩
abbrev S4096x1024 : Shape := ⟨2, ![4096, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDaRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpGwOut.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpGwOutRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDh.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDhRefIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpGwIn.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpGwInRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixDm.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDmRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixGw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixGwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnDo.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnDoRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnGw.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnGwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvDy.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDyRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvGw.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ConvGwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InGw.lean ====
abbrev S8192x1024 : Shape := ⟨2, ![8192, 1024]⟩
abbrev S8192x5120 : Shape := ⟨2, ![8192, 5120]⟩
abbrev S1024x5120 : Shape := ⟨2, ![1024, 5120]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGwRefIdeal.lean ====
abbrev S8192x1024 : Shape := ⟨2, ![8192, 1024]⟩
abbrev S8192x5120 : Shape := ⟨2, ![8192, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S_, .f32⟩
  | .hbm, ⟨3, _⟩ => ⟨S1024x5120, .f32⟩
  | .hbm, ⟨4, _⟩ => ⟨S8192x1024, .f32⟩
  | .hbm, ⟨5, _⟩ => ⟨S8192x5120, .f32⟩
  | .hbm, ⟨6, _⟩ => ⟨S8192x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDh.lean ====
abbrev S8192x5120 : Shape := ⟨2, ![8192, 5120]⟩
abbrev S1024x5120 : Shape := ⟨2, ![1024, 5120]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .local _ .vmem, ⟨0, _⟩ => ⟨S1024x5120, .bf16⟩
  | .local _ .vmem, ⟨1, _⟩ => ⟨S1024x5120, .bf16⟩
  | .local _ .vmem, ⟨2, _⟩ => ⟨S1024x5120, .bf16⟩
  | .local _ .vmem, ⟨3, _⟩ => ⟨S1024x1024, .f32⟩
  | .local _ .vmem, ⟨4, _⟩ => ⟨S1024x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDhRefIdeal.lean ====
abbrev S8192x5120 : Shape := ⟨2, ![8192, 5120]⟩
abbrev S1024x5120 : Shape := ⟨2, ![1024, 5120]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S_, .f32⟩
  | .hbm, ⟨3, _⟩ => ⟨S8192x1024, .f32⟩
  | .hbm, ⟨4, _⟩ => ⟨S1024x5120, .f32⟩
  | .hbm, ⟨5, _⟩ => ⟨S8192x5120, .f32⟩
  | .hbm, ⟨6, _⟩ => ⟨S8192x5120, .f32⟩
  | .hbm, ⟨7, _⟩ => ⟨S8192x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S8192x1024 : Shape := ⟨2, ![8192, 1024]⟩
abbrev S1024x5120 : Shape := ⟨2, ![1024, 5120]⟩
abbrev S8192x5120 : Shape := ⟨2, ![8192, 5120]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x5120, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x1024 : Shape := ⟨2, ![8192, 1024]⟩
abbrev S1024x5120 : Shape := ⟨2, ![1024, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x1024, .f32⟩
  | .hbm, ⟨3, _⟩ => ⟨S1024x5120, .f32⟩
  | .hbm, ⟨4, _⟩ => ⟨S8192x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ConvOut.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOutRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnOut.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpIn.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpOut.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutRefIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamGain.lean ====
abbrev S8x2x1024 : Shape := ⟨3, ![8, 2, 1024]⟩
abbrev S2x1024 : Shape := ⟨2, ![2, 1024]⟩
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S8x2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainRefIdeal.lean ====
abbrev S8x2x1024 : Shape := ⟨3, ![8, 2, 1024]⟩
abbrev S2x1024 : Shape := ⟨2, ![2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S_, .f32⟩
  | .hbm, ⟨29, _⟩ => ⟨S2x1024, .f32⟩
  | .hbm, ⟨30, _⟩ => ⟨S2x1024, .f32⟩
  | .hbm, ⟨31, _⟩ => ⟨S2x1024, .f32⟩
  | .hbm, ⟨32, _⟩ => ⟨S_, .f32⟩
  | .hbm, ⟨33, _⟩ => ⟨S2x1024, .f32⟩
  | .hbm, ⟨34, _⟩ => ⟨S2x1024, .f32⟩
  | .hbm, ⟨35, _⟩ => ⟨S2x1024, .f32⟩
  | .hbm, ⟨36, _⟩ => ⟨S_, .f32⟩
  | .hbm, ⟨37, _⟩ => ⟨S2x1024, .f32⟩
  | .hbm, ⟨38, _⟩ => ⟨S2x1024, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamBAda.lean ====
abbrev S8x2x6144 : Shape := ⟨3, ![8, 2, 6144]⟩
abbrev S2x6144 : Shape := ⟨2, ![2, 6144]⟩
abbrev S1x2x6144 : Shape := ⟨3, ![1, 2, 6144]⟩

abbrev nBuf : Space → Nat
  | .hbm => 8
  | .vmem => 8
  | .smem => 0
  | _ => 0

abbrev bufTy : (tb : Table) → Fin (tcTables nBuf tb) → BufTy
  | .hbm, ⟨0, _⟩ => ⟨S8x2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .hbm, ⟨7, _⟩ => ⟨S2x6144, .f32⟩
  | .local _ .vmem, ⟨0, _⟩ => ⟨S8x2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | .local _ .vmem, ⟨7, _⟩ => ⟨S2x6144, .f32⟩
  | _, _ => ⟨S8x2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBAdaRefIdeal.lean ====
abbrev S8x2x6144 : Shape := ⟨3, ![8, 2, 6144]⟩
abbrev S2x6144 : Shape := ⟨2, ![2, 6144]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S_, .f32⟩
  | .hbm, ⟨7, _⟩ => ⟨S2x6144, .f32⟩
  | .hbm, ⟨8, _⟩ => ⟨S2x6144, .f32⟩
  | .hbm, ⟨9, _⟩ => ⟨S_, .f32⟩
  | .hbm, ⟨10, _⟩ => ⟨S2x6144, .f32⟩
  | .hbm, ⟨11, _⟩ => ⟨S2x6144, .f32⟩
  | .hbm, ⟨12, _⟩ => ⟨S2x6144, .f32⟩
  | .hbm, ⟨13, _⟩ => ⟨S_, .f32⟩
  | .hbm, ⟨14, _⟩ => ⟨S2x6144, .f32⟩
  | .hbm, ⟨15, _⟩ => ⟨S2x6144, .f32⟩
  | .hbm, ⟨16, _⟩ => ⟨S2x6144, .f32⟩
  | .hbm, ⟨17, _⟩ => ⟨S_, .f32⟩
  | .hbm, ⟨18, _⟩ => ⟨S2x6144, .f32⟩
  | .hbm, ⟨19, _⟩ => ⟨S2x6144, .f32⟩
  | .hbm, ⟨20, _⟩ => ⟨S2x6144, .f32⟩
  | .hbm, ⟨21, _⟩ => ⟨S_, .f32⟩
  | .hbm, ⟨22, _⟩ => ⟨S2x6144, .f32⟩
  | .hbm, ⟨23, _⟩ => ⟨S2x6144, .f32⟩
  | .hbm, ⟨24, _⟩ => ⟨S_, .f32⟩
  | .hbm, ⟨25, _⟩ => ⟨S2x6144, .f32⟩
  | .hbm, ⟨26, _⟩ => ⟨S2x6144, .f32⟩
  | .hbm, ⟨27, _⟩ => ⟨S2x6144, .f32⟩
  | .hbm, ⟨28, _⟩ => ⟨S_, .f32⟩
  | .hbm, ⟨29, _⟩ => ⟨S2x6144, .f32⟩
  | .hbm, ⟨30, _⟩ => ⟨S2x6144, .f32⟩
  | .hbm, ⟨31, _⟩ => ⟨S2x6144, .f32⟩
  | .hbm, ⟨32, _⟩ => ⟨S_, .f32⟩
  | .hbm, ⟨33, _⟩ => ⟨S2x6144, .f32⟩
  | .hbm, ⟨34, _⟩ => ⟨S2x6144, .f32⟩
  | .hbm, ⟨35, _⟩ => ⟨S2x6144, .f32⟩
  | .hbm, ⟨36, _⟩ => ⟨S_, .f32⟩
  | .hbm, ⟨37, _⟩ => ⟨S2x6144, .f32⟩
  | .hbm, ⟨38, _⟩ => ⟨S2x6144, .f32⟩
  | _, _ => ⟨S8x2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConvW.lean ====
abbrev S8x6x64 : Shape := ⟨3, ![8, 6, 64]⟩
abbrev S6x64 : Shape := ⟨2, ![6, 64]⟩
abbrev S1x6x64 : Shape := ⟨3, ![1, 6, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S6x64, .f32⟩
  | .hbm, ⟨5, _⟩ => ⟨S6x64, .f32⟩
  | .hbm, ⟨6, _⟩ => ⟨S6x64, .f32⟩
  | .hbm, ⟨7, _⟩ => ⟨S6x64, .f32⟩
  | .local _ .vmem, ⟨0, _⟩ => ⟨S8x6x64, .f32⟩
  | .local _ .vmem, ⟨1, _⟩ => ⟨S6x64, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S6x64, .f32⟩
  | .local _ .vmem, ⟨7, _⟩ => ⟨S6x64, .f32⟩
  | _, _ => ⟨S8x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x6x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvWRefIdeal.lean ====
abbrev S8x6x64 : Shape := ⟨3, ![8, 6, 64]⟩
abbrev S6x64 : Shape := ⟨2, ![6, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S_, .f32⟩
  | .hbm, ⟨5, _⟩ => ⟨S6x64, .f32⟩
  | .hbm, ⟨6, _⟩ => ⟨S_, .f32⟩
  | .hbm, ⟨7, _⟩ => ⟨S6x64, .f32⟩
  | .hbm, ⟨8, _⟩ => ⟨S6x64, .f32⟩
  | .hbm, ⟨9, _⟩ => ⟨S_, .f32⟩
  | .hbm, ⟨10, _⟩ => ⟨S6x64, .f32⟩
  | .hbm, ⟨11, _⟩ => ⟨S6x64, .f32⟩
  | .hbm, ⟨12, _⟩ => ⟨S6x64, .f32⟩
  | .hbm, ⟨13, _⟩ => ⟨S_, .f32⟩
  | .hbm, ⟨14, _⟩ => ⟨S6x64, .f32⟩
  | .hbm, ⟨15, _⟩ => ⟨S6x64, .f32⟩
  | .hbm, ⟨16, _⟩ => ⟨S6x64, .f32⟩
  | .hbm, ⟨17, _⟩ => ⟨S_, .f32⟩
  | .hbm, ⟨18, _⟩ => ⟨S6x64, .f32⟩
  | .hbm, ⟨19, _⟩ => ⟨S6x64, .f32⟩
  | .hbm, ⟨20, _⟩ => ⟨S6x64, .f32⟩
  | .hbm, ⟨21, _⟩ => ⟨S_, .f32⟩
  | .hbm, ⟨22, _⟩ => ⟨S6x64, .f32⟩
  | .hbm, ⟨23, _⟩ => ⟨S6x64, .f32⟩
  | .hbm, ⟨24, _⟩ => ⟨S_, .f32⟩
  | .hbm, ⟨25, _⟩ => ⟨S6x64, .f32⟩
  | .hbm, ⟨26, _⟩ => ⟨S6x64, .f32⟩
  | .hbm, ⟨27, _⟩ => ⟨S6x64, .f32⟩
  | .hbm, ⟨28, _⟩ => ⟨S_, .f32⟩
  | .hbm, ⟨29, _⟩ => ⟨S6x64, .f32⟩
  | .hbm, ⟨30, _⟩ => ⟨S6x64, .f32⟩
  | .hbm, ⟨31, _⟩ => ⟨S6x64, .f32⟩
  | .hbm, ⟨32, _⟩ => ⟨S_, .f32⟩
  | .hbm, ⟨33, _⟩ => ⟨S6x64, .f32⟩
  | .hbm, ⟨34, _⟩ => ⟨S6x64, .f32⟩
  | .hbm, ⟨35, _⟩ => ⟨S6x64, .f32⟩
  | .hbm, ⟨36, _⟩ => ⟨S_, .f32⟩
  | .hbm, ⟨37, _⟩ => ⟨S6x64, .f32⟩
  | .hbm, ⟨38, _⟩ => ⟨S6x64, .f32⟩
  | _, _ => ⟨S8x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S8x1024x640 : Shape := ⟨3, ![8, 1024, 640]⟩
abbrev S2x1024x640 : Shape := ⟨3, ![2, 1024, 640]⟩
abbrev S8x256x640 : Shape := ⟨3, ![8, 256, 640]⟩
abbrev S1x256x640 : Shape := ⟨3, ![1, 256, 640]⟩
abbrev S256x640 : Shape := ⟨2, ![256, 640]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x640, .bf16⟩
  | .hbm, ⟨1, _⟩ => ⟨S8x1024x640, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S2x1024x640, .f32⟩
  | .hbm, ⟨12, _⟩ => ⟨S2x1024x640, .f32⟩
  | .local _ .vmem, ⟨0, _⟩ => ⟨S8x256x640, .bf16⟩
  | .local _ .vmem, ⟨1, _⟩ => ⟨S8x256x640, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S8x256x640, .bf16⟩
  | .local _ .vmem, ⟨17, _⟩ => ⟨S8x256x640, .bf16⟩
  | .local _ .vmem, ⟨18, _⟩ => ⟨S1x256x640, .f32⟩
  | .local _ .vmem, ⟨19, _⟩ => ⟨S1x256x640, .f32⟩
  | .local _ .vmem, ⟨20, _⟩ => ⟨S1x256x640, .f32⟩
  | .local _ .vmem, ⟨21, _⟩ => ⟨S1x256x640, .f32⟩
  | .local _ .vmem, ⟨22, _⟩ => ⟨S1x256x640, .f32⟩
  | .local _ .vmem, ⟨23, _⟩ => ⟨S1x256x640, .f32⟩
  | .local _ .vmem, ⟨24, _⟩ => ⟨S1x256x640, .f32⟩
  | .local _ .vmem, ⟨25, _⟩ => ⟨S1x256x640, .f32⟩
  | .local _ .vmem, ⟨26, _⟩ => ⟨S1x256x640, .f32⟩
  | .local _ .vmem, ⟨27, _⟩ => ⟨S1x256x640, .f32⟩
  | .local _ .vmem, ⟨28, _⟩ => ⟨S1x256x640, .f32⟩
  | .local _ .vmem, ⟨29, _⟩ => ⟨S1x256x640, .f32⟩
  | .local _ .vmem, ⟨30, _⟩ => ⟨S1x256x640, .f32⟩
  | .local _ .vmem, ⟨31, _⟩ => ⟨S1x256x640, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x640 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamInRefIdeal.lean ====
abbrev S8x1024x640 : Shape := ⟨3, ![8, 1024, 640]⟩
abbrev S2x1024x640 : Shape := ⟨3, ![2, 1024, 640]⟩
abbrev S_ : Shape := ⟨0, ![]⟩
abbrev S1024x640 : Shape := ⟨2, ![1024, 640]⟩
abbrev S1x1024x640 : Shape := ⟨3, ![1, 1024, 640]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S8x1024x640, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S8x1024x640, .f32⟩
  | .hbm, ⟨6, _⟩ => ⟨S_, .f32⟩
  | .hbm, ⟨7, _⟩ => ⟨S1024x640, .f32⟩
  | .hbm, ⟨8, _⟩ => ⟨S8x1024x640, .f32⟩
  | .hbm, ⟨9, _⟩ => ⟨S_, .f32⟩
  | .hbm, ⟨10, _⟩ => ⟨S1024x640, .f32⟩
  | .hbm, ⟨11, _⟩ => ⟨S1x1024x640, .f32⟩
  | .hbm, ⟨12, _⟩ => ⟨S1x1024x640, .f32⟩
  | .hbm, ⟨13, _⟩ => ⟨S2x1024x640, .f32⟩
  | .hbm, ⟨14, _⟩ => ⟨S_, .f32⟩
  | .hbm, ⟨15, _⟩ => ⟨S2x1024x640, .f32⟩
  | .hbm, ⟨16, _⟩ => ⟨S2x1024x640, .f32⟩
  | .hbm, ⟨17, _⟩ => ⟨S_, .f32⟩
  | .hbm, ⟨18, _⟩ => ⟨S2x1024x640, .f32⟩
  | .hbm, ⟨19, _⟩ => ⟨S2x1024x640, .f32⟩
  | .hbm, ⟨20, _⟩ => ⟨S2x1024x640, .f32⟩
  | .hbm, ⟨21, _⟩ => ⟨S_, .f32⟩
  | .hbm, ⟨22, _⟩ => ⟨S2x1024x640, .f32⟩
  | .hbm, ⟨23, _⟩ => ⟨S2x1024x640, .f32⟩
  | .hbm, ⟨24, _⟩ => ⟨S2x1024x640, .f32⟩
  | .hbm, ⟨25, _⟩ => ⟨S_, .f32⟩
  | .hbm, ⟨26, _⟩ => ⟨S2x1024x640, .f32⟩
  | .hbm, ⟨27, _⟩ => ⟨S2x1024x640, .f32⟩
  | .hbm, ⟨28, _⟩ => ⟨S2x1024x640, .f32⟩
  | .hbm, ⟨29, _⟩ => ⟨S_, .f32⟩
  | .hbm, ⟨30, _⟩ => ⟨S2x1024x640, .f32⟩
  | .hbm, ⟨31, _⟩ => ⟨S2x1024x640, .f32⟩
  | .hbm, ⟨32, _⟩ => ⟨S_, .f32⟩
  | .hbm, ⟨33, _⟩ => ⟨S2x1024x640, .f32⟩
  | .hbm, ⟨34, _⟩ => ⟨S2x1024x640, .f32⟩
  | .hbm, ⟨35, _⟩ => ⟨S2x1024x640, .f32⟩
  | .hbm, ⟨36, _⟩ => ⟨S_, .f32⟩
  | .hbm, ⟨37, _⟩ => ⟨S2x1024x640, .f32⟩
  | .hbm, ⟨38, _⟩ => ⟨S2x1024x640, .f32⟩
  | .hbm, ⟨39, _⟩ => ⟨S2x1024x640, .f32⟩
  | .hbm, ⟨40, _⟩ => ⟨S_, .f32⟩
  | .hbm, ⟨41, _⟩ => ⟨S2x1024x640, .f32⟩
  | .hbm, ⟨42, _⟩ => ⟨S2x1024x640, .f32⟩
  | .hbm, ⟨43, _⟩ => ⟨S2x1024x640, .f32⟩
  | .hbm, ⟨44, _⟩ => ⟨S_, .f32⟩
  | .hbm, ⟨45, _⟩ => ⟨S2x1024x640, .f32⟩
  | .hbm, ⟨46, _⟩ => ⟨S2x1024x640, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamProj.lean ====
abbrev S8x512x128 : Shape := ⟨3, ![8, 512, 128]⟩
abbrev S2x512x128 : Shape := ⟨3, ![2, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 13
  | .vmem => 32
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S2x512x128, .f32⟩
  | .hbm, ⟨11, _⟩ => ⟨S2x512x128, .f32⟩
  | .hbm, ⟨12, _⟩ => ⟨S2x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S8x256x128, .bf16⟩
  | .local _ .vmem, ⟨17, _⟩ => ⟨S8x256x128, .bf16⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamProjRefIdeal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamMlpIn.lean ====
abbrev S8x1024x512 : Shape := ⟨3, ![8, 1024, 512]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S8x256x512, .bf16⟩
  | .local _ .vmem, ⟨17, _⟩ => ⟨S8x256x512, .bf16⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamMlpInRefIdeal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamMlpOut.lean ====
abbrev S8x512x1024 : Shape := ⟨3, ![8, 512, 1024]⟩
abbrev S2x512x1024 : Shape := ⟨3, ![2, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S8x256x1024, .bf16⟩
  | .local _ .vmem, ⟨17, _⟩ => ⟨S8x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamMlpOutRefIdeal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamAda.lean ====
abbrev S1x1024x768 : Shape := ⟨3, ![1, 1024, 768]⟩
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 13
  | .vmem => 32
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S2x1024x768, .f32⟩
  | .hbm, ⟨12, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | .local _ .vmem, ⟨22, _⟩ => ⟨S1x256x768, .f32⟩
  | .local _ .vmem, ⟨23, _⟩ => ⟨S1x256x768, .f32⟩
  | .local _ .vmem, ⟨24, _⟩ => ⟨S1x256x768, .f32⟩
  | .local _ .vmem, ⟨25, _⟩ => ⟨S1x256x768, .f32⟩
  | .local _ .vmem, ⟨26, _⟩ => ⟨S1x256x768, .f32⟩
  | .local _ .vmem, ⟨27, _⟩ => ⟨S1x256x768, .f32⟩
  | .local _ .vmem, ⟨28, _⟩ => ⟨S1x256x768, .f32⟩
  | .local _ .vmem, ⟨29, _⟩ => ⟨S1x256x768, .f32⟩
  | .local _ .vmem, ⟨30, _⟩ => ⟨S1x256x768, .f32⟩
  | .local _ .vmem, ⟨31, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamAdaRefIdeal.lean ====
abbrev S1x1024x768 : Shape := ⟨3, ![1, 1024, 768]⟩
abbrev S2x1024x768 : Shape := ⟨3, ![2, 1024, 768]⟩
abbrev S_ : Shape := ⟨0, ![]⟩
abbrev S1024x768 : Shape := ⟨2, ![1024, 768]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1x1024x768, .f32⟩
  | .hbm, ⟨10, _⟩ => ⟨S1x1024x768, .f32⟩
  | .hbm, ⟨11, _⟩ => ⟨S2x1024x768, .f32⟩
  | .hbm, ⟨12, _⟩ => ⟨S_, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S2x1024x768, .f32⟩
  | .hbm, ⟨27, _⟩ => ⟨S_, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2x1024x768, .f32⟩
  | .hbm, ⟨38, _⟩ => ⟨S_, .f32⟩
  | .hbm, ⟨39, _⟩ => ⟨S2x1024x768, .f32⟩
  | .hbm, ⟨40, _⟩ => ⟨S2x1024x768, .f32⟩
  | .hbm, ⟨41, _⟩ => ⟨S2x1024x768, .f32⟩
  | .hbm, ⟨42, _⟩ => ⟨S_, .f32⟩
  | .hbm, ⟨43, _⟩ => ⟨S2x1024x768, .f32⟩
  | .hbm, ⟨44, _⟩ => ⟨S2x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Prenorm.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Postnorm.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostnormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== PrenormBwd.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_21 : BitVec 32 := 0#32
  let v44 : BitVec 1 := Scalar.cmpi .ne v43 c0_i32_21
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrenormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Gates.lean ====
abbrev S8192x5120 : Shape := ⟨2, ![8192, 5120]⟩
abbrev S8192x1024 : Shape := ⟨2, ![8192, 1024]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x5120, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S8192x5120 : Shape := ⟨2, ![8192, 5120]⟩
abbrev S8192x1024 : Shape := ⟨2, ![8192, 1024]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.PrenormValue.lean ====
module

public import proofs.«01_k».proof.Proof.Gen.PrenormIdeal.Value
public import proofs.«01_k».proof.Proof.Gen.PrenormRefIdeal.Read
public import Idealize.ShloMosaic.Lib.Pipeline.ValueKit

/-! The modulated normalisation before a branch: every entry the kernel computes, in blocks of 1024 rows, is the reference's. -/

@[expose] public section

set_option maxRecDepth 16384

noncomputable section

open Idealize.ShloMosaic Idealize.ShloMosaic.TcCoe Idealize.SL.Sem
open Idealize.ShloMosaic.Pipeline (Dat)

namespace Cert.PrenormIdeal.Step

open Cert.PrenormIdeal Cert.PrenormIdeal.Gen Cert.PrenormRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The result array is the reference's. -/
theorem final4 (c : Dev nD) : (dats m 0 c).arrAt 4 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  blk_point [iblk, V, place t]

end Cert.PrenormIdeal.Step

end
-- ==== Proof.PostnormValue.lean ====
module

public import proofs.«01_k».proof.Proof.Gen.PostnormIdeal.Value
public import proofs.«01_k».proof.Proof.Gen.PostnormRefIdeal.Read
public import Idealize.ShloMosaic.Lib.Pipeline.ValueKit

/-! The gated normalisation after a branch, added to the residual: every entry the kernel computes, in blocks of 1024 rows, is the
reference's. -/

@[expose] public section

set_option maxRecDepth 16384

noncomputable section

open Idealize.ShloMosaic Idealize.ShloMosaic.TcCoe Idealize.SL.Sem
open Idealize.ShloMosaic.Pipeline (Dat)

namespace Cert.PostnormIdeal.Step

open Cert.PostnormIdeal Cert.PostnormIdeal.Gen Cert.PostnormRefIdeal.Read

variable (m : (ℓ : Loc nD τ sig) → Buf (Elt Ideal) ℓ)

/-- Where each window's block sits at grid point `t`. -/
theorem place : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The result array is the reference's. -/
theorem final4 (c : Dev nD) : (dats m 0 c).arrAt 4 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, place t]

end Cert.PostnormIdeal.Step

end
-- ==== Proof.NormBack.lean ====
module

public import Idealize.ShloMosaic.Lib.Pipeline.ValueKit

/-!
# The gradient of a normalised row

A row `x` of 1024 numbers is multiplied by `inv x`, one over the root of its mean square plus a small constant. The gradient is
stated in two ways below: as the kernel computes it, from the normalised row, and as differentiating the plain formula gives it,
from the row itself and `inv x / var x`. They agree wherever the gradient that arrives is made of numbers. The row itself may hold
an infinity: then `var x` is infinite, `inv x` is zero, and both ways give zero.
-/

@[expose] public section

noncomputable section

open Idealize.ShloMosaic

namespace Cert.NormBack

/-- The number a printed single-precision word stands for. -/
abbrev word (b : BitVec 32) : EReal := Ideal.ofBits .f32 b

theorem word_n : word 0x44800000#32 = ((1024 : ℝ) : EReal) := by
  simp [Ideal.ofBits, Ideal.ieee, -EReal.coe_mul]; norm_num

theorem word_half : word 0xBF000000#32 = ((-(1 / 2) : ℝ) : EReal) := by
  simp [Ideal.ofBits, Ideal.ieee, -EReal.coe_mul, -EReal.coe_neg]; norm_num

theorem word_eps : word 0x358637BD#32 = ((8796093 / 8796093022208 : ℝ) : EReal) := by
  simp [Ideal.ofBits, Ideal.ieee, -EReal.coe_mul]; norm_num

/-- The mean square of the row, plus the small constant. -/
def var (x : Fin 1024 → EReal) : EReal :=
  Ideal.div (∑ k, x k * x k) (word 0x44800000#32) + word 0x358637BD#32

/-- One over its root. -/
def inv (x : Fin 1024 → EReal) : EReal := Ideal.rsqrt (var x)

theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem square_nonneg (a : EReal) : 0 ≤ a * a := by
  induction a with
  | bot => simp
  | top => simp
  | coe r => exact_mod_cast mul_self_nonneg r

/-- A row is made of numbers, or its sum of squares is infinite. -/
theorem row_cases (x : Fin 1024 → EReal) :
    (∃ f : Fin 1024 → ℝ, x = fun k => (f k : EReal)) ∨ ∑ k, x k * x k = ⊤ := by
  by_cases h : ∀ k, x k ≠ ⊤ ∧ x k ≠ ⊥
  · exact .inl ⟨fun k => (x k).toReal, funext fun k => (EReal.coe_toReal (h k).1 (h k).2).symm⟩
  · right
    push Not at h
    obtain ⟨k, hk⟩ := h
    have hs : x k * x k = ⊤ := by
      by_cases ht : x k = ⊤
      · rw [ht]; simp
      · rw [hk ht]; simp
    refine top_le_iff.mp (hs.symm.le.trans ?_)
    exact Finset.single_le_sum (f := fun k => x k * x k) (fun i _ => square_nonneg (x i)) (Finset.mem_univ k)

/-- On a row of numbers the mean square is a positive number. -/
theorem inv_real (f : Fin 1024 → ℝ) :
    ∃ v : ℝ, 0 < v ∧ var (fun k => (f k : EReal)) = (v : EReal)
      ∧ inv (fun k => (f k : EReal)) = (((Real.sqrt v)⁻¹ : ℝ) : EReal) := by
  have hv : var (fun k => (f k : EReal)) = (((∑ k, f k * f k) * (1 / 1024) + 8796093 / 8796093022208 : ℝ) : EReal) := by
    unfold var
    rw [word_n, word_eps, Ideal.div_coe (by norm_num)]
    simp only [← EReal.coe_mul]
    rw [sum_coe, ← EReal.coe_mul, ← EReal.coe_add]
  have hp : 0 < (∑ k, f k * f k) * (1 / 1024) + 8796093 / 8796093022208 :=
    add_pos_of_nonneg_of_pos (mul_nonneg (Finset.sum_nonneg fun k _ => mul_self_nonneg (f k)) (by norm_num)) (by norm_num)
  refine ⟨_, hp, hv, ?_⟩
  unfold inv
  rw [hv, Ideal.rsqrt_coe, if_neg hp.not_gt, if_neg hp.ne']

/-- Where the sum of squares is infinite, so is the mean, and one over its root is zero. -/
theorem inv_top (x : Fin 1024 → EReal) (h : ∑ k, x k * x k = ⊤) : var x = ⊤ ∧ inv x = 0 := by
  have hv : var x = ⊤ := by
    unfold var
    rw [h, word_n, word_eps, Ideal.div_coe (by norm_num), EReal.top_mul_coe_of_pos (by norm_num), EReal.top_add_coe]
  exact ⟨hv, by unfold inv; rw [hv, Ideal.rsqrt_top]⟩

/-- A normalised row is made of numbers. -/
theorem unit_real (x : Fin 1024 → EReal) (j : Fin 1024) : ∃ r : ℝ, x j * inv x = (r : EReal) := by
  rcases row_cases x with ⟨f, rfl⟩ | h
  · obtain ⟨v, -, -, hi⟩ := inv_real f
    exact ⟨f j * (Real.sqrt v)⁻¹, by rw [hi, EReal.coe_mul]⟩
  · exact ⟨0, by rw [(inv_top x h).2, mul_zero, EReal.coe_zero]⟩

/-- THE TWO WAYS AGREE: the kernel's gradient of a row and the differentiated formula's. -/
theorem back_eq (x d : Fin 1024 → EReal) (hd : ∀ k, ∃ r : ℝ, d k = (r : EReal)) (j : Fin 1024) :
    inv x * (d j - x j * inv x * Ideal.div (∑ k, d k * (x k * inv x)) (word 0x44800000#32))
      = d j * inv x
        + x j * Ideal.div ((∑ k, x k * d k) * (word 0xBF000000#32 * Ideal.div (inv x) (var x))) (word 0x44800000#32)
        + Ideal.div ((∑ k, x k * d k) * (word 0xBF000000#32 * Ideal.div (inv x) (var x))) (word 0x44800000#32) * x j := by
  rw [word_n, word_half, Ideal.div_coe (by norm_num), Ideal.div_coe (by norm_num)]
  rcases row_cases x with ⟨f, rfl⟩ | h
  · choose e he using hd
    obtain ⟨v, hv, hvar, hi⟩ := inv_real f
    rw [hvar, hi, Ideal.div_coe hv.ne']
    simp only [he, ← EReal.coe_mul]
    rw [sum_coe, sum_coe]
    simp only [← EReal.coe_mul, ← EReal.coe_add, ← EReal.coe_sub]
    refine congrArg _ ?_
    have hs : (Real.sqrt v)⁻¹ * (Real.sqrt v)⁻¹ = 1 / v := by
      rw [← mul_inv, Real.mul_self_sqrt hv.le, one_div]
    have hS : ∑ k, e k * (f k * (Real.sqrt v)⁻¹) = (∑ k, f k * e k) * (Real.sqrt v)⁻¹ := by
      rw [Finset.sum_mul]
      exact Finset.sum_congr rfl fun k _ => by ring
    rw [hS, ← hs]
    ring
  · obtain ⟨hv, hi⟩ := inv_top x h
    have hz : Ideal.div (0 : EReal) (⊤ : EReal) = 0 := by
      rw [Ideal.div, if_neg (by simp), zero_mul]
    rw [hv, hi, hz]
    simp

/-- A number times a sum of numbers is the sum of the products. -/
theorem sum_mul_real {n : ℕ} (a : Fin n → EReal) (ha : ∀ k, ∃ r : ℝ, a k = (r : EReal)) (g : EReal)
    (hg : ∃ r : ℝ, g = (r : EReal)) : (∑ k, a k) * g = ∑ k, a k * g := by
  choose e he using ha
  obtain ⟨r, rfl⟩ := hg
  simp only [he, ← EReal.coe_mul]
  rw [sum_coe, sum_coe, ← EReal.coe_mul, Finset.sum_mul]

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_one_add {a : EReal} (ha : ∃ r : ℝ, a = (r : EReal)) : ∃ r : ℝ, 1 + a = (r : EReal) := by
  obtain ⟨r, rfl⟩ := ha
  exact ⟨1 + r, by rw [EReal.coe_add, EReal.coe_one]⟩

/-- What minus itself is zero is a number. -/
theorem real_of_sub {a : EReal} (h : a - a = 0) : ∃ r : ℝ, a = (r : EReal) := by
  induction a with
  | bot => simp at h
  | top => simp at h
  | coe r => exact ⟨r, rfl⟩

end Cert.NormBack

end
-- ==== Proof.PrenormBwdValue.lean ====
module

public import proofs.«01_k».proof.Proof.Gen.PrenormBwdIdeal.Value
public import proofs.«01_k».proof.Proof.Gen.PrenormBwdRefIdeal.Read
public import proofs.«01_k».proof.Proof.NormBack
public import Idealize.ShloMosaic.Lib.Pipeline.ValueKit
public import Idealize.ShloMosaic.Lib.Pipeline.Value

/-!
# The gradient of the modulated normalisation

The kernel works in eight blocks of 1024 rows. Each entry of the row gradient is the reference's by `NormBack.back_eq`; each of the
three parameter gradients is a sum over all rows, which the kernel adds up block by block.
-/

@[expose] public section

set_option maxRecDepth 16384

noncomputable section

open Idealize.ShloMosaic Idealize.ShloMosaic.TcCoe Idealize.SL.Sem
open Idealize.ShloMosaic.Pipeline (Dat)

namespace Cert.PrenormBwdIdeal.Step

open Cert.PrenormBwdIdeal Cert.PrenormBwdIdeal.Gen Cert.PrenormBwdRefIdeal.Read Cert.NormBack

variable (m : (ℓ : Loc nD τ sig) → Buf (Elt Ideal) ℓ)

/-- Where each window's block sits at grid point `t`: row block `t`, or the one row of a parameter. -/
theorem place : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] ∧ win0_6.index t = ![0, 0] ∧ win0_7.index t = ![0, 0]
    ∧ win0_8.index t = ![0, 0] :=
  (by decide +kernel : ∀ t : Fin grid0.N, _)

/-- The row of the whole sequence that row `r` of block `t` is. -/
abbrev row (t : Fin cfg0.N) (r : Fin 1024) : Fin 8192 :=
  ⟨t.val * 1024 + r.val, by have h : t.val < 8 := lt_of_lt_of_eq t.isLt N_0; omega⟩

/-- The arguments as arrays: the gradient that arrives, the input, the gain, the scale and the gradient past the norm. -/
abbrev dh (c : Dev nD) : Vec Ideal S8192x1024 .f32 := m ((c : Thread nD τ).loc main_arg0)
abbrev x (c : Dev nD) : Vec Ideal S8192x1024 .f32 := m ((c : Thread nD τ).loc main_arg1)
abbrev g (c : Dev nD) : Vec Ideal S1x1024 .f32 := m ((c : Thread nD τ).loc main_arg2)
abbrev sc (c : Dev nD) : Vec Ideal S1x1024 .f32 := m ((c : Thread nD τ).loc main_arg3)
abbrev dres (c : Dev nD) : Vec Ideal S8192x1024 .f32 := m ((c : Thread nD τ).loc main_arg4)

theorem dh_block (c : Dev nD) (t : Fin cfg0.N) (r k : Fin 1024) : iblk m c 0 t (ix2 r k) = dh m c (ix2 (row t r) k) := by
  blk_point [iblk, V, place t]

theorem x_block (c : Dev nD) (t : Fin cfg0.N) (r k : Fin 1024) : iblk m c 1 t (ix2 r k) = x m c (ix2 (row t r) k) := by
  blk_point [iblk, V, place t]

theorem g_block (c : Dev nD) (t : Fin cfg0.N) (k : Fin 1024) : iblk m c 2 t (ix2 0 k) = g m c (ix2 0 k) := by
  blk_point [iblk, V, place t]

theorem sc_block (c : Dev nD) (t : Fin cfg0.N) (k : Fin 1024) : iblk m c 3 t (ix2 0 k) = sc m c (ix2 0 k) := by
  blk_point [iblk, V, place t]

theorem dres_block (c : Dev nD) (t : Fin cfg0.N) (r k : Fin 1024) : iblk m c 4 t (ix2 r k) = dres m c (ix2 (row t r) k) := by
  blk_point [iblk, V, place t]

/-- Every entry of the gradient that arrives, of the gain and of the scale is a number. -/
structure Real (c : Dev nD) : Prop where
  dh : ∀ i, ∃ r : ℝ, dh m c i = (r : EReal)
  g : ∀ i, ∃ r : ℝ, g m c i = (r : EReal)
  sc : ∀ i, ∃ r : ℝ, sc m c i = (r : EReal)

/-- The row of the input, and the row of the gradient at the normalised input. -/
abbrev xs (c : Dev nD) (l : Fin 8192) : Fin 1024 → EReal := fun k => x m c (ix2 l k)
abbrev ds (c : Dev nD) (l : Fin 8192) : Fin 1024 → EReal :=
  fun k => dh m c (ix2 l k) * (g m c (ix2 0 k) * (1 + sc m c (ix2 0 k)))

/-- The kernel's row gradient, at the block's entries. -/
theorem ker_dx (c : Dev nD) (t : Fin cfg0.N) (r k : Fin 1024) :
    k0_pay9 (F := Ideal) (iblk m c 1 t) (iblk m c 0 t) (iblk m c 3 t) (iblk m c 2 t) (iblk m c 4 t) (ix2 r k)
      = dres m c (ix2 (row t r) k) + (inv (xs m c (row t r)) * (ds m c (row t r) k - xs m c (row t r) k * inv (xs m c (row t r))
          * Ideal.div (∑ i, ds m c (row t r) i * (xs m c (row t r) i * inv (xs m c (row t r)))) (word 0x44800000#32)) : EReal) := by
  pointwise [k0_pay9, k0_pay6, k0_pay7, k0_pay8, dh_block, x_block, g_block, sc_block, dres_block]
  rfl

/-- The reference's row gradient. -/
theorem ref_dx (c : Dev nD) (l : Fin 8192) (k : Fin 1024) :
    val_main_v49 (F := Ideal) (dh m c) (x m c) (g m c) (sc m c) (dres m c) (ix2 l k)
      = dres m c (ix2 l k) + (ds m c l k * inv (xs m c l)
        + xs m c l k * Ideal.div ((∑ i, xs m c l i * ds m c l i) * (word 0xBF000000#32 * Ideal.div (inv (xs m c l)) (var (xs m c l)))) (word 0x44800000#32)
        + Ideal.div ((∑ i, xs m c l i * ds m c l i) * (word 0xBF000000#32 * Ideal.div (inv (xs m c l)) (var (xs m c l)))) (word 0x44800000#32) * xs m c l k : EReal) := by
  have comm : ∀ a b e : EReal, a * (1 + b) * e = a * (e * (1 + b)) := fun a b e => by rw [mul_assoc, mul_comm (1 + b)]
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v29,
    val_main_v28, val_main_v22, val_main_v17, val_main_v16, val_main_v11, val_main_v10, val_main_v9, val_main_v8, val_main_v7,
    val_main_v6, val_main_v5, val_main_v4, val_main_v3, val_main_v2, val_main_v1, val_main_cst_0, val_main_cst_1, val_main_cst_2,
    val_main_cst_3, val_main_cst_4, val_main_cst_8, val_main_cst_9, val_main_cst_10]
  simp only [Fin.sum_univ_one, comm]
  rfl

/-- The two row gradients are one. -/
theorem dx_eq (c : Dev nD) (h : Real m c) (t : Fin cfg0.N) (r k : Fin 1024) :
    k0_pay9 (F := Ideal) (iblk m c 1 t) (iblk m c 0 t) (iblk m c 3 t) (iblk m c 2 t) (iblk m c 4 t) (ix2 r k)
      = val_main_v49 (F := Ideal) (dh m c) (x m c) (g m c) (sc m c) (dres m c) (ix2 (row t r) k) := by
  rw [ker_dx, ref_dx, back_eq (xs m c (row t r)) (ds m c (row t r))
    (fun i => real_mul (h.dh _) (real_mul (h.g _) (real_one_add (h.sc _)))) k]

/-- What the body leaves of the row gradient, at either kind of point. -/
theorem left5 (c : Dev nD) (t : Fin cfg0.N) (y : S1024x1024.Idx) : (outsAt0 m c t.val t.isLt).1 y
    = k0_pay9 (F := Ideal) (iblk m c 1 t) (iblk m c 0 t) (iblk m c 3 t) (iblk m c 2 t) (iblk m c 4 t) y := by
  have ht : t.val < 8 := lt_of_lt_of_eq t.isLt N_0
  by_cases h : t.val % 8 = 0
  · rw [outsAt0_A m c t h (by omega)]; frame_out
  · rw [outsAt0_B m c t h (by omega)]; frame_out

/-- The row gradient, with the gradient past the norm. -/
theorem final5 (c : Dev nD) (h : Real m c) : (dats m 0 c).arrAt 5 (cfgs 0).N
    = val_main_v49 (F := Ideal) (dh m c) (x m c) (g m c) (sc m c) (dres m c) := by
  refine (dats m 0 c).arrAt_eq_of_covers 5 _ (by decide +kernel) fun t _ y => ?_
  blk_simp
  rw [after0_5]
  refine (congrArg _ (eq_ix2 y)).trans ((left5 m c t _).trans ((dx_eq m c h t (y 0) (y 1)).trans ?_))
  blk_point [iblk, V, place t]

/-- A block's sum of the gradient that arrives. -/
theorem share6 (c : Dev nD) (t : Fin cfg0.N) (j : S1x1024.Idx) :
    k0_pay11 (F := Ideal) (iblk m c 0 t) j = ∑ r : Fin 1024, (dh m c (ix2 (row t r) (j 1)) : EReal) := by
  pointwise [k0_pay11, dh_block m c t]

theorem more6 (a b : Vec Ideal S1x1024 .f32) (j : S1x1024.Idx) : k0_pay3 (F := Ideal) a b j = b j + a j := by
  pointwise [k0_pay3]

theorem ref6 (d : Vec Ideal S8192x1024 .f32) (j : S1x1024.Idx) :
    val_main_v24 (F := Ideal) d j = ∑ l : Fin 8192, (d (ix2 l (j 1)) : EReal) := by
  pointwise [val_main_v24, val_main_v23, val_main_cst_5]

/-- The gradient of the shift. -/
theorem final6 (c : Dev nD) : (dats m 0 c).arrAt 6 (cfgs 0).N = val_main_v24 (F := Ideal) (dh m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => k0_pay11 (F := Ideal) (iblk m c 0 t) j)
    (fun t h j => by rw [outsAt0_A m c t h (by have : t.val < 8 := lt_of_lt_of_eq t.isLt N_0; omega)]; frame_out; exact (zero_add _).symm)
    (fun t h j => by rw [outsAt0_B m c t h (by omega)]; frame_out; rw [more6]) (le_of_eq N_0) t0_7 rfl j, zero_add, ref6]
  simp only [share6 m c]
  refine (Fin.sum_points_lanes_congr (A := 1) (L := 8192) 8
    (g := fun _ l => (dh m c (ix2 l (j 1)) : EReal))
    fun t r ha hl => ?_).trans (Fin.sum_univ_one _)
  have e : row t r = ⟨t.val % 8 * 1024 + r.val, hl⟩ := Fin.ext (by simp only [row]; omega)
  rw [e]

/-- A block's sum for the scale: the kernel multiplies the sum by the gain, the reference each row. -/
theorem share7 (c : Dev nD) (h : Real m c) (t : Fin cfg0.N) (j : S1x1024.Idx) :
    k0_pay1 (F := Ideal) (k0_pay12 (iblk m c 1 t) (iblk m c 0 t)) (iblk m c 2 t) j
      = ∑ r : Fin 1024, (xs m c (row t r) (j 1) * inv (xs m c (row t r)) * g m c (ix2 0 (j 1)) * dh m c (ix2 (row t r) (j 1)) : EReal) := by
  obtain ⟨a, b, rfl⟩ : ∃ (a : Fin 1) (b : Fin 1024), j = ix2 a b := ⟨_, _, eq_ix2 j⟩
  obtain rfl := Subsingleton.elim a 0
  refine Eq.trans ?_ ((sum_mul_real (fun r => dh m c (ix2 (row t r) b) * (xs m c (row t r) b * inv (xs m c (row t r))))
    (fun r => real_mul (h.dh _) (unit_real _ _)) (g m c (ix2 0 b)) (h.g _)).trans (Finset.sum_congr rfl fun r _ => ?_))
  · pointwise [k0_pay1, k0_pay12, k0_pay10, k0_pay7, k0_pay6, dh_block, x_block, g_block]
    rfl
  · rw [mul_assoc, mul_comm]; rfl

theorem more7 (a b e : Vec Ideal S1x1024 .f32) (j : S1x1024.Idx) :
    k0_pay4 (F := Ideal) a b e j = e j + k0_pay1 (F := Ideal) a b j := by
  pointwise [k0_pay4]

theorem ref7 (c : Dev nD) (j : S1x1024.Idx) : val_main_v27 (F := Ideal) (dh m c) (x m c) (g m c) j
    = ∑ l : Fin 8192, (xs m c l (j 1) * inv (xs m c l) * g m c (ix2 0 (j 1)) * dh m c (ix2 l (j 1)) : EReal) := by
  pointwise [val_main_v27, val_main_v26, val_main_v25, val_main_v22, val_main_v15, val_main_v14, val_main_v13, val_main_v12, val_main_v8,
    val_main_v7, val_main_v6, val_main_v5, val_main_v4, val_main_v3, val_main_v2, val_main_v1, val_main_cst_0, val_main_cst_1,
    val_main_cst_2, val_main_cst_6]
  rfl

/-- The gradient of the scale. -/
theorem final7 (c : Dev nD) (h : Real m c) : (dats m 0 c).arrAt 7 (cfgs 0).N = val_main_v27 (F := Ideal) (dh m c) (x m c) (g m c) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => k0_pay1 (F := Ideal) (k0_pay12 (iblk m c 1 t) (iblk m c 0 t)) (iblk m c 2 t) j)
    (fun t h j => by rw [outsAt0_A m c t h (by have : t.val < 8 := lt_of_lt_of_eq t.isLt N_0; omega)]; frame_out; exact (zero_add _).symm)
    (fun t h j => by rw [outsAt0_B m c t h (by omega)]; frame_out; rw [more7]) (le_of_eq N_0) t0_7 rfl j, zero_add, ref7]
  simp only [share7 m c h]
  refine (Fin.sum_points_lanes_congr (A := 1) (L := 8192) 8
    (g := fun _ l => (xs m c l (j 1) * inv (xs m c l) * g m c (ix2 0 (j 1)) * dh m c (ix2 l (j 1)) : EReal))
    fun t r ha hl => ?_).trans (Fin.sum_univ_one _)
  have e : row t r = ⟨t.val % 8 * 1024 + r.val, hl⟩ := Fin.ext (by simp only [row]; omega)
  rw [e]

/-- A block's sum for the gain: the kernel multiplies the sum by one plus the scale, the reference each row. -/
theorem share8 (c : Dev nD) (h : Real m c) (t : Fin cfg0.N) (j : S1x1024.Idx) :
    k0_pay2 (F := Ideal) (k0_pay8 (iblk m c 3 t)) (k0_pay10 (iblk m c 1 t) (iblk m c 0 t)) j
      = ∑ r : Fin 1024, (xs m c (row t r) (j 1) * inv (xs m c (row t r)) * (dh m c (ix2 (row t r) (j 1)) * (1 + sc m c (ix2 0 (j 1)))) : EReal) := by
  obtain ⟨a, b, rfl⟩ : ∃ (a : Fin 1) (b : Fin 1024), j = ix2 a b := ⟨_, _, eq_ix2 j⟩
  obtain rfl := Subsingleton.elim a 0
  refine Eq.trans ?_ ((sum_mul_real (fun r => dh m c (ix2 (row t r) b) * (xs m c (row t r) b * inv (xs m c (row t r))))
    (fun r => real_mul (h.dh _) (unit_real _ _)) (1 + sc m c (ix2 0 b)) (real_one_add (h.sc _))).trans (Finset.sum_congr rfl fun r _ => ?_))
  · pointwise [k0_pay2, k0_pay8, k0_pay10, k0_pay7, k0_pay6, dh_block, x_block, sc_block]
    rfl
  · rw [mul_comm (dh m c _), mul_assoc]; rfl

theorem more8 (a : Vec Ideal S1x1024 .f32) (b : Vec Ideal S1024x1024 .f32) (e : Vec Ideal S1x1024 .f32) (j : S1x1024.Idx) :
    k0_pay5 (F := Ideal) a b e j = e j + k0_pay2 (F := Ideal) a b j := by
  pointwise [k0_pay5]

theorem ref8 (c : Dev nD) (j : S1x1024.Idx) : val_main_v32 (F := Ideal) (dh m c) (x m c) (sc m c) j
    = ∑ l : Fin 8192, (xs m c l (j 1) * inv (xs m c l) * (dh m c (ix2 l (j 1)) * (1 + sc m c (ix2 0 (j 1)))) : EReal) := by
  pointwise [val_main_v32, val_main_v31, val_main_v30, val_main_v29, val_main_v28, val_main_v22, val_main_v17, val_main_v16, val_main_v13,
    val_main_v12, val_main_v8, val_main_v7, val_main_v6, val_main_v5, val_main_v4, val_main_v3, val_main_v2, val_main_v1, val_main_cst_0,
    val_main_cst_1, val_main_cst_2, val_main_cst_4, val_main_cst_7]
  rfl

/-- The gradient of the gain. -/
theorem final8 (c : Dev nD) (h : Real m c) : (dats m 0 c).arrAt 8 (cfgs 0).N = val_main_v32 (F := Ideal) (dh m c) (x m c) (sc m c) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t j => k0_pay2 (F := Ideal) (k0_pay8 (iblk m c 3 t)) (k0_pay10 (iblk m c 1 t) (iblk m c 0 t)) j)
    (fun t h j => by rw [outsAt0_A m c t h (by have : t.val < 8 := lt_of_lt_of_eq t.isLt N_0; omega)]; frame_out; exact (zero_add _).symm)
    (fun t h j => by rw [outsAt0_B m c t h (by omega)]; frame_out; rw [more8]) (le_of_eq N_0) t0_7 rfl j, zero_add, ref8]
  simp only [share8 m c h]
  refine (Fin.sum_points_lanes_congr (A := 1) (L := 8192) 8
    (g := fun _ l => (xs m c l (j 1) * inv (xs m c l) * (dh m c (ix2 l (j 1)) * (1 + sc m c (ix2 0 (j 1)))) : EReal))
    fun t r ha hl => ?_).trans (Fin.sum_univ_one _)
  have e : row t r = ⟨t.val % 8 * 1024 + r.val, hl⟩ := Fin.ext (by simp only [row]; omega)
  rw [e]

end Cert.PrenormBwdIdeal.Step

end
-- ==== Proof.GatesValue.lean ====
module

public import proofs.«01_k».proof.Proof.Gen.GatesIdeal.Value
public import proofs.«01_k».proof.Proof.Gen.GatesRefIdeal.Read
public import Idealize.ShloMosaic.Lib.Pipeline.ValueKit

/-! The two branches weighed by their sigmoid gates: every entry the kernel computes, in blocks of 1024 rows, is the reference's. -/

@[expose] public section

set_option maxRecDepth 16384

noncomputable section

open Idealize.ShloMosaic Idealize.ShloMosaic.TcCoe Idealize.SL.Sem
open Idealize.ShloMosaic.Pipeline (Dat)

namespace Cert.GatesIdeal.Step

open Cert.GatesIdeal Cert.GatesIdeal.Gen Cert.GatesRefIdeal.Read

variable (m : (ℓ : Loc nD τ sig) → Buf (Elt Ideal) ℓ)

/-- Where each window's block sits at grid point `t`. -/
theorem place : ∀ t : Fin cfg0.N, win0_0.index t = ![t.val, 3] ∧ win0_1.index t = ![t.val, 4] ∧ win0_2.index t = ![t.val, 0]
    ∧ win0_3.index t = ![t.val, 0] ∧ win0_4.index t = ![t.val, 0] :=
  (by decide +kernel : ∀ t : Fin grid0.N, _)

/-- The result array is the reference's. -/
theorem final4 (c : Dev nD) : (dats m 0 c).arrAt 4 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  have neg : ∀ x : EReal, 0 - x = -x := fun x => zero_sub x
  simp only [neg]
  blk_point [iblk, V, place t]

end Cert.GatesIdeal.Step

end
-- ==== Proof.ConvValue.lean ====
/-
  The gradient of the causal convolution, as values: every entry of the six results of the kernel's convolution gradient
  is the entry the reference computes from the same arguments.  The kernel works in blocks of 1024 rows and reads the rows
  just before and just after its block out of two small windows, zeroed at the ends of the sequence.
-/
module

public import proofs.«01_k».proof.Proof.Gen.ConvIdeal.Value
public import proofs.«01_k».proof.Proof.Gen.ConvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvIdeal.Step

open Cert.ConvIdeal Cert.ConvIdeal.Gen Cert.ConvRefIdeal.Read

variable (m : (ℓ : Loc nD τ sig) → Buf (Elt Ideal) ℓ)

/-- Where each window's block sits at grid point `t`: row block `t` of the tiles, the block of 8 rows before it (or the
    first) and the block of 8 rows after it (or the last). -/
theorem place : ∀ t : Fin cfg0.N, win0_0.index t = ![t.val, 0] ∧ win0_1.index t = ![t.val, 0]
    ∧ win0_2.index t = ![t.val, 1] ∧ win0_3.index t = ![t.val, 2] ∧ win0_4.index t = ![t.val * 128 - 1, 1]
    ∧ win0_5.index t = ![t.val * 128 - 1, 2] ∧ win0_6.index t = ![min (t.val * 128 + 128) 1023, 0]
    ∧ win0_7.index t = ![min (t.val * 128 + 128) 1023, 0] ∧ win0_8.index t = ![0, 0]
    ∧ win0_9.index t = ![t.val, 0] ∧ win0_10.index t = ![t.val, 0] ∧ win0_11.index t = ![t.val, 0]
    ∧ (grid0.coords t 0).val = t.val :=
  (by decide +kernel : ∀ t : Fin grid0.N, _)

/-- The row of the whole sequence that row `r` of block `t` is. -/
abbrev row (t : Fin cfg0.N) (r : Fin 1024) : Fin 8192 :=
  ⟨t.val * 1024 + r.val, by have h : t.val < 8 := lt_of_lt_of_eq t.isLt N_0; omega⟩

/-- Multiplication of extended reals commutes; stated here so that it rewrites a block's entries. -/
theorem swap (x y : EReal) : x * y = y * x := mul_comm x y

/-- The factor the kernel puts on the rows before its block is 1 except at the first block. -/
theorem select_first (t : Fin cfg0.N) : ∃ g : EReal, Scalar.select (Scalar.cmpi .sgt (BitVec.ofNat 32 t.val) 0#32) (1 : EReal) 0 = g
    ∧ (0 < t.val → g = 1) ∧ (t.val = 0 → g = 0) := by
  have h : ∀ t : Fin 8, Scalar.cmpi .sgt (BitVec.ofNat 32 t.val) 0#32 = BitVec.ofBool (decide (0 < t.val)) := by decide
  refine ⟨_, rfl, fun ht => ?_, fun ht => ?_⟩ <;> rw [h ⟨t.val, lt_of_lt_of_eq t.isLt N_0⟩] <;> simp [ht, Scalar.select]

/-- The factor the kernel puts on the rows after its block is 1 except at the last block. -/
theorem select_last (t : Fin cfg0.N) : ∃ g : EReal, Scalar.select (Scalar.cmpi .slt (BitVec.ofNat 32 t.val) 7#32) (1 : EReal) 0 = g
    ∧ (t.val < 7 → g = 1) ∧ (¬t.val < 7 → g = 0) := by
  have h : ∀ t : Fin 8, Scalar.cmpi .slt (BitVec.ofNat 32 t.val) 7#32 = BitVec.ofBool (decide (t.val < 7)) := by decide
  refine ⟨_, rfl, fun ht => ?_, fun ht => ?_⟩ <;> rw [h ⟨t.val, lt_of_lt_of_eq t.isLt N_0⟩] <;> simp [ht, Scalar.select]

/-- The product `cg * u` at the block's own rows. -/
theorem tap0 (c : Dev nD) (t : Fin cfg0.N) (r : Fin 1024) (k : Fin 512) :
    k0_pay4 (F := Ideal) (iblk m c 2 t) (iblk m c 3 t) (ix2 r k)
      = val_main_v24 (F := Ideal) (m ((c : Thread nD τ).loc main_arg1)) (ix2 (row t r) k) := by
  pointwise [k0_pay4, val_main_v24, val_main_v5, val_main_v4, val_main_v3, val_main_cst, val_main_v1, val_main_v2]
  blk_point [iblk, V, place t]

/-- The product `cg * u` one row earlier, zero before the first row. -/
theorem tap1 (c : Dev nD) (t : Fin cfg0.N) (r : Fin 1024) (k : Fin 512) :
    k0_pay6 (F := Ideal) (grid0.coords t) (iblk m c 2 t) (iblk m c 3 t) (iblk m c 4 t) (iblk m c 5 t) (ix2 r k)
      = val_main_v17 (F := Ideal) (m ((c : Thread nD τ).loc main_arg1)) (ix2 (row t r) k) := by
  have ht : t.val < 8 := lt_of_lt_of_eq t.isLt N_0
  obtain ⟨g, hg, g1, g0⟩ := select_first t
  pointwise [k0_pay6, k0_pay4, k0_pay5, val_main_v17, val_main_v5, val_main_v4, val_main_v3, val_main_cst, val_main_v1,
    val_main_v2, (place t).2.2.2.2.2.2.2.2.2.2.2.2, hg]
  by_cases hr : r.val = 0
  · by_cases h0 : t.val = 0
    · obtain rfl := g0 h0
      rw [dif_pos (by omega), dif_pos (by omega), mul_zero]
    · obtain rfl := g1 (by omega)
      rw [dif_pos (by omega), dif_neg (by omega), mul_one]
      blk_point [iblk, V, place t]
  · rw [dif_neg (by omega), dif_neg (by omega)]
    blk_point [iblk, V, place t]

/-- The product `cg * u` two rows earlier, zero before the first row. -/
theorem tap2 (c : Dev nD) (t : Fin cfg0.N) (r : Fin 1024) (k : Fin 512) :
    k0_pay7 (F := Ideal) (grid0.coords t) (iblk m c 2 t) (iblk m c 3 t) (iblk m c 4 t) (iblk m c 5 t) (ix2 r k)
      = val_main_v9 (F := Ideal) (m ((c : Thread nD τ).loc main_arg1)) (ix2 (row t r) k) := by
  have ht : t.val < 8 := lt_of_lt_of_eq t.isLt N_0
  obtain ⟨g, hg, g1, g0⟩ := select_first t
  pointwise [k0_pay7, k0_pay4, k0_pay5, val_main_v9, val_main_v5, val_main_v4, val_main_v3, val_main_cst, val_main_v1,
    val_main_v2, (place t).2.2.2.2.2.2.2.2.2.2.2.2, hg]
  by_cases hr : r.val < 2
  · by_cases h0 : t.val = 0
    · obtain rfl := g0 h0
      rw [dif_pos (by omega), dif_pos (by omega), mul_zero]
    · obtain rfl := g1 (by omega)
      rw [dif_pos (by omega), dif_neg (by omega), mul_one]
      blk_point [iblk, V, place t]
  · rw [dif_neg (by omega), dif_neg (by omega)]
    blk_point [iblk, V, place t]

/-- The product `dyc * bg` at the block's rows. -/
theorem slope (c : Dev nD) (t : Fin cfg0.N) (r : Fin 1024) (k : Fin 512) :
    k0_pay9 (F := Ideal) (iblk m c 0 t) (iblk m c 1 t) (ix2 r k)
      = val_main_v30 (F := Ideal) (m ((c : Thread nD τ).loc main_arg0)) (m ((c : Thread nD τ).loc main_arg1))
          (ix2 (row t r) k) := by
  pointwise [k0_pay9, val_main_v30, val_main_v0]
  rw [mul_comm]
  blk_point [iblk, V, place t]

set_option maxHeartbeats 1000000 in
/-- The gradient at `cg * u`: the products `dyc * bg` of this row and the next two, weighted. -/
theorem back (c : Dev nD) (t : Fin cfg0.N) (w0 w1 w2 : Vec Ideal S1x512 .f32)
    (h0 : ∀ k : Fin 512, w0 (ix2 0 k) = m ((c : Thread nD τ).loc main_arg2) (ix2 0 k))
    (h1 : ∀ k : Fin 512, w1 (ix2 0 k) = m ((c : Thread nD τ).loc main_arg2) (ix2 1 k))
    (h2 : ∀ k : Fin 512, w2 (ix2 0 k) = m ((c : Thread nD τ).loc main_arg2) (ix2 2 k)) (r : Fin 1024) (k : Fin 512) :
    k0_pay10 (F := Ideal) (BitVec.ofNat 32 (grid0.coords t 0).val) w0 w1 w2 (k0_pay9 (iblk m c 0 t) (iblk m c 1 t))
        (iblk m c 6 t) (iblk m c 7 t) (ix2 r k)
      = val_main_v64 (F := Ideal) (m ((c : Thread nD τ).loc main_arg0)) (m ((c : Thread nD τ).loc main_arg1))
          (m ((c : Thread nD τ).loc main_arg2)) (ix2 (row t r) k) := by
  have ht : t.val < 8 := lt_of_lt_of_eq t.isLt N_0
  obtain ⟨g, hg, g1, g0⟩ := select_last t
  pointwise [k0_pay10, k0_pay9, (place t).2.2.2.2.2.2.2.2.2.2.2.2, hg, val_main_v64, h0, h1, h2, val_main_v59, val_main_v48, val_main_v58, val_main_v38, val_main_v47, val_main_v33, val_main_v42, val_main_v53, val_main_v32, val_main_v41, val_main_v52, val_main_v25, val_main_v23, val_main_v22, val_main_v18, val_main_v16, val_main_v15, val_main_v10, val_main_v8, val_main_v7, val_main_v30, val_main_v0, val_main_cst_4, val_main_cst_8, val_main_cst_12]
  rw [dif_pos (show t.val * 1024 + r.val < 8192 by omega)]
  refine congrArg₂ (· + ·) (congrArg₂ (· + ·) ?_ ?_) ?_
  · rw [swap (iblk m c 0 t _)]
    blk_point [iblk, V, place t]
  · by_cases hr : r.val < 1023
    · rw [dif_pos (by omega), dif_pos (by omega), swap (iblk m c 0 t _)]
      blk_point [iblk, V, place t]
    · by_cases h7 : t.val < 7
      · obtain rfl := g1 h7
        rw [dif_neg (by omega), dif_pos (by omega), mul_one, swap (iblk m c 6 t _)]
        blk_point [iblk, V, place t]
      · obtain rfl := g0 h7
        rw [dif_neg (by omega), dif_neg (by omega), mul_zero, mul_zero]
  · by_cases hr : r.val < 1022
    · rw [dif_pos (by omega), dif_pos (by omega), swap (iblk m c 0 t _)]
      blk_point [iblk, V, place t]
    · by_cases h7 : t.val < 7
      · obtain rfl := g1 h7
        rw [dif_neg (by omega), dif_pos (by omega), mul_one, swap (iblk m c 6 t _)]
        blk_point [iblk, V, place t]
      · obtain rfl := g0 h7
        rw [dif_neg (by omega), dif_neg (by omega), mul_zero, mul_zero]

/-- The taps' block, the whole of the taps at every grid point. -/
def tapBlock (c : Dev nD) (t : Fin cfg0.N) : Vec Ideal S3x512 .f32 := iblk m c 8 t

theorem tapBlock_apply (c : Dev nD) (t : Fin cfg0.N) (a : Fin 3) (k : Fin 512) :
    tapBlock m c t (ix2 a k) = m ((c : Thread nD τ).loc main_arg2) (ix2 a k) := by
  unfold tapBlock
  blk_point [iblk, V, place t]

/-- Each row of the taps, as the body loads it out of the taps' block. -/
theorem tapRow (c : Dev nD) (t : Fin cfg0.N) (a : Fin 3) (inb : ∀ b, ![a.val, 0] b + S1x512.size b ≤ S3x512.size b) (k : Fin 512) :
    View.ld (tapBlock m c t) (Rect.unit (s := S3x512) ![a.val, 0] S1x512.size inb) (ix2 0 k)
      = m ((c : Thread nD τ).loc main_arg2) (ix2 a k) :=
  (View.ld_unit_apply_of _ _ _ _ _ (ix2 a k) (fun b => by fin_cases b <;> simp [ix2])).trans (tapBlock_apply m c t a k)

/-- The payload of the gradient at `bg`, at the block's entries. -/
theorem pay_bg (c : Dev nD) (t : Fin cfg0.N) (w0 w1 w2 : Vec Ideal S1x512 .f32)
    (h0 : ∀ k : Fin 512, w0 (ix2 0 k) = m ((c : Thread nD τ).loc main_arg2) (ix2 0 k))
    (h1 : ∀ k : Fin 512, w1 (ix2 0 k) = m ((c : Thread nD τ).loc main_arg2) (ix2 1 k))
    (h2 : ∀ k : Fin 512, w2 (ix2 0 k) = m ((c : Thread nD τ).loc main_arg2) (ix2 2 k)) (r : Fin 1024) (k : Fin 512) :
    k0_pay8 (F := Ideal) (grid0.coords t) (iblk m c 2 t) (iblk m c 3 t) (iblk m c 4 t) (iblk m c 5 t) w0 w1 w2
        (iblk m c 0 t) (ix2 r k)
      = val_main_v67 (F := Ideal) (m ((c : Thread nD τ).loc main_arg0)) (m ((c : Thread nD τ).loc main_arg1))
          (m ((c : Thread nD τ).loc main_arg2)) (ix2 (row t r) k) := by
  pointwise [k0_pay8, tap0, tap1, tap2, h0, h1, h2, val_main_v67, val_main_v31, val_main_v28, val_main_v21, val_main_v14,
    val_main_v13, val_main_cst_1, val_main_v12, val_main_v20, val_main_v27, val_main_v11, val_main_v19, val_main_v26,
    val_main_v25, val_main_v23, val_main_v22, val_main_v18, val_main_v16, val_main_v15, val_main_v10, val_main_v8, val_main_v7]
  blk_point [iblk, V, place t]

/-- The payload of the gradient at `cg`, at the block's entries. -/
theorem pay_cg (c : Dev nD) (t : Fin cfg0.N) (w0 w1 w2 : Vec Ideal S1x512 .f32)
    (h0 : ∀ k : Fin 512, w0 (ix2 0 k) = m ((c : Thread nD τ).loc main_arg2) (ix2 0 k))
    (h1 : ∀ k : Fin 512, w1 (ix2 0 k) = m ((c : Thread nD τ).loc main_arg2) (ix2 1 k))
    (h2 : ∀ k : Fin 512, w2 (ix2 0 k) = m ((c : Thread nD τ).loc main_arg2) (ix2 2 k)) (r : Fin 1024) (k : Fin 512) :
    k0_pay11 (F := Ideal) (BitVec.ofNat 32 (grid0.coords t 0).val) (iblk m c 3 t) w0 w1 w2 (k0_pay9 (iblk m c 0 t) (iblk m c 1 t))
        (iblk m c 6 t) (iblk m c 7 t) (ix2 r k)
      = val_main_v68 (F := Ideal) (m ((c : Thread nD τ).loc main_arg0)) (m ((c : Thread nD τ).loc main_arg1))
          (m ((c : Thread nD τ).loc main_arg2)) (ix2 (row t r) k) := by
  pointwise [k0_pay11, back m c t w0 w1 w2 h0 h1 h2, val_main_v68, val_main_v66, val_main_v2]
  blk_point [iblk, V, place t]

/-- The payload of the gradient at `u`, at the block's entries. -/
theorem pay_u (c : Dev nD) (t : Fin cfg0.N) (w0 w1 w2 : Vec Ideal S1x512 .f32)
    (h0 : ∀ k : Fin 512, w0 (ix2 0 k) = m ((c : Thread nD τ).loc main_arg2) (ix2 0 k))
    (h1 : ∀ k : Fin 512, w1 (ix2 0 k) = m ((c : Thread nD τ).loc main_arg2) (ix2 1 k))
    (h2 : ∀ k : Fin 512, w2 (ix2 0 k) = m ((c : Thread nD τ).loc main_arg2) (ix2 2 k)) (r : Fin 1024) (k : Fin 512) :
    k0_pay12 (F := Ideal) (BitVec.ofNat 32 (grid0.coords t 0).val) (iblk m c 2 t) w0 w1 w2 (k0_pay9 (iblk m c 0 t) (iblk m c 1 t))
        (iblk m c 6 t) (iblk m c 7 t) (ix2 r k)
      = val_main_v69 (F := Ideal) (m ((c : Thread nD τ).loc main_arg0)) (m ((c : Thread nD τ).loc main_arg1))
          (m ((c : Thread nD τ).loc main_arg2)) (ix2 (row t r) k) := by
  pointwise [k0_pay12, back m c t w0 w1 w2 h0 h1 h2, val_main_v69, val_main_v65, val_main_v1]
  rw [swap]
  blk_point [iblk, V, place t]

/-- What the body leaves in window 9, at either kind of point. -/
theorem left9 (c : Dev nD) (t : Fin cfg0.N) (y : S1024x512.Idx) : (outsAt0 m c t.val t.isLt).1 y
    = k0_pay8 (F := Ideal) (grid0.coords t) (iblk m c 2 t) (iblk m c 3 t) (iblk m c 4 t) (iblk m c 5 t)
      (View.ld (tapBlock m c t) (Rect.unit (s := S3x512) ![0, 0] S1x512.size inb_S3x512_S1x512_0_0))
      (View.ld (tapBlock m c t) (Rect.unit (s := S3x512) ![1, 0] S1x512.size inb_S3x512_S1x512_1_0))
      (View.ld (tapBlock m c t) (Rect.unit (s := S3x512) ![2, 0] S1x512.size inb_S3x512_S1x512_2_0)) (iblk m c 0 t) y := by
  have ht : t.val < 8 := lt_of_lt_of_eq t.isLt N_0
  by_cases h0 : t.val = 0
  · rw [outsAt0_A m c t (by omega) (by omega)]; frame_out
    rfl
  · rw [outsAt0_B m c t (by omega) (by omega)]; frame_out
    rfl

/-- The gradient at `bg`: `dyc` times the convolution's value. -/
theorem final9 (c : Dev nD) : (dats m 0 c).arrAt 9 (cfgs 0).N
    = val_main_v67 (F := Ideal) (m ((c : Thread nD τ).loc main_arg0)) (m ((c : Thread nD τ).loc main_arg1))
          (m ((c : Thread nD τ).loc main_arg2)) := by
  refine (dats m 0 c).arrAt_eq_of_covers 9 _ (by decide +kernel) fun t _ y => ?_
  blk_simp
  rw [after0_9]
  refine (congrArg _ (eq_ix2 y)).trans ((left9 m c t _).trans ((pay_bg m c t _ _ _ (tapRow m c t 0 _) (tapRow m c t 1 _)
    (tapRow m c t 2 _) (y 0) (y 1)).trans ?_))
  blk_point [iblk, V, place t]

/-- What the body leaves in window 10, at either kind of point. -/
theorem left10 (c : Dev nD) (t : Fin cfg0.N) (y : S1024x512.Idx) : (outsAt0 m c t.val t.isLt).2.1 y
    = k0_pay11 (F := Ideal) (BitVec.ofNat 32 (grid0.coords t 0).val) (iblk m c 3 t)
      (View.ld (tapBlock m c t) (Rect.unit (s := S3x512) ![0, 0] S1x512.size inb_S3x512_S1x512_0_0))
      (View.ld (tapBlock m c t) (Rect.unit (s := S3x512) ![1, 0] S1x512.size inb_S3x512_S1x512_1_0))
      (View.ld (tapBlock m c t) (Rect.unit (s := S3x512) ![2, 0] S1x512.size inb_S3x512_S1x512_2_0)) (k0_pay9 (iblk m c 0 t) (iblk m c 1 t)) (iblk m c 6 t) (iblk m c 7 t) y := by
  have ht : t.val < 8 := lt_of_lt_of_eq t.isLt N_0
  by_cases h0 : t.val = 0
  · rw [outsAt0_A m c t (by omega) (by omega)]; frame_out
    rfl
  · rw [outsAt0_B m c t (by omega) (by omega)]; frame_out
    rfl

/-- The gradient at `cg`: the gradient at `cg * u`, times `u`. -/
theorem final10 (c : Dev nD) : (dats m 0 c).arrAt 10 (cfgs 0).N
    = val_main_v68 (F := Ideal) (m ((c : Thread nD τ).loc main_arg0)) (m ((c : Thread nD τ).loc main_arg1))
          (m ((c : Thread nD τ).loc main_arg2)) := by
  refine (dats m 0 c).arrAt_eq_of_covers 10 _ (by decide +kernel) fun t _ y => ?_
  blk_simp
  rw [after0_10]
  refine (congrArg _ (eq_ix2 y)).trans ((left10 m c t _).trans ((pay_cg m c t _ _ _ (tapRow m c t 0 _) (tapRow m c t 1 _)
    (tapRow m c t 2 _) (y 0) (y 1)).trans ?_))
  blk_point [iblk, V, place t]

/-- What the body leaves in window 11, at either kind of point. -/
theorem left11 (c : Dev nD) (t : Fin cfg0.N) (y : S1024x512.Idx) : (outsAt0 m c t.val t.isLt).2.2.1 y
    = k0_pay12 (F := Ideal) (BitVec.ofNat 32 (grid0.coords t 0).val) (iblk m c 2 t)
      (View.ld (tapBlock m c t) (Rect.unit (s := S3x512) ![0, 0] S1x512.size inb_S3x512_S1x512_0_0))
      (View.ld (tapBlock m c t) (Rect.unit (s := S3x512) ![1, 0] S1x512.size inb_S3x512_S1x512_1_0))
      (View.ld (tapBlock m c t) (Rect.unit (s := S3x512) ![2, 0] S1x512.size inb_S3x512_S1x512_2_0)) (k0_pay9 (iblk m c 0 t) (iblk m c 1 t)) (iblk m c 6 t) (iblk m c 7 t) y := by
  have ht : t.val < 8 := lt_of_lt_of_eq t.isLt N_0
  by_cases h0 : t.val = 0
  · rw [outsAt0_A m c t (by omega) (by omega)]; frame_out
    rfl
  · rw [outsAt0_B m c t (by omega) (by omega)]; frame_out
    rfl

/-- The gradient at `u`: the gradient at `cg * u`, times `cg`. -/
theorem final11 (c : Dev nD) : (dats m 0 c).arrAt 11 (cfgs 0).N
    = val_main_v69 (F := Ideal) (m ((c : Thread nD τ).loc main_arg0)) (m ((c : Thread nD τ).loc main_arg1))
          (m ((c : Thread nD τ).loc main_arg2)) := by
  refine (dats m 0 c).arrAt_eq_of_covers 11 _ (by decide +kernel) fun t _ y => ?_
  blk_simp
  rw [after0_11]
  refine (congrArg _ (eq_ix2 y)).trans ((left11 m c t _).trans ((pay_u m c t _ _ _ (tapRow m c t 0 _) (tapRow m c t 1 _)
    (tapRow m c t 2 _) (y 0) (y 1)).trans ?_))
  blk_point [iblk, V, place t]

end Cert.ConvIdeal.Step
-- ==== Proof.ConvTaps.lean ====
module

public import proofs.«01_k».proof.Proof.ConvValue

/-!
# The gradient of the convolution's three taps

One row of sums per tap, over all 8192 rows: `dyc * bg` times `cg * u` as many rows earlier as the tap reaches back. The kernel
adds the 1024 rows of a block at each of eight grid points.
-/

@[expose] public section

set_option maxRecDepth 16384

noncomputable section

open Idealize.ShloMosaic Idealize.ShloMosaic.TcCoe Idealize.SL.Sem
open Idealize.ShloMosaic.Pipeline (Dat)

namespace Cert.ConvIdeal.Step

open Cert.ConvIdeal Cert.ConvIdeal.Gen Cert.ConvRefIdeal.Read

variable (m : (ℓ : Loc nD τ sig) → Buf (Elt Ideal) ℓ)

/-- A point's share of the sum at the tap reaching two rows back. -/
theorem share12 (c : Dev nD) (t : Fin cfg0.N) (j : S1x512.Idx) :
    k0_pay13 (F := Ideal) (k0_pay7 (grid0.coords t) (iblk m c 2 t) (iblk m c 3 t) (iblk m c 4 t) (iblk m c 5 t)) (k0_pay9 (iblk m c 0 t) (iblk m c 1 t)) j
      = ∑ r : Fin 1024, (val_main_v30 (F := Ideal) (m ((c : Thread nD τ).loc main_arg0)) (m ((c : Thread nD τ).loc main_arg1)) (ix2 (row t r) (j 1))
          * val_main_v9 (F := Ideal) (m ((c : Thread nD τ).loc main_arg1)) (ix2 (row t r) (j 1)) : EReal) := by
  pointwise [k0_pay13, slope m c t, tap2 m c t]

/-- What is left of the sum at a point other than the first. -/
theorem more12 (a b : Vec Ideal S1x512 .f32) (j : S1x512.Idx) : k0_pay1 (F := Ideal) a b j = b j + a j := by
  pointwise [k0_pay1]

/-- The tap's gradient in the reference, as one sum. -/
theorem ref12 (x0 : Vec Ideal S8192x512 .f32) (x1 : Vec Ideal S8192x5120 .f32) (j : S1x512.Idx) :
    val_main_v70 (F := Ideal) x0 x1 j
      = ∑ l : Fin 8192, (val_main_v30 (F := Ideal) x0 x1 (ix2 l (j 1)) * val_main_v9 (F := Ideal) x1 (ix2 l (j 1)) : EReal) := by
  pointwise [val_main_v70, val_main_v62, val_main_v61, val_main_v60, val_main_v57, val_main_v56, val_main_v55, val_main_v54, val_main_v51,
    val_main_v50, val_main_v49, val_main_v46, val_main_v45, val_main_v44, val_main_v43, val_main_v40, val_main_v39, val_main_v37, val_main_v36,
    val_main_v35, val_main_v34, val_main_cst_2, val_main_cst_3, val_main_cst_4, val_main_cst_5, val_main_cst_6, val_main_cst_7, val_main_cst_8,
    val_main_cst_9, val_main_cst_10, val_main_cst_11, val_main_cst_12, val_main_cst_13]
  exact Fin.sum_univ_one _

/-- The gradient of the tap reaching two rows back. -/
theorem final12 (c : Dev nD) : (dats m 0 c).arrAt 12 (cfgs 0).N = val_main_v70 (F := Ideal) (m ((c : Thread nD τ).loc main_arg0)) (m ((c : Thread nD τ).loc main_arg1)) := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => 0)
    (fun t j => k0_pay13 (F := Ideal) (k0_pay7 (grid0.coords t) (iblk m c 2 t) (iblk m c 3 t) (iblk m c 4 t) (iblk m c 5 t)) (k0_pay9 (iblk m c 0 t) (iblk m c 1 t)) j)
    (fun t h j => by rw [outsAt0_A m c t h (by have : t.val < 8 := lt_of_lt_of_eq t.isLt N_0; omega)]; frame_out; exact (zero_add _).symm)
    (fun t h j => by rw [outsAt0_B m c t h (by omega)]; frame_out; rw [more12]) (le_of_eq N_0) t0_7 rfl j, zero_add, ref12]
  simp only [share12 m c]
  refine (Fin.sum_points_lanes_congr (A := 1) (L := 8192) 8
    (g := fun _ l => (val_main_v30 (F := Ideal) (m ((c : Thread nD τ).loc main_arg0)) (m ((c : Thread nD τ).loc main_arg1)) (ix2 l (j 1)) * val_main_v9 (F := Ideal) (m ((c : Thread nD τ).loc main_arg1)) (ix2 l (j 1)) : EReal))
    fun t r ha hl => ?_).trans (Fin.sum_univ_one _)
  have e : row t r = ⟨t.val % 8 * 1024 + r.val, hl⟩ := Fin.ext (by simp only [row]; omega)
  rw [e]

/-- A point's share of the sum at the tap reaching one row back. -/
theorem share13 (c : Dev nD) (t : Fin cfg0.N) (j : S1x512.Idx) :
    k0_pay14 (F := Ideal) (k0_pay6 (grid0.coords t) (iblk m c 2 t) (iblk m c 3 t) (iblk m c 4 t) (iblk m c 5 t)) (k0_pay9 (iblk m c 0 t) (iblk m c 1 t)) j
      = ∑ r : Fin 1024, (val_main_v30 (F := Ideal) (m ((c : Thread nD τ).loc main_arg0)) (m ((c : Thread nD τ).loc main_arg1)) (ix2 (row t r) (j 1))
          * val_main_v17 (F := Ideal) (m ((c : Thread nD τ).loc main_arg1)) (ix2 (row t r) (j 1)) : EReal) := by
  pointwise [k0_pay14, slope m c t, tap1 m c t]

/-- What is left of the sum at a point other than the first. -/
theorem more13 (a b : Vec Ideal S1x512 .f32) (j : S1x512.Idx) : k0_pay2 (F := Ideal) a b j = b j + a j := by
  pointwise [k0_pay2]

/-- The tap's gradient in the reference, as one sum. -/
theorem ref13 (x0 : Vec Ideal S8192x512 .f32) (x1 : Vec Ideal S8192x5120 .f32) (j : S1x512.Idx) :
    val_main_v71 (F := Ideal) x0 x1 j
      = ∑ l : Fin 8192, (val_main_v30 (F := Ideal) x0 x1 (ix2 l (j 1)) * val_main_v17 (F := Ideal) x1 (ix2 l (j 1)) : EReal) := by
  pointwise [val_main_v71, val_main_v62, val_main_v61, val_main_v60, val_main_v57, val_main_v56, val_main_v55, val_main_v54, val_main_v51,
    val_main_v50, val_main_v49, val_main_v46, val_main_v45, val_main_v44, val_main_v43, val_main_v40, val_main_v39, val_main_v37, val_main_v36,
    val_main_v35, val_main_v34, val_main_cst_2, val_main_cst_3, val_main_cst_4, val_main_cst_5, val_main_cst_6, val_main_cst_7, val_main_cst_8,
    val_main_cst_9, val_main_cst_10, val_main_cst_11, val_main_cst_12, val_main_cst_13]
  exact Fin.sum_univ_one _

/-- The gradient of the tap reaching one row back. -/
theorem final13 (c : Dev nD) : (dats m 0 c).arrAt 13 (cfgs 0).N = val_main_v71 (F := Ideal) (m ((c : Thread nD τ).loc main_arg0)) (m ((c : Thread nD τ).loc main_arg1)) := by
  refine (dats m 0 c).arrAt_eq_of_after_last 13 t0_7 (by decide +kernel) _ fun j => ?_
  blk_simp
  rw [after0_13, Pipeline.eq_sum_fin_of_reset_step_apply_last (fun n h => (outsAt0 m c n h).2.2.2.2.1) 8 (fun _ => 0)
    (fun t j => k0_pay14 (F := Ideal) (k0_pay6 (grid0.coords t) (iblk m c 2 t) (iblk m c 3 t) (iblk m c 4 t) (iblk m c 5 t)) (k0_pay9 (iblk m c 0 t) (iblk m c 1 t)) j)
    (fun t h j => by rw [outsAt0_A m c t h (by have : t.val < 8 := lt_of_lt_of_eq t.isLt N_0; omega)]; frame_out; exact (zero_add _).symm)
    (fun t h j => by rw [outsAt0_B m c t h (by omega)]; frame_out; rw [more13]) (le_of_eq N_0) t0_7 rfl j, zero_add, ref13]
  simp only [share13 m c]
  refine (Fin.sum_points_lanes_congr (A := 1) (L := 8192) 8
    (g := fun _ l => (val_main_v30 (F := Ideal) (m ((c : Thread nD τ).loc main_arg0)) (m ((c : Thread nD τ).loc main_arg1)) (ix2 l (j 1)) * val_main_v17 (F := Ideal) (m ((c : Thread nD τ).loc main_arg1)) (ix2 l (j 1)) : EReal))
    fun t r ha hl => ?_).trans (Fin.sum_univ_one _)
  have e : row t r = ⟨t.val % 8 * 1024 + r.val, hl⟩ := Fin.ext (by simp only [row]; omega)
  rw [e]

/-- A point's share of the sum at the tap reaching no row back. -/
theorem share14 (c : Dev nD) (t : Fin cfg0.N) (j : S1x512.Idx) :
    k0_pay15 (F := Ideal) (k0_pay4 (iblk m c 2 t) (iblk m c 3 t)) (k0_pay9 (iblk m c 0 t) (iblk m c 1 t)) j
      = ∑ r : Fin 1024, (val_main_v30 (F := Ideal) (m ((c : Thread nD τ).loc main_arg0)) (m ((c : Thread nD τ).loc main_arg1)) (ix2 (row t r) (j 1))
          * val_main_v24 (F := Ideal) (m ((c : Thread nD τ).loc main_arg1)) (ix2 (row t r) (j 1)) : EReal) := by
  pointwise [k0_pay15, slope m c t, tap0 m c t]

/-- What is left of the sum at a point other than the first. -/
theorem more14 (a b : Vec Ideal S1x512 .f32) (j : S1x512.Idx) : k0_pay3 (F := Ideal) a b j = b j + a j := by
  pointwise [k0_pay3]

/-- The tap's gradient in the reference, as one sum. -/
theorem ref14 (x0 : Vec Ideal S8192x512 .f32) (x1 : Vec Ideal S8192x5120 .f32) (j : S1x512.Idx) :
    val_main_v72 (F := Ideal) x0 x1 j
      = ∑ l : Fin 8192, (val_main_v30 (F := Ideal) x0 x1 (ix2 l (j 1)) * val_main_v24 (F := Ideal) x1 (ix2 l (j 1)) : EReal) := by
  pointwise [val_main_v72, val_main_v62, val_main_v61, val_main_v60, val_main_v57, val_main_v56, val_main_v55, val_main_v54, val_main_v51,
    val_main_v50, val_main_v49, val_main_v46, val_main_v45, val_main_v44, val_main_v43, val_main_v40, val_main_v39, val_main_v37, val_main_v36,
    val_main_v35, val_main_v34, val_main_cst_2, val_main_cst_3, val_main_cst_4, val_main_cst_5, val_main_cst_6, val_main_cst_7, val_main_cst_8,
    val_main_cst_9, val_main_cst_10, val_main_cst_11, val_main_cst_12, val_main_cst_13]
  exact Fin.sum_univ_one _

/-- The gradient of the tap reaching no row back. -/
theorem final14 (c : Dev nD) : (dats m 0 c).arrAt 14 (cfgs 0).N = val_main_v72 (F := Ideal) (m ((c : Thread nD τ).loc main_arg0)) (m ((c : Thread nD τ).loc main_arg1)) := by
  refine (dats m 0 c).arrAt_eq_of_after_last 14 t0_7 (by decide +kernel) _ fun j => ?_
  blk_simp
  rw [after0_14, Pipeline.eq_sum_fin_of_reset_step_apply_last (fun n h => (outsAt0 m c n h).2.2.2.2.2) 8 (fun _ => 0)
    (fun t j => k0_pay15 (F := Ideal) (k0_pay4 (iblk m c 2 t) (iblk m c 3 t)) (k0_pay9 (iblk m c 0 t) (iblk m c 1 t)) j)
    (fun t h j => by rw [outsAt0_A m c t h (by have : t.val < 8 := lt_of_lt_of_eq t.isLt N_0; omega)]; frame_out; exact (zero_add _).symm)
    (fun t h j => by rw [outsAt0_B m c t h (by omega)]; frame_out; rw [more14]) (le_of_eq N_0) t0_7 rfl j, zero_add, ref14]
  simp only [share14 m c]
  refine (Fin.sum_points_lanes_congr (A := 1) (L := 8192) 8
    (g := fun _ l => (val_main_v30 (F := Ideal) (m ((c : Thread nD τ).loc main_arg0)) (m ((c : Thread nD τ).loc main_arg1)) (ix2 l (j 1)) * val_main_v24 (F := Ideal) (m ((c : Thread nD τ).loc main_arg1)) (ix2 l (j 1)) : EReal))
    fun t r ha hl => ?_).trans (Fin.sum_univ_one _)
  have e : row t r = ⟨t.val % 8 * 1024 + r.val, hl⟩ := Fin.ext (by simp only [row]; omega)
  rw [e]

end Cert.ConvIdeal.Step
-- ==== Proof.GateValue.lean ====
/-
  The gradient of the gate, as values: every entry of the four results of the kernel's gate gradient is the entry the
  reference computes from the same arguments.  The kernel works in blocks of 1024 rows; the gate logits are read out of
  the projection at columns 3072 and 4096 by the windows' block index.
-/
module

public import proofs.«01_k».proof.Proof.Gen.GateIdeal.Value
public import proofs.«01_k».proof.Proof.Gen.GateRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Step

open Cert.GateIdeal Cert.GateIdeal.Gen Cert.GateRefIdeal.Read

variable (m : (ℓ : Loc nD τ sig) → Buf (Elt Ideal) ℓ)

/-- Where each window's block sits at grid point `t`: row block `t`; the two gate logits in column blocks 3 and 4. -/
theorem place : ∀ t : Fin cfg0.N, win0_0.index t = ![t.val, 0] ∧ win0_1.index t = ![t.val, 3]
    ∧ win0_2.index t = ![t.val, 4] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] :=
  (by decide +kernel : ∀ t : Fin grid0.N, _)

/-- On the extended reals the kernel's `0 - x` is the reference's `-x`. -/
theorem zero_sub_ereal (x : EReal) : 0 - x = -x := zero_sub x

/-- The gradient at the convolution branch: `dmerged * sigmoid(ga)`. -/
theorem final5 (c : Dev nD) : (dats m 0 c).arrAt 5 (cfgs 0).N
    = val_main_v32 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  pointwise [k0_pay5, k0_pay2, k0_pay3, val_main_v32, val_main_v29, val_main_v25, val_main_v9, val_main_v8, val_main_v7,
    val_main_v6, val_main_v5, val_main_v4, val_main_v0, val_main_cst, val_main_cst_0]
  rw [zero_sub_ereal]
  blk_point [iblk, V, place t]

/-- The gradient at the attention branch: `dmerged * sigmoid(gb)`. -/
theorem final6 (c : Dev nD) : (dats m 0 c).arrAt 6 (cfgs 0).N
    = val_main_v33 (F := Ideal) (m ((c : Thread nD τ).loc main_arg0)) (m ((c : Thread nD τ).loc main_arg1)) := by
  refine (dats m 0 c).arrAt_eq_of_covers 6 _ (by decide +kernel) fun t _ y => ?_
  blk_simp
  rw [after0_6]; frame_out
  pointwise [k0_pay6, k0_pay2, k0_pay4, val_main_v33, val_main_v26, val_main_v25, val_main_v19, val_main_v18, val_main_v17,
    val_main_v16, val_main_v15, val_main_v14, val_main_v1, val_main_cst_2, val_main_cst_3]
  rw [zero_sub_ereal]
  blk_point [iblk, V, place t]

/-- The gradient at the convolution's gate logit: `dmerged * y_conv * sigmoid(ga) * (1 - sigmoid(ga))`. -/
theorem final7 (c : Dev nD) : (dats m 0 c).arrAt 7 (cfgs 0).N
    = val_main_v34 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]; frame_out
  pointwise [k0_pay7, k0_pay2, k0_pay3, val_main_v34, val_main_v31, val_main_v30, val_main_v25, val_main_v12, val_main_v11,
    val_main_v10, val_main_cst_1, val_main_v9, val_main_v8, val_main_v7, val_main_v6, val_main_v5, val_main_v4,
    val_main_v2, val_main_v0, val_main_cst, val_main_cst_0]
  simp only [zero_sub_ereal]
  blk_point [iblk, V, place t]

/-- The gradient at the attention's gate logit: `dmerged * y_attn * sigmoid(gb) * (1 - sigmoid(gb))`. -/
theorem final8 (c : Dev nD) : (dats m 0 c).arrAt 8 (cfgs 0).N
    = val_main_v35 (F := Ideal) (m ((c : Thread nD τ).loc main_arg0)) (m ((c : Thread nD τ).loc main_arg1))
        (m ((c : Thread nD τ).loc main_arg3)) := by
  refine (dats m 0 c).arrAt_eq_of_covers 8 _ (by decide +kernel) fun t _ y => ?_
  blk_simp
  rw [after0_8]; frame_out
  pointwise [k0_pay1, k0_pay2, k0_pay4, val_main_v35, val_main_v28, val_main_v27, val_main_v25, val_main_v22, val_main_v21,
    val_main_v20, val_main_cst_4, val_main_v19, val_main_v18, val_main_v17, val_main_v16, val_main_v15, val_main_v14,
    val_main_v3, val_main_v1, val_main_cst_2, val_main_cst_3]
  simp only [zero_sub_ereal]
  blk_point [iblk, V, place t]

end Cert.GateIdeal.Step
-- ==== Proof.Keep.lean ====
/- A body that only loads and stores keeps what it was given: a kernel's body that runs on buffers held at SOME contents
   ends holding the same buffers at some contents, whatever it computes. Nothing is said of the values. -/
module

public import Idealize.ShloMosaic.Lib.Pipeline.Kit
public import Idealize.ShloMosaic.Lib.Pipeline.FrameBody
public import Idealize.ShloMosaic.Lib.Tactic

@[expose] public section

noncomputable section

namespace Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

local notation "𝕄" => MT nD τ sig Unit (Elt F) ℕ (UR sig nD τ) ℕ

/-- `R` lets core `c` read the memref: it holds a share of the whole buffer and takes it back unchanged. -/
class Reads (c : Dev nD) (R : sProp 𝕄) {sp : Space} {s : Shape} {e : EltTy} (m : Memref sig .tc sp s e) : Prop where
  out : R ⊢ iprop(∃ q, ∃ f, (m.view.loc (c : Thread nD τ) ↦[m.view.set]{q} f) ∗ ((m.view.loc (c : Thread nD τ) ↦[m.view.set]{q} f) -∗ R))

/-- `R` lets core `c` write the memref: it holds it in full and takes it back at any contents. -/
class Writes (c : Dev nD) (R : sProp 𝕄) {sp : Space} {s : Shape} {e : EltTy} (m : Memref sig .tc sp s e) : Prop where
  out : R ⊢ iprop(∃ f, (m.view.loc (c : Thread nD τ) ↦[m.view.set]{fullShare} f) ∗ (∀ f', (m.view.loc (c : Thread nD τ) ↦[m.view.set]{fullShare} f') -∗ R))

section
variable {c : Dev nD} {R : sProp (MT nD τ sig Unit (Elt F) ℕ (UR sig nD τ) ℕ)} {sp : Space} {s : Shape} {e : EltTy} {m : Memref sig .tc sp s e}

/-- What may be written may be read. -/
instance [h : Writes c R m] : Reads c R m := ⟨h.out.trans (by
  iintro ⟨%f, H, K⟩
  iexists fullShare, f
  isplitl [H]
  · iexact H
  · iintro H; iapply K; iexact H)⟩

theorem Writes.left {A : sProp 𝕄} (B : sProp 𝕄) [h : Writes c A m] : Writes c iprop(A ∗ B) m := ⟨by
  iintro ⟨HA, HB⟩
  ihave HA := h.out $$ HA
  icases HA with ⟨%f, H, K⟩
  iexists f
  isplitl [H]
  · iexact H
  · iintro %f' H
    isplitl [H K]
    · iapply K; iexact H
    · iexact HB⟩

theorem Writes.right (A : sProp 𝕄) {B : sProp 𝕄} [h : Writes c B m] : Writes c iprop(A ∗ B) m := ⟨by
  iintro ⟨HA, HB⟩
  ihave HB := h.out $$ HB
  icases HB with ⟨%f, H, K⟩
  iexists f
  isplitl [H]
  · iexact H
  · iintro %f' H
    isplitl [HA]
    · iexact HA
    · iapply K; iexact H⟩

theorem Reads.left {A : sProp 𝕄} (B : sProp 𝕄) [h : Reads c A m] : Reads c iprop(A ∗ B) m := ⟨by
  iintro ⟨HA, HB⟩
  ihave HA := h.out $$ HA
  icases HA with ⟨%q, %f, H, K⟩
  iexists q, f
  isplitl [H]
  · iexact H
  · iintro H
    isplitl [H K]
    · iapply K; iexact H
    · iexact HB⟩

theorem Reads.right (A : sProp 𝕄) {B : sProp 𝕄} [h : Reads c B m] : Reads c iprop(A ∗ B) m := ⟨by
  iintro ⟨HA, HB⟩
  ihave HB := h.out $$ HB
  icases HB with ⟨%q, %f, H, K⟩
  iexists q, f
  isplitl [H]
  · iexact H
  · iintro H
    isplitl [HA]
    · iexact HA
    · iapply K; iexact H⟩

/-- A memref owned at some reading may be written. -/
theorem Writes.owned : Writes c (iprop(∃ X, owns (c : Thread nD τ) m fullShare X) : sProp 𝕄) m := ⟨by
  unfold owns
  iintro ⟨%X, %f, %hf, H⟩
  iexists f
  isplitl [H]
  · iexact H
  · iintro %f' H
    iexists m.view.read (Elt F) f', f'
    isplitr
    · ipureintro; rfl
    · iexact H⟩

/-- A memref owned at a reading may be read. -/
theorem Reads.owned {D : Type} (X : D → s.Idx → Elt F e) :
    Reads c (iprop(∃ d, owns (c : Thread nD τ) m fullShare (X d)) : sProp 𝕄) m := ⟨by
  unfold owns
  iintro ⟨%d, %f, %hf, H⟩
  iexists fullShare, f
  isplitl [H]
  · iexact H
  · iintro H
    iexists d, f
    isplitr
    · ipureintro; exact hf
    · iexact H⟩

/-- A whole buffer held at some contents may be written. -/
theorem Writes.buffer (b : Ref sig .tc) :
    Writes c (iprop(∃ f : Buf (Elt F) ((c : Thread nD τ).loc b), ((c : Thread nD τ).loc b) ↦{fullShare} f) : sProp 𝕄) (Memref.whole b) := ⟨by
  have hs : (Memref.whole b).view.set = Finset.univ := (Memref.isWhole_whole b).set_eq_univ
  rw [hs]
  iintro ⟨%f, H⟩
  iexists f
  isplitl [H]
  · iexact H
  · iintro %f' H
    iexists f'
    iexact H⟩

end

/-- The program keeps `R`. -/
def Keeps (defs₀ : Defs nD τ sig (Elt F) Λ) (𝒱₀ : Variants) (c : Dev nD) (R : sProp 𝕄) {α : Type}
    (p : Prog (TpuEff nD τ sig (Elt F) Λ .tc) α) : Prop :=
  R ⊢ wp frame (wpE defs₀ 𝒱₀ (c : Thread nD τ) none) Set.univ p (fun _ => R)

section
variable {defs₀ : Defs nD τ sig (Elt F) Λ} {𝒱₀ : Variants} {c : Dev nD} {R : sProp (MT nD τ sig Unit (Elt F) ℕ (UR sig nD τ) ℕ)} {α β : Type}

theorem Keeps.pure (a : α) : Keeps defs₀ 𝒱₀ c R (Pure.pure a : Prog (TpuEff nD τ sig (Elt F) Λ .tc) α) :=
  le_wp_ret frame (wpE defs₀ 𝒱₀ (c : Thread nD τ) none) Set.univ a fun _ => R

theorem Keeps.bind {p : Prog (TpuEff nD τ sig (Elt F) Λ .tc) α} {k : α → Prog (TpuEff nD τ sig (Elt F) Λ .tc) β}
    (hp : Keeps defs₀ 𝒱₀ c R p) (hk : ∀ x, Keeps defs₀ 𝒱₀ c R (k x)) : Keeps defs₀ 𝒱₀ c R (p >>= k) := by
  unfold Keeps
  rw [wp_bind]
  exact hp.trans (wp_mono _ _ _ fun x => hk x)

theorem Keeps.load {cs : CoreSpace} {s : Shape} {e : EltTy} {m : Memref sig .tc cs s e} {r : LoadRect s} {hl : m.view.LoadsAt r}
    [h : Reads c R m] : Keeps (Λ := Λ) defs₀ 𝒱₀ c R (Prog.lift (.load m r hl)) := by
  unfold Keeps
  refine h.out.trans ?_
  iintro ⟨%q, %f, H, K⟩
  iapply (wp_load 𝒱₀ (c : Thread nD τ) none Set.univ (m.view.setOn_subset_set _)) $$ H
  iintro H
  iapply le_wp_ret
  iapply K
  iexact H

theorem Keeps.store {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    [h : Writes c R m] : Keeps (Λ := Λ) defs₀ 𝒱₀ c R (Prog.lift (.store m r w Mk hx hm)) := by
  unfold Keeps
  refine h.out.trans ?_
  iintro ⟨%f, H, K⟩
  iapply (wp_store (m := m) (r := r) (w := w) (hx := hx) (hm := hm) 𝒱₀ (c : Thread nD τ) none Set.univ (S := m.view.set) (f := f)
    (((m.access r).setOn_subset_set _).trans (m.view.set_slice_subset r))) $$ H
  iintro H
  iapply le_wp_ret
  iapply K
  iexact H

theorem Keeps.for {w : Nat} {lb ub st : BitVec w} {hok : Scf.OK lb ub st} {init : α} {body : Fin (Scf.trips lb ub st) → α → Prog (TpuEff nD τ sig (Elt F) Λ .tc) α}
    (h : ∀ k a, Keeps defs₀ 𝒱₀ c R (body k a)) : Keeps defs₀ 𝒱₀ c R (Scf.for lb ub st hok init body) := by
  unfold Keeps
  iintro H
  iapply (Scf.wp_for _ _ _ lb ub st hok init body (fun _ _ => R) (fun k a => h k a))
  isplitl [H]
  · iexact H
  · iintro %a H
    iexact H

theorem Keeps.dite {p : Prop} {inst : Decidable p} {a : p → Prog (TpuEff nD τ sig (Elt F) Λ .tc) α} {b : ¬ p → Prog (TpuEff nD τ sig (Elt F) Λ .tc) α}
    (ha : ∀ h, Keeps defs₀ 𝒱₀ c R (a h)) (hb : ∀ h, Keeps defs₀ 𝒱₀ c R (b h)) : Keeps defs₀ 𝒱₀ c R (if h : p then a h else b h) := by
  split
  · exact ha _
  · exact hb _

end

-- what a program keeps is proved by the rules above, never by opening it
attribute [irreducible] Keeps

end Keep

end
-- ==== Proof.AttnIdealTrips.lean ====
module

public import proofs.«01_k».proof.Proof.Gen.AttnIdeal.Frame
public import proofs.«01_k».proof.Proof.Gen.AttnIdeal.Skeleton
public import proofs.«01_k».proof.Proof.Keep

@[expose] public section

set_option maxRecDepth 65536

noncomputable section

namespace Cert.AttnIdeal.Keeping

open Cert.AttnIdeal.Gen Keep
open Idealize.ShloMosaic Idealize.ShloMosaic.TcCoe
open Idealize.SL Idealize.SL.RA Idealize.SL.BI Idealize.SL.Sem

variable {F : FTy → Type} [FloatOps F] {𝒱₀ : Variants} {c : Dev nD} {R : sProp (MT nD τ sig Unit (Elt F) ℕ (UR sig nD τ) ℕ)}

variable {i : grid0.Coords}
  {arg2 : Memref sig .tc .vmem S512x128 .f32} {harg2 : arg2.IsWhole} [Reads c R arg2]
  {arg3 : Memref sig .tc .vmem S16384x128 .bf16} {harg3 : arg3.IsWhole} [Reads c R arg3]
  {arg4 : Memref sig .tc .vmem S16384x128 .bf16} {harg4 : arg4.IsWhole} [Reads c R arg4]
  {arg5 : Memref sig .tc .vmem S512x128 .bf16} {harg5 : arg5.IsWhole} [Reads c R arg5]
  {arg6 : Memref sig .tc .vmem S512x256 .f32} {harg6 : arg6.IsWhole} [Reads c R arg6]
  {arg7 : Memref sig .tc .vmem S512x128 .bf16} {harg7 : arg7.IsWhole} [Writes c R arg7]
  {arg8 : Memref sig .tc .vmem S8192x128 .bf16} {harg8 : arg8.IsWhole} [Writes c R arg8]
  {arg9 : Memref sig .tc .vmem S8192x128 .bf16} {harg9 : arg9.IsWhole} [Writes c R arg9]
  {arg10 : Memref sig .tc .vmem S512x128 .bf16} {harg10 : arg10.IsWhole} [Writes c R arg10]
  {arg11 : Memref sig .tc .vmem S512x128 .bf16} {harg11 : arg11.IsWhole} [Writes c R arg11]
  {arg12 : Memref sig .tc .vmem S256x256 .bf16} {harg12 : arg12.IsWhole} [Writes c R arg12]
  {arg13 : Memref sig .tc .vmem S256x512 .bf16} {harg13 : arg13.IsWhole} [Writes c R arg13]
  {arg14 : Memref sig .tc .vmem S4x512x256 .f32} {harg14 : arg14.IsWhole} [Writes c R arg14]
  {arg15 : Memref sig .tc .vmem S2x512x256 .f32} {harg15 : arg15.IsWhole} [Writes c R arg15]
  {arg16 : Memref sig .tc .vmem S2x512x256 .bf16} {harg16 : arg16.IsWhole} [Writes c R arg16]
  {arg17 : Memref sig .tc .vmem S4x512x256 .f32} {harg17 : arg17.IsWhole} [Writes c R arg17]
  {arg18 : Memref sig .tc .vmem S512x256 .f32} {harg18 : arg18.IsWhole} [Writes c R arg18]
  {arg19 : Memref sig .tc .vmem S2x512x256 .bf16} {harg19 : arg19.IsWhole} [Writes c R arg19]
  {arg20 : Memref sig .tc .vmem S2x512x256 .bf16} {harg20 : arg20.IsWhole} [Writes c R arg20]
  {arg21 : Memref sig .tc .vmem S512x512 .f32} {harg21 : arg21.IsWhole} [Writes c R arg21]
  {arg22 : Memref sig .tc .vmem S2x512x256 .bf16} {harg22 : arg22.IsWhole} [Writes c R arg22]
  {arg23 : Memref sig .tc .vmem S512x256 .f32} {harg23 : arg23.IsWhole} [Writes c R arg23]
  {arg24 : Memref sig .tc .vmem S512x128 .f32} {harg24 : arg24.IsWhole} [Writes c R arg24]
  {arg25 : Memref sig .tc .vmem S8192x128 .f32} {harg25 : arg25.IsWhole} [Writes c R arg25]
  {arg26 : Memref sig .tc .vmem S8192x128 .f32} {harg26 : arg26.IsWhole} [Writes c R arg26]

set_option maxHeartbeats 1000000 in
/-- One trip of the loop over the pairs of key blocks left of the diagonal. -/
theorem tripUp {v11 : FVec F S1x128 .f32} {v20 : FVec F S1x128 .f32} {v21 : IVec S64x128 32} {v102 : BitVec 32} {c0_i32_641 : BitVec 32} {v996 : BitVec 32} (k : Fin (k0_t1_loop i).trips) (a : Unit) :
    Keeps (defs₀ (F := F)) 𝒱₀ c R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v11 v20 v21 v102 c0_i32_641 v996 k a) := by
  repeat' first
    | intro _
    | with_reducible exact Keeps.load
    | with_reducible exact Keeps.store
    | with_reducible exact Keeps.pure _
    | with_reducible refine Keeps.dite ?_ ?_
    | with_reducible refine Keeps.bind ?_ ?_
    | refine Keeps.bind ?_ ?_
    | exact Keeps.pure _

set_option maxHeartbeats 1000000 in
/-- One trip of the loop over what is left. -/
theorem tripDown {v11 : FVec F S1x128 .f32} {v20 : FVec F S1x128 .f32} {v21 : IVec S64x128 32} {v102 : BitVec 32} {c0_i32_641 : BitVec 32} {v996 : BitVec 32} {v1000 : BitVec 32} (k : Fin (k0_t2_loop i).trips) (a : Unit) :
    Keeps (defs₀ (F := F)) 𝒱₀ c R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v11 v20 v21 v102 c0_i32_641 v996 v1000 k a) := by
  repeat' first
    | intro _
    | with_reducible exact Keeps.load
    | with_reducible exact Keeps.store
    | with_reducible exact Keeps.pure _
    | with_reducible refine Keeps.dite ?_ ?_
    | with_reducible refine Keeps.bind ?_ ?_
    | refine Keeps.bind ?_ ?_
    | exact Keeps.pure _

end Cert.AttnIdeal.Keeping

end
-- ==== Proof.AttnIdealKeeping.lean ====
module

public import proofs.«01_k».proof.Proof.Gen.AttnIdeal.Frame
public import proofs.«01_k».proof.Proof.Gen.AttnIdeal.Skeleton
public import proofs.«01_k».proof.Proof.AttnIdealTrips

@[expose] public section

set_option maxRecDepth 65536

noncomputable section

namespace Cert.AttnIdeal.Keeping

open Cert.AttnIdeal.Gen Keep
open Idealize.ShloMosaic Idealize.ShloMosaic.TcCoe
open Idealize.SL Idealize.SL.RA Idealize.SL.BI Idealize.SL.Sem

variable {F : FTy → Type} [FloatOps F] {𝒱₀ : Variants} {c : Dev nD} {R : sProp (MT nD τ sig Unit (Elt F) ℕ (UR sig nD τ) ℕ)}

variable {i : grid0.Coords}
  {arg2 : Memref sig .tc .vmem S512x128 .f32} {harg2 : arg2.IsWhole} [Reads c R arg2]
  {arg3 : Memref sig .tc .vmem S16384x128 .bf16} {harg3 : arg3.IsWhole} [Reads c R arg3]
  {arg4 : Memref sig .tc .vmem S16384x128 .bf16} {harg4 : arg4.IsWhole} [Reads c R arg4]
  {arg5 : Memref sig .tc .vmem S512x128 .bf16} {harg5 : arg5.IsWhole} [Reads c R arg5]
  {arg6 : Memref sig .tc .vmem S512x256 .f32} {harg6 : arg6.IsWhole} [Reads c R arg6]
  {arg7 : Memref sig .tc .vmem S512x128 .bf16} {harg7 : arg7.IsWhole} [Writes c R arg7]
  {arg8 : Memref sig .tc .vmem S8192x128 .bf16} {harg8 : arg8.IsWhole} [Writes c R arg8]
  {arg9 : Memref sig .tc .vmem S8192x128 .bf16} {harg9 : arg9.IsWhole} [Writes c R arg9]
  {arg10 : Memref sig .tc .vmem S512x128 .bf16} {harg10 : arg10.IsWhole} [Writes c R arg10]
  {arg11 : Memref sig .tc .vmem S512x128 .bf16} {harg11 : arg11.IsWhole} [Writes c R arg11]
  {arg12 : Memref sig .tc .vmem S256x256 .bf16} {harg12 : arg12.IsWhole} [Writes c R arg12]
  {arg13 : Memref sig .tc .vmem S256x512 .bf16} {harg13 : arg13.IsWhole} [Writes c R arg13]
  {arg14 : Memref sig .tc .vmem S4x512x256 .f32} {harg14 : arg14.IsWhole} [Writes c R arg14]
  {arg15 : Memref sig .tc .vmem S2x512x256 .f32} {harg15 : arg15.IsWhole} [Writes c R arg15]
  {arg16 : Memref sig .tc .vmem S2x512x256 .bf16} {harg16 : arg16.IsWhole} [Writes c R arg16]
  {arg17 : Memref sig .tc .vmem S4x512x256 .f32} {harg17 : arg17.IsWhole} [Writes c R arg17]
  {arg18 : Memref sig .tc .vmem S512x256 .f32} {harg18 : arg18.IsWhole} [Writes c R arg18]
  {arg19 : Memref sig .tc .vmem S2x512x256 .bf16} {harg19 : arg19.IsWhole} [Writes c R arg19]
  {arg20 : Memref sig .tc .vmem S2x512x256 .bf16} {harg20 : arg20.IsWhole} [Writes c R arg20]
  {arg21 : Memref sig .tc .vmem S512x512 .f32} {harg21 : arg21.IsWhole} [Writes c R arg21]
  {arg22 : Memref sig .tc .vmem S2x512x256 .bf16} {harg22 : arg22.IsWhole} [Writes c R arg22]
  {arg23 : Memref sig .tc .vmem S512x256 .f32} {harg23 : arg23.IsWhole} [Writes c R arg23]
  {arg24 : Memref sig .tc .vmem S512x128 .f32} {harg24 : arg24.IsWhole} [Writes c R arg24]
  {arg25 : Memref sig .tc .vmem S8192x128 .f32} {harg25 : arg25.IsWhole} [Writes c R arg25]
  {arg26 : Memref sig .tc .vmem S8192x128 .f32} {harg26 : arg26.IsWhole} [Writes c R arg26]

set_option maxHeartbeats 400000 in
/-- The first statements: the branch that clears the two running sums, and the first loads. -/
theorem start : Keeps (defs₀ (F := F)) 𝒱₀ c R (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) := by
  unfold k0_part223
  extract_lets
  repeat' first
    | intro _
    | with_reducible exact Keeps.load
    | with_reducible exact Keeps.store
    | with_reducible exact Keeps.pure _
    | with_reducible refine Keeps.dite ?_ ?_
    | with_reducible refine Keeps.for ?_
    | with_reducible refine Keeps.bind ?_ ?_
    | refine Keeps.bind ?_ ?_
    | exact Keeps.pure _

set_option maxHeartbeats 400000 in
/-- The two loops, and the first loads after them. -/
theorem loops {v11 : FVec F S1x128 .f32} {v20 : FVec F S1x128 .f32} {v21 : IVec S64x128 32} {v102 : BitVec 32} {c0_i32_641 : BitVec 32} {v996 : BitVec 32} :
    Keeps (defs₀ (F := F)) 𝒱₀ c R (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v11 v20 v21 v102 c0_i32_641 v996) := by
  rw [k0_part252_eq_skeleton]
  unfold k0_part252_skel
  extract_lets
  refine Keeps.bind (Keeps.for fun k a => tripUp k a) fun _ => ?_
  refine Keeps.bind (Keeps.for fun k a => tripDown k a) fun _ => ?_
  repeat' first
    | intro _
    | with_reducible exact Keeps.load
    | with_reducible exact Keeps.store
    | with_reducible exact Keeps.pure _
    | refine Keeps.bind ?_ ?_

set_option maxHeartbeats 1000000 in
/-- The body at a grid point. -/
theorem body : Keeps (defs₀ (F := F)) 𝒱₀ c R (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) := by
  repeat' first
    | intro _
    | with_reducible exact start
    | with_reducible exact loops
    | with_reducible exact Keeps.load
    | with_reducible exact Keeps.store
    | with_reducible exact Keeps.pure _
    | with_reducible refine Keeps.dite ?_ ?_
    | with_reducible refine Keeps.bind ?_ ?_
    | refine Keeps.bind ?_ ?_
    | exact Keeps.pure _

end Cert.AttnIdeal.Keeping

end
-- ==== Proof.AttnIdealRun.lean ====
/- THE RUN of the attention's gradient kernel: every execution ends, its argument arrays end as they began, and every
   counter reads zero. The body keeps the buffers it is handed (`Keeping.body`), its inputs unchanged and its results at
   contents nobody names, which is all the pipeline asks of it. -/
module

public import proofs.«01_k».proof.Proof.AttnIdealKeeping

@[expose] public section

set_option maxRecDepth 16384

noncomputable section

namespace Cert.AttnIdeal.Run

open Cert.AttnIdeal.Gen Keep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The windows nobody reads: the three results. -/
def results : Fin cfg0.W → Bool := fun | 5 | 6 | 7 => true | _ => false

/-- What the pipeline is told of the body: it leaves each input block in place, and a result at nothing named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed 5 t
    | ⟨6, _⟩ => Dat.unnamed 6 t
    | ⟨7, _⟩ => Dat.unnamed 7 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body is handed at a point. -/
def held (c : Dev nD) (t : Fin cfg0.N) : sProp 𝕄 :=
  iprop((Pipeline.scopedRest spec0 c ∗ ∃ r, prngReg c r) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X))

attribute [local instance] Writes.left Writes.right Reads.left Reads.right Writes.owned Reads.owned

set_option synthInstance.maxHeartbeats 400000 in
set_option maxHeartbeats 2000000 in
/-- The body keeps it. -/
theorem kept (c : Dev nD) (t : Fin cfg0.N) : Keeps (defs₀ (F := F)) Variants.none c (held m c t) (bodyAt0 t) := by
  unfold held bodyAt0
  rw [scopedRest0_eq]
  apply (allowSynthFailures := true) Keeping.body
  all_goals refine Writes.left (h := Writes.left (h := ?_) _) _
  all_goals repeat first
    | exact Writes.buffer _
    | exact Writes.left (h := Writes.buffer _) _
    | refine Writes.right (h := ?_) _

/-- The body table's row at a point's buffers is the body there. -/
theorem defs₀_row (t : Fin cfg0.N) :
    defs₀ (F := F) .tc cfg0.body (cfg0.bodyArgs t (cfg0.slots t)) = bodyAt0 t := by
  unfold defs₀; rw [Defs.onTc_tc]

/-- An input's block is in place whichever way it got there. -/
theorem named {c : Dev nD} {s : Shape} {e : EltTy} {D : Type} {M : Memref sig .tc .vmem s e} {X : D → s.Idx → Elt F e} {Y : s.Idx → Elt F e}
    (h : ∀ d, X d = Y) : (iprop(∃ d, owns (c : Thread nD τ) M fullShare (X d)) : sProp 𝕄) ⊢ owns (c : Thread nD τ) M fullShare Y := by
  iintro ⟨%d, H⟩
  rw [h d]
  iexact H

/-- What it hands back. -/
def left (c : Dev nD) (t : Fin cfg0.N) : sProp 𝕄 :=
  iprop((Pipeline.scopedRest spec0 c ∗ ∃ r, prngReg c r) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X))

set_option maxHeartbeats 1000000 in
/-- What it was handed it hands back. -/
theorem held_left (c : Dev nD) (t : Fin cfg0.N) : held m c t ⊢ left m c t := by
  unfold held left
  refine BIClass.sep_mono .rfl (BIClass.sep_mono .rfl
    (BIClass.sep_mono ?_ (BIClass.sep_mono ?_ (BIClass.sep_mono ?_ (BIClass.sep_mono ?_ (BIClass.sep_mono ?_ .rfl))))))
  · exact named (before0_0_of m (dats m 0 c) (A_eq m c 0) (fun _ => rfl) t)
  · exact named (before0_1_of m (dats m 0 c) (A_eq m c 1) (fun _ => rfl) t)
  · exact named (before0_2_of m (dats m 0 c) (A_eq m c 2) (fun _ => rfl) t)
  · exact named (before0_3_of m (dats m 0 c) (A_eq m c 3) (fun _ => rfl) t)
  · exact named (before0_4_of m (dats m 0 c) (A_eq m c 4) (fun _ => rfl) t)

/-- The body at a point. -/
theorem sound (c : Dev nD) (t : Fin cfg0.N) :
    held m c t ⊢ wp frame (wpE (defs₀ (F := F)) Variants.none c none) Set.univ (bodyAt0 t) (fun _ => left m c t) := by
  have hk := kept m c t
  unfold Keeps at hk
  exact hk.trans (wp_mono _ _ _ fun _ => held_left m c t)

set_option maxHeartbeats 1000000 in
/-- What the pipeline asks of the body at every point. -/
theorem obligation (c : Dev nD) :
    Pipeline.BodyObligation (dats (F := F) m 0 c) (defs₀ (F := F)) Variants.none () Set.univ results := fun t => by
  rw [bigSep_W0, bigSep_W0, defs₀_row]
  exact triple_restated (sound m c t) rfl .rfl fun _ => .rfl

set_option backward.isDefEq.respectTransparency.types false in
set_option maxHeartbeats 800000 in
/-- Every execution ends, with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_track_forget_shared cfgs (dats m) (0 : Fin 1) launch0.to₀ defs₀ Variants.none results m ρ main
    (hbody := fun c => (obligation m c).loose) (hq := fun _ _ _ => rfl)
    (howed := fun _ _ => rfl) (V := V m) (hmain := hmain m Variants.none) (hA := A_eq m) (hin := fun _ => .rfl) (hout := fun _ => .rfl)
    (Q' := _) (hQ' := fun r h => ⟨fun c =>
      ⟨(h.1.arr_in c 0 rfl).trans (V_main_arg0 m c), (h.1.arr_in c 1 rfl).trans (V_main_arg1 m c),
        (h.1.arr_in c 2 rfl).trans (V_main_arg2 m c), (h.1.arr_in c 3 rfl).trans (V_main_arg3 m c),
        (h.1.arr_in c 4 rfl).trans (V_main_arg4 m c)⟩, h.2⟩)

end Cert.AttnIdeal.Run

end
-- ==== Proof.MlpDaValue.lean ====
/- The gradient of the channel mixer at its hidden layer, `(dff · Wᵀ) * 2 max(a, 0)`, block by block. -/
module

public import proofs.«01_k».proof.Proof.Gen.MlpDaIdeal.Value
public import proofs.«01_k».proof.Proof.Gen.MlpDaRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpDaIdeal.Step

open Cert.MlpDaIdeal Cert.MlpDaIdeal.Gen Cert.MlpDaRefIdeal.Read

variable (m : (ℓ : Loc nD τ sig) → Buf (Elt Ideal) ℓ)

/-- Where each window's block sits at grid point `t`: row block `t / 4`, column block `t % 4`. -/
theorem place : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- Where the hidden value is not positive the kernel multiplies by zero and the reference puts a zero. -/
theorem masked (p k x : EReal) : p * (k * max x 0) = if 0 < x then p * (k * max x 0) else 0 := by
  split
  · rfl
  · rw [max_eq_right (not_lt.mp ‹_›), mul_zero, mul_zero]

/-- The gradient at the hidden layer. -/
theorem final3 (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v15, val_main_v14, val_main_v13, val_main_v12, val_main_v11, val_main_v10, val_main_v8, val_main_v7, val_main_v6,
    val_main_v3, val_main_v2, val_main_v1, val_main_v0, val_main_call0_v0, val_main_call0_cst, val_main_cst, val_main_cst_1, val_main_cst_2]
  refine Eq.trans ?_ (masked _ _ _)
  blk_point [iblk, V, place t]

end Cert.MlpDaIdeal.Step

end
-- ==== Proof.MlpGwOutValue.lean ====
/- The gradient of the channel mixer's second weight, `rᵀ · dff`: the kernel adds the products of 2048 rows at each of four grid points. -/
module

public import proofs.«01_k».proof.Proof.Gen.MlpGwOutIdeal.Value
public import proofs.«01_k».proof.Proof.Gen.MlpGwOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpGwOutIdeal.Step

open Cert.MlpGwOutIdeal Cert.MlpGwOutIdeal.Gen Cert.MlpGwOutRefIdeal.Read

variable (m : (ℓ : Loc nD τ sig) → Buf (Elt Ideal) ℓ)

/-- Where each window's block sits at grid point `t`. -/
theorem place : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- A point's share. -/
theorem share (a b : Vec Ideal S2048x1024 .bf16) (j : S1024x1024.Idx) :
    k0_pay2 (F := Ideal) a b j = ∑ k : Fin 2048, (a (ix2 k (j 0)) * b (ix2 k (j 1)) : EReal) := by
  pointwise [k0_pay2, k0_pay1]

/-- A point other than the first adds its share. -/
theorem more (a b : Vec Ideal S2048x1024 .bf16) (x : Vec Ideal S1024x1024 .f32) (j : S1024x1024.Idx) :
    k0_pay3 (F := Ideal) a b x j = x j + ∑ k : Fin 2048, (a (ix2 k (j 0)) * b (ix2 k (j 1)) : EReal) := by
  pointwise [k0_pay3, k0_pay1]

/-- The reference's sum. -/
theorem ref (x : Vec Ideal S8192x4096 .bf16) (y : Vec Ideal S8192x1024 .bf16) (j : S4096x1024.Idx) :
    val_main_v6 (F := Ideal) x y j = ∑ l : Fin 8192, (x (ix2 l (j 0)) * y (ix2 l (j 1)) : EReal) := by
  pointwise [val_main_v6, val_main_v5, val_main_v4, val_main_v3, val_main_v1]
  exact Fin.sum_fin_congr fun l => mul_comm _ _

/-- The last point of a run hands over the sum so far. -/
theorem last (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]; frame_out
  pointwise [k0_pay4]

/-- The weight's gradient. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (last m c t h y).trans ?_
  rw [Pipeline.eq_sum_fin_of_reset_step_apply_of_flush (fun n h => (outsAt0 m c n h).2) 4 (fun _ => 0)
    (fun p j => ∑ k : Fin 2048, ((show Vec Ideal S2048x1024 .bf16 from iblk m c 0 p) (ix2 k (j 0)) * (show Vec Ideal S2048x1024 .bf16 from iblk m c 1 p) (ix2 k (j 1)) : EReal))
    (fun t h j => by rw [outsAt0_A m c t h (by omega) (by omega)]; frame_out; rw [share]; exact (zero_add _).symm)
    (fun t h j => by
      by_cases h3 : t.val % 4 = 3
      · rw [outsAt0_C m c t h (by omega) h3]; frame_out; exact (more _ _ _ _).trans (congrArg (fun x : EReal => x + _) (congrFun (Memref.IsWhole.read_unread (Memref.isWhole_whole cc0_scratch0) _) j))
      · rw [outsAt0_B m c t h (by omega) h3]; frame_out; exact (more _ _ _ _).trans (congrArg (fun x : EReal => x + _) (congrFun (Memref.IsWhole.read_unread (Memref.isWhole_whole cc0_scratch0) _) j)))
    t h _, zero_add, ref]
  refine Fin.sum_mul_add_congr fun s k hl => ?_
  blk_point [iblk, V, place t, place ⟨_, Pipeline.run_point_lt_of_flush t h s⟩]

end Cert.MlpGwOutIdeal.Step

end
-- ==== Proof.MlpDhValue.lean ====
/- The gradient of the channel mixer's input through its first weight, `da · Wᵀ`, by blocks of 1024 rows. -/
module

public import proofs.«01_k».proof.Proof.Gen.MlpDhIdeal.Value
public import proofs.«01_k».proof.Proof.Gen.MlpDhRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpDhIdeal.Step

open Cert.MlpDhIdeal Cert.MlpDhIdeal.Gen Cert.MlpDhRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The gradient at the mixer's input. -/
theorem final2 (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v4, val_main_v3, val_main_v1]
  blk_point [iblk, V, place t]

end Cert.MlpDhIdeal.Step

end
-- ==== Proof.MlpGwInValue.lean ====
/- The gradient of the channel mixer's first weight, `h2ᵀ · da`: the kernel adds the products of 2048 rows at each of four grid points. -/
module

public import proofs.«01_k».proof.Proof.Gen.MlpGwInIdeal.Value
public import proofs.«01_k».proof.Proof.Gen.MlpGwInRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpGwInIdeal.Step

open Cert.MlpGwInIdeal Cert.MlpGwInIdeal.Gen Cert.MlpGwInRefIdeal.Read

variable (m : (ℓ : Loc nD τ sig) → Buf (Elt Ideal) ℓ)

/-- Where each window's block sits at grid point `t`. -/
theorem place : ∀ t : Fin cfg0.N, win0_0.index t = ![t.val % 4, 0] ∧ win0_1.index t = ![t.val % 4, t.val / 4]
    ∧ win0_2.index t = ![0, t.val / 4] :=
  (by decide +kernel : ∀ t : Fin grid0.N, _)

/-- A point's share. -/
theorem share (a : Vec Ideal S2048x1024 .bf16) (b : Vec Ideal S2048x1024 .bf16) (j : S1024x1024.Idx) :
    k0_pay2 (F := Ideal) a b j = ∑ k : Fin 2048, (a (ix2 k (j 0)) * b (ix2 k (j 1)) : EReal) := by
  pointwise [k0_pay2, k0_pay1]

/-- A point other than the first adds its share. -/
theorem more (a : Vec Ideal S2048x1024 .bf16) (b : Vec Ideal S2048x1024 .bf16) (x : Vec Ideal S1024x1024 .f32) (j : S1024x1024.Idx) :
    k0_pay3 (F := Ideal) a b x j = x j + ∑ k : Fin 2048, (a (ix2 k (j 0)) * b (ix2 k (j 1)) : EReal) := by
  pointwise [k0_pay3, k0_pay1]

/-- The reference's sum. -/
theorem ref (x : Vec Ideal S8192x1024 .bf16) (y : Vec Ideal S8192x4096 .bf16) (j : S1024x4096.Idx) :
    val_main_v6 (F := Ideal) x y j = ∑ l : Fin 8192, (x (ix2 l (j 0)) * y (ix2 l (j 1)) : EReal) := by
  pointwise [val_main_v6, val_main_v5, val_main_v4, val_main_v3, val_main_v1]
  exact Fin.sum_fin_congr fun l => mul_comm _ _

/-- The last point of a run hands over the sum so far. -/
theorem last (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]; frame_out
  pointwise [k0_pay4]

/-- The weight's gradient. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (last m c t h y).trans ?_
  rw [Pipeline.eq_sum_fin_of_reset_step_apply_of_flush (fun n h => (outsAt0 m c n h).2) 4 (fun _ => 0)
    (fun p j => ∑ k : Fin 2048, ((show Vec Ideal S2048x1024 .bf16 from iblk m c 0 p) (ix2 k (j 0)) * (show Vec Ideal S2048x1024 .bf16 from iblk m c 1 p) (ix2 k (j 1)) : EReal))
    (fun t h j => by rw [outsAt0_A m c t h (by omega) (by omega)]; frame_out; rw [share]; exact (zero_add _).symm)
    (fun t h j => by
      by_cases h3 : t.val % 4 = 3
      · rw [outsAt0_C m c t h (by omega) h3]; frame_out; exact (more _ _ _ _).trans (congrArg (fun x : EReal => x + _) (congrFun (Memref.IsWhole.read_unread (Memref.isWhole_whole cc0_scratch0) _) j))
      · rw [outsAt0_B m c t h (by omega) h3]; frame_out; exact (more _ _ _ _).trans (congrArg (fun x : EReal => x + _) (congrFun (Memref.IsWhole.read_unread (Memref.isWhole_whole cc0_scratch0) _) j)))
    t h _, zero_add, ref]
  refine Fin.sum_mul_add_congr fun s k hl => ?_
  blk_point [iblk, V, place t, place ⟨_, Pipeline.run_point_lt_of_flush t h s⟩]

end Cert.MlpGwInIdeal.Step

end
-- ==== Proof.MixDmValue.lean ====
/- The gradient of the branches' merge through the output weight, `dmix · Wᵀ`, by blocks of 2048 rows. -/
module

public import proofs.«01_k».proof.Proof.Gen.MixDmIdeal.Value
public import proofs.«01_k».proof.Proof.Gen.MixDmRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixDmIdeal.Step

open Cert.MixDmIdeal Cert.MixDmIdeal.Gen Cert.MixDmRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The gradient at the merge. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v5, val_main_v4, val_main_v3, val_main_v1]
  blk_point [iblk, V, place t]

end Cert.MixDmIdeal.Step

end
-- ==== Proof.MixGwValue.lean ====
/- The gradient of the output weight, `mergedᵀ · dmix`: the kernel adds the products of 2048 rows at each of four grid points. -/
module

public import proofs.«01_k».proof.Proof.Gen.MixGwIdeal.Value
public import proofs.«01_k».proof.Proof.Gen.MixGwRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixGwIdeal.Step

open Cert.MixGwIdeal Cert.MixGwIdeal.Gen Cert.MixGwRefIdeal.Read

variable (m : (ℓ : Loc nD τ sig) → Buf (Elt Ideal) ℓ)

/-- Where each window's block sits at grid point `t`. -/
theorem place : ∀ t : Fin cfg0.N, win0_0.index t = ![t.val % 4, 0] ∧ win0_1.index t = ![t.val % 4, 0]
    ∧ win0_2.index t = ![0, 0] :=
  (by decide +kernel : ∀ t : Fin grid0.N, _)

/-- A point's share. -/
theorem share (a : Vec Ideal S2048x1024 .bf16) (b : Vec Ideal S2048x1024 .bf16) (j : S1024x1024.Idx) :
    k0_pay2 (F := Ideal) a b j = ∑ k : Fin 2048, (a (ix2 k (j 0)) * b (ix2 k (j 1)) : EReal) := by
  pointwise [k0_pay2, k0_pay1]

/-- A point other than the first adds its share. -/
theorem more (a : Vec Ideal S2048x1024 .bf16) (b : Vec Ideal S2048x1024 .bf16) (x : Vec Ideal S1024x1024 .f32) (j : S1024x1024.Idx) :
    k0_pay3 (F := Ideal) a b x j = x j + ∑ k : Fin 2048, (a (ix2 k (j 0)) * b (ix2 k (j 1)) : EReal) := by
  pointwise [k0_pay3, k0_pay1]

/-- The reference's sum. -/
theorem ref (x : Vec Ideal S8192x1024 .bf16) (y : Vec Ideal S8192x1024 .bf16) (j : S1024x1024.Idx) :
    val_main_v6 (F := Ideal) x y j = ∑ l : Fin 8192, (x (ix2 l (j 0)) * y (ix2 l (j 1)) : EReal) := by
  pointwise [val_main_v6, val_main_v5, val_main_v4, val_main_v3, val_main_v1]
  exact Fin.sum_fin_congr fun l => mul_comm _ _

/-- The last point of a run hands over the sum so far. -/
theorem last (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]; frame_out
  pointwise [k0_pay4]

/-- The weight's gradient. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (last m c t h y).trans ?_
  rw [Pipeline.eq_sum_fin_of_reset_step_apply_of_flush (fun n h => (outsAt0 m c n h).2) 4 (fun _ => 0)
    (fun p j => ∑ k : Fin 2048, ((show Vec Ideal S2048x1024 .bf16 from iblk m c 0 p) (ix2 k (j 0)) * (show Vec Ideal S2048x1024 .bf16 from iblk m c 1 p) (ix2 k (j 1)) : EReal))
    (fun t h j => by rw [outsAt0_A m c t h (by have := lt_of_lt_of_eq t.isLt N_0; omega) (by omega)]; frame_out; rw [share]; exact (zero_add _).symm)
    (fun t h j => by
      by_cases h3 : t.val % 4 = 3
      · rw [outsAt0_C m c t h (by omega) h3]; frame_out; exact (more _ _ _ _).trans (congrArg (fun x : EReal => x + _) (congrFun (Memref.IsWhole.read_unread (Memref.isWhole_whole cc0_scratch0) _) j))
      · rw [outsAt0_B m c t h (by omega) h3]; frame_out; exact (more _ _ _ _).trans (congrArg (fun x : EReal => x + _) (congrFun (Memref.IsWhole.read_unread (Memref.isWhole_whole cc0_scratch0) _) j)))
    t h _, zero_add, ref]
  refine Fin.sum_mul_add_congr fun s k hl => ?_
  blk_point [iblk, V, place t, place ⟨_, Pipeline.run_point_lt_of_flush t h s⟩]

end Cert.MixGwIdeal.Step

end
-- ==== Proof.AttnDoValue.lean ====
/- The gradient of the attention's result through its projection, `dy · Wᵀ`, by blocks of 2048 rows. -/
module

public import proofs.«01_k».proof.Proof.Gen.AttnDoIdeal.Value
public import proofs.«01_k».proof.Proof.Gen.AttnDoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnDoIdeal.Step

open Cert.AttnDoIdeal Cert.AttnDoIdeal.Gen Cert.AttnDoRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The gradient at the attention's result. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v5, val_main_v4, val_main_v3, val_main_v1]
  blk_point [iblk, V, place t]

end Cert.AttnDoIdeal.Step

end
-- ==== Proof.AttnGwValue.lean ====
/- The gradient of the attention's projection, `oᵀ · dy`: the kernel adds the products of 2048 rows at each of four grid points. -/
module

public import proofs.«01_k».proof.Proof.Gen.AttnGwIdeal.Value
public import proofs.«01_k».proof.Proof.Gen.AttnGwRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnGwIdeal.Step

open Cert.AttnGwIdeal Cert.AttnGwIdeal.Gen Cert.AttnGwRefIdeal.Read

variable (m : (ℓ : Loc nD τ sig) → Buf (Elt Ideal) ℓ)

/-- Where each window's block sits at grid point `t`. -/
theorem place : ∀ t : Fin cfg0.N, win0_0.index t = ![t.val % 4, 0] ∧ win0_1.index t = ![t.val % 4, 0]
    ∧ win0_2.index t = ![0, 0] :=
  (by decide +kernel : ∀ t : Fin grid0.N, _)

/-- A point's share. -/
theorem share (a : Vec Ideal S2048x512 .bf16) (b : Vec Ideal S2048x1024 .bf16) (j : S512x1024.Idx) :
    k0_pay2 (F := Ideal) a b j = ∑ k : Fin 2048, (a (ix2 k (j 0)) * b (ix2 k (j 1)) : EReal) := by
  pointwise [k0_pay2, k0_pay1]

/-- A point other than the first adds its share. -/
theorem more (a : Vec Ideal S2048x512 .bf16) (b : Vec Ideal S2048x1024 .bf16) (x : Vec Ideal S512x1024 .f32) (j : S512x1024.Idx) :
    k0_pay3 (F := Ideal) a b x j = x j + ∑ k : Fin 2048, (a (ix2 k (j 0)) * b (ix2 k (j 1)) : EReal) := by
  pointwise [k0_pay3, k0_pay1]

/-- The reference's sum. -/
theorem ref (x : Vec Ideal S8192x512 .bf16) (y : Vec Ideal S8192x1024 .bf16) (j : S512x1024.Idx) :
    val_main_v6 (F := Ideal) x y j = ∑ l : Fin 8192, (x (ix2 l (j 0)) * y (ix2 l (j 1)) : EReal) := by
  pointwise [val_main_v6, val_main_v5, val_main_v4, val_main_v3, val_main_v1]
  exact Fin.sum_fin_congr fun l => mul_comm _ _

/-- The last point of a run hands over the sum so far. -/
theorem last (c : Dev nD) (t : Fin cfg0.N) (h : t.val % 4 = 3) (j : S512x1024.Idx) :
    ((outsAt0 m c t.val t.isLt).1 j : EReal) = (outsAt0 m c t.val t.isLt).2 j := by
  rw [outsAt0_C m c t (by omega) (by omega) h]; frame_out
  pointwise [k0_pay4]

/-- The weight's gradient. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (last m c t h y).trans ?_
  rw [Pipeline.eq_sum_fin_of_reset_step_apply_of_flush (fun n h => (outsAt0 m c n h).2) 4 (fun _ => 0)
    (fun p j => ∑ k : Fin 2048, ((show Vec Ideal S2048x512 .bf16 from iblk m c 0 p) (ix2 k (j 0)) * (show Vec Ideal S2048x1024 .bf16 from iblk m c 1 p) (ix2 k (j 1)) : EReal))
    (fun t h j => by rw [outsAt0_A m c t h (by have := lt_of_lt_of_eq t.isLt N_0; omega) (by omega)]; frame_out; rw [share]; exact (zero_add _).symm)
    (fun t h j => by
      by_cases h3 : t.val % 4 = 3
      · rw [outsAt0_C m c t h (by omega) h3]; frame_out; exact (more _ _ _ _).trans (congrArg (fun x : EReal => x + _) (congrFun (Memref.IsWhole.read_unread (Memref.isWhole_whole cc0_scratch0) _) j))
      · rw [outsAt0_B m c t h (by omega) h3]; frame_out; exact (more _ _ _ _).trans (congrArg (fun x : EReal => x + _) (congrFun (Memref.IsWhole.read_unread (Memref.isWhole_whole cc0_scratch0) _) j)))
    t h _, zero_add, ref]
  refine Fin.sum_mul_add_congr fun s k hl => ?_
  blk_point [iblk, V, place t, place ⟨_, Pipeline.run_point_lt_of_flush t h s⟩]

end Cert.AttnGwIdeal.Step

end
-- ==== Proof.ConvDyValue.lean ====
/- The gradient of the convolution's result through its projection, `dy · Wᵀ`, by blocks of 2048 rows. -/
module

public import proofs.«01_k».proof.Proof.Gen.ConvDyIdeal.Value
public import proofs.«01_k».proof.Proof.Gen.ConvDyRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvDyIdeal.Step

open Cert.ConvDyIdeal Cert.ConvDyIdeal.Gen Cert.ConvDyRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The gradient at the convolution's result. -/
theorem final2 (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v4, val_main_v3, val_main_v1]
  blk_point [iblk, V, place t]

end Cert.ConvDyIdeal.Step

end
-- ==== Proof.ConvGwValue.lean ====
/- The gradient of the convolution's projection, `ycᵀ · dy`: the kernel adds the products of 2048 rows at each of four grid points. -/
module

public import proofs.«01_k».proof.Proof.Gen.ConvGwIdeal.Value
public import proofs.«01_k».proof.Proof.Gen.ConvGwRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvGwIdeal.Step

open Cert.ConvGwIdeal Cert.ConvGwIdeal.Gen Cert.ConvGwRefIdeal.Read

variable (m : (ℓ : Loc nD τ sig) → Buf (Elt Ideal) ℓ)

/-- Where each window's block sits at grid point `t`. -/
theorem place : ∀ t : Fin cfg0.N, win0_0.index t = ![t.val % 4, 0] ∧ win0_1.index t = ![t.val % 4, 0]
    ∧ win0_2.index t = ![0, 0] :=
  (by decide +kernel : ∀ t : Fin grid0.N, _)

/-- A point's share. -/
theorem share (a : Vec Ideal S2048x512 .bf16) (b : Vec Ideal S2048x1024 .bf16) (j : S512x1024.Idx) :
    k0_pay2 (F := Ideal) a b j = ∑ k : Fin 2048, (a (ix2 k (j 0)) * b (ix2 k (j 1)) : EReal) := by
  pointwise [k0_pay2, k0_pay1]

/-- A point other than the first adds its share. -/
theorem more (a : Vec Ideal S2048x512 .bf16) (b : Vec Ideal S2048x1024 .bf16) (x : Vec Ideal S512x1024 .f32) (j : S512x1024.Idx) :
    k0_pay3 (F := Ideal) a b x j = x j + ∑ k : Fin 2048, (a (ix2 k (j 0)) * b (ix2 k (j 1)) : EReal) := by
  pointwise [k0_pay3, k0_pay1]

/-- The reference's sum. -/
theorem ref (x : Vec Ideal S8192x512 .bf16) (y : Vec Ideal S8192x1024 .bf16) (j : S512x1024.Idx) :
    val_main_v6 (F := Ideal) x y j = ∑ l : Fin 8192, (x (ix2 l (j 0)) * y (ix2 l (j 1)) : EReal) := by
  pointwise [val_main_v6, val_main_v5, val_main_v4, val_main_v3, val_main_v1]
  exact Fin.sum_fin_congr fun l => mul_comm _ _

/-- The last point of a run hands over the sum so far. -/
theorem last (c : Dev nD) (t : Fin cfg0.N) (h : t.val % 4 = 3) (j : S512x1024.Idx) :
    ((outsAt0 m c t.val t.isLt).1 j : EReal) = (outsAt0 m c t.val t.isLt).2 j := by
  rw [outsAt0_C m c t (by omega) (by omega) h]; frame_out
  pointwise [k0_pay4]

/-- The weight's gradient. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (last m c t h y).trans ?_
  rw [Pipeline.eq_sum_fin_of_reset_step_apply_of_flush (fun n h => (outsAt0 m c n h).2) 4 (fun _ => 0)
    (fun p j => ∑ k : Fin 2048, ((show Vec Ideal S2048x512 .bf16 from iblk m c 0 p) (ix2 k (j 0)) * (show Vec Ideal S2048x1024 .bf16 from iblk m c 1 p) (ix2 k (j 1)) : EReal))
    (fun t h j => by rw [outsAt0_A m c t h (by have := lt_of_lt_of_eq t.isLt N_0; omega) (by omega)]; frame_out; rw [share]; exact (zero_add _).symm)
    (fun t h j => by
      by_cases h3 : t.val % 4 = 3
      · rw [outsAt0_C m c t h (by omega) h3]; frame_out; exact (more _ _ _ _).trans (congrArg (fun x : EReal => x + _) (congrFun (Memref.IsWhole.read_unread (Memref.isWhole_whole cc0_scratch0) _) j))
      · rw [outsAt0_B m c t h (by omega) h3]; frame_out; exact (more _ _ _ _).trans (congrArg (fun x : EReal => x + _) (congrFun (Memref.IsWhole.read_unread (Memref.isWhole_whole cc0_scratch0) _) j)))
    t h _, zero_add, ref]
  refine Fin.sum_mul_add_congr fun s k hl => ?_
  blk_point [iblk, V, place t, place ⟨_, Pipeline.run_point_lt_of_flush t h s⟩]

end Cert.ConvGwIdeal.Step

end
-- ==== Proof.InGwValue.lean ====
/- The gradient of the combined projection, `hᵀ · dproj`: the kernel adds the products of 2048 rows at each of four grid points. -/
module

public import proofs.«01_k».proof.Proof.Gen.InGwIdeal.Value
public import proofs.«01_k».proof.Proof.Gen.InGwRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InGwIdeal.Step

open Cert.InGwIdeal Cert.InGwIdeal.Gen Cert.InGwRefIdeal.Read

variable (m : (ℓ : Loc nD τ sig) → Buf (Elt Ideal) ℓ)

/-- Where each window's block sits at grid point `t`. -/
theorem place : ∀ t : Fin cfg0.N, win0_0.index t = ![t.val % 4, 0] ∧ win0_1.index t = ![t.val % 4, t.val / 4]
    ∧ win0_2.index t = ![0, t.val / 4] :=
  (by decide +kernel : ∀ t : Fin grid0.N, _)

/-- A point's share. -/
theorem share (a : Vec Ideal S2048x1024 .bf16) (b : Vec Ideal S2048x1024 .bf16) (j : S1024x1024.Idx) :
    k0_pay2 (F := Ideal) a b j = ∑ k : Fin 2048, (a (ix2 k (j 0)) * b (ix2 k (j 1)) : EReal) := by
  pointwise [k0_pay2, k0_pay1]

/-- A point other than the first adds its share. -/
theorem more (a : Vec Ideal S2048x1024 .bf16) (b : Vec Ideal S2048x1024 .bf16) (x : Vec Ideal S1024x1024 .f32) (j : S1024x1024.Idx) :
    k0_pay3 (F := Ideal) a b x j = x j + ∑ k : Fin 2048, (a (ix2 k (j 0)) * b (ix2 k (j 1)) : EReal) := by
  pointwise [k0_pay3, k0_pay1]

/-- The reference's sum. -/
theorem ref (x : Vec Ideal S8192x1024 .bf16) (y : Vec Ideal S8192x5120 .bf16) (j : S1024x5120.Idx) :
    val_main_v6 (F := Ideal) x y j = ∑ l : Fin 8192, (x (ix2 l (j 0)) * y (ix2 l (j 1)) : EReal) := by
  pointwise [val_main_v6, val_main_v5, val_main_v4, val_main_v3, val_main_v1]
  exact Fin.sum_fin_congr fun l => mul_comm _ _

/-- The last point of a run hands over the sum so far. -/
theorem last (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]; frame_out
  pointwise [k0_pay4]

/-- The weight's gradient. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (last m c t h y).trans ?_
  rw [Pipeline.eq_sum_fin_of_reset_step_apply_of_flush (fun n h => (outsAt0 m c n h).2) 4 (fun _ => 0)
    (fun p j => ∑ k : Fin 2048, ((show Vec Ideal S2048x1024 .bf16 from iblk m c 0 p) (ix2 k (j 0)) * (show Vec Ideal S2048x1024 .bf16 from iblk m c 1 p) (ix2 k (j 1)) : EReal))
    (fun t h j => by rw [outsAt0_A m c t h (by omega) (by omega)]; frame_out; rw [share]; exact (zero_add _).symm)
    (fun t h j => by
      by_cases h3 : t.val % 4 = 3
      · rw [outsAt0_C m c t h (by omega) h3]; frame_out; exact (more _ _ _ _).trans (congrArg (fun x : EReal => x + _) (congrFun (Memref.IsWhole.read_unread (Memref.isWhole_whole cc0_scratch0) _) j))
      · rw [outsAt0_B m c t h (by omega) h3]; frame_out; exact (more _ _ _ _).trans (congrArg (fun x : EReal => x + _) (congrFun (Memref.IsWhole.read_unread (Memref.isWhole_whole cc0_scratch0) _) j)))
    t h _, zero_add, ref]
  refine Fin.sum_mul_add_congr fun s k hl => ?_
  blk_point [iblk, V, place t, place ⟨_, Pipeline.run_point_lt_of_flush t h s⟩]

end Cert.InGwIdeal.Step

end
-- ==== Proof.InDhValue.lean ====
/- The gradient of the mixer sub-layer's input through the combined projection, `dproj · Wᵀ`, by blocks of 1024 rows. -/
module

public import proofs.«01_k».proof.Proof.Gen.InDhIdeal.Value
public import proofs.«01_k».proof.Proof.Gen.InDhRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InDhIdeal.Step

open Cert.InDhIdeal Cert.InDhIdeal.Gen Cert.InDhRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The gradient at the projection's input. -/
theorem final2 (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v4, val_main_v3, val_main_v1]
  blk_point [iblk, V, place t]

end Cert.InDhIdeal.Step

end
-- ==== Proof.InProjValue.lean ====
/- The combined input projection, by blocks of 2048 rows and 1024 columns. -/
module

public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Step

open Cert.InProjIdeal Cert.InProjIdeal.Gen Cert.InProjRefIdeal.Read

variable (m : (ℓ : Loc nD τ sig) → Buf (Elt Ideal) ℓ)

/-- Where each window's block sits at grid point `t`. -/
theorem place : ∀ t : Fin cfg0.N, win0_0.index t = ![t.val / 5, 0] ∧ win0_1.index t = ![0, t.val % 5] ∧ win0_2.index t = ![t.val / 5, t.val % 5] :=
  (by decide +kernel : ∀ t : Fin grid0.N, _)

/-- The projection. -/
theorem final2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v2, val_main_v1, val_main_v0]
  blk_point [iblk, V, place t]

end Cert.InProjIdeal.Step

end
-- ==== Proof.ConvOutValue.lean ====
/- The convolution's projection, by blocks of 2048 rows. -/
module

public import proofs.«01_k».proof.Proof.Gen.ConvOutIdeal.Value
public import proofs.«01_k».proof.Proof.Gen.ConvOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvOutIdeal.Step

open Cert.ConvOutIdeal Cert.ConvOutIdeal.Gen Cert.ConvOutRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The projection. -/
theorem final2 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, place t]

end Cert.ConvOutIdeal.Step

end
-- ==== Proof.AttnOutValue.lean ====
/- The attention's projection, by blocks of 2048 rows. -/
module

public import proofs.«01_k».proof.Proof.Gen.AttnOutIdeal.Value
public import proofs.«01_k».proof.Proof.Gen.AttnOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnOutIdeal.Step

open Cert.AttnOutIdeal Cert.AttnOutIdeal.Gen Cert.AttnOutRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The projection. -/
theorem final2 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, place t]

end Cert.AttnOutIdeal.Step

end
-- ==== Proof.MixOutValue.lean ====
/- The output projection of the merged branches, by blocks of 2048 rows. -/
module

public import proofs.«01_k».proof.Proof.Gen.MixOutIdeal.Value
public import proofs.«01_k».proof.Proof.Gen.MixOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOutIdeal.Step

open Cert.MixOutIdeal Cert.MixOutIdeal.Gen Cert.MixOutRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The projection. -/
theorem final2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v2, val_main_v1, val_main_v0]
  blk_point [iblk, V, place t]

end Cert.MixOutIdeal.Step

end
-- ==== Proof.MlpInValue.lean ====
/- The channel mixer's first product and the square of its positive part, by blocks of 2048 rows and 1024 columns. -/
module

public import proofs.«01_k».proof.Proof.Gen.MlpInIdeal.Value
public import proofs.«01_k».proof.Proof.Gen.MlpInRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpInIdeal.Step

open Cert.MlpInIdeal Cert.MlpInIdeal.Gen Cert.MlpInRefIdeal.Read

variable (m : (ℓ : Loc nD τ sig) → Buf (Elt Ideal) ℓ)

/-- Where each window's block sits at grid point `t`. -/
theorem place : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

/-- The product. -/
theorem final2 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay2, k0_pay1, val_main_v3, val_main_v2, val_main_v1, val_main_v0]
  blk_point [iblk, V, place t]

/-- The square of its positive part. -/
theorem final3 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay3, k0_pay1, val_main_v6, val_main_v5, val_main_v4, val_main_call0_v0, val_main_call0_cst, val_main_v2, val_main_v1, val_main_v0]
  blk_point [iblk, V, place t]

end Cert.MlpInIdeal.Step

end
-- ==== Proof.MlpOutValue.lean ====
/- The channel mixer's second product, by blocks of 1024 rows. -/
module

public import proofs.«01_k».proof.Proof.Gen.MlpOutIdeal.Value
public import proofs.«01_k».proof.Proof.Gen.MlpOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpOutIdeal.Step

open Cert.MlpOutIdeal Cert.MlpOutIdeal.Gen Cert.MlpOutRefIdeal.Read

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The product. -/
theorem final2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v2, val_main_v1, val_main_v0]
  blk_point [iblk, V, place t]

end Cert.MlpOutIdeal.Step

end
-- ==== Proof.AdamStep.lean ====
/- One number's step of the optimiser, at the words of its printed constants. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamStep

/-- The number a printed single-precision word stands for. -/
abbrev word (b : BitVec 32) : EReal := Ideal.ofBits .f32 b

/-- The new first moment: nine tenths of the old one and a tenth of the gradient. -/
def first (g a : EReal) : EReal := word 0x3F666666#32 * a + word 0x3DCCCCCD#32 * g

/-- The new second moment, of the gradient's square. -/
def second (g b : EReal) : EReal := word 0x3F7FBE77#32 * b + word 0x3A83126F#32 * (g * g)

/-- The change of the weight: minus the rate times the corrected moments' quotient with a share of the weight. -/
def change (g w a b : EReal) : EReal :=
  word 0xBA83126F#32 * (Ideal.div (Ideal.div (first g a) (word 0x3F26BD02#32))
    (Ideal.sqrt (Ideal.div (second g b) (word 0x3C231ACC#32)) + word 0x322BCC77#32) + word 0x3C23D70A#32 * w)

theorem first_congr {g g' a a' : EReal} (hg : g = g') (ha : a = a') : first g a = first g' a' := by rw [hg, ha]

theorem second_congr {g g' b b' : EReal} (hg : g = g') (hb : b = b') : second g b = second g' b' := by rw [hg, hb]

theorem change_congr {g g' w w' a a' b b' : EReal} (hg : g = g') (hw : w = w') (ha : a = a') (hb : b = b') :
    change g w a b = change g' w' a' b' := by rw [hg, hw, ha, hb]

/-- The change, from a first moment already known. -/
theorem change_of {g w a b n : EReal} (h : n = first g a) :
    word 0xBA83126F#32 * (Ideal.div (Ideal.div n (word 0x3F26BD02#32))
      (Ideal.sqrt (Ideal.div (second g b) (word 0x3C231ACC#32)) + word 0x322BCC77#32) + word 0x3C23D70A#32 * w)
      = change g w a b := by rw [h]; rfl

end Cert.AdamStep

end
-- ==== Proof.AdamGainValue.lean ====
/- A gain's step: the eight devices' parts summed, then one step of the optimiser, as whole arrays. -/
module

public import proofs.«01_k».proof.Proof.Gen.AdamGainIdeal.Value
public import proofs.«01_k».proof.Proof.Gen.AdamGainRefIdeal.Read
public import Idealize.ShloMosaic.Lib.Pipeline.ValueKit
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamGainIdeal.Step

open Cert.AdamGainIdeal Cert.AdamGainIdeal.Gen Cert.AdamGainRefIdeal.Read

variable (m : (ℓ : Loc nD τ sig) → Buf (Elt Ideal) ℓ)

/-- Every window's one block is its whole array. -/
theorem place : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The reference's sum over the devices, written out from the left. -/
theorem total (x : (⟨_, .f32⟩ : BufTy).Contents (Elt Ideal)) (i) : val_main_v0 (F := Ideal) x i
    = x (idx_main_v0 i 0) + x (idx_main_v0 i 1) + x (idx_main_v0 i 2) + x (idx_main_v0 i 3) + x (idx_main_v0 i 4)
      + x (idx_main_v0 i 5) + x (idx_main_v0 i 6) + x (idx_main_v0 i 7) := by
  rw [val_main_v0_apply, val_main_cst_apply, Fin.sum_univ_eight]
  exact (congrArg (fun z : EReal => z + _) (Ideal.ofBits_zero_f32)).trans (zero_add _)

/-- The kernel's sum at a point is the reference's. -/
theorem grad (c : Dev nD) (t : Fin cfg0.N) (y) :
    k0_pay5 (F := Ideal) (iblk m c 0 t) (iblk m c 1 t) (iblk m c 2 t) (iblk m c 3 t) y
      = val_main_v0 (F := Ideal) (m ((c : Thread nD τ).loc main_arg0)) (((View.whole main_v0_0).slice (win0_4.rect t)).emb y) := by
  pointwise [k0_pay5, k0_pay3]
  rw [total]
  blk_point [iblk, V, place t]

/-- The kernel's new first moment at a point. -/
theorem moment (c : Dev nD) (t : Fin cfg0.N) (y) :
    k0_pay6 (F := Ideal) (iblk m c 0 t) (iblk m c 1 t) (iblk m c 2 t) (iblk m c 3 t) y
      = AdamStep.first (k0_pay5 (iblk m c 0 t) (iblk m c 1 t) (iblk m c 2 t) (iblk m c 3 t) y) (iblk m c 2 t y) := by
  refine Eq.trans (show _ = AdamStep.first (k0_pay5 (iblk m c 0 t) (iblk m c 1 t) (iblk m c 2 t) (iblk m c 3 t) y)
    (View.ld (iblk m c 2 t) r0_8 y) from rfl) (AdamStep.first_congr rfl ?_)
  pointwise [r0_8]

/-- The gradient. -/
theorem final4 (c : Dev nD) : (dats m 0 c).arrAt 4 (cfgs 0).N
    = val_main_v0 (F := Ideal) (m ((c : Thread nD τ).loc main_arg0)) := by
  refine (dats m 0 c).arrAt_eq_of_covers 4 _ (by decide +kernel) fun t _ y => ?_
  blk_simp
  rw [after0_4]; frame_out
  exact grad m c t y

/-- The new first moment, of the reference at a point. -/
theorem ref6 (x0 x2) (i) : val_main_v5 (F := Ideal) x0 x2 i
    = AdamStep.first (val_main_v0 (F := Ideal) x0 i) (x2 i) := by
  pointwise [val_main_v5, val_main_v4, val_main_v3, val_main_v2, val_main_v1, val_main_cst_0, val_main_cst_1]
  rfl

/-- The new first moment. -/
theorem final6 (c : Dev nD) : (dats m 0 c).arrAt 6 (cfgs 0).N
    = val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  refine Eq.trans (moment m c t y) (Eq.trans ?_ (ref6 _ _ _).symm)
  refine AdamStep.first_congr (grad m c t y) ?_
  all_goals blk_point [iblk, V, place t]

/-- The new second moment, of the reference at a point. -/
theorem ref7 (x0 x3) (i) : val_main_v11 (F := Ideal) x0 x3 i
    = AdamStep.second (val_main_v0 (F := Ideal) x0 i) (x3 i) := by
  pointwise [val_main_v11, val_main_v10, val_main_v9, val_main_v8, val_main_v7, val_main_v6, val_main_cst_2, val_main_cst_3]
  rfl

/-- The new second moment. -/
theorem final7 (c : Dev nD) : (dats m 0 c).arrAt 7 (cfgs 0).N
    = val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  refine Eq.trans (show k0_pay1 (k0_pay5 (iblk m c 0 t) (iblk m c 1 t) (iblk m c 2 t) (iblk m c 3 t)) (iblk m c 3 t) y = AdamStep.second (k0_pay5 (iblk m c 0 t) (iblk m c 1 t) (iblk m c 2 t) (iblk m c 3 t) y) (iblk m c 3 t y) from rfl) (Eq.trans ?_ (ref7 _ _ _).symm)
  refine AdamStep.second_congr (grad m c t y) ?_
  all_goals blk_point [iblk, V, place t]

/-- The change of the weight, of the reference at a point. -/
theorem ref5 (x0 x1 x2 x3) (i) : val_main_v24 (F := Ideal) x0 x1 x2 x3 i
    = AdamStep.change (val_main_v0 (F := Ideal) x0 i) (x1 i) (x2 i) (x3 i) := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1,
    val_main_cst_0, val_main_cst_1, val_main_cst_2, val_main_cst_3, val_main_cst_4, val_main_cst_5, val_main_cst_6, val_main_cst_7, val_main_cst_8]
  rfl

/-- The change of the weight. -/
theorem final5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine Eq.trans (AdamStep.change_of (moment m c t y)) (Eq.trans ?_ (ref5 _ _ _ _ _).symm)
  refine AdamStep.change_congr (grad m c t y) ?_ ?_ ?_
  all_goals blk_point [iblk, V, place t]

end Cert.AdamGainIdeal.Step

end
-- ==== Proof.AdamBAdaValue.lean ====
/- The modulation's bias's step: the eight devices' parts summed, then one step of the optimiser, as whole arrays. -/
module

public import proofs.«01_k».proof.Proof.Gen.AdamBAdaIdeal.Value
public import proofs.«01_k».proof.Proof.Gen.AdamBAdaRefIdeal.Read
public import Idealize.ShloMosaic.Lib.Pipeline.ValueKit
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamBAdaIdeal.Step

open Cert.AdamBAdaIdeal Cert.AdamBAdaIdeal.Gen Cert.AdamBAdaRefIdeal.Read

variable (m : (ℓ : Loc nD τ sig) → Buf (Elt Ideal) ℓ)

/-- Every window's one block is its whole array. -/
theorem place : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The reference's sum over the devices, written out from the left. -/
theorem total (x : (⟨_, .f32⟩ : BufTy).Contents (Elt Ideal)) (i) : val_main_v0 (F := Ideal) x i
    = x (idx_main_v0 i 0) + x (idx_main_v0 i 1) + x (idx_main_v0 i 2) + x (idx_main_v0 i 3) + x (idx_main_v0 i 4)
      + x (idx_main_v0 i 5) + x (idx_main_v0 i 6) + x (idx_main_v0 i 7) := by
  rw [val_main_v0_apply, val_main_cst_apply, Fin.sum_univ_eight]
  exact (congrArg (fun z : EReal => z + _) (Ideal.ofBits_zero_f32)).trans (zero_add _)

/-- The kernel's sum at a point is the reference's. -/
theorem grad (c : Dev nD) (t : Fin cfg0.N) (y) :
    k0_pay5 (F := Ideal) (iblk m c 0 t) (iblk m c 1 t) (iblk m c 2 t) (iblk m c 3 t) y
      = val_main_v0 (F := Ideal) (m ((c : Thread nD τ).loc main_arg0)) (((View.whole main_v0_0).slice (win0_4.rect t)).emb y) := by
  pointwise [k0_pay5, k0_pay3]
  rw [total]
  blk_point [iblk, V, place t]

/-- The kernel's new first moment at a point. -/
theorem moment (c : Dev nD) (t : Fin cfg0.N) (y) :
    k0_pay6 (F := Ideal) (iblk m c 0 t) (iblk m c 1 t) (iblk m c 2 t) (iblk m c 3 t) y
      = AdamStep.first (k0_pay5 (iblk m c 0 t) (iblk m c 1 t) (iblk m c 2 t) (iblk m c 3 t) y) (iblk m c 2 t y) := by
  refine Eq.trans (show _ = AdamStep.first (k0_pay5 (iblk m c 0 t) (iblk m c 1 t) (iblk m c 2 t) (iblk m c 3 t) y)
    (View.ld (iblk m c 2 t) r0_8 y) from rfl) (AdamStep.first_congr rfl ?_)
  pointwise [r0_8]

/-- The gradient. -/
theorem final4 (c : Dev nD) : (dats m 0 c).arrAt 4 (cfgs 0).N
    = val_main_v0 (F := Ideal) (m ((c : Thread nD τ).loc main_arg0)) := by
  refine (dats m 0 c).arrAt_eq_of_covers 4 _ (by decide +kernel) fun t _ y => ?_
  blk_simp
  rw [after0_4]; frame_out
  exact grad m c t y

/-- The new first moment, of the reference at a point. -/
theorem ref6 (x0 x2) (i) : val_main_v5 (F := Ideal) x0 x2 i
    = AdamStep.first (val_main_v0 (F := Ideal) x0 i) (x2 i) := by
  pointwise [val_main_v5, val_main_v4, val_main_v3, val_main_v2, val_main_v1, val_main_cst_0, val_main_cst_1]
  rfl

/-- The new first moment. -/
theorem final6 (c : Dev nD) : (dats m 0 c).arrAt 6 (cfgs 0).N
    = val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  refine Eq.trans (moment m c t y) (Eq.trans ?_ (ref6 _ _ _).symm)
  refine AdamStep.first_congr (grad m c t y) ?_
  all_goals blk_point [iblk, V, place t]

/-- The new second moment, of the reference at a point. -/
theorem ref7 (x0 x3) (i) : val_main_v11 (F := Ideal) x0 x3 i
    = AdamStep.second (val_main_v0 (F := Ideal) x0 i) (x3 i) := by
  pointwise [val_main_v11, val_main_v10, val_main_v9, val_main_v8, val_main_v7, val_main_v6, val_main_cst_2, val_main_cst_3]
  rfl

/-- The new second moment. -/
theorem final7 (c : Dev nD) : (dats m 0 c).arrAt 7 (cfgs 0).N
    = val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  refine Eq.trans (show k0_pay1 (k0_pay5 (iblk m c 0 t) (iblk m c 1 t) (iblk m c 2 t) (iblk m c 3 t)) (iblk m c 3 t) y = AdamStep.second (k0_pay5 (iblk m c 0 t) (iblk m c 1 t) (iblk m c 2 t) (iblk m c 3 t) y) (iblk m c 3 t y) from rfl) (Eq.trans ?_ (ref7 _ _ _).symm)
  refine AdamStep.second_congr (grad m c t y) ?_
  all_goals blk_point [iblk, V, place t]

/-- The change of the weight, of the reference at a point. -/
theorem ref5 (x0 x1 x2 x3) (i) : val_main_v24 (F := Ideal) x0 x1 x2 x3 i
    = AdamStep.change (val_main_v0 (F := Ideal) x0 i) (x1 i) (x2 i) (x3 i) := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1,
    val_main_cst_0, val_main_cst_1, val_main_cst_2, val_main_cst_3, val_main_cst_4, val_main_cst_5, val_main_cst_6, val_main_cst_7, val_main_cst_8]
  rfl

/-- The change of the weight. -/
theorem final5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine Eq.trans (AdamStep.change_of (moment m c t y)) (Eq.trans ?_ (ref5 _ _ _ _ _).symm)
  refine AdamStep.change_congr (grad m c t y) ?_ ?_ ?_
  all_goals blk_point [iblk, V, place t]

end Cert.AdamBAdaIdeal.Step

end
-- ==== Proof.AdamConvWValue.lean ====
/- The convolution's taps' step: the eight devices' parts summed, then one step of the optimiser, as whole arrays. -/
module

public import proofs.«01_k».proof.Proof.Gen.AdamConvWIdeal.Value
public import proofs.«01_k».proof.Proof.Gen.AdamConvWRefIdeal.Read
public import Idealize.ShloMosaic.Lib.Pipeline.ValueKit
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamConvWIdeal.Step

open Cert.AdamConvWIdeal Cert.AdamConvWIdeal.Gen Cert.AdamConvWRefIdeal.Read

variable (m : (ℓ : Loc nD τ sig) → Buf (Elt Ideal) ℓ)

/-- Every window's one block is its whole array. -/
theorem place : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The reference's sum over the devices, written out from the left. -/
theorem total (x : (⟨_, .f32⟩ : BufTy).Contents (Elt Ideal)) (i) : val_main_v0 (F := Ideal) x i
    = x (idx_main_v0 i 0) + x (idx_main_v0 i 1) + x (idx_main_v0 i 2) + x (idx_main_v0 i 3) + x (idx_main_v0 i 4)
      + x (idx_main_v0 i 5) + x (idx_main_v0 i 6) + x (idx_main_v0 i 7) := by
  rw [val_main_v0_apply, val_main_cst_apply, Fin.sum_univ_eight]
  exact (congrArg (fun z : EReal => z + _) (Ideal.ofBits_zero_f32)).trans (zero_add _)

/-- The kernel's sum at a point is the reference's. -/
theorem grad (c : Dev nD) (t : Fin cfg0.N) (y) :
    k0_pay5 (F := Ideal) (iblk m c 0 t) (iblk m c 1 t) (iblk m c 2 t) (iblk m c 3 t) y
      = val_main_v0 (F := Ideal) (m ((c : Thread nD τ).loc main_arg0)) (((View.whole main_v0_0).slice (win0_4.rect t)).emb y) := by
  pointwise [k0_pay5, k0_pay3]
  rw [total]
  blk_point [iblk, V, place t]

/-- The kernel's new first moment at a point. -/
theorem moment (c : Dev nD) (t : Fin cfg0.N) (y) :
    k0_pay6 (F := Ideal) (iblk m c 0 t) (iblk m c 1 t) (iblk m c 2 t) (iblk m c 3 t) y
      = AdamStep.first (k0_pay5 (iblk m c 0 t) (iblk m c 1 t) (iblk m c 2 t) (iblk m c 3 t) y) (iblk m c 2 t y) := by
  refine Eq.trans (show _ = AdamStep.first (k0_pay5 (iblk m c 0 t) (iblk m c 1 t) (iblk m c 2 t) (iblk m c 3 t) y)
    (View.ld (iblk m c 2 t) r0_8 y) from rfl) (AdamStep.first_congr rfl ?_)
  pointwise [r0_8]

/-- The gradient. -/
theorem final4 (c : Dev nD) : (dats m 0 c).arrAt 4 (cfgs 0).N
    = val_main_v0 (F := Ideal) (m ((c : Thread nD τ).loc main_arg0)) := by
  refine (dats m 0 c).arrAt_eq_of_covers 4 _ (by decide +kernel) fun t _ y => ?_
  blk_simp
  rw [after0_4]; frame_out
  exact grad m c t y

/-- The new first moment, of the reference at a point. -/
theorem ref6 (x0 x2) (i) : val_main_v5 (F := Ideal) x0 x2 i
    = AdamStep.first (val_main_v0 (F := Ideal) x0 i) (x2 i) := by
  pointwise [val_main_v5, val_main_v4, val_main_v3, val_main_v2, val_main_v1, val_main_cst_0, val_main_cst_1]
  rfl

/-- The new first moment. -/
theorem final6 (c : Dev nD) : (dats m 0 c).arrAt 6 (cfgs 0).N
    = val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  refine Eq.trans (moment m c t y) (Eq.trans ?_ (ref6 _ _ _).symm)
  refine AdamStep.first_congr (grad m c t y) ?_
  all_goals blk_point [iblk, V, place t]

/-- The new second moment, of the reference at a point. -/
theorem ref7 (x0 x3) (i) : val_main_v11 (F := Ideal) x0 x3 i
    = AdamStep.second (val_main_v0 (F := Ideal) x0 i) (x3 i) := by
  pointwise [val_main_v11, val_main_v10, val_main_v9, val_main_v8, val_main_v7, val_main_v6, val_main_cst_2, val_main_cst_3]
  rfl

/-- The new second moment. -/
theorem final7 (c : Dev nD) : (dats m 0 c).arrAt 7 (cfgs 0).N
    = val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  refine Eq.trans (show k0_pay1 (k0_pay5 (iblk m c 0 t) (iblk m c 1 t) (iblk m c 2 t) (iblk m c 3 t)) (iblk m c 3 t) y = AdamStep.second (k0_pay5 (iblk m c 0 t) (iblk m c 1 t) (iblk m c 2 t) (iblk m c 3 t) y) (iblk m c 3 t y) from rfl) (Eq.trans ?_ (ref7 _ _ _).symm)
  refine AdamStep.second_congr (grad m c t y) ?_
  all_goals blk_point [iblk, V, place t]

/-- The change of the weight, of the reference at a point. -/
theorem ref5 (x0 x1 x2 x3) (i) : val_main_v24 (F := Ideal) x0 x1 x2 x3 i
    = AdamStep.change (val_main_v0 (F := Ideal) x0 i) (x1 i) (x2 i) (x3 i) := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1,
    val_main_cst_0, val_main_cst_1, val_main_cst_2, val_main_cst_3, val_main_cst_4, val_main_cst_5, val_main_cst_6, val_main_cst_7, val_main_cst_8]
  rfl

/-- The change of the weight. -/
theorem final5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine Eq.trans (AdamStep.change_of (moment m c t y)) (Eq.trans ?_ (ref5 _ _ _ _ _).symm)
  refine AdamStep.change_congr (grad m c t y) ?_ ?_ ?_
  all_goals blk_point [iblk, V, place t]

end Cert.AdamConvWIdeal.Step

end
-- ==== Proof.AdamInValue.lean ====
/- The combined projection: each layer's parts summed over the devices, then one step of the optimiser, as whole arrays. -/
module

public import proofs.«01_k».proof.Proof.Gen.AdamInIdeal.Frame
public import proofs.«01_k».proof.Proof.Gen.AdamInRefIdeal.Read
public import Idealize.ShloMosaic.Lib.Pipeline.ValueKit
public import Idealize.ShloMosaic.Lib.Pipeline.ValueKit.Partial
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamInIdeal.Step

open Cert.AdamInIdeal Cert.AdamInIdeal.Gen Cert.AdamInRefIdeal.Read

/-- The change of the weight at a point, from the sum and the three blocks there. -/
theorem pay_change (g : FVec Ideal S256x640 .f32) (w a b : Vec Ideal S1x256x640 .f32) (y) :
    k0_pay7 (F := Ideal) g a b w y = AdamStep.change (k0_pay6 g y) (w y) (a y) (b y) := by
  pointwise [k0_pay7, k0_pay6, k0_pay4, k0_pay5]
  rfl

/-- The new first moment at a point. -/
theorem pay_first (g : FVec Ideal S256x640 .f32) (a : Vec Ideal S1x256x640 .f32) (y) :
    k0_pay1 (F := Ideal) (k0_pay4 g a) y = AdamStep.first (k0_pay6 g y) (a y) := by
  pointwise [k0_pay1, k0_pay6, k0_pay4]
  rfl

/-- The new second moment at a point. -/
theorem pay_second (g : FVec Ideal S256x640 .f32) (b : Vec Ideal S1x256x640 .f32) (y) :
    k0_pay2 (F := Ideal) (k0_pay5 g b) y = AdamStep.second (k0_pay6 g y) (b y) := by
  pointwise [k0_pay2, k0_pay6, k0_pay5]
  rfl

/-- The reference's sum of layer 0's parts, written out from the left. -/
theorem total1 (x : (⟨_, .bf16⟩ : BufTy).Contents (Elt Ideal)) (i) : val_main_v1 (F := Ideal) x i
    = (x (idx_main_v1 i 0) + x (idx_main_v1 i 1) + x (idx_main_v1 i 2) + x (idx_main_v1 i 3) + x (idx_main_v1 i 4)
      + x (idx_main_v1 i 5) + x (idx_main_v1 i 6) + x (idx_main_v1 i 7) : EReal) := by
  rw [val_main_v1_apply, val_main_cst_apply, Fin.sum_univ_eight]
  exact (congrArg (fun z : EReal => z + _) (Ideal.ofBits_zero_f32)).trans (zero_add _)

/-- The reference's sum of layer 1's parts, written out from the left. -/
theorem total3 (x : (⟨_, .bf16⟩ : BufTy).Contents (Elt Ideal)) (i) : val_main_v3 (F := Ideal) x i
    = (x (idx_main_v3 i 0) + x (idx_main_v3 i 1) + x (idx_main_v3 i 2) + x (idx_main_v3 i 3) + x (idx_main_v3 i 4)
      + x (idx_main_v3 i 5) + x (idx_main_v3 i 6) + x (idx_main_v3 i 7) : EReal) := by
  rw [val_main_v3_apply, val_main_cst_0_apply, Fin.sum_univ_eight]
  exact (congrArg (fun z : EReal => z + _) (Ideal.ofBits_zero_f32)).trans (zero_add _)

/-- The reference's gradient in layer 0. -/
theorem grad_layer0 (x0 x1) (i) (h : (i 0 : Fin 2).val = 0) :
    val_main_v6 (F := Ideal) x0 x1 i = val_main_v1 x1 (ix2 (i 1) (i 2)) := by
  pointwise [val_main_v6, val_main_v5, val_main_v4]
  rw [dif_pos (by omega)]

/-- The reference's gradient in layer 1. -/
theorem grad_layer1 (x0 x1) (i) (h : (i 0 : Fin 2).val = 1) :
    val_main_v6 (F := Ideal) x0 x1 i = val_main_v3 x0 (ix2 (i 1) (i 2)) := by
  pointwise [val_main_v6, val_main_v5, val_main_v4]
  rw [dif_neg (by omega)]

/-- The new first moment, of the reference at a point. -/
theorem ref6 (x0 x1 x3) (i) : val_main_v11 (F := Ideal) x0 x1 x3 i
    = AdamStep.first (val_main_v6 (F := Ideal) x0 x1 i) (x3 i) := by
  pointwise [val_main_v11, val_main_v10, val_main_v9, val_main_v8, val_main_v7, val_main_cst_1, val_main_cst_2]
  rfl

/-- The new second moment, of the reference at a point. -/
theorem ref7 (x0 x1 x4) (i) : val_main_v17 (F := Ideal) x0 x1 x4 i
    = AdamStep.second (val_main_v6 (F := Ideal) x0 x1 i) (x4 i) := by
  pointwise [val_main_v17, val_main_v16, val_main_v15, val_main_v14, val_main_v13, val_main_v12, val_main_cst_3, val_main_cst_4]
  rfl

/-- The change of the weight, of the reference at a point. -/
theorem ref5 (x0 x1 x2 x3 x4) (i) : val_main_v30 (F := Ideal) x0 x1 x2 x3 x4 i
    = AdamStep.change (val_main_v6 (F := Ideal) x0 x1 i) (x2 i) (x3 i) (x4 i) := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7,
    val_main_cst_1, val_main_cst_2, val_main_cst_3, val_main_cst_4, val_main_cst_5, val_main_cst_6, val_main_cst_7, val_main_cst_8, val_main_cst_9]
  rfl

variable (V : (c : Dev nD) → (b : Ref sig .tc) → Buf (Elt Ideal) ((c : Thread nD τ).loc b))

/-- The first region's blocks: the parts', then layer 1 of the stacked arrays. -/
theorem place0 : ∀ t : Fin cfg0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] :=
  (by decide +kernel : ∀ t : Fin grid0.N, _)

/-- The second region's blocks: the parts', then layer 0 of the stacked arrays. -/
theorem place1 : ∀ t : Fin cfg1.N, win1_0.index t = ![0, t.val, 0] ∧ win1_1.index t = ![0, t.val, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] :=
  (by decide +kernel : ∀ t : Fin grid1.N, _)

/-- Layer 1's sum at a point is the reference's. -/
theorem grad0 (c : Dev nD) (t : Fin cfg0.N) (y) :
    k0_pay6 (F := Ideal) (k0_pay8 (iblk0 V c 0 t) (iblk0 V c 1 t) (iblk0 V c 2 t) (iblk0 V c 3 t)) y
      = val_main_v6 (F := Ideal) (V c main_arg0) (V c main_arg1) (((View.whole main_v0_0).slice (win0_4.rect t)).emb y) := by
  rw [grad_layer1 _ _ _ (by blk_point [place0 t]), total3]
  pointwise [k0_pay6, k0_pay8, k0_pay3]
  blk_point [iblk0, place0 t]

/-- Layer 0's sum at a point is the reference's. -/
theorem grad1 (c : Dev nD) (t : Fin cfg1.N) (y) :
    k0_pay6 (F := Ideal) (k1_pay3 (View.ld (iblk1 V c 0 t) (Rect.unit ![0, 0, 0] ![1, 256, 640] inb_S8x256x640_S1x256x640_0_0_0))
      (View.ld (iblk1 V c 0 t) (Rect.unit ![1, 0, 0] ![1, 256, 640] inb_S8x256x640_S1x256x640_1_0_0))
      (View.ld (iblk1 V c 0 t) (Rect.unit ![2, 0, 0] ![1, 256, 640] inb_S8x256x640_S1x256x640_2_0_0))
      (View.ld (iblk1 V c 0 t) (Rect.unit ![3, 0, 0] ![1, 256, 640] inb_S8x256x640_S1x256x640_3_0_0))
      (View.ld (iblk1 V c 0 t) (Rect.unit ![4, 0, 0] ![1, 256, 640] inb_S8x256x640_S1x256x640_4_0_0))
      (View.ld (iblk1 V c 0 t) (Rect.unit ![5, 0, 0] ![1, 256, 640] inb_S8x256x640_S1x256x640_5_0_0))
      (View.ld (iblk1 V c 0 t) (Rect.unit ![6, 0, 0] ![1, 256, 640] inb_S8x256x640_S1x256x640_6_0_0))
      (View.ld (iblk1 V c 0 t) (Rect.unit ![7, 0, 0] ![1, 256, 640] inb_S8x256x640_S1x256x640_7_0_0))) y
      = val_main_v6 (F := Ideal) (V c main_arg0) (V c main_arg1) (((View.whole main_v1_0).slice (win1_4.rect t)).emb y) := by
  rw [grad_layer0 _ _ _ (by blk_point [place1 t]), total1]
  pointwise [k0_pay6, k1_pay3]
  blk_point [iblk1, place1 t]

/-- An index of a stacked array outside layer 0 is in layer 1. -/
theorem other {a : ℕ} (h : a < 2) (h' : ¬a / 1 = 0) : a = 1 := by omega

/-- The gradient after the first region: the reference's in layer 1, the entry's elsewhere. -/
theorem first_arr4 (c : Dev nD) : (dat0 V c).arrAt 4 cfg0.N = fun i => if (i (0 : Fin 3) : ℕ) / 1 = 1 then
      val_main_v6 (F := Ideal) (V c main_arg0) (V c main_arg1) i else V c main_v0_0 i := by
  refine (dat0 V c).arrAt_eq_of_coversWhere 4 _ (fun β => β (0 : Fin 3) = 1) (by decide +kernel) (fun t hf y => ?_)
    (fun j => Iff.rfl)
  blk_simp
  rw [after0_4]; frame_out
  exact grad0 V c t y

/-- The gradient after the second region, entered with the reference's in layer 1. -/
theorem second_arr4 (c : Dev nD) (h : ∀ i, (i (0 : Fin 3) : Fin 2).val = 1 →
      V c main_v1_0 i = val_main_v6 (F := Ideal) (V c main_arg0) (V c main_arg1) i) :
    (dat1 V c).arrAt 4 cfg1.N = val_main_v6 (F := Ideal) (V c main_arg0) (V c main_arg1) := by
  refine (dat1 V c).arrAt_eq_of_coversWhere_of_agree 4 _ (fun β => β (0 : Fin 3) = 0) (by decide +kernel)
    (fun t hf y => ?_) (fun j hj => h j (other (j (0 : Fin 3)).isLt hj))
  blk_simp
  rw [after1_4]; dsimp only [outsAt1]
  frame_out
  exact grad1 V c t y

/-- The change of the weight after the first region: the reference's in layer 1, the entry's elsewhere. -/
theorem first_arr5 (c : Dev nD) : (dat0 V c).arrAt 5 cfg0.N = fun i => if (i (0 : Fin 3) : ℕ) / 1 = 1 then
      val_main_v30 (F := Ideal) (V c main_arg0) (V c main_arg1) (V c main_arg2) (V c main_arg3) (V c main_arg4) i else V c main_v0_1 i := by
  refine (dat0 V c).arrAt_eq_of_coversWhere 5 _ (fun β => β (0 : Fin 3) = 1) (by decide +kernel) (fun t hf y => ?_)
    (fun j => Iff.rfl)
  blk_simp
  rw [after0_5]; frame_out
  refine Eq.trans (pay_change _ _ _ _ y) (Eq.trans ?_ (ref5 _ _ _ _ _ _).symm)
  refine AdamStep.change_congr (grad0 V c t y) ?_ ?_ ?_
  all_goals blk_point [iblk0, place0 t]

/-- The change of the weight after the second region, entered with the reference's in layer 1. -/
theorem second_arr5 (c : Dev nD) (h : ∀ i, (i (0 : Fin 3) : Fin 2).val = 1 →
      V c main_v1_1 i = val_main_v30 (F := Ideal) (V c main_arg0) (V c main_arg1) (V c main_arg2) (V c main_arg3) (V c main_arg4) i) :
    (dat1 V c).arrAt 5 cfg1.N = val_main_v30 (F := Ideal) (V c main_arg0) (V c main_arg1) (V c main_arg2) (V c main_arg3) (V c main_arg4) := by
  refine (dat1 V c).arrAt_eq_of_coversWhere_of_agree 5 _ (fun β => β (0 : Fin 3) = 0) (by decide +kernel)
    (fun t hf y => ?_) (fun j hj => h j (other (j (0 : Fin 3)).isLt hj))
  blk_simp
  rw [after1_5]; dsimp only [outsAt1]
  frame_out
  refine Eq.trans (pay_change _ _ _ _ y) (Eq.trans ?_ (ref5 _ _ _ _ _ _).symm)
  refine AdamStep.change_congr (grad1 V c t y) ?_ ?_ ?_
  all_goals blk_point [iblk1, place1 t]

/-- The new first moment after the first region: the reference's in layer 1, the entry's elsewhere. -/
theorem first_arr6 (c : Dev nD) : (dat0 V c).arrAt 6 cfg0.N = fun i => if (i (0 : Fin 3) : ℕ) / 1 = 1 then
      val_main_v11 (F := Ideal) (V c main_arg0) (V c main_arg1) (V c main_arg3) i else V c main_v0_2 i := by
  refine (dat0 V c).arrAt_eq_of_coversWhere 6 _ (fun β => β (0 : Fin 3) = 1) (by decide +kernel) (fun t hf y => ?_)
    (fun j => Iff.rfl)
  blk_simp
  rw [after0_6]; frame_out
  refine Eq.trans (pay_first _ _ y) (Eq.trans ?_ (ref6 _ _ _ _).symm)
  refine AdamStep.first_congr (grad0 V c t y) ?_
  all_goals blk_point [iblk0, place0 t]

/-- The new first moment after the second region, entered with the reference's in layer 1. -/
theorem second_arr6 (c : Dev nD) (h : ∀ i, (i (0 : Fin 3) : Fin 2).val = 1 →
      V c main_v1_2 i = val_main_v11 (F := Ideal) (V c main_arg0) (V c main_arg1) (V c main_arg3) i) :
    (dat1 V c).arrAt 6 cfg1.N = val_main_v11 (F := Ideal) (V c main_arg0) (V c main_arg1) (V c main_arg3) := by
  refine (dat1 V c).arrAt_eq_of_coversWhere_of_agree 6 _ (fun β => β (0 : Fin 3) = 0) (by decide +kernel)
    (fun t hf y => ?_) (fun j hj => h j (other (j (0 : Fin 3)).isLt hj))
  blk_simp
  rw [after1_6]; dsimp only [outsAt1]
  frame_out
  refine Eq.trans (pay_first _ _ y) (Eq.trans ?_ (ref6 _ _ _ _).symm)
  refine AdamStep.first_congr (grad1 V c t y) ?_
  all_goals blk_point [iblk1, place1 t]

/-- The new second moment after the first region: the reference's in layer 1, the entry's elsewhere. -/
theorem first_arr7 (c : Dev nD) : (dat0 V c).arrAt 7 cfg0.N = fun i => if (i (0 : Fin 3) : ℕ) / 1 = 1 then
      val_main_v17 (F := Ideal) (V c main_arg0) (V c main_arg1) (V c main_arg4) i else V c main_v0_3 i := by
  refine (dat0 V c).arrAt_eq_of_coversWhere 7 _ (fun β => β (0 : Fin 3) = 1) (by decide +kernel) (fun t hf y => ?_)
    (fun j => Iff.rfl)
  blk_simp
  rw [after0_7]; frame_out
  refine Eq.trans (pay_second _ _ y) (Eq.trans ?_ (ref7 _ _ _ _).symm)
  refine AdamStep.second_congr (grad0 V c t y) ?_
  all_goals blk_point [iblk0, place0 t]

/-- The new second moment after the second region, entered with the reference's in layer 1. -/
theorem second_arr7 (c : Dev nD) (h : ∀ i, (i (0 : Fin 3) : Fin 2).val = 1 →
      V c main_v1_3 i = val_main_v17 (F := Ideal) (V c main_arg0) (V c main_arg1) (V c main_arg4) i) :
    (dat1 V c).arrAt 7 cfg1.N = val_main_v17 (F := Ideal) (V c main_arg0) (V c main_arg1) (V c main_arg4) := by
  refine (dat1 V c).arrAt_eq_of_coversWhere_of_agree 7 _ (fun β => β (0 : Fin 3) = 0) (by decide +kernel)
    (fun t hf y => ?_) (fun j hj => h j (other (j (0 : Fin 3)).isLt hj))
  blk_simp
  rw [after1_7]; dsimp only [outsAt1]
  frame_out
  refine Eq.trans (pay_second _ _ y) (Eq.trans ?_ (ref7 _ _ _ _).symm)
  refine AdamStep.second_congr (grad1 V c t y) ?_
  all_goals blk_point [iblk1, place1 t]

end Cert.AdamInIdeal.Step

end
-- ==== Proof.AdamInRun.lean ====
/- The combined projection's step: what the two regions leave, one after the other, and the run that leaves it. -/
module

public import proofs.«01_k».proof.Proof.Gen.AdamInIdeal.Frame
public import proofs.«01_k».proof.Proof.Gen.AdamInRefIdeal.Read
public import proofs.«01_k».proof.Proof.AdamInValue
public import Idealize.ShloMosaic.Lib.StableHlo.RunRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamInIdeal.Step

open Cert.AdamInIdeal Cert.AdamInIdeal.Gen Cert.AdamInRefIdeal.Read

local notation "𝕄" => MT nD τ sig Unit (Elt Ideal) ℕ (UR sig nD τ) ℕ

variable (m : (ℓ : Loc nD τ sig) → Buf (Elt Ideal) ℓ) (ρ : Dev nD → PrngReg)

/-- The gradient between the regions is carried over whole. -/
theorem copy4 (c : Dev nD) : W2 (F := Ideal) m ρ c (Proc.devRef .tc main_v1_0) = W1 m ρ c (Proc.devRef .tc main_v0_0) := by
  unfold W2
  generalize W1 m ρ c = X
  after_reads_simp
  rfl

/-- The gradient at the end is the reference's. -/
theorem final4 (c : Dev nD) : W3 (F := Ideal) m ρ c (Proc.devRef .tc main_v1_0) = val_main_v6 (F := Ideal) (m ((c : Thread nD τ).loc main_arg0)) (m ((c : Thread nD τ).loc main_arg1)) := by
  have ha : val_main_v6 (F := Ideal) (V2 m ρ c main_arg0) (V2 m ρ c main_arg1) = val_main_v6 (F := Ideal) (m ((c : Thread nD τ).loc main_arg0)) (m ((c : Thread nD τ).loc main_arg1)) := by
    rw [show V2 m ρ c main_arg0 = m ((c : Thread nD τ).loc main_arg0) from W2_args m ρ c main_arg0 (by decide), show V2 m ρ c main_arg1 = m ((c : Thread nD τ).loc main_arg1) from W2_args m ρ c main_arg1 (by decide)]
  refine (W3_arr m ρ c 4).trans ((second_arr4 (V2 m ρ) c fun i h => ?_).trans ha)
  refine (congrFun (copy4 m ρ c) i).trans ((congrFun ((W1_arr m ρ c 4).trans (first_arr4 (V0 m ρ) c)) i).trans ?_)
  exact (if_pos (by rw [h])).trans (congrFun ha.symm i)

/-- The change of the weight between the regions is carried over whole. -/
theorem copy5 (c : Dev nD) : W2 (F := Ideal) m ρ c (Proc.devRef .tc main_v1_1) = W1 m ρ c (Proc.devRef .tc main_v0_1) := by
  unfold W2
  generalize W1 m ρ c = X
  after_reads_simp
  rfl

/-- The change of the weight at the end is the reference's. -/
theorem final5 (c : Dev nD) : W3 (F := Ideal) m ρ c (Proc.devRef .tc main_v1_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ha : val_main_v30 (F := Ideal) (V2 m ρ c main_arg0) (V2 m ρ c main_arg1) (V2 m ρ c main_arg2) (V2 m ρ c main_arg3) (V2 m ρ c main_arg4) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg2 = m ((c : Thread nD τ).loc main_arg2) from W2_args m ρ c main_arg2 (by decide), show V2 m ρ c main_arg3 = m ((c : Thread nD τ).loc main_arg3) from W2_args m ρ c main_arg3 (by decide), show V2 m ρ c main_arg4 = m ((c : Thread nD τ).loc main_arg4) from W2_args m ρ c main_arg4 (by decide)]
  refine (W3_arr m ρ c 5).trans ((second_arr5 (V2 m ρ) c fun i h => ?_).trans ha)
  refine (congrFun (copy5 m ρ c) i).trans ((congrFun ((W1_arr m ρ c 5).trans (first_arr5 (V0 m ρ) c)) i).trans ?_)
  exact (if_pos (by rw [h])).trans (congrFun ha.symm i)

/-- The new first moment between the regions is carried over whole. -/
theorem copy6 (c : Dev nD) : W2 (F := Ideal) m ρ c (Proc.devRef .tc main_v1_2) = W1 m ρ c (Proc.devRef .tc main_v0_2) := by
  unfold W2
  generalize W1 m ρ c = X
  after_reads_simp
  rfl

/-- The new first moment at the end is the reference's. -/
theorem final6 (c : Dev nD) : W3 (F := Ideal) m ρ c (Proc.devRef .tc main_v1_2) = val_main_v11 (F := Ideal) (m ((c : Thread nD τ).loc main_arg0)) (m ((c : Thread nD τ).loc main_arg1)) (m ((c : Thread nD τ).loc main_arg3)) := by
  have ha : val_main_v11 (F := Ideal) (V2 m ρ c main_arg0) (V2 m ρ c main_arg1) (V2 m ρ c main_arg3) = val_main_v11 (F := Ideal) (m ((c : Thread nD τ).loc main_arg0)) (m ((c : Thread nD τ).loc main_arg1)) (m ((c : Thread nD τ).loc main_arg3)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg3 = m ((c : Thread nD τ).loc main_arg3) from W2_args m ρ c main_arg3 (by decide)]
  refine (W3_arr m ρ c 6).trans ((second_arr6 (V2 m ρ) c fun i h => ?_).trans ha)
  refine (congrFun (copy6 m ρ c) i).trans ((congrFun ((W1_arr m ρ c 6).trans (first_arr6 (V0 m ρ) c)) i).trans ?_)
  exact (if_pos (by rw [h])).trans (congrFun ha.symm i)

/-- The new second moment between the regions is carried over whole. -/
theorem copy7 (c : Dev nD) : W2 (F := Ideal) m ρ c (Proc.devRef .tc main_v1_3) = W1 m ρ c (Proc.devRef .tc main_v0_3) := by
  unfold W2
  generalize W1 m ρ c = X
  after_reads_simp
  rfl

/-- The new second moment at the end is the reference's. -/
theorem final7 (c : Dev nD) : W3 (F := Ideal) m ρ c (Proc.devRef .tc main_v1_3) = val_main_v17 (F := Ideal) (m ((c : Thread nD τ).loc main_arg0)) (m ((c : Thread nD τ).loc main_arg1)) (m ((c : Thread nD τ).loc main_arg4)) := by
  have ha : val_main_v17 (F := Ideal) (V2 m ρ c main_arg0) (V2 m ρ c main_arg1) (V2 m ρ c main_arg4) = val_main_v17 (F := Ideal) (m ((c : Thread nD τ).loc main_arg0)) (m ((c : Thread nD τ).loc main_arg1)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg4 = m ((c : Thread nD τ).loc main_arg4) from W2_args m ρ c main_arg4 (by decide)]
  refine (W3_arr m ρ c 7).trans ((second_arr7 (V2 m ρ) c fun i h => ?_).trans ha)
  refine (congrFun (copy7 m ρ c) i).trans ((congrFun ((W1_arr m ρ c 7).trans (first_arr7 (V0 m ρ) c)) i).trans ?_)
  exact (if_pos (by rw [h])).trans (congrFun ha.symm i)

set_option backward.isDefEq.respectTransparency.types false in
/-- The run ends with the results at the last boundary's contents and the arguments unchanged. -/
theorem run : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamInIdeal.Step

end
-- ==== Proof.AdamProjValue.lean ====
/- The branches' projections: each layer's parts summed over the devices, then one step of the optimiser, as whole arrays. -/
module

public import proofs.«01_k».proof.Proof.Gen.AdamProjIdeal.Frame
public import proofs.«01_k».proof.Proof.Gen.AdamProjRefIdeal.Read
public import Idealize.ShloMosaic.Lib.Pipeline.ValueKit
public import Idealize.ShloMosaic.Lib.Pipeline.ValueKit.Partial
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamProjIdeal.Step

open Cert.AdamProjIdeal Cert.AdamProjIdeal.Gen Cert.AdamProjRefIdeal.Read

/-- The change of the weight at a point, from the sum and the three blocks there. -/
theorem pay_change (g : FVec Ideal S256x128 .f32) (w a b : Vec Ideal S1x256x128 .f32) (y) :
    k0_pay7 (F := Ideal) g a b w y = AdamStep.change (k0_pay6 g y) (w y) (a y) (b y) := by
  pointwise [k0_pay7, k0_pay6, k0_pay4, k0_pay5]
  rfl

/-- The new first moment at a point. -/
theorem pay_first (g : FVec Ideal S256x128 .f32) (a : Vec Ideal S1x256x128 .f32) (y) :
    k0_pay1 (F := Ideal) (k0_pay4 g a) y = AdamStep.first (k0_pay6 g y) (a y) := by
  pointwise [k0_pay1, k0_pay6, k0_pay4]
  rfl

/-- The new second moment at a point. -/
theorem pay_second (g : FVec Ideal S256x128 .f32) (b : Vec Ideal S1x256x128 .f32) (y) :
    k0_pay2 (F := Ideal) (k0_pay5 g b) y = AdamStep.second (k0_pay6 g y) (b y) := by
  pointwise [k0_pay2, k0_pay6, k0_pay5]
  rfl

/-- The reference's sum of layer 0's parts, written out from the left. -/
theorem total1 (x : (⟨_, .bf16⟩ : BufTy).Contents (Elt Ideal)) (i) : val_main_v1 (F := Ideal) x i
    = (x (idx_main_v1 i 0) + x (idx_main_v1 i 1) + x (idx_main_v1 i 2) + x (idx_main_v1 i 3) + x (idx_main_v1 i 4)
      + x (idx_main_v1 i 5) + x (idx_main_v1 i 6) + x (idx_main_v1 i 7) : EReal) := by
  rw [val_main_v1_apply, val_main_cst_apply, Fin.sum_univ_eight]
  exact (congrArg (fun z : EReal => z + _) (Ideal.ofBits_zero_f32)).trans (zero_add _)

/-- The reference's sum of layer 1's parts, written out from the left. -/
theorem total3 (x : (⟨_, .bf16⟩ : BufTy).Contents (Elt Ideal)) (i) : val_main_v3 (F := Ideal) x i
    = (x (idx_main_v3 i 0) + x (idx_main_v3 i 1) + x (idx_main_v3 i 2) + x (idx_main_v3 i 3) + x (idx_main_v3 i 4)
      + x (idx_main_v3 i 5) + x (idx_main_v3 i 6) + x (idx_main_v3 i 7) : EReal) := by
  rw [val_main_v3_apply, val_main_cst_0_apply, Fin.sum_univ_eight]
  exact (congrArg (fun z : EReal => z + _) (Ideal.ofBits_zero_f32)).trans (zero_add _)

/-- The reference's gradient in layer 0. -/
theorem grad_layer0 (x0 x1) (i) (h : (i 0 : Fin 2).val = 0) :
    val_main_v6 (F := Ideal) x0 x1 i = val_main_v1 x1 (ix2 (i 1) (i 2)) := by
  pointwise [val_main_v6, val_main_v5, val_main_v4]
  rw [dif_pos (by omega)]

/-- The reference's gradient in layer 1. -/
theorem grad_layer1 (x0 x1) (i) (h : (i 0 : Fin 2).val = 1) :
    val_main_v6 (F := Ideal) x0 x1 i = val_main_v3 x0 (ix2 (i 1) (i 2)) := by
  pointwise [val_main_v6, val_main_v5, val_main_v4]
  rw [dif_neg (by omega)]

/-- The new first moment, of the reference at a point. -/
theorem ref6 (x0 x1 x3) (i) : val_main_v11 (F := Ideal) x0 x1 x3 i
    = AdamStep.first (val_main_v6 (F := Ideal) x0 x1 i) (x3 i) := by
  pointwise [val_main_v11, val_main_v10, val_main_v9, val_main_v8, val_main_v7, val_main_cst_1, val_main_cst_2]
  rfl

/-- The new second moment, of the reference at a point. -/
theorem ref7 (x0 x1 x4) (i) : val_main_v17 (F := Ideal) x0 x1 x4 i
    = AdamStep.second (val_main_v6 (F := Ideal) x0 x1 i) (x4 i) := by
  pointwise [val_main_v17, val_main_v16, val_main_v15, val_main_v14, val_main_v13, val_main_v12, val_main_cst_3, val_main_cst_4]
  rfl

/-- The change of the weight, of the reference at a point. -/
theorem ref5 (x0 x1 x2 x3 x4) (i) : val_main_v30 (F := Ideal) x0 x1 x2 x3 x4 i
    = AdamStep.change (val_main_v6 (F := Ideal) x0 x1 i) (x2 i) (x3 i) (x4 i) := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7,
    val_main_cst_1, val_main_cst_2, val_main_cst_3, val_main_cst_4, val_main_cst_5, val_main_cst_6, val_main_cst_7, val_main_cst_8, val_main_cst_9]
  rfl

variable (V : (c : Dev nD) → (b : Ref sig .tc) → Buf (Elt Ideal) ((c : Thread nD τ).loc b))

/-- The first region's blocks: the parts', then layer 1 of the stacked arrays. -/
theorem place0 : ∀ t : Fin cfg0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] :=
  (by decide +kernel : ∀ t : Fin grid0.N, _)

/-- The second region's blocks: the parts', then layer 0 of the stacked arrays. -/
theorem place1 : ∀ t : Fin cfg1.N, win1_0.index t = ![0, t.val, 0] ∧ win1_1.index t = ![0, t.val, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] :=
  (by decide +kernel : ∀ t : Fin grid1.N, _)

/-- Layer 1's sum at a point is the reference's. -/
theorem grad0 (c : Dev nD) (t : Fin cfg0.N) (y) :
    k0_pay6 (F := Ideal) (k0_pay8 (iblk0 V c 0 t) (iblk0 V c 1 t) (iblk0 V c 2 t) (iblk0 V c 3 t)) y
      = val_main_v6 (F := Ideal) (V c main_arg0) (V c main_arg1) (((View.whole main_v0_0).slice (win0_4.rect t)).emb y) := by
  rw [grad_layer1 _ _ _ (by blk_point [place0 t]), total3]
  pointwise [k0_pay6, k0_pay8, k0_pay3]
  blk_point [iblk0, place0 t]

/-- Layer 0's sum at a point is the reference's. -/
theorem grad1 (c : Dev nD) (t : Fin cfg1.N) (y) :
    k0_pay6 (F := Ideal) (k1_pay3 (View.ld (iblk1 V c 0 t) (Rect.unit ![0, 0, 0] ![1, 256, 128] inb_S8x256x128_S1x256x128_0_0_0))
      (View.ld (iblk1 V c 0 t) (Rect.unit ![1, 0, 0] ![1, 256, 128] inb_S8x256x128_S1x256x128_1_0_0))
      (View.ld (iblk1 V c 0 t) (Rect.unit ![2, 0, 0] ![1, 256, 128] inb_S8x256x128_S1x256x128_2_0_0))
      (View.ld (iblk1 V c 0 t) (Rect.unit ![3, 0, 0] ![1, 256, 128] inb_S8x256x128_S1x256x128_3_0_0))
      (View.ld (iblk1 V c 0 t) (Rect.unit ![4, 0, 0] ![1, 256, 128] inb_S8x256x128_S1x256x128_4_0_0))
      (View.ld (iblk1 V c 0 t) (Rect.unit ![5, 0, 0] ![1, 256, 128] inb_S8x256x128_S1x256x128_5_0_0))
      (View.ld (iblk1 V c 0 t) (Rect.unit ![6, 0, 0] ![1, 256, 128] inb_S8x256x128_S1x256x128_6_0_0))
      (View.ld (iblk1 V c 0 t) (Rect.unit ![7, 0, 0] ![1, 256, 128] inb_S8x256x128_S1x256x128_7_0_0))) y
      = val_main_v6 (F := Ideal) (V c main_arg0) (V c main_arg1) (((View.whole main_v1_0).slice (win1_4.rect t)).emb y) := by
  rw [grad_layer0 _ _ _ (by blk_point [place1 t]), total1]
  pointwise [k0_pay6, k1_pay3]
  blk_point [iblk1, place1 t]

/-- An index of a stacked array outside layer 0 is in layer 1. -/
theorem other {a : ℕ} (h : a < 2) (h' : ¬a / 1 = 0) : a = 1 := by omega

/-- The gradient after the first region: the reference's in layer 1, the entry's elsewhere. -/
theorem first_arr4 (c : Dev nD) : (dat0 V c).arrAt 4 cfg0.N = fun i => if (i (0 : Fin 3) : ℕ) / 1 = 1 then
      val_main_v6 (F := Ideal) (V c main_arg0) (V c main_arg1) i else V c main_v0_0 i := by
  refine (dat0 V c).arrAt_eq_of_coversWhere 4 _ (fun β => β (0 : Fin 3) = 1) (by decide +kernel) (fun t hf y => ?_)
    (fun j => Iff.rfl)
  blk_simp
  rw [after0_4]; frame_out
  exact grad0 V c t y

/-- The gradient after the second region, entered with the reference's in layer 1. -/
theorem second_arr4 (c : Dev nD) (h : ∀ i, (i (0 : Fin 3) : Fin 2).val = 1 →
      V c main_v1_0 i = val_main_v6 (F := Ideal) (V c main_arg0) (V c main_arg1) i) :
    (dat1 V c).arrAt 4 cfg1.N = val_main_v6 (F := Ideal) (V c main_arg0) (V c main_arg1) := by
  refine (dat1 V c).arrAt_eq_of_coversWhere_of_agree 4 _ (fun β => β (0 : Fin 3) = 0) (by decide +kernel)
    (fun t hf y => ?_) (fun j hj => h j (other (j (0 : Fin 3)).isLt hj))
  blk_simp
  rw [after1_4]; dsimp only [outsAt1]
  frame_out
  exact grad1 V c t y

/-- The change of the weight after the first region: the reference's in layer 1, the entry's elsewhere. -/
theorem first_arr5 (c : Dev nD) : (dat0 V c).arrAt 5 cfg0.N = fun i => if (i (0 : Fin 3) : ℕ) / 1 = 1 then
      val_main_v30 (F := Ideal) (V c main_arg0) (V c main_arg1) (V c main_arg2) (V c main_arg3) (V c main_arg4) i else V c main_v0_1 i := by
  refine (dat0 V c).arrAt_eq_of_coversWhere 5 _ (fun β => β (0 : Fin 3) = 1) (by decide +kernel) (fun t hf y => ?_)
    (fun j => Iff.rfl)
  blk_simp
  rw [after0_5]; frame_out
  refine Eq.trans (pay_change _ _ _ _ y) (Eq.trans ?_ (ref5 _ _ _ _ _ _).symm)
  refine AdamStep.change_congr (grad0 V c t y) ?_ ?_ ?_
  all_goals blk_point [iblk0, place0 t]

/-- The change of the weight after the second region, entered with the reference's in layer 1. -/
theorem second_arr5 (c : Dev nD) (h : ∀ i, (i (0 : Fin 3) : Fin 2).val = 1 →
      V c main_v1_1 i = val_main_v30 (F := Ideal) (V c main_arg0) (V c main_arg1) (V c main_arg2) (V c main_arg3) (V c main_arg4) i) :
    (dat1 V c).arrAt 5 cfg1.N = val_main_v30 (F := Ideal) (V c main_arg0) (V c main_arg1) (V c main_arg2) (V c main_arg3) (V c main_arg4) := by
  refine (dat1 V c).arrAt_eq_of_coversWhere_of_agree 5 _ (fun β => β (0 : Fin 3) = 0) (by decide +kernel)
    (fun t hf y => ?_) (fun j hj => h j (other (j (0 : Fin 3)).isLt hj))
  blk_simp
  rw [after1_5]; dsimp only [outsAt1]
  frame_out
  refine Eq.trans (pay_change _ _ _ _ y) (Eq.trans ?_ (ref5 _ _ _ _ _ _).symm)
  refine AdamStep.change_congr (grad1 V c t y) ?_ ?_ ?_
  all_goals blk_point [iblk1, place1 t]

/-- The new first moment after the first region: the reference's in layer 1, the entry's elsewhere. -/
theorem first_arr6 (c : Dev nD) : (dat0 V c).arrAt 6 cfg0.N = fun i => if (i (0 : Fin 3) : ℕ) / 1 = 1 then
      val_main_v11 (F := Ideal) (V c main_arg0) (V c main_arg1) (V c main_arg3) i else V c main_v0_2 i := by
  refine (dat0 V c).arrAt_eq_of_coversWhere 6 _ (fun β => β (0 : Fin 3) = 1) (by decide +kernel) (fun t hf y => ?_)
    (fun j => Iff.rfl)
  blk_simp
  rw [after0_6]; frame_out
  refine Eq.trans (pay_first _ _ y) (Eq.trans ?_ (ref6 _ _ _ _).symm)
  refine AdamStep.first_congr (grad0 V c t y) ?_
  all_goals blk_point [iblk0, place0 t]

/-- The new first moment after the second region, entered with the reference's in layer 1. -/
theorem second_arr6 (c : Dev nD) (h : ∀ i, (i (0 : Fin 3) : Fin 2).val = 1 →
      V c main_v1_2 i = val_main_v11 (F := Ideal) (V c main_arg0) (V c main_arg1) (V c main_arg3) i) :
    (dat1 V c).arrAt 6 cfg1.N = val_main_v11 (F := Ideal) (V c main_arg0) (V c main_arg1) (V c main_arg3) := by
  refine (dat1 V c).arrAt_eq_of_coversWhere_of_agree 6 _ (fun β => β (0 : Fin 3) = 0) (by decide +kernel)
    (fun t hf y => ?_) (fun j hj => h j (other (j (0 : Fin 3)).isLt hj))
  blk_simp
  rw [after1_6]; dsimp only [outsAt1]
  frame_out
  refine Eq.trans (pay_first _ _ y) (Eq.trans ?_ (ref6 _ _ _ _).symm)
  refine AdamStep.first_congr (grad1 V c t y) ?_
  all_goals blk_point [iblk1, place1 t]

/-- The new second moment after the first region: the reference's in layer 1, the entry's elsewhere. -/
theorem first_arr7 (c : Dev nD) : (dat0 V c).arrAt 7 cfg0.N = fun i => if (i (0 : Fin 3) : ℕ) / 1 = 1 then
      val_main_v17 (F := Ideal) (V c main_arg0) (V c main_arg1) (V c main_arg4) i else V c main_v0_3 i := by
  refine (dat0 V c).arrAt_eq_of_coversWhere 7 _ (fun β => β (0 : Fin 3) = 1) (by decide +kernel) (fun t hf y => ?_)
    (fun j => Iff.rfl)
  blk_simp
  rw [after0_7]; frame_out
  refine Eq.trans (pay_second _ _ y) (Eq.trans ?_ (ref7 _ _ _ _).symm)
  refine AdamStep.second_congr (grad0 V c t y) ?_
  all_goals blk_point [iblk0, place0 t]

/-- The new second moment after the second region, entered with the reference's in layer 1. -/
theorem second_arr7 (c : Dev nD) (h : ∀ i, (i (0 : Fin 3) : Fin 2).val = 1 →
      V c main_v1_3 i = val_main_v17 (F := Ideal) (V c main_arg0) (V c main_arg1) (V c main_arg4) i) :
    (dat1 V c).arrAt 7 cfg1.N = val_main_v17 (F := Ideal) (V c main_arg0) (V c main_arg1) (V c main_arg4) := by
  refine (dat1 V c).arrAt_eq_of_coversWhere_of_agree 7 _ (fun β => β (0 : Fin 3) = 0) (by decide +kernel)
    (fun t hf y => ?_) (fun j hj => h j (other (j (0 : Fin 3)).isLt hj))
  blk_simp
  rw [after1_7]; dsimp only [outsAt1]
  frame_out
  refine Eq.trans (pay_second _ _ y) (Eq.trans ?_ (ref7 _ _ _ _).symm)
  refine AdamStep.second_congr (grad1 V c t y) ?_
  all_goals blk_point [iblk1, place1 t]

end Cert.AdamProjIdeal.Step

end
-- ==== Proof.AdamProjRun.lean ====
/- The branches' projections's step: what the two regions leave, one after the other, and the run that leaves it. -/
module

public import proofs.«01_k».proof.Proof.Gen.AdamProjIdeal.Frame
public import proofs.«01_k».proof.Proof.Gen.AdamProjRefIdeal.Read
public import proofs.«01_k».proof.Proof.AdamProjValue
public import Idealize.ShloMosaic.Lib.StableHlo.RunRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamProjIdeal.Step

open Cert.AdamProjIdeal Cert.AdamProjIdeal.Gen Cert.AdamProjRefIdeal.Read

local notation "𝕄" => MT nD τ sig Unit (Elt Ideal) ℕ (UR sig nD τ) ℕ

variable (m : (ℓ : Loc nD τ sig) → Buf (Elt Ideal) ℓ) (ρ : Dev nD → PrngReg)

/-- The gradient between the regions is carried over whole. -/
theorem copy4 (c : Dev nD) : W2 (F := Ideal) m ρ c (Proc.devRef .tc main_v1_0) = W1 m ρ c (Proc.devRef .tc main_v0_0) := by
  unfold W2
  generalize W1 m ρ c = X
  after_reads_simp
  rfl

/-- The gradient at the end is the reference's. -/
theorem final4 (c : Dev nD) : W3 (F := Ideal) m ρ c (Proc.devRef .tc main_v1_0) = val_main_v6 (F := Ideal) (m ((c : Thread nD τ).loc main_arg0)) (m ((c : Thread nD τ).loc main_arg1)) := by
  have ha : val_main_v6 (F := Ideal) (V2 m ρ c main_arg0) (V2 m ρ c main_arg1) = val_main_v6 (F := Ideal) (m ((c : Thread nD τ).loc main_arg0)) (m ((c : Thread nD τ).loc main_arg1)) := by
    rw [show V2 m ρ c main_arg0 = m ((c : Thread nD τ).loc main_arg0) from W2_args m ρ c main_arg0 (by decide), show V2 m ρ c main_arg1 = m ((c : Thread nD τ).loc main_arg1) from W2_args m ρ c main_arg1 (by decide)]
  refine (W3_arr m ρ c 4).trans ((second_arr4 (V2 m ρ) c fun i h => ?_).trans ha)
  refine (congrFun (copy4 m ρ c) i).trans ((congrFun ((W1_arr m ρ c 4).trans (first_arr4 (V0 m ρ) c)) i).trans ?_)
  exact (if_pos (by rw [h])).trans (congrFun ha.symm i)

/-- The change of the weight between the regions is carried over whole. -/
theorem copy5 (c : Dev nD) : W2 (F := Ideal) m ρ c (Proc.devRef .tc main_v1_1) = W1 m ρ c (Proc.devRef .tc main_v0_1) := by
  unfold W2
  generalize W1 m ρ c = X
  after_reads_simp
  rfl

/-- The change of the weight at the end is the reference's. -/
theorem final5 (c : Dev nD) : W3 (F := Ideal) m ρ c (Proc.devRef .tc main_v1_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ha : val_main_v30 (F := Ideal) (V2 m ρ c main_arg0) (V2 m ρ c main_arg1) (V2 m ρ c main_arg2) (V2 m ρ c main_arg3) (V2 m ρ c main_arg4) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg2 = m ((c : Thread nD τ).loc main_arg2) from W2_args m ρ c main_arg2 (by decide), show V2 m ρ c main_arg3 = m ((c : Thread nD τ).loc main_arg3) from W2_args m ρ c main_arg3 (by decide), show V2 m ρ c main_arg4 = m ((c : Thread nD τ).loc main_arg4) from W2_args m ρ c main_arg4 (by decide)]
  refine (W3_arr m ρ c 5).trans ((second_arr5 (V2 m ρ) c fun i h => ?_).trans ha)
  refine (congrFun (copy5 m ρ c) i).trans ((congrFun ((W1_arr m ρ c 5).trans (first_arr5 (V0 m ρ) c)) i).trans ?_)
  exact (if_pos (by rw [h])).trans (congrFun ha.symm i)

/-- The new first moment between the regions is carried over whole. -/
theorem copy6 (c : Dev nD) : W2 (F := Ideal) m ρ c (Proc.devRef .tc main_v1_2) = W1 m ρ c (Proc.devRef .tc main_v0_2) := by
  unfold W2
  generalize W1 m ρ c = X
  after_reads_simp
  rfl

/-- The new first moment at the end is the reference's. -/
theorem final6 (c : Dev nD) : W3 (F := Ideal) m ρ c (Proc.devRef .tc main_v1_2) = val_main_v11 (F := Ideal) (m ((c : Thread nD τ).loc main_arg0)) (m ((c : Thread nD τ).loc main_arg1)) (m ((c : Thread nD τ).loc main_arg3)) := by
  have ha : val_main_v11 (F := Ideal) (V2 m ρ c main_arg0) (V2 m ρ c main_arg1) (V2 m ρ c main_arg3) = val_main_v11 (F := Ideal) (m ((c : Thread nD τ).loc main_arg0)) (m ((c : Thread nD τ).loc main_arg1)) (m ((c : Thread nD τ).loc main_arg3)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg3 = m ((c : Thread nD τ).loc main_arg3) from W2_args m ρ c main_arg3 (by decide)]
  refine (W3_arr m ρ c 6).trans ((second_arr6 (V2 m ρ) c fun i h => ?_).trans ha)
  refine (congrFun (copy6 m ρ c) i).trans ((congrFun ((W1_arr m ρ c 6).trans (first_arr6 (V0 m ρ) c)) i).trans ?_)
  exact (if_pos (by rw [h])).trans (congrFun ha.symm i)

/-- The new second moment between the regions is carried over whole. -/
theorem copy7 (c : Dev nD) : W2 (F := Ideal) m ρ c (Proc.devRef .tc main_v1_3) = W1 m ρ c (Proc.devRef .tc main_v0_3) := by
  unfold W2
  generalize W1 m ρ c = X
  after_reads_simp
  rfl

/-- The new second moment at the end is the reference's. -/
theorem final7 (c : Dev nD) : W3 (F := Ideal) m ρ c (Proc.devRef .tc main_v1_3) = val_main_v17 (F := Ideal) (m ((c : Thread nD τ).loc main_arg0)) (m ((c : Thread nD τ).loc main_arg1)) (m ((c : Thread nD τ).loc main_arg4)) := by
  have ha : val_main_v17 (F := Ideal) (V2 m ρ c main_arg0) (V2 m ρ c main_arg1) (V2 m ρ c main_arg4) = val_main_v17 (F := Ideal) (m ((c : Thread nD τ).loc main_arg0)) (m ((c : Thread nD τ).loc main_arg1)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg4 = m ((c : Thread nD τ).loc main_arg4) from W2_args m ρ c main_arg4 (by decide)]
  refine (W3_arr m ρ c 7).trans ((second_arr7 (V2 m ρ) c fun i h => ?_).trans ha)
  refine (congrFun (copy7 m ρ c) i).trans ((congrFun ((W1_arr m ρ c 7).trans (first_arr7 (V0 m ρ) c)) i).trans ?_)
  exact (if_pos (by rw [h])).trans (congrFun ha.symm i)

set_option backward.isDefEq.respectTransparency.types false in
/-- The run ends with the results at the last boundary's contents and the arguments unchanged. -/
theorem run : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamProjIdeal.Step

end
-- ==== Proof.AdamOutValue.lean ====
/- The output projection: each layer's parts summed over the devices, then one step of the optimiser, as whole arrays. -/
module

public import proofs.«01_k».proof.Proof.Gen.AdamOutIdeal.Frame
public import proofs.«01_k».proof.Proof.Gen.AdamOutRefIdeal.Read
public import Idealize.ShloMosaic.Lib.Pipeline.ValueKit
public import Idealize.ShloMosaic.Lib.Pipeline.ValueKit.Partial
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamOutIdeal.Step

open Cert.AdamOutIdeal Cert.AdamOutIdeal.Gen Cert.AdamOutRefIdeal.Read

/-- The change of the weight at a point, from the sum and the three blocks there. -/
theorem pay_change (g : FVec Ideal S128x1024 .f32) (w a b : Vec Ideal S1x128x1024 .f32) (y) :
    k0_pay7 (F := Ideal) g a b w y = AdamStep.change (k0_pay6 g y) (w y) (a y) (b y) := by
  pointwise [k0_pay7, k0_pay6, k0_pay4, k0_pay5]
  rfl

/-- The new first moment at a point. -/
theorem pay_first (g : FVec Ideal S128x1024 .f32) (a : Vec Ideal S1x128x1024 .f32) (y) :
    k0_pay1 (F := Ideal) (k0_pay4 g a) y = AdamStep.first (k0_pay6 g y) (a y) := by
  pointwise [k0_pay1, k0_pay6, k0_pay4]
  rfl

/-- The new second moment at a point. -/
theorem pay_second (g : FVec Ideal S128x1024 .f32) (b : Vec Ideal S1x128x1024 .f32) (y) :
    k0_pay2 (F := Ideal) (k0_pay5 g b) y = AdamStep.second (k0_pay6 g y) (b y) := by
  pointwise [k0_pay2, k0_pay6, k0_pay5]
  rfl

/-- The reference's sum of layer 0's parts, written out from the left. -/
theorem total1 (x : (⟨_, .bf16⟩ : BufTy).Contents (Elt Ideal)) (i) : val_main_v1 (F := Ideal) x i
    = (x (idx_main_v1 i 0) + x (idx_main_v1 i 1) + x (idx_main_v1 i 2) + x (idx_main_v1 i 3) + x (idx_main_v1 i 4)
      + x (idx_main_v1 i 5) + x (idx_main_v1 i 6) + x (idx_main_v1 i 7) : EReal) := by
  rw [val_main_v1_apply, val_main_cst_apply, Fin.sum_univ_eight]
  exact (congrArg (fun z : EReal => z + _) (Ideal.ofBits_zero_f32)).trans (zero_add _)

/-- The reference's sum of layer 1's parts, written out from the left. -/
theorem total3 (x : (⟨_, .bf16⟩ : BufTy).Contents (Elt Ideal)) (i) : val_main_v3 (F := Ideal) x i
    = (x (idx_main_v3 i 0) + x (idx_main_v3 i 1) + x (idx_main_v3 i 2) + x (idx_main_v3 i 3) + x (idx_main_v3 i 4)
      + x (idx_main_v3 i 5) + x (idx_main_v3 i 6) + x (idx_main_v3 i 7) : EReal) := by
  rw [val_main_v3_apply, val_main_cst_0_apply, Fin.sum_univ_eight]
  exact (congrArg (fun z : EReal => z + _) (Ideal.ofBits_zero_f32)).trans (zero_add _)

/-- The reference's gradient in layer 0. -/
theorem grad_layer0 (x0 x1) (i) (h : (i 0 : Fin 2).val = 0) :
    val_main_v6 (F := Ideal) x0 x1 i = val_main_v1 x1 (ix2 (i 1) (i 2)) := by
  pointwise [val_main_v6, val_main_v5, val_main_v4]
  rw [dif_pos (by omega)]

/-- The reference's gradient in layer 1. -/
theorem grad_layer1 (x0 x1) (i) (h : (i 0 : Fin 2).val = 1) :
    val_main_v6 (F := Ideal) x0 x1 i = val_main_v3 x0 (ix2 (i 1) (i 2)) := by
  pointwise [val_main_v6, val_main_v5, val_main_v4]
  rw [dif_neg (by omega)]

/-- The new first moment, of the reference at a point. -/
theorem ref6 (x0 x1 x3) (i) : val_main_v11 (F := Ideal) x0 x1 x3 i
    = AdamStep.first (val_main_v6 (F := Ideal) x0 x1 i) (x3 i) := by
  pointwise [val_main_v11, val_main_v10, val_main_v9, val_main_v8, val_main_v7, val_main_cst_1, val_main_cst_2]
  rfl

/-- The new second moment, of the reference at a point. -/
theorem ref7 (x0 x1 x4) (i) : val_main_v17 (F := Ideal) x0 x1 x4 i
    = AdamStep.second (val_main_v6 (F := Ideal) x0 x1 i) (x4 i) := by
  pointwise [val_main_v17, val_main_v16, val_main_v15, val_main_v14, val_main_v13, val_main_v12, val_main_cst_3, val_main_cst_4]
  rfl

/-- The change of the weight, of the reference at a point. -/
theorem ref5 (x0 x1 x2 x3 x4) (i) : val_main_v30 (F := Ideal) x0 x1 x2 x3 x4 i
    = AdamStep.change (val_main_v6 (F := Ideal) x0 x1 i) (x2 i) (x3 i) (x4 i) := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7,
    val_main_cst_1, val_main_cst_2, val_main_cst_3, val_main_cst_4, val_main_cst_5, val_main_cst_6, val_main_cst_7, val_main_cst_8, val_main_cst_9]
  rfl

variable (V : (c : Dev nD) → (b : Ref sig .tc) → Buf (Elt Ideal) ((c : Thread nD τ).loc b))

/-- The first region's blocks: the parts', then layer 1 of the stacked arrays. -/
theorem place0 : ∀ t : Fin cfg0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] :=
  (by decide +kernel : ∀ t : Fin grid0.N, _)

/-- The second region's blocks: the parts', then layer 0 of the stacked arrays. -/
theorem place1 : ∀ t : Fin cfg1.N, win1_0.index t = ![0, t.val, 0] ∧ win1_1.index t = ![0, t.val, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] :=
  (by decide +kernel : ∀ t : Fin grid1.N, _)

/-- Layer 1's sum at a point is the reference's. -/
theorem grad0 (c : Dev nD) (t : Fin cfg0.N) (y) :
    k0_pay6 (F := Ideal) (k0_pay8 (iblk0 V c 0 t) (iblk0 V c 1 t) (iblk0 V c 2 t) (iblk0 V c 3 t)) y
      = val_main_v6 (F := Ideal) (V c main_arg0) (V c main_arg1) (((View.whole main_v0_0).slice (win0_4.rect t)).emb y) := by
  rw [grad_layer1 _ _ _ (by blk_point [place0 t]), total3]
  pointwise [k0_pay6, k0_pay8, k0_pay3]
  blk_point [iblk0, place0 t]

/-- Layer 0's sum at a point is the reference's. -/
theorem grad1 (c : Dev nD) (t : Fin cfg1.N) (y) :
    k0_pay6 (F := Ideal) (k1_pay3 (View.ld (iblk1 V c 0 t) (Rect.unit ![0, 0, 0] ![1, 128, 1024] inb_S8x128x1024_S1x128x1024_0_0_0))
      (View.ld (iblk1 V c 0 t) (Rect.unit ![1, 0, 0] ![1, 128, 1024] inb_S8x128x1024_S1x128x1024_1_0_0))
      (View.ld (iblk1 V c 0 t) (Rect.unit ![2, 0, 0] ![1, 128, 1024] inb_S8x128x1024_S1x128x1024_2_0_0))
      (View.ld (iblk1 V c 0 t) (Rect.unit ![3, 0, 0] ![1, 128, 1024] inb_S8x128x1024_S1x128x1024_3_0_0))
      (View.ld (iblk1 V c 0 t) (Rect.unit ![4, 0, 0] ![1, 128, 1024] inb_S8x128x1024_S1x128x1024_4_0_0))
      (View.ld (iblk1 V c 0 t) (Rect.unit ![5, 0, 0] ![1, 128, 1024] inb_S8x128x1024_S1x128x1024_5_0_0))
      (View.ld (iblk1 V c 0 t) (Rect.unit ![6, 0, 0] ![1, 128, 1024] inb_S8x128x1024_S1x128x1024_6_0_0))
      (View.ld (iblk1 V c 0 t) (Rect.unit ![7, 0, 0] ![1, 128, 1024] inb_S8x128x1024_S1x128x1024_7_0_0))) y
      = val_main_v6 (F := Ideal) (V c main_arg0) (V c main_arg1) (((View.whole main_v1_0).slice (win1_4.rect t)).emb y) := by
  rw [grad_layer0 _ _ _ (by blk_point [place1 t]), total1]
  pointwise [k0_pay6, k1_pay3]
  blk_point [iblk1, place1 t]

/-- An index of a stacked array outside layer 0 is in layer 1. -/
theorem other {a : ℕ} (h : a < 2) (h' : ¬a / 1 = 0) : a = 1 := by omega

/-- The gradient after the first region: the reference's in layer 1, the entry's elsewhere. -/
theorem first_arr4 (c : Dev nD) : (dat0 V c).arrAt 4 cfg0.N = fun i => if (i (0 : Fin 3) : ℕ) / 1 = 1 then
      val_main_v6 (F := Ideal) (V c main_arg0) (V c main_arg1) i else V c main_v0_0 i := by
  refine (dat0 V c).arrAt_eq_of_coversWhere 4 _ (fun β => β (0 : Fin 3) = 1) (by decide +kernel) (fun t hf y => ?_)
    (fun j => Iff.rfl)
  blk_simp
  rw [after0_4]; frame_out
  exact grad0 V c t y

/-- The gradient after the second region, entered with the reference's in layer 1. -/
theorem second_arr4 (c : Dev nD) (h : ∀ i, (i (0 : Fin 3) : Fin 2).val = 1 →
      V c main_v1_0 i = val_main_v6 (F := Ideal) (V c main_arg0) (V c main_arg1) i) :
    (dat1 V c).arrAt 4 cfg1.N = val_main_v6 (F := Ideal) (V c main_arg0) (V c main_arg1) := by
  refine (dat1 V c).arrAt_eq_of_coversWhere_of_agree 4 _ (fun β => β (0 : Fin 3) = 0) (by decide +kernel)
    (fun t hf y => ?_) (fun j hj => h j (other (j (0 : Fin 3)).isLt hj))
  blk_simp
  rw [after1_4]; dsimp only [outsAt1]
  frame_out
  exact grad1 V c t y

/-- The change of the weight after the first region: the reference's in layer 1, the entry's elsewhere. -/
theorem first_arr5 (c : Dev nD) : (dat0 V c).arrAt 5 cfg0.N = fun i => if (i (0 : Fin 3) : ℕ) / 1 = 1 then
      val_main_v30 (F := Ideal) (V c main_arg0) (V c main_arg1) (V c main_arg2) (V c main_arg3) (V c main_arg4) i else V c main_v0_1 i := by
  refine (dat0 V c).arrAt_eq_of_coversWhere 5 _ (fun β => β (0 : Fin 3) = 1) (by decide +kernel) (fun t hf y => ?_)
    (fun j => Iff.rfl)
  blk_simp
  rw [after0_5]; frame_out
  refine Eq.trans (pay_change _ _ _ _ y) (Eq.trans ?_ (ref5 _ _ _ _ _ _).symm)
  refine AdamStep.change_congr (grad0 V c t y) ?_ ?_ ?_
  all_goals blk_point [iblk0, place0 t]

/-- The change of the weight after the second region, entered with the reference's in layer 1. -/
theorem second_arr5 (c : Dev nD) (h : ∀ i, (i (0 : Fin 3) : Fin 2).val = 1 →
      V c main_v1_1 i = val_main_v30 (F := Ideal) (V c main_arg0) (V c main_arg1) (V c main_arg2) (V c main_arg3) (V c main_arg4) i) :
    (dat1 V c).arrAt 5 cfg1.N = val_main_v30 (F := Ideal) (V c main_arg0) (V c main_arg1) (V c main_arg2) (V c main_arg3) (V c main_arg4) := by
  refine (dat1 V c).arrAt_eq_of_coversWhere_of_agree 5 _ (fun β => β (0 : Fin 3) = 0) (by decide +kernel)
    (fun t hf y => ?_) (fun j hj => h j (other (j (0 : Fin 3)).isLt hj))
  blk_simp
  rw [after1_5]; dsimp only [outsAt1]
  frame_out
  refine Eq.trans (pay_change _ _ _ _ y) (Eq.trans ?_ (ref5 _ _ _ _ _ _).symm)
  refine AdamStep.change_congr (grad1 V c t y) ?_ ?_ ?_
  all_goals blk_point [iblk1, place1 t]

/-- The new first moment after the first region: the reference's in layer 1, the entry's elsewhere. -/
theorem first_arr6 (c : Dev nD) : (dat0 V c).arrAt 6 cfg0.N = fun i => if (i (0 : Fin 3) : ℕ) / 1 = 1 then
      val_main_v11 (F := Ideal) (V c main_arg0) (V c main_arg1) (V c main_arg3) i else V c main_v0_2 i := by
  refine (dat0 V c).arrAt_eq_of_coversWhere 6 _ (fun β => β (0 : Fin 3) = 1) (by decide +kernel) (fun t hf y => ?_)
    (fun j => Iff.rfl)
  blk_simp
  rw [after0_6]; frame_out
  refine Eq.trans (pay_first _ _ y) (Eq.trans ?_ (ref6 _ _ _ _).symm)
  refine AdamStep.first_congr (grad0 V c t y) ?_
  all_goals blk_point [iblk0, place0 t]

/-- The new first moment after the second region, entered with the reference's in layer 1. -/
theorem second_arr6 (c : Dev nD) (h : ∀ i, (i (0 : Fin 3) : Fin 2).val = 1 →
      V c main_v1_2 i = val_main_v11 (F := Ideal) (V c main_arg0) (V c main_arg1) (V c main_arg3) i) :
    (dat1 V c).arrAt 6 cfg1.N = val_main_v11 (F := Ideal) (V c main_arg0) (V c main_arg1) (V c main_arg3) := by
  refine (dat1 V c).arrAt_eq_of_coversWhere_of_agree 6 _ (fun β => β (0 : Fin 3) = 0) (by decide +kernel)
    (fun t hf y => ?_) (fun j hj => h j (other (j (0 : Fin 3)).isLt hj))
  blk_simp
  rw [after1_6]; dsimp only [outsAt1]
  frame_out
  refine Eq.trans (pay_first _ _ y) (Eq.trans ?_ (ref6 _ _ _ _).symm)
  refine AdamStep.first_congr (grad1 V c t y) ?_
  all_goals blk_point [iblk1, place1 t]

/-- The new second moment after the first region: the reference's in layer 1, the entry's elsewhere. -/
theorem first_arr7 (c : Dev nD) : (dat0 V c).arrAt 7 cfg0.N = fun i => if (i (0 : Fin 3) : ℕ) / 1 = 1 then
      val_main_v17 (F := Ideal) (V c main_arg0) (V c main_arg1) (V c main_arg4) i else V c main_v0_3 i := by
  refine (dat0 V c).arrAt_eq_of_coversWhere 7 _ (fun β => β (0 : Fin 3) = 1) (by decide +kernel) (fun t hf y => ?_)
    (fun j => Iff.rfl)
  blk_simp
  rw [after0_7]; frame_out
  refine Eq.trans (pay_second _ _ y) (Eq.trans ?_ (ref7 _ _ _ _).symm)
  refine AdamStep.second_congr (grad0 V c t y) ?_
  all_goals blk_point [iblk0, place0 t]

/-- The new second moment after the second region, entered with the reference's in layer 1. -/
theorem second_arr7 (c : Dev nD) (h : ∀ i, (i (0 : Fin 3) : Fin 2).val = 1 →
      V c main_v1_3 i = val_main_v17 (F := Ideal) (V c main_arg0) (V c main_arg1) (V c main_arg4) i) :
    (dat1 V c).arrAt 7 cfg1.N = val_main_v17 (F := Ideal) (V c main_arg0) (V c main_arg1) (V c main_arg4) := by
  refine (dat1 V c).arrAt_eq_of_coversWhere_of_agree 7 _ (fun β => β (0 : Fin 3) = 0) (by decide +kernel)
    (fun t hf y => ?_) (fun j hj => h j (other (j (0 : Fin 3)).isLt hj))
  blk_simp
  rw [after1_7]; dsimp only [outsAt1]
  frame_out
  refine Eq.trans (pay_second _ _ y) (Eq.trans ?_ (ref7 _ _ _ _).symm)
  refine AdamStep.second_congr (grad1 V c t y) ?_
  all_goals blk_point [iblk1, place1 t]

end Cert.AdamOutIdeal.Step

end
-- ==== Proof.AdamOutRun.lean ====
/- The output projection's step: what the two regions leave, one after the other, and the run that leaves it. -/
module

public import proofs.«01_k».proof.Proof.Gen.AdamOutIdeal.Frame
public import proofs.«01_k».proof.Proof.Gen.AdamOutRefIdeal.Read
public import proofs.«01_k».proof.Proof.AdamOutValue
public import Idealize.ShloMosaic.Lib.StableHlo.RunRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamOutIdeal.Step

open Cert.AdamOutIdeal Cert.AdamOutIdeal.Gen Cert.AdamOutRefIdeal.Read

local notation "𝕄" => MT nD τ sig Unit (Elt Ideal) ℕ (UR sig nD τ) ℕ

variable (m : (ℓ : Loc nD τ sig) → Buf (Elt Ideal) ℓ) (ρ : Dev nD → PrngReg)

/-- The gradient between the regions is carried over whole. -/
theorem copy4 (c : Dev nD) : W2 (F := Ideal) m ρ c (Proc.devRef .tc main_v1_0) = W1 m ρ c (Proc.devRef .tc main_v0_0) := by
  unfold W2
  generalize W1 m ρ c = X
  after_reads_simp
  rfl

/-- The gradient at the end is the reference's. -/
theorem final4 (c : Dev nD) : W3 (F := Ideal) m ρ c (Proc.devRef .tc main_v1_0) = val_main_v6 (F := Ideal) (m ((c : Thread nD τ).loc main_arg0)) (m ((c : Thread nD τ).loc main_arg1)) := by
  have ha : val_main_v6 (F := Ideal) (V2 m ρ c main_arg0) (V2 m ρ c main_arg1) = val_main_v6 (F := Ideal) (m ((c : Thread nD τ).loc main_arg0)) (m ((c : Thread nD τ).loc main_arg1)) := by
    rw [show V2 m ρ c main_arg0 = m ((c : Thread nD τ).loc main_arg0) from W2_args m ρ c main_arg0 (by decide), show V2 m ρ c main_arg1 = m ((c : Thread nD τ).loc main_arg1) from W2_args m ρ c main_arg1 (by decide)]
  refine (W3_arr m ρ c 4).trans ((second_arr4 (V2 m ρ) c fun i h => ?_).trans ha)
  refine (congrFun (copy4 m ρ c) i).trans ((congrFun ((W1_arr m ρ c 4).trans (first_arr4 (V0 m ρ) c)) i).trans ?_)
  exact (if_pos (by rw [h])).trans (congrFun ha.symm i)

/-- The change of the weight between the regions is carried over whole. -/
theorem copy5 (c : Dev nD) : W2 (F := Ideal) m ρ c (Proc.devRef .tc main_v1_1) = W1 m ρ c (Proc.devRef .tc main_v0_1) := by
  unfold W2
  generalize W1 m ρ c = X
  after_reads_simp
  rfl

/-- The change of the weight at the end is the reference's. -/
theorem final5 (c : Dev nD) : W3 (F := Ideal) m ρ c (Proc.devRef .tc main_v1_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ha : val_main_v30 (F := Ideal) (V2 m ρ c main_arg0) (V2 m ρ c main_arg1) (V2 m ρ c main_arg2) (V2 m ρ c main_arg3) (V2 m ρ c main_arg4) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg2 = m ((c : Thread nD τ).loc main_arg2) from W2_args m ρ c main_arg2 (by decide), show V2 m ρ c main_arg3 = m ((c : Thread nD τ).loc main_arg3) from W2_args m ρ c main_arg3 (by decide), show V2 m ρ c main_arg4 = m ((c : Thread nD τ).loc main_arg4) from W2_args m ρ c main_arg4 (by decide)]
  refine (W3_arr m ρ c 5).trans ((second_arr5 (V2 m ρ) c fun i h => ?_).trans ha)
  refine (congrFun (copy5 m ρ c) i).trans ((congrFun ((W1_arr m ρ c 5).trans (first_arr5 (V0 m ρ) c)) i).trans ?_)
  exact (if_pos (by rw [h])).trans (congrFun ha.symm i)

/-- The new first moment between the regions is carried over whole. -/
theorem copy6 (c : Dev nD) : W2 (F := Ideal) m ρ c (Proc.devRef .tc main_v1_2) = W1 m ρ c (Proc.devRef .tc main_v0_2) := by
  unfold W2
  generalize W1 m ρ c = X
  after_reads_simp
  rfl

/-- The new first moment at the end is the reference's. -/
theorem final6 (c : Dev nD) : W3 (F := Ideal) m ρ c (Proc.devRef .tc main_v1_2) = val_main_v11 (F := Ideal) (m ((c : Thread nD τ).loc main_arg0)) (m ((c : Thread nD τ).loc main_arg1)) (m ((c : Thread nD τ).loc main_arg3)) := by
  have ha : val_main_v11 (F := Ideal) (V2 m ρ c main_arg0) (V2 m ρ c main_arg1) (V2 m ρ c main_arg3) = val_main_v11 (F := Ideal) (m ((c : Thread nD τ).loc main_arg0)) (m ((c : Thread nD τ).loc main_arg1)) (m ((c : Thread nD τ).loc main_arg3)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg3 = m ((c : Thread nD τ).loc main_arg3) from W2_args m ρ c main_arg3 (by decide)]
  refine (W3_arr m ρ c 6).trans ((second_arr6 (V2 m ρ) c fun i h => ?_).trans ha)
  refine (congrFun (copy6 m ρ c) i).trans ((congrFun ((W1_arr m ρ c 6).trans (first_arr6 (V0 m ρ) c)) i).trans ?_)
  exact (if_pos (by rw [h])).trans (congrFun ha.symm i)

/-- The new second moment between the regions is carried over whole. -/
theorem copy7 (c : Dev nD) : W2 (F := Ideal) m ρ c (Proc.devRef .tc main_v1_3) = W1 m ρ c (Proc.devRef .tc main_v0_3) := by
  unfold W2
  generalize W1 m ρ c = X
  after_reads_simp
  rfl

/-- The new second moment at the end is the reference's. -/
theorem final7 (c : Dev nD) : W3 (F := Ideal) m ρ c (Proc.devRef .tc main_v1_3) = val_main_v17 (F := Ideal) (m ((c : Thread nD τ).loc main_arg0)) (m ((c : Thread nD τ).loc main_arg1)) (m ((c : Thread nD τ).loc main_arg4)) := by
  have ha : val_main_v17 (F := Ideal) (V2 m ρ c main_arg0) (V2 m ρ c main_arg1) (V2 m ρ c main_arg4) = val_main_v17 (F := Ideal) (m ((c : Thread nD τ).loc main_arg0)) (m ((c : Thread nD τ).loc main_arg1)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg4 = m ((c : Thread nD τ).loc main_arg4) from W2_args m ρ c main_arg4 (by decide)]
  refine (W3_arr m ρ c 7).trans ((second_arr7 (V2 m ρ) c fun i h => ?_).trans ha)
  refine (congrFun (copy7 m ρ c) i).trans ((congrFun ((W1_arr m ρ c 7).trans (first_arr7 (V0 m ρ) c)) i).trans ?_)
  exact (if_pos (by rw [h])).trans (congrFun ha.symm i)

set_option backward.isDefEq.respectTransparency.types false in
/-- The run ends with the results at the last boundary's contents and the arguments unchanged. -/
theorem run : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamOutIdeal.Step

end
-- ==== Proof.AdamMlpInValue.lean ====
/- The channel mixer's first weight: each layer's parts summed over the devices, then one step of the optimiser, as whole arrays. -/
module

public import proofs.«01_k».proof.Proof.Gen.AdamMlpInIdeal.Frame
public import proofs.«01_k».proof.Proof.Gen.AdamMlpInRefIdeal.Read
public import Idealize.ShloMosaic.Lib.Pipeline.ValueKit
public import Idealize.ShloMosaic.Lib.Pipeline.ValueKit.Partial
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamMlpInIdeal.Step

open Cert.AdamMlpInIdeal Cert.AdamMlpInIdeal.Gen Cert.AdamMlpInRefIdeal.Read

/-- The change of the weight at a point, from the sum and the three blocks there. -/
theorem pay_change (g : FVec Ideal S256x512 .f32) (w a b : Vec Ideal S1x256x512 .f32) (y) :
    k0_pay7 (F := Ideal) g a b w y = AdamStep.change (k0_pay6 g y) (w y) (a y) (b y) := by
  pointwise [k0_pay7, k0_pay6, k0_pay4, k0_pay5]
  rfl

/-- The new first moment at a point. -/
theorem pay_first (g : FVec Ideal S256x512 .f32) (a : Vec Ideal S1x256x512 .f32) (y) :
    k0_pay1 (F := Ideal) (k0_pay4 g a) y = AdamStep.first (k0_pay6 g y) (a y) := by
  pointwise [k0_pay1, k0_pay6, k0_pay4]
  rfl

/-- The new second moment at a point. -/
theorem pay_second (g : FVec Ideal S256x512 .f32) (b : Vec Ideal S1x256x512 .f32) (y) :
    k0_pay2 (F := Ideal) (k0_pay5 g b) y = AdamStep.second (k0_pay6 g y) (b y) := by
  pointwise [k0_pay2, k0_pay6, k0_pay5]
  rfl

/-- The reference's sum of layer 0's parts, written out from the left. -/
theorem total1 (x : (⟨_, .bf16⟩ : BufTy).Contents (Elt Ideal)) (i) : val_main_v1 (F := Ideal) x i
    = (x (idx_main_v1 i 0) + x (idx_main_v1 i 1) + x (idx_main_v1 i 2) + x (idx_main_v1 i 3) + x (idx_main_v1 i 4)
      + x (idx_main_v1 i 5) + x (idx_main_v1 i 6) + x (idx_main_v1 i 7) : EReal) := by
  rw [val_main_v1_apply, val_main_cst_apply, Fin.sum_univ_eight]
  exact (congrArg (fun z : EReal => z + _) (Ideal.ofBits_zero_f32)).trans (zero_add _)

/-- The reference's sum of layer 1's parts, written out from the left. -/
theorem total3 (x : (⟨_, .bf16⟩ : BufTy).Contents (Elt Ideal)) (i) : val_main_v3 (F := Ideal) x i
    = (x (idx_main_v3 i 0) + x (idx_main_v3 i 1) + x (idx_main_v3 i 2) + x (idx_main_v3 i 3) + x (idx_main_v3 i 4)
      + x (idx_main_v3 i 5) + x (idx_main_v3 i 6) + x (idx_main_v3 i 7) : EReal) := by
  rw [val_main_v3_apply, val_main_cst_0_apply, Fin.sum_univ_eight]
  exact (congrArg (fun z : EReal => z + _) (Ideal.ofBits_zero_f32)).trans (zero_add _)

/-- The reference's gradient in layer 0. -/
theorem grad_layer0 (x0 x1) (i) (h : (i 0 : Fin 2).val = 0) :
    val_main_v6 (F := Ideal) x0 x1 i = val_main_v1 x1 (ix2 (i 1) (i 2)) := by
  pointwise [val_main_v6, val_main_v5, val_main_v4]
  rw [dif_pos (by omega)]

/-- The reference's gradient in layer 1. -/
theorem grad_layer1 (x0 x1) (i) (h : (i 0 : Fin 2).val = 1) :
    val_main_v6 (F := Ideal) x0 x1 i = val_main_v3 x0 (ix2 (i 1) (i 2)) := by
  pointwise [val_main_v6, val_main_v5, val_main_v4]
  rw [dif_neg (by omega)]

/-- The new first moment, of the reference at a point. -/
theorem ref6 (x0 x1 x3) (i) : val_main_v11 (F := Ideal) x0 x1 x3 i
    = AdamStep.first (val_main_v6 (F := Ideal) x0 x1 i) (x3 i) := by
  pointwise [val_main_v11, val_main_v10, val_main_v9, val_main_v8, val_main_v7, val_main_cst_1, val_main_cst_2]
  rfl

/-- The new second moment, of the reference at a point. -/
theorem ref7 (x0 x1 x4) (i) : val_main_v17 (F := Ideal) x0 x1 x4 i
    = AdamStep.second (val_main_v6 (F := Ideal) x0 x1 i) (x4 i) := by
  pointwise [val_main_v17, val_main_v16, val_main_v15, val_main_v14, val_main_v13, val_main_v12, val_main_cst_3, val_main_cst_4]
  rfl

/-- The change of the weight, of the reference at a point. -/
theorem ref5 (x0 x1 x2 x3 x4) (i) : val_main_v30 (F := Ideal) x0 x1 x2 x3 x4 i
    = AdamStep.change (val_main_v6 (F := Ideal) x0 x1 i) (x2 i) (x3 i) (x4 i) := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7,
    val_main_cst_1, val_main_cst_2, val_main_cst_3, val_main_cst_4, val_main_cst_5, val_main_cst_6, val_main_cst_7, val_main_cst_8, val_main_cst_9]
  rfl

variable (V : (c : Dev nD) → (b : Ref sig .tc) → Buf (Elt Ideal) ((c : Thread nD τ).loc b))

/-- The first region's blocks: the parts', then layer 1 of the stacked arrays. -/
theorem place0 : ∀ t : Fin cfg0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] :=
  (by decide +kernel : ∀ t : Fin grid0.N, _)

/-- The second region's blocks: the parts', then layer 0 of the stacked arrays. -/
theorem place1 : ∀ t : Fin cfg1.N, win1_0.index t = ![0, t.val, 0] ∧ win1_1.index t = ![0, t.val, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] :=
  (by decide +kernel : ∀ t : Fin grid1.N, _)

/-- Layer 1's sum at a point is the reference's. -/
theorem grad0 (c : Dev nD) (t : Fin cfg0.N) (y) :
    k0_pay6 (F := Ideal) (k0_pay8 (iblk0 V c 0 t) (iblk0 V c 1 t) (iblk0 V c 2 t) (iblk0 V c 3 t)) y
      = val_main_v6 (F := Ideal) (V c main_arg0) (V c main_arg1) (((View.whole main_v0_0).slice (win0_4.rect t)).emb y) := by
  rw [grad_layer1 _ _ _ (by blk_point [place0 t]), total3]
  pointwise [k0_pay6, k0_pay8, k0_pay3]
  blk_point [iblk0, place0 t]

/-- Layer 0's sum at a point is the reference's. -/
theorem grad1 (c : Dev nD) (t : Fin cfg1.N) (y) :
    k0_pay6 (F := Ideal) (k1_pay3 (View.ld (iblk1 V c 0 t) (Rect.unit ![0, 0, 0] ![1, 256, 512] inb_S8x256x512_S1x256x512_0_0_0))
      (View.ld (iblk1 V c 0 t) (Rect.unit ![1, 0, 0] ![1, 256, 512] inb_S8x256x512_S1x256x512_1_0_0))
      (View.ld (iblk1 V c 0 t) (Rect.unit ![2, 0, 0] ![1, 256, 512] inb_S8x256x512_S1x256x512_2_0_0))
      (View.ld (iblk1 V c 0 t) (Rect.unit ![3, 0, 0] ![1, 256, 512] inb_S8x256x512_S1x256x512_3_0_0))
      (View.ld (iblk1 V c 0 t) (Rect.unit ![4, 0, 0] ![1, 256, 512] inb_S8x256x512_S1x256x512_4_0_0))
      (View.ld (iblk1 V c 0 t) (Rect.unit ![5, 0, 0] ![1, 256, 512] inb_S8x256x512_S1x256x512_5_0_0))
      (View.ld (iblk1 V c 0 t) (Rect.unit ![6, 0, 0] ![1, 256, 512] inb_S8x256x512_S1x256x512_6_0_0))
      (View.ld (iblk1 V c 0 t) (Rect.unit ![7, 0, 0] ![1, 256, 512] inb_S8x256x512_S1x256x512_7_0_0))) y
      = val_main_v6 (F := Ideal) (V c main_arg0) (V c main_arg1) (((View.whole main_v1_0).slice (win1_4.rect t)).emb y) := by
  rw [grad_layer0 _ _ _ (by blk_point [place1 t]), total1]
  pointwise [k0_pay6, k1_pay3]
  blk_point [iblk1, place1 t]

/-- An index of a stacked array outside layer 0 is in layer 1. -/
theorem other {a : ℕ} (h : a < 2) (h' : ¬a / 1 = 0) : a = 1 := by omega

/-- The gradient after the first region: the reference's in layer 1, the entry's elsewhere. -/
theorem first_arr4 (c : Dev nD) : (dat0 V c).arrAt 4 cfg0.N = fun i => if (i (0 : Fin 3) : ℕ) / 1 = 1 then
      val_main_v6 (F := Ideal) (V c main_arg0) (V c main_arg1) i else V c main_v0_0 i := by
  refine (dat0 V c).arrAt_eq_of_coversWhere 4 _ (fun β => β (0 : Fin 3) = 1) (by decide +kernel) (fun t hf y => ?_)
    (fun j => Iff.rfl)
  blk_simp
  rw [after0_4]; frame_out
  exact grad0 V c t y

/-- The gradient after the second region, entered with the reference's in layer 1. -/
theorem second_arr4 (c : Dev nD) (h : ∀ i, (i (0 : Fin 3) : Fin 2).val = 1 →
      V c main_v1_0 i = val_main_v6 (F := Ideal) (V c main_arg0) (V c main_arg1) i) :
    (dat1 V c).arrAt 4 cfg1.N = val_main_v6 (F := Ideal) (V c main_arg0) (V c main_arg1) := by
  refine (dat1 V c).arrAt_eq_of_coversWhere_of_agree 4 _ (fun β => β (0 : Fin 3) = 0) (by decide +kernel)
    (fun t hf y => ?_) (fun j hj => h j (other (j (0 : Fin 3)).isLt hj))
  blk_simp
  rw [after1_4]; dsimp only [outsAt1]
  frame_out
  exact grad1 V c t y

/-- The change of the weight after the first region: the reference's in layer 1, the entry's elsewhere. -/
theorem first_arr5 (c : Dev nD) : (dat0 V c).arrAt 5 cfg0.N = fun i => if (i (0 : Fin 3) : ℕ) / 1 = 1 then
      val_main_v30 (F := Ideal) (V c main_arg0) (V c main_arg1) (V c main_arg2) (V c main_arg3) (V c main_arg4) i else V c main_v0_1 i := by
  refine (dat0 V c).arrAt_eq_of_coversWhere 5 _ (fun β => β (0 : Fin 3) = 1) (by decide +kernel) (fun t hf y => ?_)
    (fun j => Iff.rfl)
  blk_simp
  rw [after0_5]; frame_out
  refine Eq.trans (pay_change _ _ _ _ y) (Eq.trans ?_ (ref5 _ _ _ _ _ _).symm)
  refine AdamStep.change_congr (grad0 V c t y) ?_ ?_ ?_
  all_goals blk_point [iblk0, place0 t]

/-- The change of the weight after the second region, entered with the reference's in layer 1. -/
theorem second_arr5 (c : Dev nD) (h : ∀ i, (i (0 : Fin 3) : Fin 2).val = 1 →
      V c main_v1_1 i = val_main_v30 (F := Ideal) (V c main_arg0) (V c main_arg1) (V c main_arg2) (V c main_arg3) (V c main_arg4) i) :
    (dat1 V c).arrAt 5 cfg1.N = val_main_v30 (F := Ideal) (V c main_arg0) (V c main_arg1) (V c main_arg2) (V c main_arg3) (V c main_arg4) := by
  refine (dat1 V c).arrAt_eq_of_coversWhere_of_agree 5 _ (fun β => β (0 : Fin 3) = 0) (by decide +kernel)
    (fun t hf y => ?_) (fun j hj => h j (other (j (0 : Fin 3)).isLt hj))
  blk_simp
  rw [after1_5]; dsimp only [outsAt1]
  frame_out
  refine Eq.trans (pay_change _ _ _ _ y) (Eq.trans ?_ (ref5 _ _ _ _ _ _).symm)
  refine AdamStep.change_congr (grad1 V c t y) ?_ ?_ ?_
  all_goals blk_point [iblk1, place1 t]

/-- The new first moment after the first region: the reference's in layer 1, the entry's elsewhere. -/
theorem first_arr6 (c : Dev nD) : (dat0 V c).arrAt 6 cfg0.N = fun i => if (i (0 : Fin 3) : ℕ) / 1 = 1 then
      val_main_v11 (F := Ideal) (V c main_arg0) (V c main_arg1) (V c main_arg3) i else V c main_v0_2 i := by
  refine (dat0 V c).arrAt_eq_of_coversWhere 6 _ (fun β => β (0 : Fin 3) = 1) (by decide +kernel) (fun t hf y => ?_)
    (fun j => Iff.rfl)
  blk_simp
  rw [after0_6]; frame_out
  refine Eq.trans (pay_first _ _ y) (Eq.trans ?_ (ref6 _ _ _ _).symm)
  refine AdamStep.first_congr (grad0 V c t y) ?_
  all_goals blk_point [iblk0, place0 t]

/-- The new first moment after the second region, entered with the reference's in layer 1. -/
theorem second_arr6 (c : Dev nD) (h : ∀ i, (i (0 : Fin 3) : Fin 2).val = 1 →
      V c main_v1_2 i = val_main_v11 (F := Ideal) (V c main_arg0) (V c main_arg1) (V c main_arg3) i) :
    (dat1 V c).arrAt 6 cfg1.N = val_main_v11 (F := Ideal) (V c main_arg0) (V c main_arg1) (V c main_arg3) := by
  refine (dat1 V c).arrAt_eq_of_coversWhere_of_agree 6 _ (fun β => β (0 : Fin 3) = 0) (by decide +kernel)
    (fun t hf y => ?_) (fun j hj => h j (other (j (0 : Fin 3)).isLt hj))
  blk_simp
  rw [after1_6]; dsimp only [outsAt1]
  frame_out
  refine Eq.trans (pay_first _ _ y) (Eq.trans ?_ (ref6 _ _ _ _).symm)
  refine AdamStep.first_congr (grad1 V c t y) ?_
  all_goals blk_point [iblk1, place1 t]

/-- The new second moment after the first region: the reference's in layer 1, the entry's elsewhere. -/
theorem first_arr7 (c : Dev nD) : (dat0 V c).arrAt 7 cfg0.N = fun i => if (i (0 : Fin 3) : ℕ) / 1 = 1 then
      val_main_v17 (F := Ideal) (V c main_arg0) (V c main_arg1) (V c main_arg4) i else V c main_v0_3 i := by
  refine (dat0 V c).arrAt_eq_of_coversWhere 7 _ (fun β => β (0 : Fin 3) = 1) (by decide +kernel) (fun t hf y => ?_)
    (fun j => Iff.rfl)
  blk_simp
  rw [after0_7]; frame_out
  refine Eq.trans (pay_second _ _ y) (Eq.trans ?_ (ref7 _ _ _ _).symm)
  refine AdamStep.second_congr (grad0 V c t y) ?_
  all_goals blk_point [iblk0, place0 t]

/-- The new second moment after the second region, entered with the reference's in layer 1. -/
theorem second_arr7 (c : Dev nD) (h : ∀ i, (i (0 : Fin 3) : Fin 2).val = 1 →
      V c main_v1_3 i = val_main_v17 (F := Ideal) (V c main_arg0) (V c main_arg1) (V c main_arg4) i) :
    (dat1 V c).arrAt 7 cfg1.N = val_main_v17 (F := Ideal) (V c main_arg0) (V c main_arg1) (V c main_arg4) := by
  refine (dat1 V c).arrAt_eq_of_coversWhere_of_agree 7 _ (fun β => β (0 : Fin 3) = 0) (by decide +kernel)
    (fun t hf y => ?_) (fun j hj => h j (other (j (0 : Fin 3)).isLt hj))
  blk_simp
  rw [after1_7]; dsimp only [outsAt1]
  frame_out
  refine Eq.trans (pay_second _ _ y) (Eq.trans ?_ (ref7 _ _ _ _).symm)
  refine AdamStep.second_congr (grad1 V c t y) ?_
  all_goals blk_point [iblk1, place1 t]

end Cert.AdamMlpInIdeal.Step

end
-- ==== Proof.AdamMlpInRun.lean ====
/- The channel mixer's first weight's step: what the two regions leave, one after the other, and the run that leaves it. -/
module

public import proofs.«01_k».proof.Proof.Gen.AdamMlpInIdeal.Frame
public import proofs.«01_k».proof.Proof.Gen.AdamMlpInRefIdeal.Read
public import proofs.«01_k».proof.Proof.AdamMlpInValue
public import Idealize.ShloMosaic.Lib.StableHlo.RunRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamMlpInIdeal.Step

open Cert.AdamMlpInIdeal Cert.AdamMlpInIdeal.Gen Cert.AdamMlpInRefIdeal.Read

local notation "𝕄" => MT nD τ sig Unit (Elt Ideal) ℕ (UR sig nD τ) ℕ

variable (m : (ℓ : Loc nD τ sig) → Buf (Elt Ideal) ℓ) (ρ : Dev nD → PrngReg)

/-- The gradient between the regions is carried over whole. -/
theorem copy4 (c : Dev nD) : W2 (F := Ideal) m ρ c (Proc.devRef .tc main_v1_0) = W1 m ρ c (Proc.devRef .tc main_v0_0) := by
  unfold W2
  generalize W1 m ρ c = X
  after_reads_simp
  rfl

/-- The gradient at the end is the reference's. -/
theorem final4 (c : Dev nD) : W3 (F := Ideal) m ρ c (Proc.devRef .tc main_v1_0) = val_main_v6 (F := Ideal) (m ((c : Thread nD τ).loc main_arg0)) (m ((c : Thread nD τ).loc main_arg1)) := by
  have ha : val_main_v6 (F := Ideal) (V2 m ρ c main_arg0) (V2 m ρ c main_arg1) = val_main_v6 (F := Ideal) (m ((c : Thread nD τ).loc main_arg0)) (m ((c : Thread nD τ).loc main_arg1)) := by
    rw [show V2 m ρ c main_arg0 = m ((c : Thread nD τ).loc main_arg0) from W2_args m ρ c main_arg0 (by decide), show V2 m ρ c main_arg1 = m ((c : Thread nD τ).loc main_arg1) from W2_args m ρ c main_arg1 (by decide)]
  refine (W3_arr m ρ c 4).trans ((second_arr4 (V2 m ρ) c fun i h => ?_).trans ha)
  refine (congrFun (copy4 m ρ c) i).trans ((congrFun ((W1_arr m ρ c 4).trans (first_arr4 (V0 m ρ) c)) i).trans ?_)
  exact (if_pos (by rw [h])).trans (congrFun ha.symm i)

/-- The change of the weight between the regions is carried over whole. -/
theorem copy5 (c : Dev nD) : W2 (F := Ideal) m ρ c (Proc.devRef .tc main_v1_1) = W1 m ρ c (Proc.devRef .tc main_v0_1) := by
  unfold W2
  generalize W1 m ρ c = X
  after_reads_simp
  rfl

/-- The change of the weight at the end is the reference's. -/
theorem final5 (c : Dev nD) : W3 (F := Ideal) m ρ c (Proc.devRef .tc main_v1_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ha : val_main_v30 (F := Ideal) (V2 m ρ c main_arg0) (V2 m ρ c main_arg1) (V2 m ρ c main_arg2) (V2 m ρ c main_arg3) (V2 m ρ c main_arg4) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg2 = m ((c : Thread nD τ).loc main_arg2) from W2_args m ρ c main_arg2 (by decide), show V2 m ρ c main_arg3 = m ((c : Thread nD τ).loc main_arg3) from W2_args m ρ c main_arg3 (by decide), show V2 m ρ c main_arg4 = m ((c : Thread nD τ).loc main_arg4) from W2_args m ρ c main_arg4 (by decide)]
  refine (W3_arr m ρ c 5).trans ((second_arr5 (V2 m ρ) c fun i h => ?_).trans ha)
  refine (congrFun (copy5 m ρ c) i).trans ((congrFun ((W1_arr m ρ c 5).trans (first_arr5 (V0 m ρ) c)) i).trans ?_)
  exact (if_pos (by rw [h])).trans (congrFun ha.symm i)

/-- The new first moment between the regions is carried over whole. -/
theorem copy6 (c : Dev nD) : W2 (F := Ideal) m ρ c (Proc.devRef .tc main_v1_2) = W1 m ρ c (Proc.devRef .tc main_v0_2) := by
  unfold W2
  generalize W1 m ρ c = X
  after_reads_simp
  rfl

/-- The new first moment at the end is the reference's. -/
theorem final6 (c : Dev nD) : W3 (F := Ideal) m ρ c (Proc.devRef .tc main_v1_2) = val_main_v11 (F := Ideal) (m ((c : Thread nD τ).loc main_arg0)) (m ((c : Thread nD τ).loc main_arg1)) (m ((c : Thread nD τ).loc main_arg3)) := by
  have ha : val_main_v11 (F := Ideal) (V2 m ρ c main_arg0) (V2 m ρ c main_arg1) (V2 m ρ c main_arg3) = val_main_v11 (F := Ideal) (m ((c : Thread nD τ).loc main_arg0)) (m ((c : Thread nD τ).loc main_arg1)) (m ((c : Thread nD τ).loc main_arg3)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg3 = m ((c : Thread nD τ).loc main_arg3) from W2_args m ρ c main_arg3 (by decide)]
  refine (W3_arr m ρ c 6).trans ((second_arr6 (V2 m ρ) c fun i h => ?_).trans ha)
  refine (congrFun (copy6 m ρ c) i).trans ((congrFun ((W1_arr m ρ c 6).trans (first_arr6 (V0 m ρ) c)) i).trans ?_)
  exact (if_pos (by rw [h])).trans (congrFun ha.symm i)

/-- The new second moment between the regions is carried over whole. -/
theorem copy7 (c : Dev nD) : W2 (F := Ideal) m ρ c (Proc.devRef .tc main_v1_3) = W1 m ρ c (Proc.devRef .tc main_v0_3) := by
  unfold W2
  generalize W1 m ρ c = X
  after_reads_simp
  rfl

/-- The new second moment at the end is the reference's. -/
theorem final7 (c : Dev nD) : W3 (F := Ideal) m ρ c (Proc.devRef .tc main_v1_3) = val_main_v17 (F := Ideal) (m ((c : Thread nD τ).loc main_arg0)) (m ((c : Thread nD τ).loc main_arg1)) (m ((c : Thread nD τ).loc main_arg4)) := by
  have ha : val_main_v17 (F := Ideal) (V2 m ρ c main_arg0) (V2 m ρ c main_arg1) (V2 m ρ c main_arg4) = val_main_v17 (F := Ideal) (m ((c : Thread nD τ).loc main_arg0)) (m ((c : Thread nD τ).loc main_arg1)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg4 = m ((c : Thread nD τ).loc main_arg4) from W2_args m ρ c main_arg4 (by decide)]
  refine (W3_arr m ρ c 7).trans ((second_arr7 (V2 m ρ) c fun i h => ?_).trans ha)
  refine (congrFun (copy7 m ρ c) i).trans ((congrFun ((W1_arr m ρ c 7).trans (first_arr7 (V0 m ρ) c)) i).trans ?_)
  exact (if_pos (by rw [h])).trans (congrFun ha.symm i)

set_option backward.isDefEq.respectTransparency.types false in
/-- The run ends with the results at the last boundary's contents and the arguments unchanged. -/
theorem run : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamMlpInIdeal.Step

end
-- ==== Proof.AdamMlpOutValue.lean ====
/- The channel mixer's second weight: each layer's parts summed over the devices, then one step of the optimiser, as whole arrays. -/
module

public import proofs.«01_k».proof.Proof.Gen.AdamMlpOutIdeal.Frame
public import proofs.«01_k».proof.Proof.Gen.AdamMlpOutRefIdeal.Read
public import Idealize.ShloMosaic.Lib.Pipeline.ValueKit
public import Idealize.ShloMosaic.Lib.Pipeline.ValueKit.Partial
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamMlpOutIdeal.Step

open Cert.AdamMlpOutIdeal Cert.AdamMlpOutIdeal.Gen Cert.AdamMlpOutRefIdeal.Read

/-- The change of the weight at a point, from the sum and the three blocks there. -/
theorem pay_change (g : FVec Ideal S256x1024 .f32) (w a b : Vec Ideal S1x256x1024 .f32) (y) :
    k0_pay7 (F := Ideal) g a b w y = AdamStep.change (k0_pay6 g y) (w y) (a y) (b y) := by
  pointwise [k0_pay7, k0_pay6, k0_pay4, k0_pay5]
  rfl

/-- The new first moment at a point. -/
theorem pay_first (g : FVec Ideal S256x1024 .f32) (a : Vec Ideal S1x256x1024 .f32) (y) :
    k0_pay1 (F := Ideal) (k0_pay4 g a) y = AdamStep.first (k0_pay6 g y) (a y) := by
  pointwise [k0_pay1, k0_pay6, k0_pay4]
  rfl

/-- The new second moment at a point. -/
theorem pay_second (g : FVec Ideal S256x1024 .f32) (b : Vec Ideal S1x256x1024 .f32) (y) :
    k0_pay2 (F := Ideal) (k0_pay5 g b) y = AdamStep.second (k0_pay6 g y) (b y) := by
  pointwise [k0_pay2, k0_pay6, k0_pay5]
  rfl

/-- The reference's sum of layer 0's parts, written out from the left. -/
theorem total1 (x : (⟨_, .bf16⟩ : BufTy).Contents (Elt Ideal)) (i) : val_main_v1 (F := Ideal) x i
    = (x (idx_main_v1 i 0) + x (idx_main_v1 i 1) + x (idx_main_v1 i 2) + x (idx_main_v1 i 3) + x (idx_main_v1 i 4)
      + x (idx_main_v1 i 5) + x (idx_main_v1 i 6) + x (idx_main_v1 i 7) : EReal) := by
  rw [val_main_v1_apply, val_main_cst_apply, Fin.sum_univ_eight]
  exact (congrArg (fun z : EReal => z + _) (Ideal.ofBits_zero_f32)).trans (zero_add _)

/-- The reference's sum of layer 1's parts, written out from the left. -/
theorem total3 (x : (⟨_, .bf16⟩ : BufTy).Contents (Elt Ideal)) (i) : val_main_v3 (F := Ideal) x i
    = (x (idx_main_v3 i 0) + x (idx_main_v3 i 1) + x (idx_main_v3 i 2) + x (idx_main_v3 i 3) + x (idx_main_v3 i 4)
      + x (idx_main_v3 i 5) + x (idx_main_v3 i 6) + x (idx_main_v3 i 7) : EReal) := by
  rw [val_main_v3_apply, val_main_cst_0_apply, Fin.sum_univ_eight]
  exact (congrArg (fun z : EReal => z + _) (Ideal.ofBits_zero_f32)).trans (zero_add _)

/-- The reference's gradient in layer 0. -/
theorem grad_layer0 (x0 x1) (i) (h : (i 0 : Fin 2).val = 0) :
    val_main_v6 (F := Ideal) x0 x1 i = val_main_v1 x1 (ix2 (i 1) (i 2)) := by
  pointwise [val_main_v6, val_main_v5, val_main_v4]
  rw [dif_pos (by omega)]

/-- The reference's gradient in layer 1. -/
theorem grad_layer1 (x0 x1) (i) (h : (i 0 : Fin 2).val = 1) :
    val_main_v6 (F := Ideal) x0 x1 i = val_main_v3 x0 (ix2 (i 1) (i 2)) := by
  pointwise [val_main_v6, val_main_v5, val_main_v4]
  rw [dif_neg (by omega)]

/-- The new first moment, of the reference at a point. -/
theorem ref6 (x0 x1 x3) (i) : val_main_v11 (F := Ideal) x0 x1 x3 i
    = AdamStep.first (val_main_v6 (F := Ideal) x0 x1 i) (x3 i) := by
  pointwise [val_main_v11, val_main_v10, val_main_v9, val_main_v8, val_main_v7, val_main_cst_1, val_main_cst_2]
  rfl

/-- The new second moment, of the reference at a point. -/
theorem ref7 (x0 x1 x4) (i) : val_main_v17 (F := Ideal) x0 x1 x4 i
    = AdamStep.second (val_main_v6 (F := Ideal) x0 x1 i) (x4 i) := by
  pointwise [val_main_v17, val_main_v16, val_main_v15, val_main_v14, val_main_v13, val_main_v12, val_main_cst_3, val_main_cst_4]
  rfl

/-- The change of the weight, of the reference at a point. -/
theorem ref5 (x0 x1 x2 x3 x4) (i) : val_main_v30 (F := Ideal) x0 x1 x2 x3 x4 i
    = AdamStep.change (val_main_v6 (F := Ideal) x0 x1 i) (x2 i) (x3 i) (x4 i) := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7,
    val_main_cst_1, val_main_cst_2, val_main_cst_3, val_main_cst_4, val_main_cst_5, val_main_cst_6, val_main_cst_7, val_main_cst_8, val_main_cst_9]
  rfl

variable (V : (c : Dev nD) → (b : Ref sig .tc) → Buf (Elt Ideal) ((c : Thread nD τ).loc b))

/-- The first region's blocks: the parts', then layer 1 of the stacked arrays. -/
theorem place0 : ∀ t : Fin cfg0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] :=
  (by decide +kernel : ∀ t : Fin grid0.N, _)

/-- The second region's blocks: the parts', then layer 0 of the stacked arrays. -/
theorem place1 : ∀ t : Fin cfg1.N, win1_0.index t = ![0, t.val, 0] ∧ win1_1.index t = ![0, t.val, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] :=
  (by decide +kernel : ∀ t : Fin grid1.N, _)

/-- Layer 1's sum at a point is the reference's. -/
theorem grad0 (c : Dev nD) (t : Fin cfg0.N) (y) :
    k0_pay6 (F := Ideal) (k0_pay8 (iblk0 V c 0 t) (iblk0 V c 1 t) (iblk0 V c 2 t) (iblk0 V c 3 t)) y
      = val_main_v6 (F := Ideal) (V c main_arg0) (V c main_arg1) (((View.whole main_v0_0).slice (win0_4.rect t)).emb y) := by
  rw [grad_layer1 _ _ _ (by blk_point [place0 t]), total3]
  pointwise [k0_pay6, k0_pay8, k0_pay3]
  blk_point [iblk0, place0 t]

/-- Layer 0's sum at a point is the reference's. -/
theorem grad1 (c : Dev nD) (t : Fin cfg1.N) (y) :
    k0_pay6 (F := Ideal) (k1_pay3 (View.ld (iblk1 V c 0 t) (Rect.unit ![0, 0, 0] ![1, 256, 1024] inb_S8x256x1024_S1x256x1024_0_0_0))
      (View.ld (iblk1 V c 0 t) (Rect.unit ![1, 0, 0] ![1, 256, 1024] inb_S8x256x1024_S1x256x1024_1_0_0))
      (View.ld (iblk1 V c 0 t) (Rect.unit ![2, 0, 0] ![1, 256, 1024] inb_S8x256x1024_S1x256x1024_2_0_0))
      (View.ld (iblk1 V c 0 t) (Rect.unit ![3, 0, 0] ![1, 256, 1024] inb_S8x256x1024_S1x256x1024_3_0_0))
      (View.ld (iblk1 V c 0 t) (Rect.unit ![4, 0, 0] ![1, 256, 1024] inb_S8x256x1024_S1x256x1024_4_0_0))
      (View.ld (iblk1 V c 0 t) (Rect.unit ![5, 0, 0] ![1, 256, 1024] inb_S8x256x1024_S1x256x1024_5_0_0))
      (View.ld (iblk1 V c 0 t) (Rect.unit ![6, 0, 0] ![1, 256, 1024] inb_S8x256x1024_S1x256x1024_6_0_0))
      (View.ld (iblk1 V c 0 t) (Rect.unit ![7, 0, 0] ![1, 256, 1024] inb_S8x256x1024_S1x256x1024_7_0_0))) y
      = val_main_v6 (F := Ideal) (V c main_arg0) (V c main_arg1) (((View.whole main_v1_0).slice (win1_4.rect t)).emb y) := by
  rw [grad_layer0 _ _ _ (by blk_point [place1 t]), total1]
  pointwise [k0_pay6, k1_pay3]
  blk_point [iblk1, place1 t]

/-- An index of a stacked array outside layer 0 is in layer 1. -/
theorem other {a : ℕ} (h : a < 2) (h' : ¬a / 1 = 0) : a = 1 := by omega

/-- The gradient after the first region: the reference's in layer 1, the entry's elsewhere. -/
theorem first_arr4 (c : Dev nD) : (dat0 V c).arrAt 4 cfg0.N = fun i => if (i (0 : Fin 3) : ℕ) / 1 = 1 then
      val_main_v6 (F := Ideal) (V c main_arg0) (V c main_arg1) i else V c main_v0_0 i := by
  refine (dat0 V c).arrAt_eq_of_coversWhere 4 _ (fun β => β (0 : Fin 3) = 1) (by decide +kernel) (fun t hf y => ?_)
    (fun j => Iff.rfl)
  blk_simp
  rw [after0_4]; frame_out
  exact grad0 V c t y

/-- The gradient after the second region, entered with the reference's in layer 1. -/
theorem second_arr4 (c : Dev nD) (h : ∀ i, (i (0 : Fin 3) : Fin 2).val = 1 →
      V c main_v1_0 i = val_main_v6 (F := Ideal) (V c main_arg0) (V c main_arg1) i) :
    (dat1 V c).arrAt 4 cfg1.N = val_main_v6 (F := Ideal) (V c main_arg0) (V c main_arg1) := by
  refine (dat1 V c).arrAt_eq_of_coversWhere_of_agree 4 _ (fun β => β (0 : Fin 3) = 0) (by decide +kernel)
    (fun t hf y => ?_) (fun j hj => h j (other (j (0 : Fin 3)).isLt hj))
  blk_simp
  rw [after1_4]; dsimp only [outsAt1]
  frame_out
  exact grad1 V c t y

/-- The change of the weight after the first region: the reference's in layer 1, the entry's elsewhere. -/
theorem first_arr5 (c : Dev nD) : (dat0 V c).arrAt 5 cfg0.N = fun i => if (i (0 : Fin 3) : ℕ) / 1 = 1 then
      val_main_v30 (F := Ideal) (V c main_arg0) (V c main_arg1) (V c main_arg2) (V c main_arg3) (V c main_arg4) i else V c main_v0_1 i := by
  refine (dat0 V c).arrAt_eq_of_coversWhere 5 _ (fun β => β (0 : Fin 3) = 1) (by decide +kernel) (fun t hf y => ?_)
    (fun j => Iff.rfl)
  blk_simp
  rw [after0_5]; frame_out
  refine Eq.trans (pay_change _ _ _ _ y) (Eq.trans ?_ (ref5 _ _ _ _ _ _).symm)
  refine AdamStep.change_congr (grad0 V c t y) ?_ ?_ ?_
  all_goals blk_point [iblk0, place0 t]

/-- The change of the weight after the second region, entered with the reference's in layer 1. -/
theorem second_arr5 (c : Dev nD) (h : ∀ i, (i (0 : Fin 3) : Fin 2).val = 1 →
      V c main_v1_1 i = val_main_v30 (F := Ideal) (V c main_arg0) (V c main_arg1) (V c main_arg2) (V c main_arg3) (V c main_arg4) i) :
    (dat1 V c).arrAt 5 cfg1.N = val_main_v30 (F := Ideal) (V c main_arg0) (V c main_arg1) (V c main_arg2) (V c main_arg3) (V c main_arg4) := by
  refine (dat1 V c).arrAt_eq_of_coversWhere_of_agree 5 _ (fun β => β (0 : Fin 3) = 0) (by decide +kernel)
    (fun t hf y => ?_) (fun j hj => h j (other (j (0 : Fin 3)).isLt hj))
  blk_simp
  rw [after1_5]; dsimp only [outsAt1]
  frame_out
  refine Eq.trans (pay_change _ _ _ _ y) (Eq.trans ?_ (ref5 _ _ _ _ _ _).symm)
  refine AdamStep.change_congr (grad1 V c t y) ?_ ?_ ?_
  all_goals blk_point [iblk1, place1 t]

/-- The new first moment after the first region: the reference's in layer 1, the entry's elsewhere. -/
theorem first_arr6 (c : Dev nD) : (dat0 V c).arrAt 6 cfg0.N = fun i => if (i (0 : Fin 3) : ℕ) / 1 = 1 then
      val_main_v11 (F := Ideal) (V c main_arg0) (V c main_arg1) (V c main_arg3) i else V c main_v0_2 i := by
  refine (dat0 V c).arrAt_eq_of_coversWhere 6 _ (fun β => β (0 : Fin 3) = 1) (by decide +kernel) (fun t hf y => ?_)
    (fun j => Iff.rfl)
  blk_simp
  rw [after0_6]; frame_out
  refine Eq.trans (pay_first _ _ y) (Eq.trans ?_ (ref6 _ _ _ _).symm)
  refine AdamStep.first_congr (grad0 V c t y) ?_
  all_goals blk_point [iblk0, place0 t]

/-- The new first moment after the second region, entered with the reference's in layer 1. -/
theorem second_arr6 (c : Dev nD) (h : ∀ i, (i (0 : Fin 3) : Fin 2).val = 1 →
      V c main_v1_2 i = val_main_v11 (F := Ideal) (V c main_arg0) (V c main_arg1) (V c main_arg3) i) :
    (dat1 V c).arrAt 6 cfg1.N = val_main_v11 (F := Ideal) (V c main_arg0) (V c main_arg1) (V c main_arg3) := by
  refine (dat1 V c).arrAt_eq_of_coversWhere_of_agree 6 _ (fun β => β (0 : Fin 3) = 0) (by decide +kernel)
    (fun t hf y => ?_) (fun j hj => h j (other (j (0 : Fin 3)).isLt hj))
  blk_simp
  rw [after1_6]; dsimp only [outsAt1]
  frame_out
  refine Eq.trans (pay_first _ _ y) (Eq.trans ?_ (ref6 _ _ _ _).symm)
  refine AdamStep.first_congr (grad1 V c t y) ?_
  all_goals blk_point [iblk1, place1 t]

/-- The new second moment after the first region: the reference's in layer 1, the entry's elsewhere. -/
theorem first_arr7 (c : Dev nD) : (dat0 V c).arrAt 7 cfg0.N = fun i => if (i (0 : Fin 3) : ℕ) / 1 = 1 then
      val_main_v17 (F := Ideal) (V c main_arg0) (V c main_arg1) (V c main_arg4) i else V c main_v0_3 i := by
  refine (dat0 V c).arrAt_eq_of_coversWhere 7 _ (fun β => β (0 : Fin 3) = 1) (by decide +kernel) (fun t hf y => ?_)
    (fun j => Iff.rfl)
  blk_simp
  rw [after0_7]; frame_out
  refine Eq.trans (pay_second _ _ y) (Eq.trans ?_ (ref7 _ _ _ _).symm)
  refine AdamStep.second_congr (grad0 V c t y) ?_
  all_goals blk_point [iblk0, place0 t]

/-- The new second moment after the second region, entered with the reference's in layer 1. -/
theorem second_arr7 (c : Dev nD) (h : ∀ i, (i (0 : Fin 3) : Fin 2).val = 1 →
      V c main_v1_3 i = val_main_v17 (F := Ideal) (V c main_arg0) (V c main_arg1) (V c main_arg4) i) :
    (dat1 V c).arrAt 7 cfg1.N = val_main_v17 (F := Ideal) (V c main_arg0) (V c main_arg1) (V c main_arg4) := by
  refine (dat1 V c).arrAt_eq_of_coversWhere_of_agree 7 _ (fun β => β (0 : Fin 3) = 0) (by decide +kernel)
    (fun t hf y => ?_) (fun j hj => h j (other (j (0 : Fin 3)).isLt hj))
  blk_simp
  rw [after1_7]; dsimp only [outsAt1]
  frame_out
  refine Eq.trans (pay_second _ _ y) (Eq.trans ?_ (ref7 _ _ _ _).symm)
  refine AdamStep.second_congr (grad1 V c t y) ?_
  all_goals blk_point [iblk1, place1 t]

end Cert.AdamMlpOutIdeal.Step

end
-- ==== Proof.AdamMlpOutRun.lean ====
/- The channel mixer's second weight's step: what the two regions leave, one after the other, and the run that leaves it. -/
module

public import proofs.«01_k».proof.Proof.Gen.AdamMlpOutIdeal.Frame
public import proofs.«01_k».proof.Proof.Gen.AdamMlpOutRefIdeal.Read
public import proofs.«01_k».proof.Proof.AdamMlpOutValue
public import Idealize.ShloMosaic.Lib.StableHlo.RunRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamMlpOutIdeal.Step

open Cert.AdamMlpOutIdeal Cert.AdamMlpOutIdeal.Gen Cert.AdamMlpOutRefIdeal.Read

local notation "𝕄" => MT nD τ sig Unit (Elt Ideal) ℕ (UR sig nD τ) ℕ

variable (m : (ℓ : Loc nD τ sig) → Buf (Elt Ideal) ℓ) (ρ : Dev nD → PrngReg)

/-- The gradient between the regions is carried over whole. -/
theorem copy4 (c : Dev nD) : W2 (F := Ideal) m ρ c (Proc.devRef .tc main_v1_0) = W1 m ρ c (Proc.devRef .tc main_v0_0) := by
  unfold W2
  generalize W1 m ρ c = X
  after_reads_simp
  rfl

/-- The gradient at the end is the reference's. -/
theorem final4 (c : Dev nD) : W3 (F := Ideal) m ρ c (Proc.devRef .tc main_v1_0) = val_main_v6 (F := Ideal) (m ((c : Thread nD τ).loc main_arg0)) (m ((c : Thread nD τ).loc main_arg1)) := by
  have ha : val_main_v6 (F := Ideal) (V2 m ρ c main_arg0) (V2 m ρ c main_arg1) = val_main_v6 (F := Ideal) (m ((c : Thread nD τ).loc main_arg0)) (m ((c : Thread nD τ).loc main_arg1)) := by
    rw [show V2 m ρ c main_arg0 = m ((c : Thread nD τ).loc main_arg0) from W2_args m ρ c main_arg0 (by decide), show V2 m ρ c main_arg1 = m ((c : Thread nD τ).loc main_arg1) from W2_args m ρ c main_arg1 (by decide)]
  refine (W3_arr m ρ c 4).trans ((second_arr4 (V2 m ρ) c fun i h => ?_).trans ha)
  refine (congrFun (copy4 m ρ c) i).trans ((congrFun ((W1_arr m ρ c 4).trans (first_arr4 (V0 m ρ) c)) i).trans ?_)
  exact (if_pos (by rw [h])).trans (congrFun ha.symm i)

/-- The change of the weight between the regions is carried over whole. -/
theorem copy5 (c : Dev nD) : W2 (F := Ideal) m ρ c (Proc.devRef .tc main_v1_1) = W1 m ρ c (Proc.devRef .tc main_v0_1) := by
  unfold W2
  generalize W1 m ρ c = X
  after_reads_simp
  rfl

/-- The change of the weight at the end is the reference's. -/
theorem final5 (c : Dev nD) : W3 (F := Ideal) m ρ c (Proc.devRef .tc main_v1_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ha : val_main_v30 (F := Ideal) (V2 m ρ c main_arg0) (V2 m ρ c main_arg1) (V2 m ρ c main_arg2) (V2 m ρ c main_arg3) (V2 m ρ c main_arg4) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg2 = m ((c : Thread nD τ).loc main_arg2) from W2_args m ρ c main_arg2 (by decide), show V2 m ρ c main_arg3 = m ((c : Thread nD τ).loc main_arg3) from W2_args m ρ c main_arg3 (by decide), show V2 m ρ c main_arg4 = m ((c : Thread nD τ).loc main_arg4) from W2_args m ρ c main_arg4 (by decide)]
  refine (W3_arr m ρ c 5).trans ((second_arr5 (V2 m ρ) c fun i h => ?_).trans ha)
  refine (congrFun (copy5 m ρ c) i).trans ((congrFun ((W1_arr m ρ c 5).trans (first_arr5 (V0 m ρ) c)) i).trans ?_)
  exact (if_pos (by rw [h])).trans (congrFun ha.symm i)

/-- The new first moment between the regions is carried over whole. -/
theorem copy6 (c : Dev nD) : W2 (F := Ideal) m ρ c (Proc.devRef .tc main_v1_2) = W1 m ρ c (Proc.devRef .tc main_v0_2) := by
  unfold W2
  generalize W1 m ρ c = X
  after_reads_simp
  rfl

/-- The new first moment at the end is the reference's. -/
theorem final6 (c : Dev nD) : W3 (F := Ideal) m ρ c (Proc.devRef .tc main_v1_2) = val_main_v11 (F := Ideal) (m ((c : Thread nD τ).loc main_arg0)) (m ((c : Thread nD τ).loc main_arg1)) (m ((c : Thread nD τ).loc main_arg3)) := by
  have ha : val_main_v11 (F := Ideal) (V2 m ρ c main_arg0) (V2 m ρ c main_arg1) (V2 m ρ c main_arg3) = val_main_v11 (F := Ideal) (m ((c : Thread nD τ).loc main_arg0)) (m ((c : Thread nD τ).loc main_arg1)) (m ((c : Thread nD τ).loc main_arg3)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg3 = m ((c : Thread nD τ).loc main_arg3) from W2_args m ρ c main_arg3 (by decide)]
  refine (W3_arr m ρ c 6).trans ((second_arr6 (V2 m ρ) c fun i h => ?_).trans ha)
  refine (congrFun (copy6 m ρ c) i).trans ((congrFun ((W1_arr m ρ c 6).trans (first_arr6 (V0 m ρ) c)) i).trans ?_)
  exact (if_pos (by rw [h])).trans (congrFun ha.symm i)

/-- The new second moment between the regions is carried over whole. -/
theorem copy7 (c : Dev nD) : W2 (F := Ideal) m ρ c (Proc.devRef .tc main_v1_3) = W1 m ρ c (Proc.devRef .tc main_v0_3) := by
  unfold W2
  generalize W1 m ρ c = X
  after_reads_simp
  rfl

/-- The new second moment at the end is the reference's. -/
theorem final7 (c : Dev nD) : W3 (F := Ideal) m ρ c (Proc.devRef .tc main_v1_3) = val_main_v17 (F := Ideal) (m ((c : Thread nD τ).loc main_arg0)) (m ((c : Thread nD τ).loc main_arg1)) (m ((c : Thread nD τ).loc main_arg4)) := by
  have ha : val_main_v17 (F := Ideal) (V2 m ρ c main_arg0) (V2 m ρ c main_arg1) (V2 m ρ c main_arg4) = val_main_v17 (F := Ideal) (m ((c : Thread nD τ).loc main_arg0)) (m ((c : Thread nD τ).loc main_arg1)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg4 = m ((c : Thread nD τ).loc main_arg4) from W2_args m ρ c main_arg4 (by decide)]
  refine (W3_arr m ρ c 7).trans ((second_arr7 (V2 m ρ) c fun i h => ?_).trans ha)
  refine (congrFun (copy7 m ρ c) i).trans ((congrFun ((W1_arr m ρ c 7).trans (first_arr7 (V0 m ρ) c)) i).trans ?_)
  exact (if_pos (by rw [h])).trans (congrFun ha.symm i)

set_option backward.isDefEq.respectTransparency.types false in
/-- The run ends with the results at the last boundary's contents and the arguments unchanged. -/
theorem run : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamMlpOutIdeal.Step

end
-- ==== Proof.AdamAdaValue.lean ====
/- The modulation's weight: each layer's one part, one step of the optimiser, as whole arrays. -/
module

public import proofs.«01_k».proof.Proof.Gen.AdamAdaIdeal.Frame
public import proofs.«01_k».proof.Proof.Gen.AdamAdaRefIdeal.Read
public import Idealize.ShloMosaic.Lib.Pipeline.ValueKit
public import Idealize.ShloMosaic.Lib.Pipeline.ValueKit.Partial
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamAdaIdeal.Step

open Cert.AdamAdaIdeal Cert.AdamAdaIdeal.Gen Cert.AdamAdaRefIdeal.Read

/-- The change of the weight at a point, from the four blocks there. -/
theorem pay_change (g w a b : Vec Ideal S1x256x768 .f32) (y) :
    k0_pay1 (F := Ideal) (k0_pay8 g a b w) k0_pay9 y = AdamStep.change (k0_pay7 g y) (w y) (a y) (b y) := by
  pointwise [k0_pay1, k0_pay8, k0_pay9, k0_pay7, k0_pay6, k0_pay5, k0_pay4]
  rfl

/-- The new first moment at a point. -/
theorem pay_first (g a : Vec Ideal S1x256x768 .f32) (y) :
    k0_pay2 (F := Ideal) (k0_pay5 g a) y = AdamStep.first (k0_pay7 g y) (a y) := by
  pointwise [k0_pay2, k0_pay7, k0_pay5, k0_pay4]
  rfl

/-- The new second moment at a point. -/
theorem pay_second (g b : Vec Ideal S1x256x768 .f32) (y) :
    k0_pay3 (F := Ideal) (k0_pay6 g b) y = AdamStep.second (k0_pay7 g y) (b y) := by
  pointwise [k0_pay3, k0_pay7, k0_pay6, k0_pay4]
  rfl

/-- The reference's sum of layer 0's one part. -/
theorem total0 (x : (⟨_, .f32⟩ : BufTy).Contents (Elt Ideal)) (i) : val_main_v0 (F := Ideal) x i = x (idx_main_v0 i 0) := by
  rw [val_main_v0_apply, val_main_cst_apply, Fin.sum_univ_one]
  exact (congrArg (fun z : EReal => z + _) (Ideal.ofBits_zero_f32)).trans (zero_add _)

/-- The reference's sum of layer 1's one part. -/
theorem total1 (x : (⟨_, .f32⟩ : BufTy).Contents (Elt Ideal)) (i) : val_main_v1 (F := Ideal) x i = x (idx_main_v1 i 0) := by
  rw [val_main_v1_apply, val_main_cst_0_apply, Fin.sum_univ_one]
  exact (congrArg (fun z : EReal => z + _) (Ideal.ofBits_zero_f32)).trans (zero_add _)

/-- The reference's gradient in layer 0. -/
theorem grad_layer0 (x0 x1) (i) (h : (i 0 : Fin 2).val = 0) :
    val_main_v4 (F := Ideal) x0 x1 i = val_main_v0 x1 (ix2 (i 1) (i 2)) := by
  pointwise [val_main_v4, val_main_v3, val_main_v2]
  rw [dif_pos (by omega)]

/-- The reference's gradient in layer 1. -/
theorem grad_layer1 (x0 x1) (i) (h : (i 0 : Fin 2).val = 1) :
    val_main_v4 (F := Ideal) x0 x1 i = val_main_v1 x0 (ix2 (i 1) (i 2)) := by
  pointwise [val_main_v4, val_main_v3, val_main_v2]
  rw [dif_neg (by omega)]

/-- The new first moment, of the reference at a point. -/
theorem ref6 (x0 x1 x3) (i) : val_main_v9 (F := Ideal) x0 x1 x3 i
    = AdamStep.first (val_main_v4 (F := Ideal) x0 x1 i) (x3 i) := by
  pointwise [val_main_v9, val_main_v8, val_main_v7, val_main_v6, val_main_v5, val_main_cst_1, val_main_cst_2]
  rfl

/-- The new second moment, of the reference at a point. -/
theorem ref7 (x0 x1 x4) (i) : val_main_v15 (F := Ideal) x0 x1 x4 i
    = AdamStep.second (val_main_v4 (F := Ideal) x0 x1 i) (x4 i) := by
  pointwise [val_main_v15, val_main_v14, val_main_v13, val_main_v12, val_main_v11, val_main_v10, val_main_cst_3, val_main_cst_4]
  rfl

/-- The change of the weight, of the reference at a point. -/
theorem ref5 (x0 x1 x2 x3 x4) (i) : val_main_v28 (F := Ideal) x0 x1 x2 x3 x4 i
    = AdamStep.change (val_main_v4 (F := Ideal) x0 x1 i) (x2 i) (x3 i) (x4 i) := by
  pointwise [val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_cst_1, val_main_cst_2, val_main_cst_3, val_main_cst_4, val_main_cst_5, val_main_cst_6, val_main_cst_7, val_main_cst_8, val_main_cst_9]
  rfl

variable (V : (c : Dev nD) → (b : Ref sig .tc) → Buf (Elt Ideal) ((c : Thread nD τ).loc b))

/-- The first region's blocks: the parts', then layer 1 of the stacked arrays. -/
theorem place0 : ∀ t : Fin cfg0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0] :=
  (by decide +kernel : ∀ t : Fin grid0.N, _)

/-- The second region's blocks: the parts', then layer 0 of the stacked arrays. -/
theorem place1 : ∀ t : Fin cfg1.N, win1_0.index t = ![0, t.val, 0] ∧ win1_1.index t = ![0, t.val, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] :=
  (by decide +kernel : ∀ t : Fin grid1.N, _)

/-- Layer 1's sum at a point is the reference's. -/
theorem grad0 (c : Dev nD) (t : Fin cfg0.N) (y) :
    k0_pay7 (F := Ideal) (iblk0 V c 0 t) y
      = val_main_v4 (F := Ideal) (V c main_arg0) (V c main_arg1) (((View.whole main_v0_0).slice (win0_4.rect t)).emb y) := by
  rw [grad_layer1 _ _ _ (by blk_point [place0 t]), total1]
  pointwise [k0_pay7, k0_pay4]
  blk_point [iblk0, place0 t]

/-- Layer 0's sum at a point is the reference's. -/
theorem grad1 (c : Dev nD) (t : Fin cfg1.N) (y) :
    k0_pay7 (F := Ideal) (iblk1 V c 0 t) y
      = val_main_v4 (F := Ideal) (V c main_arg0) (V c main_arg1) (((View.whole main_v1_0).slice (win1_4.rect t)).emb y) := by
  rw [grad_layer0 _ _ _ (by blk_point [place1 t]), total0]
  pointwise [k0_pay7, k0_pay4]
  blk_point [iblk1, place1 t]

/-- An index of a stacked array outside layer 0 is in layer 1. -/
theorem other {a : ℕ} (h : a < 2) (h' : ¬a / 1 = 0) : a = 1 := by omega

/-- The gradient after the first region: the reference's in layer 1, the entry's elsewhere. -/
theorem first_arr4 (c : Dev nD) : (dat0 V c).arrAt 4 cfg0.N = fun i => if (i (0 : Fin 3) : ℕ) / 1 = 1 then
      val_main_v4 (F := Ideal) (V c main_arg0) (V c main_arg1) i else V c main_v0_0 i := by
  refine (dat0 V c).arrAt_eq_of_coversWhere 4 _ (fun β => β (0 : Fin 3) = 1) (by decide +kernel) (fun t hf y => ?_)
    (fun j => Iff.rfl)
  blk_simp
  rw [after0_4]; frame_out
  exact grad0 V c t y

/-- The gradient after the second region, entered with the reference's in layer 1. -/
theorem second_arr4 (c : Dev nD) (h : ∀ i, (i (0 : Fin 3) : Fin 2).val = 1 →
      V c main_v1_0 i = val_main_v4 (F := Ideal) (V c main_arg0) (V c main_arg1) i) :
    (dat1 V c).arrAt 4 cfg1.N = val_main_v4 (F := Ideal) (V c main_arg0) (V c main_arg1) := by
  refine (dat1 V c).arrAt_eq_of_coversWhere_of_agree 4 _ (fun β => β (0 : Fin 3) = 0) (by decide +kernel)
    (fun t hf y => ?_) (fun j hj => h j (other (j (0 : Fin 3)).isLt hj))
  blk_simp
  rw [after1_4]; dsimp only [outsAt1]
  frame_out
  exact grad1 V c t y

/-- The change of the weight after the first region: the reference's in layer 1, the entry's elsewhere. -/
theorem first_arr5 (c : Dev nD) : (dat0 V c).arrAt 5 cfg0.N = fun i => if (i (0 : Fin 3) : ℕ) / 1 = 1 then
      val_main_v28 (F := Ideal) (V c main_arg0) (V c main_arg1) (V c main_arg2) (V c main_arg3) (V c main_arg4) i else V c main_v0_1 i := by
  refine (dat0 V c).arrAt_eq_of_coversWhere 5 _ (fun β => β (0 : Fin 3) = 1) (by decide +kernel) (fun t hf y => ?_)
    (fun j => Iff.rfl)
  blk_simp
  rw [after0_5]; frame_out
  refine Eq.trans (pay_change _ _ _ _ y) (Eq.trans ?_ (ref5 _ _ _ _ _ _).symm)
  refine AdamStep.change_congr (grad0 V c t y) ?_ ?_ ?_
  all_goals blk_point [iblk0, place0 t]

/-- The change of the weight after the second region, entered with the reference's in layer 1. -/
theorem second_arr5 (c : Dev nD) (h : ∀ i, (i (0 : Fin 3) : Fin 2).val = 1 →
      V c main_v1_1 i = val_main_v28 (F := Ideal) (V c main_arg0) (V c main_arg1) (V c main_arg2) (V c main_arg3) (V c main_arg4) i) :
    (dat1 V c).arrAt 5 cfg1.N = val_main_v28 (F := Ideal) (V c main_arg0) (V c main_arg1) (V c main_arg2) (V c main_arg3) (V c main_arg4) := by
  refine (dat1 V c).arrAt_eq_of_coversWhere_of_agree 5 _ (fun β => β (0 : Fin 3) = 0) (by decide +kernel)
    (fun t hf y => ?_) (fun j hj => h j (other (j (0 : Fin 3)).isLt hj))
  blk_simp
  rw [after1_5]; dsimp only [outsAt1]
  frame_out
  refine Eq.trans (pay_change _ _ _ _ y) (Eq.trans ?_ (ref5 _ _ _ _ _ _).symm)
  refine AdamStep.change_congr (grad1 V c t y) ?_ ?_ ?_
  all_goals blk_point [iblk1, place1 t]

/-- The new first moment after the first region: the reference's in layer 1, the entry's elsewhere. -/
theorem first_arr6 (c : Dev nD) : (dat0 V c).arrAt 6 cfg0.N = fun i => if (i (0 : Fin 3) : ℕ) / 1 = 1 then
      val_main_v9 (F := Ideal) (V c main_arg0) (V c main_arg1) (V c main_arg3) i else V c main_v0_2 i := by
  refine (dat0 V c).arrAt_eq_of_coversWhere 6 _ (fun β => β (0 : Fin 3) = 1) (by decide +kernel) (fun t hf y => ?_)
    (fun j => Iff.rfl)
  blk_simp
  rw [after0_6]; frame_out
  refine Eq.trans (pay_first _ _ y) (Eq.trans ?_ (ref6 _ _ _ _).symm)
  refine AdamStep.first_congr (grad0 V c t y) ?_
  all_goals blk_point [iblk0, place0 t]

/-- The new first moment after the second region, entered with the reference's in layer 1. -/
theorem second_arr6 (c : Dev nD) (h : ∀ i, (i (0 : Fin 3) : Fin 2).val = 1 →
      V c main_v1_2 i = val_main_v9 (F := Ideal) (V c main_arg0) (V c main_arg1) (V c main_arg3) i) :
    (dat1 V c).arrAt 6 cfg1.N = val_main_v9 (F := Ideal) (V c main_arg0) (V c main_arg1) (V c main_arg3) := by
  refine (dat1 V c).arrAt_eq_of_coversWhere_of_agree 6 _ (fun β => β (0 : Fin 3) = 0) (by decide +kernel)
    (fun t hf y => ?_) (fun j hj => h j (other (j (0 : Fin 3)).isLt hj))
  blk_simp
  rw [after1_6]; dsimp only [outsAt1]
  frame_out
  refine Eq.trans (pay_first _ _ y) (Eq.trans ?_ (ref6 _ _ _ _).symm)
  refine AdamStep.first_congr (grad1 V c t y) ?_
  all_goals blk_point [iblk1, place1 t]

/-- The new second moment after the first region: the reference's in layer 1, the entry's elsewhere. -/
theorem first_arr7 (c : Dev nD) : (dat0 V c).arrAt 7 cfg0.N = fun i => if (i (0 : Fin 3) : ℕ) / 1 = 1 then
      val_main_v15 (F := Ideal) (V c main_arg0) (V c main_arg1) (V c main_arg4) i else V c main_v0_3 i := by
  refine (dat0 V c).arrAt_eq_of_coversWhere 7 _ (fun β => β (0 : Fin 3) = 1) (by decide +kernel) (fun t hf y => ?_)
    (fun j => Iff.rfl)
  blk_simp
  rw [after0_7]; frame_out
  refine Eq.trans (pay_second _ _ y) (Eq.trans ?_ (ref7 _ _ _ _).symm)
  refine AdamStep.second_congr (grad0 V c t y) ?_
  all_goals blk_point [iblk0, place0 t]

/-- The new second moment after the second region, entered with the reference's in layer 1. -/
theorem second_arr7 (c : Dev nD) (h : ∀ i, (i (0 : Fin 3) : Fin 2).val = 1 →
      V c main_v1_3 i = val_main_v15 (F := Ideal) (V c main_arg0) (V c main_arg1) (V c main_arg4) i) :
    (dat1 V c).arrAt 7 cfg1.N = val_main_v15 (F := Ideal) (V c main_arg0) (V c main_arg1) (V c main_arg4) := by
  refine (dat1 V c).arrAt_eq_of_coversWhere_of_agree 7 _ (fun β => β (0 : Fin 3) = 0) (by decide +kernel)
    (fun t hf y => ?_) (fun j hj => h j (other (j (0 : Fin 3)).isLt hj))
  blk_simp
  rw [after1_7]; dsimp only [outsAt1]
  frame_out
  refine Eq.trans (pay_second _ _ y) (Eq.trans ?_ (ref7 _ _ _ _).symm)
  refine AdamStep.second_congr (grad1 V c t y) ?_
  all_goals blk_point [iblk1, place1 t]

end Cert.AdamAdaIdeal.Step

end
-- ==== Proof.AdamAdaRun.lean ====
/- The modulation's weight's step: what the two regions leave, one after the other, and the run that leaves it. -/
module

public import proofs.«01_k».proof.Proof.Gen.AdamAdaIdeal.Frame
public import proofs.«01_k».proof.Proof.Gen.AdamAdaRefIdeal.Read
public import proofs.«01_k».proof.Proof.AdamAdaValue
public import Idealize.ShloMosaic.Lib.StableHlo.RunRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamAdaIdeal.Step

open Cert.AdamAdaIdeal Cert.AdamAdaIdeal.Gen Cert.AdamAdaRefIdeal.Read

local notation "𝕄" => MT nD τ sig Unit (Elt Ideal) ℕ (UR sig nD τ) ℕ

variable (m : (ℓ : Loc nD τ sig) → Buf (Elt Ideal) ℓ) (ρ : Dev nD → PrngReg)

/-- The gradient between the regions is carried over whole. -/
theorem copy4 (c : Dev nD) : W2 (F := Ideal) m ρ c (Proc.devRef .tc main_v1_0) = W1 m ρ c (Proc.devRef .tc main_v0_0) := by
  unfold W2
  generalize W1 m ρ c = X
  after_reads_simp
  rfl

/-- The gradient at the end is the reference's. -/
theorem final4 (c : Dev nD) : W3 (F := Ideal) m ρ c (Proc.devRef .tc main_v1_0) = val_main_v4 (F := Ideal) (m ((c : Thread nD τ).loc main_arg0)) (m ((c : Thread nD τ).loc main_arg1)) := by
  have ha : val_main_v4 (F := Ideal) (V2 m ρ c main_arg0) (V2 m ρ c main_arg1) = val_main_v4 (F := Ideal) (m ((c : Thread nD τ).loc main_arg0)) (m ((c : Thread nD τ).loc main_arg1)) := by
    rw [show V2 m ρ c main_arg0 = m ((c : Thread nD τ).loc main_arg0) from W2_args m ρ c main_arg0 (by decide), show V2 m ρ c main_arg1 = m ((c : Thread nD τ).loc main_arg1) from W2_args m ρ c main_arg1 (by decide)]
  refine (W3_arr m ρ c 4).trans ((second_arr4 (V2 m ρ) c fun i h => ?_).trans ha)
  refine (congrFun (copy4 m ρ c) i).trans ((congrFun ((W1_arr m ρ c 4).trans (first_arr4 (V0 m ρ) c)) i).trans ?_)
  exact (if_pos (by rw [h])).trans (congrFun ha.symm i)

/-- The change of the weight between the regions is carried over whole. -/
theorem copy5 (c : Dev nD) : W2 (F := Ideal) m ρ c (Proc.devRef .tc main_v1_1) = W1 m ρ c (Proc.devRef .tc main_v0_1) := by
  unfold W2
  generalize W1 m ρ c = X
  after_reads_simp
  rfl

/-- The change of the weight at the end is the reference's. -/
theorem final5 (c : Dev nD) : W3 (F := Ideal) m ρ c (Proc.devRef .tc main_v1_1) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ha : val_main_v28 (F := Ideal) (V2 m ρ c main_arg0) (V2 m ρ c main_arg1) (V2 m ρ c main_arg2) (V2 m ρ c main_arg3) (V2 m ρ c main_arg4) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg2 = m ((c : Thread nD τ).loc main_arg2) from W2_args m ρ c main_arg2 (by decide), show V2 m ρ c main_arg3 = m ((c : Thread nD τ).loc main_arg3) from W2_args m ρ c main_arg3 (by decide), show V2 m ρ c main_arg4 = m ((c : Thread nD τ).loc main_arg4) from W2_args m ρ c main_arg4 (by decide)]
  refine (W3_arr m ρ c 5).trans ((second_arr5 (V2 m ρ) c fun i h => ?_).trans ha)
  refine (congrFun (copy5 m ρ c) i).trans ((congrFun ((W1_arr m ρ c 5).trans (first_arr5 (V0 m ρ) c)) i).trans ?_)
  exact (if_pos (by rw [h])).trans (congrFun ha.symm i)

/-- The new first moment between the regions is carried over whole. -/
theorem copy6 (c : Dev nD) : W2 (F := Ideal) m ρ c (Proc.devRef .tc main_v1_2) = W1 m ρ c (Proc.devRef .tc main_v0_2) := by
  unfold W2
  generalize W1 m ρ c = X
  after_reads_simp
  rfl

/-- The new first moment at the end is the reference's. -/
theorem final6 (c : Dev nD) : W3 (F := Ideal) m ρ c (Proc.devRef .tc main_v1_2) = val_main_v9 (F := Ideal) (m ((c : Thread nD τ).loc main_arg0)) (m ((c : Thread nD τ).loc main_arg1)) (m ((c : Thread nD τ).loc main_arg3)) := by
  have ha : val_main_v9 (F := Ideal) (V2 m ρ c main_arg0) (V2 m ρ c main_arg1) (V2 m ρ c main_arg3) = val_main_v9 (F := Ideal) (m ((c : Thread nD τ).loc main_arg0)) (m ((c : Thread nD τ).loc main_arg1)) (m ((c : Thread nD τ).loc main_arg3)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg3 = m ((c : Thread nD τ).loc main_arg3) from W2_args m ρ c main_arg3 (by decide)]
  refine (W3_arr m ρ c 6).trans ((second_arr6 (V2 m ρ) c fun i h => ?_).trans ha)
  refine (congrFun (copy6 m ρ c) i).trans ((congrFun ((W1_arr m ρ c 6).trans (first_arr6 (V0 m ρ) c)) i).trans ?_)
  exact (if_pos (by rw [h])).trans (congrFun ha.symm i)

/-- The new second moment between the regions is carried over whole. -/
theorem copy7 (c : Dev nD) : W2 (F := Ideal) m ρ c (Proc.devRef .tc main_v1_3) = W1 m ρ c (Proc.devRef .tc main_v0_3) := by
  unfold W2
  generalize W1 m ρ c = X
  after_reads_simp
  rfl

/-- The new second moment at the end is the reference's. -/
theorem final7 (c : Dev nD) : W3 (F := Ideal) m ρ c (Proc.devRef .tc main_v1_3) = val_main_v15 (F := Ideal) (m ((c : Thread nD τ).loc main_arg0)) (m ((c : Thread nD τ).loc main_arg1)) (m ((c : Thread nD τ).loc main_arg4)) := by
  have ha : val_main_v15 (F := Ideal) (V2 m ρ c main_arg0) (V2 m ρ c main_arg1) (V2 m ρ c main_arg4) = val_main_v15 (F := Ideal) (m ((c : Thread nD τ).loc main_arg0)) (m ((c : Thread nD τ).loc main_arg1)) (m ((c : Thread nD τ).loc main_arg4)) := by
    rw [show V2 m ρ c main_arg0 = m ((c : Thread nD τ).loc main_arg0) from W2_args m ρ c main_arg0 (by decide), show V2 m ρ c main_arg1 = m ((c : Thread nD τ).loc main_arg1) from W2_args m ρ c main_arg1 (by decide), show V2 m ρ c main_arg4 = m ((c : Thread nD τ).loc main_arg4) from W2_args m ρ c main_arg4 (by decide)]
  refine (W3_arr m ρ c 7).trans ((second_arr7 (V2 m ρ) c fun i h => ?_).trans ha)
  refine (congrFun (copy7 m ρ c) i).trans ((congrFun ((W1_arr m ρ c 7).trans (first_arr7 (V0 m ρ) c)) i).trans ?_)
  exact (if_pos (by rw [h])).trans (congrFun ha.symm i)

set_option backward.isDefEq.respectTransparency.types false in
/-- The run ends with the results at the last boundary's contents and the arguments unchanged. -/
theorem run : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamAdaIdeal.Step

end
-- ==== Proof.lean ====
module

public import proofs.«01_k».proof.Defs
public import proofs.«01_k».proof.Proof.PrenormValue
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.PostnormValue
public import proofs.«01_k».proof.Proof.Gen.PostnormIdeal.Value
public import proofs.«01_k».proof.Proof.Gen.PostnormRefIdeal.Run
public import proofs.«01_k».proof.Proof.Gen.PostnormRefIdeal.Read
public import proofs.«01_k».proof.Proof.Gen.Postnorm
public import proofs.«01_k».proof.Proof.Gen.Postnorm.Skeleton
public import proofs.«01_k».proof.Proof.Gen.Postnorm.Launch
public import proofs.«01_k».proof.Proof.Gen.Postnorm.Points
public import proofs.«01_k».proof.Proof.Gen.Postnorm.Frame
public import proofs.«01_k».proof.Proof.Gen.PostnormIdeal
public import proofs.«01_k».proof.Proof.Gen.PostnormIdeal.Skeleton
public import proofs.«01_k».proof.Proof.Gen.PostnormIdeal.Launch
public import proofs.«01_k».proof.Proof.Gen.PostnormIdeal.Points
public import proofs.«01_k».proof.Proof.Gen.PostnormIdeal.Frame
public import proofs.«01_k».proof.Proof.Gen.PostnormRefIdeal
public import proofs.«01_k».proof.Proof.PrenormBwdValue
public import proofs.«01_k».proof.Proof.Gen.PrenormBwdIdeal.Value
public import proofs.«01_k».proof.Proof.Gen.PrenormBwdRefIdeal.Run
public import proofs.«01_k».proof.Proof.Gen.PrenormBwdRefIdeal.Read
public import proofs.«01_k».proof.Proof.Gen.PrenormBwd
public import proofs.«01_k».proof.Proof.Gen.PrenormBwd.Skeleton
public import proofs.«01_k».proof.Proof.Gen.PrenormBwd.Launch
public import proofs.«01_k».proof.Proof.Gen.PrenormBwd.Points
public import proofs.«01_k».proof.Proof.Gen.PrenormBwd.Frame
public import proofs.«01_k».proof.Proof.Gen.PrenormBwdIdeal
public import proofs.«01_k».proof.Proof.Gen.PrenormBwdIdeal.Skeleton
public import proofs.«01_k».proof.Proof.Gen.PrenormBwdIdeal.Launch
public import proofs.«01_k».proof.Proof.Gen.PrenormBwdIdeal.Points
public import proofs.«01_k».proof.Proof.Gen.PrenormBwdIdeal.Frame
public import proofs.«01_k».proof.Proof.Gen.PrenormBwdRefIdeal
public import proofs.«01_k».proof.Proof.GatesValue
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.NormBack
public import proofs.«01_k».proof.Proof.Gen.Pre_finite
public import proofs.«01_k».proof.Proof.ConvTaps
public import proofs.«01_k».proof.Proof.GateValue
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.GateIdeal.Value
public import proofs.«01_k».proof.Proof.Gen.GateRefIdeal.Run
public import proofs.«01_k».proof.Proof.Gen.GateRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.AttnRun
public import proofs.«01_k».proof.Proof.AttnIdealRun
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.MlpDaValue
public import proofs.«01_k».proof.Proof.Gen.MlpDaIdeal.Value
public import proofs.«01_k».proof.Proof.Gen.MlpDaRefIdeal.Run
public import proofs.«01_k».proof.Proof.Gen.MlpDaRefIdeal.Read
public import proofs.«01_k».proof.Proof.Gen.MlpDa
public import proofs.«01_k».proof.Proof.Gen.MlpDa.Skeleton
public import proofs.«01_k».proof.Proof.Gen.MlpDa.Launch
public import proofs.«01_k».proof.Proof.Gen.MlpDa.Points
public import proofs.«01_k».proof.Proof.Gen.MlpDa.Frame
public import proofs.«01_k».proof.Proof.Gen.MlpDaIdeal
public import proofs.«01_k».proof.Proof.Gen.MlpDaIdeal.Skeleton
public import proofs.«01_k».proof.Proof.Gen.MlpDaIdeal.Launch
public import proofs.«01_k».proof.Proof.Gen.MlpDaIdeal.Points
public import proofs.«01_k».proof.Proof.Gen.MlpDaIdeal.Frame
public import proofs.«01_k».proof.Proof.Gen.MlpDaRefIdeal
public import proofs.«01_k».proof.Proof.MlpGwOutValue
public import proofs.«01_k».proof.Proof.Gen.MlpGwOutIdeal.Value
public import proofs.«01_k».proof.Proof.Gen.MlpGwOutRefIdeal.Run
public import proofs.«01_k».proof.Proof.Gen.MlpGwOutRefIdeal.Read
public import proofs.«01_k».proof.Proof.Gen.MlpGwOut
public import proofs.«01_k».proof.Proof.Gen.MlpGwOut.Skeleton
public import proofs.«01_k».proof.Proof.Gen.MlpGwOut.Launch
public import proofs.«01_k».proof.Proof.Gen.MlpGwOut.Points
public import proofs.«01_k».proof.Proof.Gen.MlpGwOut.Frame
public import proofs.«01_k».proof.Proof.Gen.MlpGwOutIdeal
public import proofs.«01_k».proof.Proof.Gen.MlpGwOutIdeal.Skeleton
public import proofs.«01_k».proof.Proof.Gen.MlpGwOutIdeal.Launch
public import proofs.«01_k».proof.Proof.Gen.MlpGwOutIdeal.Points
public import proofs.«01_k».proof.Proof.Gen.MlpGwOutIdeal.Frame
public import proofs.«01_k».proof.Proof.Gen.MlpGwOutRefIdeal
public import proofs.«01_k».proof.Proof.MlpDhValue
public import proofs.«01_k».proof.Proof.Gen.MlpDhIdeal.Value
public import proofs.«01_k».proof.Proof.Gen.MlpDhRefIdeal.Run
public import proofs.«01_k».proof.Proof.Gen.MlpDhRefIdeal.Read
public import proofs.«01_k».proof.Proof.Gen.MlpDh
public import proofs.«01_k».proof.Proof.Gen.MlpDh.Skeleton
public import proofs.«01_k».proof.Proof.Gen.MlpDh.Launch
public import proofs.«01_k».proof.Proof.Gen.MlpDh.Points
public import proofs.«01_k».proof.Proof.Gen.MlpDh.Frame
public import proofs.«01_k».proof.Proof.Gen.MlpDhIdeal
public import proofs.«01_k».proof.Proof.Gen.MlpDhIdeal.Skeleton
public import proofs.«01_k».proof.Proof.Gen.MlpDhIdeal.Launch
public import proofs.«01_k».proof.Proof.Gen.MlpDhIdeal.Points
public import proofs.«01_k».proof.Proof.Gen.MlpDhIdeal.Frame
public import proofs.«01_k».proof.Proof.Gen.MlpDhRefIdeal
public import proofs.«01_k».proof.Proof.MlpGwInValue
public import proofs.«01_k».proof.Proof.Gen.MlpGwInIdeal.Value
public import proofs.«01_k».proof.Proof.Gen.MlpGwInRefIdeal.Run
public import proofs.«01_k».proof.Proof.Gen.MlpGwInRefIdeal.Read
public import proofs.«01_k».proof.Proof.Gen.MlpGwIn
public import proofs.«01_k».proof.Proof.Gen.MlpGwIn.Skeleton
public import proofs.«01_k».proof.Proof.Gen.MlpGwIn.Launch
public import proofs.«01_k».proof.Proof.Gen.MlpGwIn.Points
public import proofs.«01_k».proof.Proof.Gen.MlpGwIn.Frame
public import proofs.«01_k».proof.Proof.Gen.MlpGwInIdeal
public import proofs.«01_k».proof.Proof.Gen.MlpGwInIdeal.Skeleton
public import proofs.«01_k».proof.Proof.Gen.MlpGwInIdeal.Launch
public import proofs.«01_k».proof.Proof.Gen.MlpGwInIdeal.Points
public import proofs.«01_k».proof.Proof.Gen.MlpGwInIdeal.Frame
public import proofs.«01_k».proof.Proof.Gen.MlpGwInRefIdeal
public import proofs.«01_k».proof.Proof.MixDmValue
public import proofs.«01_k».proof.Proof.Gen.MixDmIdeal.Value
public import proofs.«01_k».proof.Proof.Gen.MixDmRefIdeal.Run
public import proofs.«01_k».proof.Proof.Gen.MixDmRefIdeal.Read
public import proofs.«01_k».proof.Proof.Gen.MixDm
public import proofs.«01_k».proof.Proof.Gen.MixDm.Skeleton
public import proofs.«01_k».proof.Proof.Gen.MixDm.Launch
public import proofs.«01_k».proof.Proof.Gen.MixDm.Points
public import proofs.«01_k».proof.Proof.Gen.MixDm.Frame
public import proofs.«01_k».proof.Proof.Gen.MixDmIdeal
public import proofs.«01_k».proof.Proof.Gen.MixDmIdeal.Skeleton
public import proofs.«01_k».proof.Proof.Gen.MixDmIdeal.Launch
public import proofs.«01_k».proof.Proof.Gen.MixDmIdeal.Points
public import proofs.«01_k».proof.Proof.Gen.MixDmIdeal.Frame
public import proofs.«01_k».proof.Proof.Gen.MixDmRefIdeal
public import proofs.«01_k».proof.Proof.MixGwValue
public import proofs.«01_k».proof.Proof.Gen.MixGwIdeal.Value
public import proofs.«01_k».proof.Proof.Gen.MixGwRefIdeal.Run
public import proofs.«01_k».proof.Proof.Gen.MixGwRefIdeal.Read
public import proofs.«01_k».proof.Proof.Gen.MixGw
public import proofs.«01_k».proof.Proof.Gen.MixGw.Skeleton
public import proofs.«01_k».proof.Proof.Gen.MixGw.Launch
public import proofs.«01_k».proof.Proof.Gen.MixGw.Points
public import proofs.«01_k».proof.Proof.Gen.MixGw.Frame
public import proofs.«01_k».proof.Proof.Gen.MixGwIdeal
public import proofs.«01_k».proof.Proof.Gen.MixGwIdeal.Skeleton
public import proofs.«01_k».proof.Proof.Gen.MixGwIdeal.Launch
public import proofs.«01_k».proof.Proof.Gen.MixGwIdeal.Points
public import proofs.«01_k».proof.Proof.Gen.MixGwIdeal.Frame
public import proofs.«01_k».proof.Proof.Gen.MixGwRefIdeal
public import proofs.«01_k».proof.Proof.AttnDoValue
public import proofs.«01_k».proof.Proof.Gen.AttnDoIdeal.Value
public import proofs.«01_k».proof.Proof.Gen.AttnDoRefIdeal.Run
public import proofs.«01_k».proof.Proof.Gen.AttnDoRefIdeal.Read
public import proofs.«01_k».proof.Proof.Gen.AttnDo
public import proofs.«01_k».proof.Proof.Gen.AttnDo.Skeleton
public import proofs.«01_k».proof.Proof.Gen.AttnDo.Launch
public import proofs.«01_k».proof.Proof.Gen.AttnDo.Points
public import proofs.«01_k».proof.Proof.Gen.AttnDo.Frame
public import proofs.«01_k».proof.Proof.Gen.AttnDoIdeal
public import proofs.«01_k».proof.Proof.Gen.AttnDoIdeal.Skeleton
public import proofs.«01_k».proof.Proof.Gen.AttnDoIdeal.Launch
public import proofs.«01_k».proof.Proof.Gen.AttnDoIdeal.Points
public import proofs.«01_k».proof.Proof.Gen.AttnDoIdeal.Frame
public import proofs.«01_k».proof.Proof.Gen.AttnDoRefIdeal
public import proofs.«01_k».proof.Proof.AttnGwValue
public import proofs.«01_k».proof.Proof.Gen.AttnGwIdeal.Value
public import proofs.«01_k».proof.Proof.Gen.AttnGwRefIdeal.Run
public import proofs.«01_k».proof.Proof.Gen.AttnGwRefIdeal.Read
public import proofs.«01_k».proof.Proof.Gen.AttnGw
public import proofs.«01_k».proof.Proof.Gen.AttnGw.Skeleton
public import proofs.«01_k».proof.Proof.Gen.AttnGw.Launch
public import proofs.«01_k».proof.Proof.Gen.AttnGw.Points
public import proofs.«01_k».proof.Proof.Gen.AttnGw.Frame
public import proofs.«01_k».proof.Proof.Gen.AttnGwIdeal
public import proofs.«01_k».proof.Proof.Gen.AttnGwIdeal.Skeleton
public import proofs.«01_k».proof.Proof.Gen.AttnGwIdeal.Launch
public import proofs.«01_k».proof.Proof.Gen.AttnGwIdeal.Points
public import proofs.«01_k».proof.Proof.Gen.AttnGwIdeal.Frame
public import proofs.«01_k».proof.Proof.Gen.AttnGwRefIdeal
public import proofs.«01_k».proof.Proof.ConvDyValue
public import proofs.«01_k».proof.Proof.Gen.ConvDyIdeal.Value
public import proofs.«01_k».proof.Proof.Gen.ConvDyRefIdeal.Run
public import proofs.«01_k».proof.Proof.Gen.ConvDyRefIdeal.Read
public import proofs.«01_k».proof.Proof.Gen.ConvDy
public import proofs.«01_k».proof.Proof.Gen.ConvDy.Skeleton
public import proofs.«01_k».proof.Proof.Gen.ConvDy.Launch
public import proofs.«01_k».proof.Proof.Gen.ConvDy.Points
public import proofs.«01_k».proof.Proof.Gen.ConvDy.Frame
public import proofs.«01_k».proof.Proof.Gen.ConvDyIdeal
public import proofs.«01_k».proof.Proof.Gen.ConvDyIdeal.Skeleton
public import proofs.«01_k».proof.Proof.Gen.ConvDyIdeal.Launch
public import proofs.«01_k».proof.Proof.Gen.ConvDyIdeal.Points
public import proofs.«01_k».proof.Proof.Gen.ConvDyIdeal.Frame
public import proofs.«01_k».proof.Proof.Gen.ConvDyRefIdeal
public import proofs.«01_k».proof.Proof.ConvGwValue
public import proofs.«01_k».proof.Proof.Gen.ConvGwIdeal.Value
public import proofs.«01_k».proof.Proof.Gen.ConvGwRefIdeal.Run
public import proofs.«01_k».proof.Proof.Gen.ConvGwRefIdeal.Read
public import proofs.«01_k».proof.Proof.Gen.ConvGw
public import proofs.«01_k».proof.Proof.Gen.ConvGw.Skeleton
public import proofs.«01_k».proof.Proof.Gen.ConvGw.Launch
public import proofs.«01_k».proof.Proof.Gen.ConvGw.Points
public import proofs.«01_k».proof.Proof.Gen.ConvGw.Frame
public import proofs.«01_k».proof.Proof.Gen.ConvGwIdeal
public import proofs.«01_k».proof.Proof.Gen.ConvGwIdeal.Skeleton
public import proofs.«01_k».proof.Proof.Gen.ConvGwIdeal.Launch
public import proofs.«01_k».proof.Proof.Gen.ConvGwIdeal.Points
public import proofs.«01_k».proof.Proof.Gen.ConvGwIdeal.Frame
public import proofs.«01_k».proof.Proof.Gen.ConvGwRefIdeal
public import proofs.«01_k».proof.Proof.InGwValue
public import proofs.«01_k».proof.Proof.Gen.InGwIdeal.Value
public import proofs.«01_k».proof.Proof.Gen.InGwRefIdeal.Run
public import proofs.«01_k».proof.Proof.Gen.InGwRefIdeal.Read
public import proofs.«01_k».proof.Proof.Gen.InGw
public import proofs.«01_k».proof.Proof.Gen.InGw.Skeleton
public import proofs.«01_k».proof.Proof.Gen.InGw.Launch
public import proofs.«01_k».proof.Proof.Gen.InGw.Points
public import proofs.«01_k».proof.Proof.Gen.InGw.Frame
public import proofs.«01_k».proof.Proof.Gen.InGwIdeal
public import proofs.«01_k».proof.Proof.Gen.InGwIdeal.Skeleton
public import proofs.«01_k».proof.Proof.Gen.InGwIdeal.Launch
public import proofs.«01_k».proof.Proof.Gen.InGwIdeal.Points
public import proofs.«01_k».proof.Proof.Gen.InGwIdeal.Frame
public import proofs.«01_k».proof.Proof.Gen.InGwRefIdeal
public import proofs.«01_k».proof.Proof.InDhValue
public import proofs.«01_k».proof.Proof.Gen.InDhIdeal.Value
public import proofs.«01_k».proof.Proof.Gen.InDhRefIdeal.Run
public import proofs.«01_k».proof.Proof.Gen.InDhRefIdeal.Read
public import proofs.«01_k».proof.Proof.Gen.InDh
public import proofs.«01_k».proof.Proof.Gen.InDh.Skeleton
public import proofs.«01_k».proof.Proof.Gen.InDh.Launch
public import proofs.«01_k».proof.Proof.Gen.InDh.Points
public import proofs.«01_k».proof.Proof.Gen.InDh.Frame
public import proofs.«01_k».proof.Proof.Gen.InDhIdeal
public import proofs.«01_k».proof.Proof.Gen.InDhIdeal.Skeleton
public import proofs.«01_k».proof.Proof.Gen.InDhIdeal.Launch
public import proofs.«01_k».proof.Proof.Gen.InDhIdeal.Points
public import proofs.«01_k».proof.Proof.Gen.InDhIdeal.Frame
public import proofs.«01_k».proof.Proof.Gen.InDhRefIdeal
public import proofs.«01_k».proof.Proof.InProjValue
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.ConvOutValue
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutRefIdeal
public import proofs.«01_k».proof.Proof.AttnOutValue
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import proofs.«01_k».proof.Proof.MixOutValue
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.MlpInValue
public import proofs.«01_k».proof.Proof.Gen.MlpInIdeal.Value
public import proofs.«01_k».proof.Proof.Gen.MlpInRefIdeal.Run
public import proofs.«01_k».proof.Proof.Gen.MlpInRefIdeal.Read
public import proofs.«01_k».proof.Proof.Gen.MlpIn
public import proofs.«01_k».proof.Proof.Gen.MlpIn.Skeleton
public import proofs.«01_k».proof.Proof.Gen.MlpIn.Launch
public import proofs.«01_k».proof.Proof.Gen.MlpIn.Points
public import proofs.«01_k».proof.Proof.Gen.MlpIn.Frame
public import proofs.«01_k».proof.Proof.Gen.MlpInIdeal
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.MlpInRefIdeal
public import proofs.«01_k».proof.Proof.MlpOutValue
public import proofs.«01_k».proof.Proof.Gen.MlpOutIdeal.Value
public import proofs.«01_k».proof.Proof.Gen.MlpOutRefIdeal.Run
public import proofs.«01_k».proof.Proof.Gen.MlpOutRefIdeal.Read
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.MlpOutRefIdeal
public import proofs.«01_k».proof.Proof.AdamGainValue
public import proofs.«01_k».proof.Proof.Gen.AdamGainIdeal.Value
public import proofs.«01_k».proof.Proof.Gen.AdamGainRefIdeal.Run
public import proofs.«01_k».proof.Proof.Gen.AdamGainRefIdeal.Read
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainRefIdeal
public import proofs.«01_k».proof.Proof.AdamBAdaValue
public import proofs.«01_k».proof.Proof.Gen.AdamBAdaIdeal.Value
public import proofs.«01_k».proof.Proof.Gen.AdamBAdaRefIdeal.Run
public import proofs.«01_k».proof.Proof.Gen.AdamBAdaRefIdeal.Read
public import proofs.«01_k».proof.Proof.Gen.AdamBAda
public import proofs.«01_k».proof.Proof.Gen.AdamBAda.Skeleton
public import proofs.«01_k».proof.Proof.Gen.AdamBAda.Launch
public import proofs.«01_k».proof.Proof.Gen.AdamBAda.Points
public import proofs.«01_k».proof.Proof.Gen.AdamBAda.Frame
public import proofs.«01_k».proof.Proof.Gen.AdamBAdaIdeal
public import proofs.«01_k».proof.Proof.Gen.AdamBAdaIdeal.Skeleton
public import proofs.«01_k».proof.Proof.Gen.AdamBAdaIdeal.Launch
public import proofs.«01_k».proof.Proof.Gen.AdamBAdaIdeal.Points
public import proofs.«01_k».proof.Proof.Gen.AdamBAdaIdeal.Frame
public import proofs.«01_k».proof.Proof.Gen.AdamBAdaRefIdeal
public import proofs.«01_k».proof.Proof.AdamConvWValue
public import proofs.«01_k».proof.Proof.Gen.AdamConvWIdeal.Value
public import proofs.«01_k».proof.Proof.Gen.AdamConvWRefIdeal.Run
public import proofs.«01_k».proof.Proof.Gen.AdamConvWRefIdeal.Read
public import proofs.«01_k».proof.Proof.Gen.AdamConvW
public import proofs.«01_k».proof.Proof.Gen.AdamConvW.Skeleton
public import proofs.«01_k».proof.Proof.Gen.AdamConvW.Launch
public import proofs.«01_k».proof.Proof.Gen.AdamConvW.Points
public import proofs.«01_k».proof.Proof.Gen.AdamConvW.Frame
public import proofs.«01_k».proof.Proof.Gen.AdamConvWIdeal
public import proofs.«01_k».proof.Proof.Gen.AdamConvWIdeal.Skeleton
public import proofs.«01_k».proof.Proof.Gen.AdamConvWIdeal.Launch
public import proofs.«01_k».proof.Proof.Gen.AdamConvWIdeal.Points
public import proofs.«01_k».proof.Proof.Gen.AdamConvWIdeal.Frame
public import proofs.«01_k».proof.Proof.Gen.AdamConvWRefIdeal
public import proofs.«01_k».proof.Proof.AdamInValue
public import proofs.«01_k».proof.Proof.AdamInRun
public import proofs.«01_k».proof.Proof.Gen.AdamInRefIdeal.Run
public import proofs.«01_k».proof.Proof.Gen.AdamInRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.AdamProjValue
public import proofs.«01_k».proof.Proof.AdamProjRun
public import proofs.«01_k».proof.Proof.Gen.AdamProjRefIdeal.Run
public import proofs.«01_k».proof.Proof.Gen.AdamProjRefIdeal.Read
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjRefIdeal
public import proofs.«01_k».proof.Proof.AdamOutValue
public import proofs.«01_k».proof.Proof.AdamOutRun
public import proofs.«01_k».proof.Proof.Gen.AdamOutRefIdeal.Run
public import proofs.«01_k».proof.Proof.Gen.AdamOutRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.AdamMlpInValue
public import proofs.«01_k».proof.Proof.AdamMlpInRun
public import proofs.«01_k».proof.Proof.Gen.AdamMlpInRefIdeal.Run
public import proofs.«01_k».proof.Proof.Gen.AdamMlpInRefIdeal.Read
public import proofs.«01_k».proof.Proof.Gen.AdamMlpIn
public import proofs.«01_k».proof.Proof.Gen.AdamMlpIn.Skeleton
public import proofs.«01_k».proof.Proof.Gen.AdamMlpIn.Launch
public import proofs.«01_k».proof.Proof.Gen.AdamMlpIn.Points
public import proofs.«01_k».proof.Proof.Gen.AdamMlpIn.Frame
public import proofs.«01_k».proof.Proof.Gen.AdamMlpInIdeal
public import proofs.«01_k».proof.Proof.Gen.AdamMlpInIdeal.Skeleton
public import proofs.«01_k».proof.Proof.Gen.AdamMlpInIdeal.Launch
public import proofs.«01_k».proof.Proof.Gen.AdamMlpInIdeal.Points
public import proofs.«01_k».proof.Proof.Gen.AdamMlpInIdeal.Frame
public import proofs.«01_k».proof.Proof.Gen.AdamMlpInRefIdeal
public import proofs.«01_k».proof.Proof.AdamMlpOutValue
public import proofs.«01_k».proof.Proof.AdamMlpOutRun
public import proofs.«01_k».proof.Proof.Gen.AdamMlpOutRefIdeal.Run
public import proofs.«01_k».proof.Proof.Gen.AdamMlpOutRefIdeal.Read
public import proofs.«01_k».proof.Proof.Gen.AdamMlpOut
public import proofs.«01_k».proof.Proof.Gen.AdamMlpOut.Skeleton
public import proofs.«01_k».proof.Proof.Gen.AdamMlpOut.Launch
public import proofs.«01_k».proof.Proof.Gen.AdamMlpOut.Points
public import proofs.«01_k».proof.Proof.Gen.AdamMlpOut.Frame
public import proofs.«01_k».proof.Proof.Gen.AdamMlpOutIdeal
public import proofs.«01_k».proof.Proof.Gen.AdamMlpOutIdeal.Skeleton
public import proofs.«01_k».proof.Proof.Gen.AdamMlpOutIdeal.Launch
public import proofs.«01_k».proof.Proof.Gen.AdamMlpOutIdeal.Points
public import proofs.«01_k».proof.Proof.Gen.AdamMlpOutIdeal.Frame
public import proofs.«01_k».proof.Proof.Gen.AdamMlpOutRefIdeal
public import proofs.«01_k».proof.Proof.AdamAdaValue
public import proofs.«01_k».proof.Proof.AdamAdaRun
public import proofs.«01_k».proof.Proof.Gen.AdamAdaRefIdeal.Run
public import proofs.«01_k».proof.Proof.Gen.AdamAdaRefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaRefIdeal
public import Idealize.ShloMosaic.Adequacy
public import Idealize.ShloMosaic.Init

@[expose] public section

noncomputable section

namespace Cert.Proof

open Idealize.ShloMosaic Idealize.SL.Sem Cert.Conv

/-- The convolution's gradient: the kernel and the reference end with the same six results. -/
theorem conv : algebraic_ConvIdeal_ConvRefIdeal (hConvIdeal := Cert.ConvIdeal.Gen.facts) (hConvRefIdeal := Cert.ConvRefIdeal.Gen.facts) := by
  intro m g m' g' _ hagree
  refine ⟨fun c => (Cert.ConvIdeal.Gen.dats m 0 c).arrAt 9 Cert.ConvIdeal.cfg0.N, fun c => (Cert.ConvIdeal.Gen.dats m 0 c).arrAt 10 Cert.ConvIdeal.cfg0.N, fun c => (Cert.ConvIdeal.Gen.dats m 0 c).arrAt 11 Cert.ConvIdeal.cfg0.N, fun c => (Cert.ConvIdeal.Gen.dats m 0 c).arrAt 12 Cert.ConvIdeal.cfg0.N, fun c => (Cert.ConvIdeal.Gen.dats m 0 c).arrAt 13 Cert.ConvIdeal.cfg0.N, fun c => (Cert.ConvIdeal.Gen.dats m 0 c).arrAt 14 Cert.ConvIdeal.cfg0.N,
    Cert.ConvIdeal.Value.run_blocks m g, (θ_run _ _ _).mono (fun r h c => ?_) (Cert.ConvRefIdeal.Value.run m' g')⟩
  obtain ⟨h9, h10, h11, h12, h13, h14, rest⟩ := h c
  obtain ⟨a0, a1, a2⟩ := hagree c
  exact ⟨h9.trans ((Cert.ConvRefIdeal.Read.val_main_v67_eq _ _ _).trans (by
      rw [a0, a1, a2]; exact (Cert.ConvIdeal.Step.final9 m c).symm)),
    h10.trans ((Cert.ConvRefIdeal.Read.val_main_v68_eq _ _ _).trans (by
      rw [a0, a1, a2]; exact (Cert.ConvIdeal.Step.final10 m c).symm)),
    h11.trans ((Cert.ConvRefIdeal.Read.val_main_v69_eq _ _ _).trans (by
      rw [a0, a1, a2]; exact (Cert.ConvIdeal.Step.final11 m c).symm)),
    h12.trans ((Cert.ConvRefIdeal.Read.val_main_v70_eq _ _).trans (by
      rw [a0, a1]; exact (Cert.ConvIdeal.Step.final12 m c).symm)),
    h13.trans ((Cert.ConvRefIdeal.Read.val_main_v71_eq _ _).trans (by
      rw [a0, a1]; exact (Cert.ConvIdeal.Step.final13 m c).symm)),
    h14.trans ((Cert.ConvRefIdeal.Read.val_main_v72_eq _ _).trans (by
      rw [a0, a1]; exact (Cert.ConvIdeal.Step.final14 m c).symm)), rest⟩

/-- The gate's gradient: the kernel and the reference end with the same four results. -/
theorem gate : algebraic_GateIdeal_GateRefIdeal (hGateIdeal := Cert.GateIdeal.Gen.facts) (hGateRefIdeal := Cert.GateRefIdeal.Gen.facts) := by
  intro m g m' g' _ hagree
  refine ⟨fun c => (Cert.GateIdeal.Gen.dats m 0 c).arrAt 5 Cert.GateIdeal.cfg0.N, fun c => (Cert.GateIdeal.Gen.dats m 0 c).arrAt 6 Cert.GateIdeal.cfg0.N, fun c => (Cert.GateIdeal.Gen.dats m 0 c).arrAt 7 Cert.GateIdeal.cfg0.N, fun c => (Cert.GateIdeal.Gen.dats m 0 c).arrAt 8 Cert.GateIdeal.cfg0.N,
    Cert.GateIdeal.Value.run_blocks m g, (θ_run _ _ _).mono (fun r h c => ?_) (Cert.GateRefIdeal.Value.run m' g')⟩
  obtain ⟨h5, h6, h7, h8, rest⟩ := h c
  obtain ⟨a0, a1, a2, a3⟩ := hagree c
  exact ⟨h5.trans ((Cert.GateRefIdeal.Read.val_main_v32_eq _ _).trans (by
      rw [a0, a1]; exact (Cert.GateIdeal.Step.final5 m c).symm)),
    h6.trans ((Cert.GateRefIdeal.Read.val_main_v33_eq _ _).trans (by
      rw [a0, a1]; exact (Cert.GateIdeal.Step.final6 m c).symm)),
    h7.trans ((Cert.GateRefIdeal.Read.val_main_v34_eq _ _ _).trans (by
      rw [a0, a1, a2]; exact (Cert.GateIdeal.Step.final7 m c).symm)),
    h8.trans ((Cert.GateRefIdeal.Read.val_main_v35_eq _ _ _).trans (by
      rw [a0, a1, a3]; exact (Cert.GateIdeal.Step.final8 m c).symm)), rest⟩

/-- The reference runs, keeps its arguments and declares no semaphore. -/
theorem convRef : quiescent_ConvRefIdeal (hConvRefIdeal := Cert.ConvRefIdeal.Gen.facts) := fun m ρ _ =>
  (θ_run _ _ _).mono (fun r h => ⟨fun c => (h c).2.2.2.2.2.2, sem_eq_zero_of_no_sems (by decide) r.2⟩) (Cert.ConvRefIdeal.Value.run m ρ)

/-- The reference runs, keeps its arguments and declares no semaphore. -/
theorem gateRef : quiescent_GateRefIdeal (hGateRefIdeal := Cert.GateRefIdeal.Gen.facts) := fun m ρ _ =>
  (θ_run _ _ _).mono (fun r h => ⟨fun c => (h c).2.2.2.2, sem_eq_zero_of_no_sems (by decide) r.2⟩) (Cert.GateRefIdeal.Value.run m ρ)

/-- The hidden layer's gradient: the kernel and the reference end with the same result. -/
theorem mlpDa : algebraic_MlpDaIdeal_MlpDaRefIdeal (hMlpDaIdeal := Cert.MlpDaIdeal.Gen.facts) (hMlpDaRefIdeal := Cert.MlpDaRefIdeal.Gen.facts) := by
  intro m g m' g' _ hagree
  refine ⟨fun c => (Cert.MlpDaIdeal.Gen.dats m 0 c).arrAt 3 Cert.MlpDaIdeal.cfg0.N,
    Cert.MlpDaIdeal.Value.run_blocks m g, (θ_run _ _ _).mono (fun r h c => ?_) (Cert.MlpDaRefIdeal.Value.run m' g')⟩
  obtain ⟨h3, rest⟩ := h c
  obtain ⟨a0, a1, a2⟩ := hagree c
  exact ⟨h3.trans ((Cert.MlpDaRefIdeal.Read.val_main_v15_eq _ _ _).trans (by
      rw [a0, a1, a2]; exact (Cert.MlpDaIdeal.Step.final3 m c).symm)), rest⟩

/-- The reference runs, keeps its arguments and declares no semaphore. -/
theorem mlpDaRef : quiescent_MlpDaRefIdeal (hMlpDaRefIdeal := Cert.MlpDaRefIdeal.Gen.facts) := fun m ρ _ =>
  (θ_run _ _ _).mono (fun r h => ⟨fun c => (h c).2, sem_eq_zero_of_no_sems (by decide) r.2⟩) (Cert.MlpDaRefIdeal.Value.run m ρ)

/-- The channel mixer's second weight's gradient: the kernel and the reference end with the same result. -/
theorem mlpGwOut : algebraic_MlpGwOutIdeal_MlpGwOutRefIdeal (hMlpGwOutIdeal := Cert.MlpGwOutIdeal.Gen.facts) (hMlpGwOutRefIdeal := Cert.MlpGwOutRefIdeal.Gen.facts) := by
  intro m g m' g' _ hagree
  refine ⟨fun c => (Cert.MlpGwOutIdeal.Gen.dats m 0 c).arrAt 2 Cert.MlpGwOutIdeal.cfg0.N,
    Cert.MlpGwOutIdeal.Value.run_blocks m g, (θ_run _ _ _).mono (fun r h c => ?_) (Cert.MlpGwOutRefIdeal.Value.run m' g')⟩
  obtain ⟨h2, rest⟩ := h c
  obtain ⟨a0, a1⟩ := hagree c
  exact ⟨h2.trans ((Cert.MlpGwOutRefIdeal.Read.val_main_v6_eq _ _).trans (by
      rw [a0, a1]; exact (Cert.MlpGwOutIdeal.Step.final2 m c).symm)), rest⟩

/-- The reference runs, keeps its arguments and declares no semaphore. -/
theorem mlpGwOutRef : quiescent_MlpGwOutRefIdeal (hMlpGwOutRefIdeal := Cert.MlpGwOutRefIdeal.Gen.facts) := fun m ρ _ =>
  (θ_run _ _ _).mono (fun r h => ⟨fun c => (h c).2, sem_eq_zero_of_no_sems (by decide) r.2⟩) (Cert.MlpGwOutRefIdeal.Value.run m ρ)

/-- The channel mixer's input's gradient: the kernel and the reference end with the same result. -/
theorem mlpDh : algebraic_MlpDhIdeal_MlpDhRefIdeal (hMlpDhIdeal := Cert.MlpDhIdeal.Gen.facts) (hMlpDhRefIdeal := Cert.MlpDhRefIdeal.Gen.facts) := by
  intro m g m' g' _ hagree
  refine ⟨fun c => (Cert.MlpDhIdeal.Gen.dats m 0 c).arrAt 2 Cert.MlpDhIdeal.cfg0.N,
    Cert.MlpDhIdeal.Value.run_blocks m g, (θ_run _ _ _).mono (fun r h c => ?_) (Cert.MlpDhRefIdeal.Value.run m' g')⟩
  obtain ⟨h2, rest⟩ := h c
  obtain ⟨a0, a1⟩ := hagree c
  exact ⟨h2.trans ((Cert.MlpDhRefIdeal.Read.val_main_v4_eq _ _).trans (by
      rw [a0, a1]; exact (Cert.MlpDhIdeal.Step.final2 m c).symm)), rest⟩

/-- The reference runs, keeps its arguments and declares no semaphore. -/
theorem mlpDhRef : quiescent_MlpDhRefIdeal (hMlpDhRefIdeal := Cert.MlpDhRefIdeal.Gen.facts) := fun m ρ _ =>
  (θ_run _ _ _).mono (fun r h => ⟨fun c => (h c).2, sem_eq_zero_of_no_sems (by decide) r.2⟩) (Cert.MlpDhRefIdeal.Value.run m ρ)

/-- The channel mixer's first weight's gradient: the kernel and the reference end with the same result. -/
theorem mlpGwIn : algebraic_MlpGwInIdeal_MlpGwInRefIdeal (hMlpGwInIdeal := Cert.MlpGwInIdeal.Gen.facts) (hMlpGwInRefIdeal := Cert.MlpGwInRefIdeal.Gen.facts) := by
  intro m g m' g' _ hagree
  refine ⟨fun c => (Cert.MlpGwInIdeal.Gen.dats m 0 c).arrAt 2 Cert.MlpGwInIdeal.cfg0.N,
    Cert.MlpGwInIdeal.Value.run_blocks m g, (θ_run _ _ _).mono (fun r h c => ?_) (Cert.MlpGwInRefIdeal.Value.run m' g')⟩
  obtain ⟨h2, rest⟩ := h c
  obtain ⟨a0, a1⟩ := hagree c
  exact ⟨h2.trans ((Cert.MlpGwInRefIdeal.Read.val_main_v6_eq _ _).trans (by
      rw [a0, a1]; exact (Cert.MlpGwInIdeal.Step.final2 m c).symm)), rest⟩

/-- The reference runs, keeps its arguments and declares no semaphore. -/
theorem mlpGwInRef : quiescent_MlpGwInRefIdeal (hMlpGwInRefIdeal := Cert.MlpGwInRefIdeal.Gen.facts) := fun m ρ _ =>
  (θ_run _ _ _).mono (fun r h => ⟨fun c => (h c).2, sem_eq_zero_of_no_sems (by decide) r.2⟩) (Cert.MlpGwInRefIdeal.Value.run m ρ)

/-- The merge's gradient: the kernel and the reference end with the same result. -/
theorem mixDm : algebraic_MixDmIdeal_MixDmRefIdeal (hMixDmIdeal := Cert.MixDmIdeal.Gen.facts) (hMixDmRefIdeal := Cert.MixDmRefIdeal.Gen.facts) := by
  intro m g m' g' _ hagree
  refine ⟨fun c => (Cert.MixDmIdeal.Gen.dats m 0 c).arrAt 2 Cert.MixDmIdeal.cfg0.N,
    Cert.MixDmIdeal.Value.run_blocks m g, (θ_run _ _ _).mono (fun r h c => ?_) (Cert.MixDmRefIdeal.Value.run m' g')⟩
  obtain ⟨h2, rest⟩ := h c
  obtain ⟨a0, a1⟩ := hagree c
  exact ⟨h2.trans ((Cert.MixDmRefIdeal.Read.val_main_v5_eq _ _).trans (by
      rw [a0, a1]; exact (Cert.MixDmIdeal.Step.final2 m c).symm)), rest⟩

/-- The reference runs, keeps its arguments and declares no semaphore. -/
theorem mixDmRef : quiescent_MixDmRefIdeal (hMixDmRefIdeal := Cert.MixDmRefIdeal.Gen.facts) := fun m ρ _ =>
  (θ_run _ _ _).mono (fun r h => ⟨fun c => (h c).2, sem_eq_zero_of_no_sems (by decide) r.2⟩) (Cert.MixDmRefIdeal.Value.run m ρ)

/-- The output weight's gradient: the kernel and the reference end with the same result. -/
theorem mixGw : algebraic_MixGwIdeal_MixGwRefIdeal (hMixGwIdeal := Cert.MixGwIdeal.Gen.facts) (hMixGwRefIdeal := Cert.MixGwRefIdeal.Gen.facts) := by
  intro m g m' g' _ hagree
  refine ⟨fun c => (Cert.MixGwIdeal.Gen.dats m 0 c).arrAt 2 Cert.MixGwIdeal.cfg0.N,
    Cert.MixGwIdeal.Value.run_blocks m g, (θ_run _ _ _).mono (fun r h c => ?_) (Cert.MixGwRefIdeal.Value.run m' g')⟩
  obtain ⟨h2, rest⟩ := h c
  obtain ⟨a0, a1⟩ := hagree c
  exact ⟨h2.trans ((Cert.MixGwRefIdeal.Read.val_main_v6_eq _ _).trans (by
      rw [a0, a1]; exact (Cert.MixGwIdeal.Step.final2 m c).symm)), rest⟩

/-- The reference runs, keeps its arguments and declares no semaphore. -/
theorem mixGwRef : quiescent_MixGwRefIdeal (hMixGwRefIdeal := Cert.MixGwRefIdeal.Gen.facts) := fun m ρ _ =>
  (θ_run _ _ _).mono (fun r h => ⟨fun c => (h c).2, sem_eq_zero_of_no_sems (by decide) r.2⟩) (Cert.MixGwRefIdeal.Value.run m ρ)

/-- The gradient at the attention's result: the kernel and the reference end with the same result. -/
theorem attnDo : algebraic_AttnDoIdeal_AttnDoRefIdeal (hAttnDoIdeal := Cert.AttnDoIdeal.Gen.facts) (hAttnDoRefIdeal := Cert.AttnDoRefIdeal.Gen.facts) := by
  intro m g m' g' _ hagree
  refine ⟨fun c => (Cert.AttnDoIdeal.Gen.dats m 0 c).arrAt 2 Cert.AttnDoIdeal.cfg0.N,
    Cert.AttnDoIdeal.Value.run_blocks m g, (θ_run _ _ _).mono (fun r h c => ?_) (Cert.AttnDoRefIdeal.Value.run m' g')⟩
  obtain ⟨h2, rest⟩ := h c
  obtain ⟨a0, a1⟩ := hagree c
  exact ⟨h2.trans ((Cert.AttnDoRefIdeal.Read.val_main_v5_eq _ _).trans (by
      rw [a0, a1]; exact (Cert.AttnDoIdeal.Step.final2 m c).symm)), rest⟩

/-- The reference runs, keeps its arguments and declares no semaphore. -/
theorem attnDoRef : quiescent_AttnDoRefIdeal (hAttnDoRefIdeal := Cert.AttnDoRefIdeal.Gen.facts) := fun m ρ _ =>
  (θ_run _ _ _).mono (fun r h => ⟨fun c => (h c).2, sem_eq_zero_of_no_sems (by decide) r.2⟩) (Cert.AttnDoRefIdeal.Value.run m ρ)

/-- The attention's projection's gradient: the kernel and the reference end with the same result. -/
theorem attnGw : algebraic_AttnGwIdeal_AttnGwRefIdeal (hAttnGwIdeal := Cert.AttnGwIdeal.Gen.facts) (hAttnGwRefIdeal := Cert.AttnGwRefIdeal.Gen.facts) := by
  intro m g m' g' _ hagree
  refine ⟨fun c => (Cert.AttnGwIdeal.Gen.dats m 0 c).arrAt 2 Cert.AttnGwIdeal.cfg0.N,
    Cert.AttnGwIdeal.Value.run_blocks m g, (θ_run _ _ _).mono (fun r h c => ?_) (Cert.AttnGwRefIdeal.Value.run m' g')⟩
  obtain ⟨h2, rest⟩ := h c
  obtain ⟨a0, a1⟩ := hagree c
  exact ⟨h2.trans ((Cert.AttnGwRefIdeal.Read.val_main_v6_eq _ _).trans (by
      rw [a0, a1]; exact (Cert.AttnGwIdeal.Step.final2 m c).symm)), rest⟩

/-- The reference runs, keeps its arguments and declares no semaphore. -/
theorem attnGwRef : quiescent_AttnGwRefIdeal (hAttnGwRefIdeal := Cert.AttnGwRefIdeal.Gen.facts) := fun m ρ _ =>
  (θ_run _ _ _).mono (fun r h => ⟨fun c => (h c).2, sem_eq_zero_of_no_sems (by decide) r.2⟩) (Cert.AttnGwRefIdeal.Value.run m ρ)

/-- The gradient at the convolution's result: the kernel and the reference end with the same result. -/
theorem convDy : algebraic_ConvDyIdeal_ConvDyRefIdeal (hConvDyIdeal := Cert.ConvDyIdeal.Gen.facts) (hConvDyRefIdeal := Cert.ConvDyRefIdeal.Gen.facts) := by
  intro m g m' g' _ hagree
  refine ⟨fun c => (Cert.ConvDyIdeal.Gen.dats m 0 c).arrAt 2 Cert.ConvDyIdeal.cfg0.N,
    Cert.ConvDyIdeal.Value.run_blocks m g, (θ_run _ _ _).mono (fun r h c => ?_) (Cert.ConvDyRefIdeal.Value.run m' g')⟩
  obtain ⟨h2, rest⟩ := h c
  obtain ⟨a0, a1⟩ := hagree c
  exact ⟨h2.trans ((Cert.ConvDyRefIdeal.Read.val_main_v4_eq _ _).trans (by
      rw [a0, a1]; exact (Cert.ConvDyIdeal.Step.final2 m c).symm)), rest⟩

/-- The reference runs, keeps its arguments and declares no semaphore. -/
theorem convDyRef : quiescent_ConvDyRefIdeal (hConvDyRefIdeal := Cert.ConvDyRefIdeal.Gen.facts) := fun m ρ _ =>
  (θ_run _ _ _).mono (fun r h => ⟨fun c => (h c).2, sem_eq_zero_of_no_sems (by decide) r.2⟩) (Cert.ConvDyRefIdeal.Value.run m ρ)

/-- The convolution's projection's gradient: the kernel and the reference end with the same result. -/
theorem convGw : algebraic_ConvGwIdeal_ConvGwRefIdeal (hConvGwIdeal := Cert.ConvGwIdeal.Gen.facts) (hConvGwRefIdeal := Cert.ConvGwRefIdeal.Gen.facts) := by
  intro m g m' g' _ hagree
  refine ⟨fun c => (Cert.ConvGwIdeal.Gen.dats m 0 c).arrAt 2 Cert.ConvGwIdeal.cfg0.N,
    Cert.ConvGwIdeal.Value.run_blocks m g, (θ_run _ _ _).mono (fun r h c => ?_) (Cert.ConvGwRefIdeal.Value.run m' g')⟩
  obtain ⟨h2, rest⟩ := h c
  obtain ⟨a0, a1⟩ := hagree c
  exact ⟨h2.trans ((Cert.ConvGwRefIdeal.Read.val_main_v6_eq _ _).trans (by
      rw [a0, a1]; exact (Cert.ConvGwIdeal.Step.final2 m c).symm)), rest⟩

/-- The reference runs, keeps its arguments and declares no semaphore. -/
theorem convGwRef : quiescent_ConvGwRefIdeal (hConvGwRefIdeal := Cert.ConvGwRefIdeal.Gen.facts) := fun m ρ _ =>
  (θ_run _ _ _).mono (fun r h => ⟨fun c => (h c).2, sem_eq_zero_of_no_sems (by decide) r.2⟩) (Cert.ConvGwRefIdeal.Value.run m ρ)

/-- The combined projection's gradient: the kernel and the reference end with the same result. -/
theorem inGw : algebraic_InGwIdeal_InGwRefIdeal (hInGwIdeal := Cert.InGwIdeal.Gen.facts) (hInGwRefIdeal := Cert.InGwRefIdeal.Gen.facts) := by
  intro m g m' g' _ hagree
  refine ⟨fun c => (Cert.InGwIdeal.Gen.dats m 0 c).arrAt 2 Cert.InGwIdeal.cfg0.N,
    Cert.InGwIdeal.Value.run_blocks m g, (θ_run _ _ _).mono (fun r h c => ?_) (Cert.InGwRefIdeal.Value.run m' g')⟩
  obtain ⟨h2, rest⟩ := h c
  obtain ⟨a0, a1⟩ := hagree c
  exact ⟨h2.trans ((Cert.InGwRefIdeal.Read.val_main_v6_eq _ _).trans (by
      rw [a0, a1]; exact (Cert.InGwIdeal.Step.final2 m c).symm)), rest⟩

/-- The reference runs, keeps its arguments and declares no semaphore. -/
theorem inGwRef : quiescent_InGwRefIdeal (hInGwRefIdeal := Cert.InGwRefIdeal.Gen.facts) := fun m ρ _ =>
  (θ_run _ _ _).mono (fun r h => ⟨fun c => (h c).2, sem_eq_zero_of_no_sems (by decide) r.2⟩) (Cert.InGwRefIdeal.Value.run m ρ)

/-- The gradient at the combined projection's input: the kernel and the reference end with the same result. -/
theorem inDh : algebraic_InDhIdeal_InDhRefIdeal (hInDhIdeal := Cert.InDhIdeal.Gen.facts) (hInDhRefIdeal := Cert.InDhRefIdeal.Gen.facts) := by
  intro m g m' g' _ hagree
  refine ⟨fun c => (Cert.InDhIdeal.Gen.dats m 0 c).arrAt 2 Cert.InDhIdeal.cfg0.N,
    Cert.InDhIdeal.Value.run_blocks m g, (θ_run _ _ _).mono (fun r h c => ?_) (Cert.InDhRefIdeal.Value.run m' g')⟩
  obtain ⟨h2, rest⟩ := h c
  obtain ⟨a0, a1⟩ := hagree c
  exact ⟨h2.trans ((Cert.InDhRefIdeal.Read.val_main_v4_eq _ _).trans (by
      rw [a0, a1]; exact (Cert.InDhIdeal.Step.final2 m c).symm)), rest⟩

/-- The reference runs, keeps its arguments and declares no semaphore. -/
theorem inDhRef : quiescent_InDhRefIdeal (hInDhRefIdeal := Cert.InDhRefIdeal.Gen.facts) := fun m ρ _ =>
  (θ_run _ _ _).mono (fun r h => ⟨fun c => (h c).2, sem_eq_zero_of_no_sems (by decide) r.2⟩) (Cert.InDhRefIdeal.Value.run m ρ)

/-- The combined projection: the kernel and the reference end with the same result. -/
theorem inProj : algebraic_InProjIdeal_InProjRefIdeal (hInProjIdeal := Cert.InProjIdeal.Gen.facts) (hInProjRefIdeal := Cert.InProjRefIdeal.Gen.facts) := by
  intro m g m' g' _ hagree
  refine ⟨fun c => (Cert.InProjIdeal.Gen.dats m 0 c).arrAt 2 Cert.InProjIdeal.cfg0.N,
    Cert.InProjIdeal.Value.run_blocks m g, (θ_run _ _ _).mono (fun r h c => ?_) (Cert.InProjRefIdeal.Value.run m' g')⟩
  obtain ⟨h2, rest⟩ := h c
  obtain ⟨a0, a1⟩ := hagree c
  exact ⟨h2.trans ((Cert.InProjRefIdeal.Read.val_main_v2_eq _ _).trans (by
      rw [a0, a1]; exact (Cert.InProjIdeal.Step.final2 m c).symm)), rest⟩

/-- The reference runs, keeps its arguments and declares no semaphore. -/
theorem inProjRef : quiescent_InProjRefIdeal (hInProjRefIdeal := Cert.InProjRefIdeal.Gen.facts) := fun m ρ _ =>
  (θ_run _ _ _).mono (fun r h => ⟨fun c => (h c).2, sem_eq_zero_of_no_sems (by decide) r.2⟩) (Cert.InProjRefIdeal.Value.run m ρ)

/-- The convolution's projection: the kernel and the reference end with the same result. -/
theorem convOut : algebraic_ConvOutIdeal_ConvOutRefIdeal (hConvOutIdeal := Cert.ConvOutIdeal.Gen.facts) (hConvOutRefIdeal := Cert.ConvOutRefIdeal.Gen.facts) := by
  intro m g m' g' _ hagree
  refine ⟨fun c => (Cert.ConvOutIdeal.Gen.dats m 0 c).arrAt 2 Cert.ConvOutIdeal.cfg0.N,
    Cert.ConvOutIdeal.Value.run_blocks m g, (θ_run _ _ _).mono (fun r h c => ?_) (Cert.ConvOutRefIdeal.Value.run m' g')⟩
  obtain ⟨h2, rest⟩ := h c
  obtain ⟨a0, a1⟩ := hagree c
  exact ⟨h2.trans ((Cert.ConvOutRefIdeal.Read.val_main_v3_eq _ _).trans (by
      rw [a0, a1]; exact (Cert.ConvOutIdeal.Step.final2 m c).symm)), rest⟩

/-- The reference runs, keeps its arguments and declares no semaphore. -/
theorem convOutRef : quiescent_ConvOutRefIdeal (hConvOutRefIdeal := Cert.ConvOutRefIdeal.Gen.facts) := fun m ρ _ =>
  (θ_run _ _ _).mono (fun r h => ⟨fun c => (h c).2, sem_eq_zero_of_no_sems (by decide) r.2⟩) (Cert.ConvOutRefIdeal.Value.run m ρ)

/-- The attention's projection: the kernel and the reference end with the same result. -/
theorem attnOut : algebraic_AttnOutIdeal_AttnOutRefIdeal (hAttnOutIdeal := Cert.AttnOutIdeal.Gen.facts) (hAttnOutRefIdeal := Cert.AttnOutRefIdeal.Gen.facts) := by
  intro m g m' g' _ hagree
  refine ⟨fun c => (Cert.AttnOutIdeal.Gen.dats m 0 c).arrAt 2 Cert.AttnOutIdeal.cfg0.N,
    Cert.AttnOutIdeal.Value.run_blocks m g, (θ_run _ _ _).mono (fun r h c => ?_) (Cert.AttnOutRefIdeal.Value.run m' g')⟩
  obtain ⟨h2, rest⟩ := h c
  obtain ⟨a0, a1⟩ := hagree c
  exact ⟨h2.trans ((Cert.AttnOutRefIdeal.Read.val_main_v3_eq _ _).trans (by
      rw [a0, a1]; exact (Cert.AttnOutIdeal.Step.final2 m c).symm)), rest⟩

/-- The reference runs, keeps its arguments and declares no semaphore. -/
theorem attnOutRef : quiescent_AttnOutRefIdeal (hAttnOutRefIdeal := Cert.AttnOutRefIdeal.Gen.facts) := fun m ρ _ =>
  (θ_run _ _ _).mono (fun r h => ⟨fun c => (h c).2, sem_eq_zero_of_no_sems (by decide) r.2⟩) (Cert.AttnOutRefIdeal.Value.run m ρ)

/-- The output projection: the kernel and the reference end with the same result. -/
theorem mixOut : algebraic_MixOutIdeal_MixOutRefIdeal (hMixOutIdeal := Cert.MixOutIdeal.Gen.facts) (hMixOutRefIdeal := Cert.MixOutRefIdeal.Gen.facts) := by
  intro m g m' g' _ hagree
  refine ⟨fun c => (Cert.MixOutIdeal.Gen.dats m 0 c).arrAt 2 Cert.MixOutIdeal.cfg0.N,
    Cert.MixOutIdeal.Value.run_blocks m g, (θ_run _ _ _).mono (fun r h c => ?_) (Cert.MixOutRefIdeal.Value.run m' g')⟩
  obtain ⟨h2, rest⟩ := h c
  obtain ⟨a0, a1⟩ := hagree c
  exact ⟨h2.trans ((Cert.MixOutRefIdeal.Read.val_main_v2_eq _ _).trans (by
      rw [a0, a1]; exact (Cert.MixOutIdeal.Step.final2 m c).symm)), rest⟩

/-- The reference runs, keeps its arguments and declares no semaphore. -/
theorem mixOutRef : quiescent_MixOutRefIdeal (hMixOutRefIdeal := Cert.MixOutRefIdeal.Gen.facts) := fun m ρ _ =>
  (θ_run _ _ _).mono (fun r h => ⟨fun c => (h c).2, sem_eq_zero_of_no_sems (by decide) r.2⟩) (Cert.MixOutRefIdeal.Value.run m ρ)

/-- The channel mixer's first product: the kernel and the reference end with the same results. -/
theorem mlpIn : algebraic_MlpInIdeal_MlpInRefIdeal (hMlpInIdeal := Cert.MlpInIdeal.Gen.facts) (hMlpInRefIdeal := Cert.MlpInRefIdeal.Gen.facts) := by
  intro m g m' g' _ hagree
  refine ⟨fun c => (Cert.MlpInIdeal.Gen.dats m 0 c).arrAt 2 Cert.MlpInIdeal.cfg0.N, fun c => (Cert.MlpInIdeal.Gen.dats m 0 c).arrAt 3 Cert.MlpInIdeal.cfg0.N,
    Cert.MlpInIdeal.Value.run_blocks m g, (θ_run _ _ _).mono (fun r h c => ?_) (Cert.MlpInRefIdeal.Value.run m' g')⟩
  obtain ⟨h2, h3, rest⟩ := h c
  obtain ⟨a0, a1⟩ := hagree c
  exact ⟨h2.trans ((Cert.MlpInRefIdeal.Read.val_main_v3_eq _ _).trans (by
      rw [a0, a1]; exact (Cert.MlpInIdeal.Step.final2 m c).symm)),
    h3.trans ((Cert.MlpInRefIdeal.Read.val_main_v6_eq _ _).trans (by
      rw [a0, a1]; exact (Cert.MlpInIdeal.Step.final3 m c).symm)), rest⟩

/-- The reference runs, keeps its arguments and declares no semaphore. -/
theorem mlpInRef : quiescent_MlpInRefIdeal (hMlpInRefIdeal := Cert.MlpInRefIdeal.Gen.facts) := fun m ρ _ =>
  (θ_run _ _ _).mono (fun r h => ⟨fun c => (h c).2.2, sem_eq_zero_of_no_sems (by decide) r.2⟩) (Cert.MlpInRefIdeal.Value.run m ρ)

/-- The channel mixer's second product: the kernel and the reference end with the same result. -/
theorem mlpOut : algebraic_MlpOutIdeal_MlpOutRefIdeal (hMlpOutIdeal := Cert.MlpOutIdeal.Gen.facts) (hMlpOutRefIdeal := Cert.MlpOutRefIdeal.Gen.facts) := by
  intro m g m' g' _ hagree
  refine ⟨fun c => (Cert.MlpOutIdeal.Gen.dats m 0 c).arrAt 2 Cert.MlpOutIdeal.cfg0.N,
    Cert.MlpOutIdeal.Value.run_blocks m g, (θ_run _ _ _).mono (fun r h c => ?_) (Cert.MlpOutRefIdeal.Value.run m' g')⟩
  obtain ⟨h2, rest⟩ := h c
  obtain ⟨a0, a1⟩ := hagree c
  exact ⟨h2.trans ((Cert.MlpOutRefIdeal.Read.val_main_v2_eq _ _).trans (by
      rw [a0, a1]; exact (Cert.MlpOutIdeal.Step.final2 m c).symm)), rest⟩

/-- The reference runs, keeps its arguments and declares no semaphore. -/
theorem mlpOutRef : quiescent_MlpOutRefIdeal (hMlpOutRefIdeal := Cert.MlpOutRefIdeal.Gen.facts) := fun m ρ _ =>
  (θ_run _ _ _).mono (fun r h => ⟨fun c => (h c).2, sem_eq_zero_of_no_sems (by decide) r.2⟩) (Cert.MlpOutRefIdeal.Value.run m ρ)

/-- A gain's step of the optimiser: the kernel and the reference end with the same results. -/
theorem adamGain : algebraic_AdamGainIdeal_AdamGainRefIdeal (hAdamGainIdeal := Cert.AdamGainIdeal.Gen.facts) (hAdamGainRefIdeal := Cert.AdamGainRefIdeal.Gen.facts) := by
  intro m g m' g' _ hagree
  refine ⟨fun c => (Cert.AdamGainIdeal.Gen.dats m 0 c).arrAt 4 Cert.AdamGainIdeal.cfg0.N, fun c => (Cert.AdamGainIdeal.Gen.dats m 0 c).arrAt 5 Cert.AdamGainIdeal.cfg0.N, fun c => (Cert.AdamGainIdeal.Gen.dats m 0 c).arrAt 6 Cert.AdamGainIdeal.cfg0.N, fun c => (Cert.AdamGainIdeal.Gen.dats m 0 c).arrAt 7 Cert.AdamGainIdeal.cfg0.N,
    Cert.AdamGainIdeal.Value.run_blocks m g, (θ_run _ _ _).mono (fun r h c => ?_) (Cert.AdamGainRefIdeal.Value.run m' g')⟩
  obtain ⟨h4, h5, h6, h7, rest⟩ := h c
  obtain ⟨a0, a1, a2, a3⟩ := hagree c
  exact ⟨h4.trans ((Cert.AdamGainRefIdeal.Read.val_main_v0_eq _).trans (by
      rw [a0]; exact (Cert.AdamGainIdeal.Step.final4 m c).symm)),
    h5.trans ((Cert.AdamGainRefIdeal.Read.val_main_v24_eq _ _ _ _).trans (by
      rw [a0, a1, a2, a3]; exact (Cert.AdamGainIdeal.Step.final5 m c).symm)),
    h6.trans ((Cert.AdamGainRefIdeal.Read.val_main_v5_eq _ _).trans (by
      rw [a0, a2]; exact (Cert.AdamGainIdeal.Step.final6 m c).symm)),
    h7.trans ((Cert.AdamGainRefIdeal.Read.val_main_v11_eq _ _).trans (by
      rw [a0, a3]; exact (Cert.AdamGainIdeal.Step.final7 m c).symm)), rest⟩

/-- The reference runs, keeps its arguments and declares no semaphore. -/
theorem adamGainRef : quiescent_AdamGainRefIdeal (hAdamGainRefIdeal := Cert.AdamGainRefIdeal.Gen.facts) := fun m ρ _ =>
  (θ_run _ _ _).mono (fun r h => ⟨fun c => (h c).2.2.2.2, sem_eq_zero_of_no_sems (by decide) r.2⟩) (Cert.AdamGainRefIdeal.Value.run m ρ)

/-- The modulation's bias's step of the optimiser: the kernel and the reference end with the same results. -/
theorem adamBAda : algebraic_AdamBAdaIdeal_AdamBAdaRefIdeal (hAdamBAdaIdeal := Cert.AdamBAdaIdeal.Gen.facts) (hAdamBAdaRefIdeal := Cert.AdamBAdaRefIdeal.Gen.facts) := by
  intro m g m' g' _ hagree
  refine ⟨fun c => (Cert.AdamBAdaIdeal.Gen.dats m 0 c).arrAt 4 Cert.AdamBAdaIdeal.cfg0.N, fun c => (Cert.AdamBAdaIdeal.Gen.dats m 0 c).arrAt 5 Cert.AdamBAdaIdeal.cfg0.N, fun c => (Cert.AdamBAdaIdeal.Gen.dats m 0 c).arrAt 6 Cert.AdamBAdaIdeal.cfg0.N, fun c => (Cert.AdamBAdaIdeal.Gen.dats m 0 c).arrAt 7 Cert.AdamBAdaIdeal.cfg0.N,
    Cert.AdamBAdaIdeal.Value.run_blocks m g, (θ_run _ _ _).mono (fun r h c => ?_) (Cert.AdamBAdaRefIdeal.Value.run m' g')⟩
  obtain ⟨h4, h5, h6, h7, rest⟩ := h c
  obtain ⟨a0, a1, a2, a3⟩ := hagree c
  exact ⟨h4.trans ((Cert.AdamBAdaRefIdeal.Read.val_main_v0_eq _).trans (by
      rw [a0]; exact (Cert.AdamBAdaIdeal.Step.final4 m c).symm)),
    h5.trans ((Cert.AdamBAdaRefIdeal.Read.val_main_v24_eq _ _ _ _).trans (by
      rw [a0, a1, a2, a3]; exact (Cert.AdamBAdaIdeal.Step.final5 m c).symm)),
    h6.trans ((Cert.AdamBAdaRefIdeal.Read.val_main_v5_eq _ _).trans (by
      rw [a0, a2]; exact (Cert.AdamBAdaIdeal.Step.final6 m c).symm)),
    h7.trans ((Cert.AdamBAdaRefIdeal.Read.val_main_v11_eq _ _).trans (by
      rw [a0, a3]; exact (Cert.AdamBAdaIdeal.Step.final7 m c).symm)), rest⟩

/-- The reference runs, keeps its arguments and declares no semaphore. -/
theorem adamBAdaRef : quiescent_AdamBAdaRefIdeal (hAdamBAdaRefIdeal := Cert.AdamBAdaRefIdeal.Gen.facts) := fun m ρ _ =>
  (θ_run _ _ _).mono (fun r h => ⟨fun c => (h c).2.2.2.2, sem_eq_zero_of_no_sems (by decide) r.2⟩) (Cert.AdamBAdaRefIdeal.Value.run m ρ)

/-- The taps' step of the optimiser: the kernel and the reference end with the same results. -/
theorem adamConvW : algebraic_AdamConvWIdeal_AdamConvWRefIdeal (hAdamConvWIdeal := Cert.AdamConvWIdeal.Gen.facts) (hAdamConvWRefIdeal := Cert.AdamConvWRefIdeal.Gen.facts) := by
  intro m g m' g' _ hagree
  refine ⟨fun c => (Cert.AdamConvWIdeal.Gen.dats m 0 c).arrAt 4 Cert.AdamConvWIdeal.cfg0.N, fun c => (Cert.AdamConvWIdeal.Gen.dats m 0 c).arrAt 5 Cert.AdamConvWIdeal.cfg0.N, fun c => (Cert.AdamConvWIdeal.Gen.dats m 0 c).arrAt 6 Cert.AdamConvWIdeal.cfg0.N, fun c => (Cert.AdamConvWIdeal.Gen.dats m 0 c).arrAt 7 Cert.AdamConvWIdeal.cfg0.N,
    Cert.AdamConvWIdeal.Value.run_blocks m g, (θ_run _ _ _).mono (fun r h c => ?_) (Cert.AdamConvWRefIdeal.Value.run m' g')⟩
  obtain ⟨h4, h5, h6, h7, rest⟩ := h c
  obtain ⟨a0, a1, a2, a3⟩ := hagree c
  exact ⟨h4.trans ((Cert.AdamConvWRefIdeal.Read.val_main_v0_eq _).trans (by
      rw [a0]; exact (Cert.AdamConvWIdeal.Step.final4 m c).symm)),
    h5.trans ((Cert.AdamConvWRefIdeal.Read.val_main_v24_eq _ _ _ _).trans (by
      rw [a0, a1, a2, a3]; exact (Cert.AdamConvWIdeal.Step.final5 m c).symm)),
    h6.trans ((Cert.AdamConvWRefIdeal.Read.val_main_v5_eq _ _).trans (by
      rw [a0, a2]; exact (Cert.AdamConvWIdeal.Step.final6 m c).symm)),
    h7.trans ((Cert.AdamConvWRefIdeal.Read.val_main_v11_eq _ _).trans (by
      rw [a0, a3]; exact (Cert.AdamConvWIdeal.Step.final7 m c).symm)), rest⟩

/-- The reference runs, keeps its arguments and declares no semaphore. -/
theorem adamConvWRef : quiescent_AdamConvWRefIdeal (hAdamConvWRefIdeal := Cert.AdamConvWRefIdeal.Gen.facts) := fun m ρ _ =>
  (θ_run _ _ _).mono (fun r h => ⟨fun c => (h c).2.2.2.2, sem_eq_zero_of_no_sems (by decide) r.2⟩) (Cert.AdamConvWRefIdeal.Value.run m ρ)

/-- The combined projection's step of the optimiser, layer by layer: the kernel and the reference end with the same results. -/
theorem adamIn : algebraic_AdamInIdeal_AdamInRefIdeal (hAdamInIdeal := Cert.AdamInIdeal.Gen.facts) (hAdamInRefIdeal := Cert.AdamInRefIdeal.Gen.facts) := by
  intro m g m' g' _ hagree
  refine ⟨fun c => Cert.AdamInIdeal.Gen.W3 m g c (Proc.devRef .tc Cert.AdamInIdeal.main_v1_0), fun c => Cert.AdamInIdeal.Gen.W3 m g c (Proc.devRef .tc Cert.AdamInIdeal.main_v1_1), fun c => Cert.AdamInIdeal.Gen.W3 m g c (Proc.devRef .tc Cert.AdamInIdeal.main_v1_2), fun c => Cert.AdamInIdeal.Gen.W3 m g c (Proc.devRef .tc Cert.AdamInIdeal.main_v1_3),
    Cert.AdamInIdeal.Step.run m g, (θ_run _ _ _).mono (fun r h c => ?_) (Cert.AdamInRefIdeal.Value.run m' g')⟩
  obtain ⟨h4, h5, h6, h7, rest⟩ := h c
  obtain ⟨a0, a1, a2, a3, a4⟩ := hagree c
  exact ⟨h4.trans ((Cert.AdamInRefIdeal.Read.val_main_v6_eq _ _).trans (by
      rw [a0, a1]; exact (Cert.AdamInIdeal.Step.final4 m g c).symm)),
    h5.trans ((Cert.AdamInRefIdeal.Read.val_main_v30_eq _ _ _ _ _).trans (by
      rw [a0, a1, a2, a3, a4]; exact (Cert.AdamInIdeal.Step.final5 m g c).symm)),
    h6.trans ((Cert.AdamInRefIdeal.Read.val_main_v11_eq _ _ _).trans (by
      rw [a0, a1, a3]; exact (Cert.AdamInIdeal.Step.final6 m g c).symm)),
    h7.trans ((Cert.AdamInRefIdeal.Read.val_main_v17_eq _ _ _).trans (by
      rw [a0, a1, a4]; exact (Cert.AdamInIdeal.Step.final7 m g c).symm)), rest⟩

/-- The reference runs, keeps its arguments and declares no semaphore. -/
theorem adamInRef : quiescent_AdamInRefIdeal (hAdamInRefIdeal := Cert.AdamInRefIdeal.Gen.facts) := fun m ρ _ =>
  (θ_run _ _ _).mono (fun r h => ⟨fun c => (h c).2.2.2.2, sem_eq_zero_of_no_sems (by decide) r.2⟩) (Cert.AdamInRefIdeal.Value.run m ρ)

/-- The branches' projections' step of the optimiser, layer by layer: the kernel and the reference end with the same results. -/
theorem adamProj : algebraic_AdamProjIdeal_AdamProjRefIdeal (hAdamProjIdeal := Cert.AdamProjIdeal.Gen.facts) (hAdamProjRefIdeal := Cert.AdamProjRefIdeal.Gen.facts) := by
  intro m g m' g' _ hagree
  refine ⟨fun c => Cert.AdamProjIdeal.Gen.W3 m g c (Proc.devRef .tc Cert.AdamProjIdeal.main_v1_0), fun c => Cert.AdamProjIdeal.Gen.W3 m g c (Proc.devRef .tc Cert.AdamProjIdeal.main_v1_1), fun c => Cert.AdamProjIdeal.Gen.W3 m g c (Proc.devRef .tc Cert.AdamProjIdeal.main_v1_2), fun c => Cert.AdamProjIdeal.Gen.W3 m g c (Proc.devRef .tc Cert.AdamProjIdeal.main_v1_3),
    Cert.AdamProjIdeal.Step.run m g, (θ_run _ _ _).mono (fun r h c => ?_) (Cert.AdamProjRefIdeal.Value.run m' g')⟩
  obtain ⟨h4, h5, h6, h7, rest⟩ := h c
  obtain ⟨a0, a1, a2, a3, a4⟩ := hagree c
  exact ⟨h4.trans ((Cert.AdamProjRefIdeal.Read.val_main_v6_eq _ _).trans (by
      rw [a0, a1]; exact (Cert.AdamProjIdeal.Step.final4 m g c).symm)),
    h5.trans ((Cert.AdamProjRefIdeal.Read.val_main_v30_eq _ _ _ _ _).trans (by
      rw [a0, a1, a2, a3, a4]; exact (Cert.AdamProjIdeal.Step.final5 m g c).symm)),
    h6.trans ((Cert.AdamProjRefIdeal.Read.val_main_v11_eq _ _ _).trans (by
      rw [a0, a1, a3]; exact (Cert.AdamProjIdeal.Step.final6 m g c).symm)),
    h7.trans ((Cert.AdamProjRefIdeal.Read.val_main_v17_eq _ _ _).trans (by
      rw [a0, a1, a4]; exact (Cert.AdamProjIdeal.Step.final7 m g c).symm)), rest⟩

/-- The reference runs, keeps its arguments and declares no semaphore. -/
theorem adamProjRef : quiescent_AdamProjRefIdeal (hAdamProjRefIdeal := Cert.AdamProjRefIdeal.Gen.facts) := fun m ρ _ =>
  (θ_run _ _ _).mono (fun r h => ⟨fun c => (h c).2.2.2.2, sem_eq_zero_of_no_sems (by decide) r.2⟩) (Cert.AdamProjRefIdeal.Value.run m ρ)

/-- The output projection's step of the optimiser, layer by layer: the kernel and the reference end with the same results. -/
theorem adamOut : algebraic_AdamOutIdeal_AdamOutRefIdeal (hAdamOutIdeal := Cert.AdamOutIdeal.Gen.facts) (hAdamOutRefIdeal := Cert.AdamOutRefIdeal.Gen.facts) := by
  intro m g m' g' _ hagree
  refine ⟨fun c => Cert.AdamOutIdeal.Gen.W3 m g c (Proc.devRef .tc Cert.AdamOutIdeal.main_v1_0), fun c => Cert.AdamOutIdeal.Gen.W3 m g c (Proc.devRef .tc Cert.AdamOutIdeal.main_v1_1), fun c => Cert.AdamOutIdeal.Gen.W3 m g c (Proc.devRef .tc Cert.AdamOutIdeal.main_v1_2), fun c => Cert.AdamOutIdeal.Gen.W3 m g c (Proc.devRef .tc Cert.AdamOutIdeal.main_v1_3),
    Cert.AdamOutIdeal.Step.run m g, (θ_run _ _ _).mono (fun r h c => ?_) (Cert.AdamOutRefIdeal.Value.run m' g')⟩
  obtain ⟨h4, h5, h6, h7, rest⟩ := h c
  obtain ⟨a0, a1, a2, a3, a4⟩ := hagree c
  exact ⟨h4.trans ((Cert.AdamOutRefIdeal.Read.val_main_v6_eq _ _).trans (by
      rw [a0, a1]; exact (Cert.AdamOutIdeal.Step.final4 m g c).symm)),
    h5.trans ((Cert.AdamOutRefIdeal.Read.val_main_v30_eq _ _ _ _ _).trans (by
      rw [a0, a1, a2, a3, a4]; exact (Cert.AdamOutIdeal.Step.final5 m g c).symm)),
    h6.trans ((Cert.AdamOutRefIdeal.Read.val_main_v11_eq _ _ _).trans (by
      rw [a0, a1, a3]; exact (Cert.AdamOutIdeal.Step.final6 m g c).symm)),
    h7.trans ((Cert.AdamOutRefIdeal.Read.val_main_v17_eq _ _ _).trans (by
      rw [a0, a1, a4]; exact (Cert.AdamOutIdeal.Step.final7 m g c).symm)), rest⟩

/-- The reference runs, keeps its arguments and declares no semaphore. -/
theorem adamOutRef : quiescent_AdamOutRefIdeal (hAdamOutRefIdeal := Cert.AdamOutRefIdeal.Gen.facts) := fun m ρ _ =>
  (θ_run _ _ _).mono (fun r h => ⟨fun c => (h c).2.2.2.2, sem_eq_zero_of_no_sems (by decide) r.2⟩) (Cert.AdamOutRefIdeal.Value.run m ρ)

/-- The channel mixer's first weight's step of the optimiser, layer by layer: the kernel and the reference end with the same results. -/
theorem adamMlpIn : algebraic_AdamMlpInIdeal_AdamMlpInRefIdeal (hAdamMlpInIdeal := Cert.AdamMlpInIdeal.Gen.facts) (hAdamMlpInRefIdeal := Cert.AdamMlpInRefIdeal.Gen.facts) := by
  intro m g m' g' _ hagree
  refine ⟨fun c => Cert.AdamMlpInIdeal.Gen.W3 m g c (Proc.devRef .tc Cert.AdamMlpInIdeal.main_v1_0), fun c => Cert.AdamMlpInIdeal.Gen.W3 m g c (Proc.devRef .tc Cert.AdamMlpInIdeal.main_v1_1), fun c => Cert.AdamMlpInIdeal.Gen.W3 m g c (Proc.devRef .tc Cert.AdamMlpInIdeal.main_v1_2), fun c => Cert.AdamMlpInIdeal.Gen.W3 m g c (Proc.devRef .tc Cert.AdamMlpInIdeal.main_v1_3),
    Cert.AdamMlpInIdeal.Step.run m g, (θ_run _ _ _).mono (fun r h c => ?_) (Cert.AdamMlpInRefIdeal.Value.run m' g')⟩
  obtain ⟨h4, h5, h6, h7, rest⟩ := h c
  obtain ⟨a0, a1, a2, a3, a4⟩ := hagree c
  exact ⟨h4.trans ((Cert.AdamMlpInRefIdeal.Read.val_main_v6_eq _ _).trans (by
      rw [a0, a1]; exact (Cert.AdamMlpInIdeal.Step.final4 m g c).symm)),
    h5.trans ((Cert.AdamMlpInRefIdeal.Read.val_main_v30_eq _ _ _ _ _).trans (by
      rw [a0, a1, a2, a3, a4]; exact (Cert.AdamMlpInIdeal.Step.final5 m g c).symm)),
    h6.trans ((Cert.AdamMlpInRefIdeal.Read.val_main_v11_eq _ _ _).trans (by
      rw [a0, a1, a3]; exact (Cert.AdamMlpInIdeal.Step.final6 m g c).symm)),
    h7.trans ((Cert.AdamMlpInRefIdeal.Read.val_main_v17_eq _ _ _).trans (by
      rw [a0, a1, a4]; exact (Cert.AdamMlpInIdeal.Step.final7 m g c).symm)), rest⟩

/-- The reference runs, keeps its arguments and declares no semaphore. -/
theorem adamMlpInRef : quiescent_AdamMlpInRefIdeal (hAdamMlpInRefIdeal := Cert.AdamMlpInRefIdeal.Gen.facts) := fun m ρ _ =>
  (θ_run _ _ _).mono (fun r h => ⟨fun c => (h c).2.2.2.2, sem_eq_zero_of_no_sems (by decide) r.2⟩) (Cert.AdamMlpInRefIdeal.Value.run m ρ)

/-- The channel mixer's second weight's step of the optimiser, layer by layer: the kernel and the reference end with the same results. -/
theorem adamMlpOut : algebraic_AdamMlpOutIdeal_AdamMlpOutRefIdeal (hAdamMlpOutIdeal := Cert.AdamMlpOutIdeal.Gen.facts) (hAdamMlpOutRefIdeal := Cert.AdamMlpOutRefIdeal.Gen.facts) := by
  intro m g m' g' _ hagree
  refine ⟨fun c => Cert.AdamMlpOutIdeal.Gen.W3 m g c (Proc.devRef .tc Cert.AdamMlpOutIdeal.main_v1_0), fun c => Cert.AdamMlpOutIdeal.Gen.W3 m g c (Proc.devRef .tc Cert.AdamMlpOutIdeal.main_v1_1), fun c => Cert.AdamMlpOutIdeal.Gen.W3 m g c (Proc.devRef .tc Cert.AdamMlpOutIdeal.main_v1_2), fun c => Cert.AdamMlpOutIdeal.Gen.W3 m g c (Proc.devRef .tc Cert.AdamMlpOutIdeal.main_v1_3),
    Cert.AdamMlpOutIdeal.Step.run m g, (θ_run _ _ _).mono (fun r h c => ?_) (Cert.AdamMlpOutRefIdeal.Value.run m' g')⟩
  obtain ⟨h4, h5, h6, h7, rest⟩ := h c
  obtain ⟨a0, a1, a2, a3, a4⟩ := hagree c
  exact ⟨h4.trans ((Cert.AdamMlpOutRefIdeal.Read.val_main_v6_eq _ _).trans (by
      rw [a0, a1]; exact (Cert.AdamMlpOutIdeal.Step.final4 m g c).symm)),
    h5.trans ((Cert.AdamMlpOutRefIdeal.Read.val_main_v30_eq _ _ _ _ _).trans (by
      rw [a0, a1, a2, a3, a4]; exact (Cert.AdamMlpOutIdeal.Step.final5 m g c).symm)),
    h6.trans ((Cert.AdamMlpOutRefIdeal.Read.val_main_v11_eq _ _ _).trans (by
      rw [a0, a1, a3]; exact (Cert.AdamMlpOutIdeal.Step.final6 m g c).symm)),
    h7.trans ((Cert.AdamMlpOutRefIdeal.Read.val_main_v17_eq _ _ _).trans (by
      rw [a0, a1, a4]; exact (Cert.AdamMlpOutIdeal.Step.final7 m g c).symm)), rest⟩

/-- The reference runs, keeps its arguments and declares no semaphore. -/
theorem adamMlpOutRef : quiescent_AdamMlpOutRefIdeal (hAdamMlpOutRefIdeal := Cert.AdamMlpOutRefIdeal.Gen.facts) := fun m ρ _ =>
  (θ_run _ _ _).mono (fun r h => ⟨fun c => (h c).2.2.2.2, sem_eq_zero_of_no_sems (by decide) r.2⟩) (Cert.AdamMlpOutRefIdeal.Value.run m ρ)

/-- The modulation's weight's step of the optimiser, layer by layer: the kernel and the reference end with the same results. -/
theorem adamAda : algebraic_AdamAdaIdeal_AdamAdaRefIdeal (hAdamAdaIdeal := Cert.AdamAdaIdeal.Gen.facts) (hAdamAdaRefIdeal := Cert.AdamAdaRefIdeal.Gen.facts) := by
  intro m g m' g' _ hagree
  refine ⟨fun c => Cert.AdamAdaIdeal.Gen.W3 m g c (Proc.devRef .tc Cert.AdamAdaIdeal.main_v1_0), fun c => Cert.AdamAdaIdeal.Gen.W3 m g c (Proc.devRef .tc Cert.AdamAdaIdeal.main_v1_1), fun c => Cert.AdamAdaIdeal.Gen.W3 m g c (Proc.devRef .tc Cert.AdamAdaIdeal.main_v1_2), fun c => Cert.AdamAdaIdeal.Gen.W3 m g c (Proc.devRef .tc Cert.AdamAdaIdeal.main_v1_3),
    Cert.AdamAdaIdeal.Step.run m g, (θ_run _ _ _).mono (fun r h c => ?_) (Cert.AdamAdaRefIdeal.Value.run m' g')⟩
  obtain ⟨h4, h5, h6, h7, rest⟩ := h c
  obtain ⟨a0, a1, a2, a3, a4⟩ := hagree c
  exact ⟨h4.trans ((Cert.AdamAdaRefIdeal.Read.val_main_v4_eq _ _).trans (by
      rw [a0, a1]; exact (Cert.AdamAdaIdeal.Step.final4 m g c).symm)),
    h5.trans ((Cert.AdamAdaRefIdeal.Read.val_main_v28_eq _ _ _ _ _).trans (by
      rw [a0, a1, a2, a3, a4]; exact (Cert.AdamAdaIdeal.Step.final5 m g c).symm)),
    h6.trans ((Cert.AdamAdaRefIdeal.Read.val_main_v9_eq _ _ _).trans (by
      rw [a0, a1, a3]; exact (Cert.AdamAdaIdeal.Step.final6 m g c).symm)),
    h7.trans ((Cert.AdamAdaRefIdeal.Read.val_main_v15_eq _ _ _).trans (by
      rw [a0, a1, a4]; exact (Cert.AdamAdaIdeal.Step.final7 m g c).symm)), rest⟩

/-- The reference runs, keeps its arguments and declares no semaphore. -/
theorem adamAdaRef : quiescent_AdamAdaRefIdeal (hAdamAdaRefIdeal := Cert.AdamAdaRefIdeal.Gen.facts) := fun m ρ _ =>
  (θ_run _ _ _).mono (fun r h => ⟨fun c => (h c).2.2.2.2, sem_eq_zero_of_no_sems (by decide) r.2⟩) (Cert.AdamAdaRefIdeal.Value.run m ρ)

/-- The normalisation before a branch: the kernel and the reference end with the same rows. -/
theorem prenorm : algebraic_PrenormIdeal_PrenormRefIdeal (hPrenormIdeal := Cert.PrenormIdeal.Gen.facts) (hPrenormRefIdeal := Cert.PrenormRefIdeal.Gen.facts) := by
  intro m g m' g' _ hagree
  refine ⟨fun c => (Cert.PrenormIdeal.Gen.dats m 0 c).arrAt 4 Cert.PrenormIdeal.cfg0.N,
    Cert.PrenormIdeal.Value.run_blocks m g, (θ_run _ _ _).mono (fun r h c => ?_) (Cert.PrenormRefIdeal.Value.run m' g')⟩
  obtain ⟨h4, rest⟩ := h c
  obtain ⟨a0, a1, a2, a3⟩ := hagree c
  exact ⟨h4.trans ((Cert.PrenormRefIdeal.Read.val_main_v18_eq _ _ _ _).trans (by
      rw [a0, a1, a2, a3]; exact (Cert.PrenormIdeal.Step.final4 m c).symm)), rest⟩

/-- The reference runs, keeps its arguments and declares no semaphore. -/
theorem prenormRef : quiescent_PrenormRefIdeal (hPrenormRefIdeal := Cert.PrenormRefIdeal.Gen.facts) := fun m ρ _ =>
  (θ_run _ _ _).mono (fun r h => ⟨fun c => (h c).2, sem_eq_zero_of_no_sems (by decide) r.2⟩) (Cert.PrenormRefIdeal.Value.run m ρ)

/-- The normalisation after a branch: the kernel and the reference end with the same rows. -/
theorem postnorm : algebraic_PostnormIdeal_PostnormRefIdeal (hPostnormIdeal := Cert.PostnormIdeal.Gen.facts) (hPostnormRefIdeal := Cert.PostnormRefIdeal.Gen.facts) := by
  intro m g m' g' _ hagree
  refine ⟨fun c => (Cert.PostnormIdeal.Gen.dats m 0 c).arrAt 4 Cert.PostnormIdeal.cfg0.N,
    Cert.PostnormIdeal.Value.run_blocks m g, (θ_run _ _ _).mono (fun r h c => ?_) (Cert.PostnormRefIdeal.Value.run m' g')⟩
  obtain ⟨h4, rest⟩ := h c
  obtain ⟨a0, a1, a2, a3⟩ := hagree c
  exact ⟨h4.trans ((Cert.PostnormRefIdeal.Read.val_main_v14_eq _ _ _ _).trans (by
      rw [a0, a1, a2, a3]; exact (Cert.PostnormIdeal.Step.final4 m c).symm)), rest⟩

/-- The reference runs, keeps its arguments and declares no semaphore. -/
theorem postnormRef : quiescent_PostnormRefIdeal (hPostnormRefIdeal := Cert.PostnormRefIdeal.Gen.facts) := fun m ρ _ =>
  (θ_run _ _ _).mono (fun r h => ⟨fun c => (h c).2, sem_eq_zero_of_no_sems (by decide) r.2⟩) (Cert.PostnormRefIdeal.Value.run m ρ)

/-- An entry whose comparison of `x - x` with zero holds is a real number. -/
theorem real_of_cmp {a : EReal} (h : Ideal.cmp .oeq (a - a) 0 = 1#1) : ∃ r : ℝ, a = (r : EReal) := by
  refine Cert.NormBack.real_of_sub ?_
  by_contra hne
  have h0 : Ideal.cmp .oeq (a - a) 0 = BitVec.ofBool (decide (a - a = 0)) := rfl
  rw [h0, decide_eq_false hne] at h
  exact absurd h (by decide)

/-- The precondition says of every entry of the gradient, the gain and the scale that it is a real number. -/
theorem finite_real {m : (ℓ : Loc Cert.PrenormBwdIdeal.nD Cert.PrenormBwdIdeal.τ Cert.PrenormBwdIdeal.sig) → Buf (Elt Ideal) ℓ}
    (h : Pre_PrenormBwdIdeal_finite (hPre_finite := Cert.Pre_finite.Gen.facts) m) (c : Dev Cert.PrenormBwdIdeal.nD) : Cert.PrenormBwdIdeal.Step.Real m c := by
  have z : Ideal.ofBits .f32 0x00000000#32 = 0 := Ideal.ofBits_zero_f32
  obtain ⟨h0, h1, h2⟩ := h c
  refine ⟨fun i => real_of_cmp ?_, fun i => real_of_cmp ?_, fun i => real_of_cmp ?_⟩
  · rw [← z]; exact congrFun h0 i
  · rw [← z]; exact congrFun h1 i
  · rw [← z]; exact congrFun h2 i

/-- The gradient past the normalisation before a branch: the kernel and the reference end with the same results, where the
gradient, the gain and the scale hold real numbers. -/
theorem prenormBwd : algebraic_PrenormBwdIdeal_PrenormBwdRefIdeal_pre_finite (hPrenormBwdIdeal := Cert.PrenormBwdIdeal.Gen.facts) (hPrenormBwdRefIdeal := Cert.PrenormBwdRefIdeal.Gen.facts) (hPre_finite := Cert.Pre_finite.Gen.facts) := by
  intro m g m' g' hpre hagree
  refine ⟨fun c => (Cert.PrenormBwdIdeal.Gen.dats m 0 c).arrAt 5 Cert.PrenormBwdIdeal.cfg0.N, fun c => (Cert.PrenormBwdIdeal.Gen.dats m 0 c).arrAt 6 Cert.PrenormBwdIdeal.cfg0.N,
    fun c => (Cert.PrenormBwdIdeal.Gen.dats m 0 c).arrAt 7 Cert.PrenormBwdIdeal.cfg0.N, fun c => (Cert.PrenormBwdIdeal.Gen.dats m 0 c).arrAt 8 Cert.PrenormBwdIdeal.cfg0.N,
    Cert.PrenormBwdIdeal.Value.run_blocks m g, (θ_run _ _ _).mono (fun r h c => ?_) (Cert.PrenormBwdRefIdeal.Value.run m' g')⟩
  obtain ⟨h5, h6, h7, h8, rest⟩ := h c
  obtain ⟨a0, a1, a2, a3, a4⟩ := hagree c
  have hr := finite_real hpre c
  exact ⟨h5.trans ((Cert.PrenormBwdRefIdeal.Read.val_main_v49_eq m' c).trans (by
      rw [a0, a1, a2, a3, a4]; exact (Cert.PrenormBwdIdeal.Step.final5 m c hr).symm)),
    h6.trans ((Cert.PrenormBwdRefIdeal.Read.val_main_v24_eq _).trans (by
      rw [a0]; exact (Cert.PrenormBwdIdeal.Step.final6 m c).symm)),
    h7.trans ((Cert.PrenormBwdRefIdeal.Read.val_main_v27_eq _ _ _).trans (by
      rw [a0, a1, a2]; exact (Cert.PrenormBwdIdeal.Step.final7 m c hr).symm)),
    h8.trans ((Cert.PrenormBwdRefIdeal.Read.val_main_v32_eq _ _ _).trans (by
      rw [a0, a1, a3]; exact (Cert.PrenormBwdIdeal.Step.final8 m c hr).symm)), rest⟩

/-- The reference runs, keeps its arguments and declares no semaphore. -/
theorem prenormBwdRef : quiescent_PrenormBwdRefIdeal (hPrenormBwdRefIdeal := Cert.PrenormBwdRefIdeal.Gen.facts) := fun m ρ _ =>
  (θ_run _ _ _).mono (fun r h => ⟨fun c => (h c).2.2.2.2, sem_eq_zero_of_no_sems (by decide) r.2⟩) (Cert.PrenormBwdRefIdeal.Value.run m ρ)

/-- The two gates of the token mixer: the kernel and the reference end with the same rows. -/
theorem gates : algebraic_GatesIdeal_GatesRefIdeal (hGatesIdeal := Cert.GatesIdeal.Gen.facts) (hGatesRefIdeal := Cert.GatesRefIdeal.Gen.facts) := by
  intro m g m' g' _ hagree
  refine ⟨fun c => (Cert.GatesIdeal.Gen.dats m 0 c).arrAt 4 Cert.GatesIdeal.cfg0.N,
    Cert.GatesIdeal.Value.run_blocks m g, (θ_run _ _ _).mono (fun r h c => ?_) (Cert.GatesRefIdeal.Value.run m' g')⟩
  obtain ⟨h4, rest⟩ := h c
  obtain ⟨a0, a1, a2⟩ := hagree c
  exact ⟨h4.trans ((Cert.GatesRefIdeal.Read.val_main_v20_eq _ _ _).trans (by
      rw [a0, a1, a2]; exact (Cert.GatesIdeal.Step.final4 m c).symm)), rest⟩

/-- The reference runs, keeps its arguments and declares no semaphore. -/
theorem gatesRef : quiescent_GatesRefIdeal (hGatesRefIdeal := Cert.GatesRefIdeal.Gen.facts) := fun m ρ _ =>
  (θ_run _ _ _).mono (fun r h => ⟨fun c => (h c).2, sem_eq_zero_of_no_sems (by decide) r.2⟩) (Cert.GatesRefIdeal.Value.run m ρ)

theorem claim : Cert.Claim := ⟨Cert.Conv.Gen.facts, Cert.ConvIdeal.Gen.facts, Cert.ConvRefIdeal.Gen.facts, Cert.Gate.Gen.facts, Cert.GateIdeal.Gen.facts, Cert.GateRefIdeal.Gen.facts, Cert.Attn.Gen.facts, Cert.AttnIdeal.Gen.facts,
  Cert.MlpDa.Gen.facts, Cert.MlpDaIdeal.Gen.facts, Cert.MlpDaRefIdeal.Gen.facts,
  Cert.MlpGwOut.Gen.facts, Cert.MlpGwOutIdeal.Gen.facts, Cert.MlpGwOutRefIdeal.Gen.facts,
  Cert.MlpDh.Gen.facts, Cert.MlpDhIdeal.Gen.facts, Cert.MlpDhRefIdeal.Gen.facts,
  Cert.MlpGwIn.Gen.facts, Cert.MlpGwInIdeal.Gen.facts, Cert.MlpGwInRefIdeal.Gen.facts,
  Cert.MixDm.Gen.facts, Cert.MixDmIdeal.Gen.facts, Cert.MixDmRefIdeal.Gen.facts,
  Cert.MixGw.Gen.facts, Cert.MixGwIdeal.Gen.facts, Cert.MixGwRefIdeal.Gen.facts,
  Cert.AttnDo.Gen.facts, Cert.AttnDoIdeal.Gen.facts, Cert.AttnDoRefIdeal.Gen.facts,
  Cert.AttnGw.Gen.facts, Cert.AttnGwIdeal.Gen.facts, Cert.AttnGwRefIdeal.Gen.facts,
  Cert.ConvDy.Gen.facts, Cert.ConvDyIdeal.Gen.facts, Cert.ConvDyRefIdeal.Gen.facts,
  Cert.ConvGw.Gen.facts, Cert.ConvGwIdeal.Gen.facts, Cert.ConvGwRefIdeal.Gen.facts,
  Cert.InGw.Gen.facts, Cert.InGwIdeal.Gen.facts, Cert.InGwRefIdeal.Gen.facts,
  Cert.InDh.Gen.facts, Cert.InDhIdeal.Gen.facts, Cert.InDhRefIdeal.Gen.facts,
  Cert.InProj.Gen.facts, Cert.InProjIdeal.Gen.facts, Cert.InProjRefIdeal.Gen.facts,
  Cert.ConvOut.Gen.facts, Cert.ConvOutIdeal.Gen.facts, Cert.ConvOutRefIdeal.Gen.facts,
  Cert.AttnOut.Gen.facts, Cert.AttnOutIdeal.Gen.facts, Cert.AttnOutRefIdeal.Gen.facts,
  Cert.MixOut.Gen.facts, Cert.MixOutIdeal.Gen.facts, Cert.MixOutRefIdeal.Gen.facts,
  Cert.MlpIn.Gen.facts, Cert.MlpInIdeal.Gen.facts, Cert.MlpInRefIdeal.Gen.facts,
  Cert.MlpOut.Gen.facts, Cert.MlpOutIdeal.Gen.facts, Cert.MlpOutRefIdeal.Gen.facts,
  Cert.AdamGain.Gen.facts, Cert.AdamGainIdeal.Gen.facts, Cert.AdamGainRefIdeal.Gen.facts,
  Cert.AdamBAda.Gen.facts, Cert.AdamBAdaIdeal.Gen.facts, Cert.AdamBAdaRefIdeal.Gen.facts,
  Cert.AdamConvW.Gen.facts, Cert.AdamConvWIdeal.Gen.facts, Cert.AdamConvWRefIdeal.Gen.facts,
  Cert.AdamIn.Gen.facts, Cert.AdamInIdeal.Gen.facts, Cert.AdamInRefIdeal.Gen.facts,
  Cert.AdamProj.Gen.facts, Cert.AdamProjIdeal.Gen.facts, Cert.AdamProjRefIdeal.Gen.facts,
  Cert.AdamOut.Gen.facts, Cert.AdamOutIdeal.Gen.facts, Cert.AdamOutRefIdeal.Gen.facts,
  Cert.AdamMlpIn.Gen.facts, Cert.AdamMlpInIdeal.Gen.facts, Cert.AdamMlpInRefIdeal.Gen.facts,
  Cert.AdamMlpOut.Gen.facts, Cert.AdamMlpOutIdeal.Gen.facts, Cert.AdamMlpOutRefIdeal.Gen.facts,
  Cert.AdamAda.Gen.facts, Cert.AdamAdaIdeal.Gen.facts, Cert.AdamAdaRefIdeal.Gen.facts,
  Cert.Prenorm.Gen.facts, Cert.PrenormIdeal.Gen.facts, Cert.PrenormRefIdeal.Gen.facts,
  Cert.Postnorm.Gen.facts, Cert.PostnormIdeal.Gen.facts, Cert.PostnormRefIdeal.Gen.facts,
  Cert.PrenormBwd.Gen.facts, Cert.PrenormBwdIdeal.Gen.facts, Cert.PrenormBwdRefIdeal.Gen.facts,
  Cert.Gates.Gen.facts, Cert.GatesIdeal.Gen.facts, Cert.GatesRefIdeal.Gen.facts,
  Cert.Pre_finite.Gen.facts,
  fun m ρ _ => Cert.Conv.Gen.frame m ρ,
  fun m ρ _ => Cert.ConvIdeal.Gen.frame m ρ,
  convRef,
  fun m ρ _ => Cert.Gate.Gen.frame m ρ,
  fun m ρ _ => Cert.GateIdeal.Gen.frame m ρ,
  gateRef,
  fun m ρ _ => Cert.Attn.Run.frame m ρ,
  fun m ρ _ => Cert.AttnIdeal.Run.frame m ρ,
  fun m ρ _ => Cert.MlpDa.Gen.frame m ρ,
  fun m ρ _ => Cert.MlpDaIdeal.Gen.frame m ρ,
  mlpDaRef,
  fun m ρ _ => Cert.MlpGwOut.Gen.frame m ρ,
  fun m ρ _ => Cert.MlpGwOutIdeal.Gen.frame m ρ,
  mlpGwOutRef,
  fun m ρ _ => Cert.MlpDh.Gen.frame m ρ,
  fun m ρ _ => Cert.MlpDhIdeal.Gen.frame m ρ,
  mlpDhRef,
  fun m ρ _ => Cert.MlpGwIn.Gen.frame m ρ,
  fun m ρ _ => Cert.MlpGwInIdeal.Gen.frame m ρ,
  mlpGwInRef,
  fun m ρ _ => Cert.MixDm.Gen.frame m ρ,
  fun m ρ _ => Cert.MixDmIdeal.Gen.frame m ρ,
  mixDmRef,
  fun m ρ _ => Cert.MixGw.Gen.frame m ρ,
  fun m ρ _ => Cert.MixGwIdeal.Gen.frame m ρ,
  mixGwRef,
  fun m ρ _ => Cert.AttnDo.Gen.frame m ρ,
  fun m ρ _ => Cert.AttnDoIdeal.Gen.frame m ρ,
  attnDoRef,
  fun m ρ _ => Cert.AttnGw.Gen.frame m ρ,
  fun m ρ _ => Cert.AttnGwIdeal.Gen.frame m ρ,
  attnGwRef,
  fun m ρ _ => Cert.ConvDy.Gen.frame m ρ,
  fun m ρ _ => Cert.ConvDyIdeal.Gen.frame m ρ,
  convDyRef,
  fun m ρ _ => Cert.ConvGw.Gen.frame m ρ,
  fun m ρ _ => Cert.ConvGwIdeal.Gen.frame m ρ,
  convGwRef,
  fun m ρ _ => Cert.InGw.Gen.frame m ρ,
  fun m ρ _ => Cert.InGwIdeal.Gen.frame m ρ,
  inGwRef,
  fun m ρ _ => Cert.InDh.Gen.frame m ρ,
  fun m ρ _ => Cert.InDhIdeal.Gen.frame m ρ,
  inDhRef,
  fun m ρ _ => Cert.InProj.Gen.frame m ρ,
  fun m ρ _ => Cert.InProjIdeal.Gen.frame m ρ,
  inProjRef,
  fun m ρ _ => Cert.ConvOut.Gen.frame m ρ,
  fun m ρ _ => Cert.ConvOutIdeal.Gen.frame m ρ,
  convOutRef,
  fun m ρ _ => Cert.AttnOut.Gen.frame m ρ,
  fun m ρ _ => Cert.AttnOutIdeal.Gen.frame m ρ,
  attnOutRef,
  fun m ρ _ => Cert.MixOut.Gen.frame m ρ,
  fun m ρ _ => Cert.MixOutIdeal.Gen.frame m ρ,
  mixOutRef,
  fun m ρ _ => Cert.MlpIn.Gen.frame m ρ,
  fun m ρ _ => Cert.MlpInIdeal.Gen.frame m ρ,
  mlpInRef,
  fun m ρ _ => Cert.MlpOut.Gen.frame m ρ,
  fun m ρ _ => Cert.MlpOutIdeal.Gen.frame m ρ,
  mlpOutRef,
  fun m ρ _ => Cert.AdamGain.Gen.frame m ρ,
  fun m ρ _ => Cert.AdamGainIdeal.Gen.frame m ρ,
  adamGainRef,
  fun m ρ _ => Cert.AdamBAda.Gen.frame m ρ,
  fun m ρ _ => Cert.AdamBAdaIdeal.Gen.frame m ρ,
  adamBAdaRef,
  fun m ρ _ => Cert.AdamConvW.Gen.frame m ρ,
  fun m ρ _ => Cert.AdamConvWIdeal.Gen.frame m ρ,
  adamConvWRef,
  fun m ρ _ => Cert.AdamIn.Gen.frame m ρ,
  fun m ρ _ => Cert.AdamInIdeal.Gen.frame m ρ,
  adamInRef,
  fun m ρ _ => Cert.AdamProj.Gen.frame m ρ,
  fun m ρ _ => Cert.AdamProjIdeal.Gen.frame m ρ,
  adamProjRef,
  fun m ρ _ => Cert.AdamOut.Gen.frame m ρ,
  fun m ρ _ => Cert.AdamOutIdeal.Gen.frame m ρ,
  adamOutRef,
  fun m ρ _ => Cert.AdamMlpIn.Gen.frame m ρ,
  fun m ρ _ => Cert.AdamMlpInIdeal.Gen.frame m ρ,
  adamMlpInRef,
  fun m ρ _ => Cert.AdamMlpOut.Gen.frame m ρ,
  fun m ρ _ => Cert.AdamMlpOutIdeal.Gen.frame m ρ,
  adamMlpOutRef,
  fun m ρ _ => Cert.AdamAda.Gen.frame m ρ,
  fun m ρ _ => Cert.AdamAdaIdeal.Gen.frame m ρ,
  adamAdaRef,
  fun m ρ _ => Cert.Prenorm.Gen.frame m ρ,
  fun m ρ _ => Cert.PrenormIdeal.Gen.frame m ρ,
  prenormRef,
  fun m ρ _ => Cert.Postnorm.Gen.frame m ρ,
  fun m ρ _ => Cert.PostnormIdeal.Gen.frame m ρ,
  postnormRef,
  fun m ρ _ => Cert.PrenormBwd.Gen.frame m ρ,
  fun m ρ _ => Cert.PrenormBwdIdeal.Gen.frame m ρ,
  fun m ρ _ => Cert.PrenormBwdIdeal.Gen.frame m ρ,
  prenormBwdRef,
  fun m ρ _ => prenormBwdRef m ρ trivial,
  fun m ρ _ => Cert.Gates.Gen.frame m ρ,
  fun m ρ _ => Cert.GatesIdeal.Gen.frame m ρ,
  gatesRef,
  trivial, conv, trivial, gate, trivial,
  trivial, mlpDa,
  trivial, mlpGwOut,
  trivial, mlpDh,
  trivial, mlpGwIn,
  trivial, mixDm,
  trivial, mixGw,
  trivial, attnDo,
  trivial, attnGw,
  trivial, convDy,
  trivial, convGw,
  trivial, inGw,
  trivial, inDh,
  trivial, inProj,
  trivial, convOut,
  trivial, attnOut,
  trivial, mixOut,
  trivial, mlpIn,
  trivial, mlpOut,
  trivial, adamGain,
  trivial, adamBAda,
  trivial, adamConvW,
  trivial, adamIn,
  trivial, adamProj,
  trivial, adamOut,
  trivial, adamMlpIn,
  trivial, adamMlpOut,
  trivial, adamAda,
  trivial, prenorm,
  trivial, postnorm,
  trivial, prenormBwd,
  trivial, gates⟩

end Cert.Proof

end
